-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalIdeal_finite [hPre_finite : Cert.Pre_finite.Facts] (m : (ℓ : Loc Cert.FinalIdeal.nD Cert.FinalIdeal.τ Cert.FinalIdeal.sig) → Buf (Elt Ideal) ℓ) : Prop :=
  ∀ c : Dev Cert.FinalIdeal.nD,
    (Cert.Pre_finite.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)) (m ((c.tc : Thread Cert.FinalIdeal.nD Cert.FinalIdeal.τ).loc Cert.FinalIdeal.main_arg5)) (m ((c.tc : Thread Cert.FinalIdeal.nD Cert.FinalIdeal.τ).loc Cert.FinalIdeal.main_arg6)) (m ((c.tc : Thread Cert.FinalIdeal.nD Cert.FinalIdeal.τ).loc Cert.FinalIdeal.main_arg7)) (m ((c.tc : Thread Cert.FinalIdeal.nD Cert.FinalIdeal.τ).loc Cert.FinalIdeal.main_arg8)) (m ((c.tc : Thread Cert.FinalIdeal.nD Cert.FinalIdeal.τ).loc Cert.FinalIdeal.main_arg9)) (m ((c.tc : Thread Cert.FinalIdeal.nD Cert.FinalIdeal.τ).loc Cert.FinalIdeal.main_arg10))) = (fun _ => 1#1)

def Pre_FinalReferenceIdeal (m : (ℓ : Loc Cert.FinalReferenceIdeal.nD Cert.FinalReferenceIdeal.τ Cert.FinalReferenceIdeal.sig) → Buf (Elt Ideal) ℓ) : Prop :=
  True

def Pre_FinalReferenceIdeal_finite [hPre_finite : Cert.Pre_finite.Facts] (m : (ℓ : Loc Cert.FinalReferenceIdeal.nD Cert.FinalReferenceIdeal.τ Cert.FinalReferenceIdeal.sig) → Buf (Elt Ideal) ℓ) : Prop :=
  ∀ c : Dev Cert.FinalReferenceIdeal.nD,
    (Cert.Pre_finite.fn (F := Ideal) (m ((c.tc : Thread Cert.FinalReferenceIdeal.nD Cert.FinalReferenceIdeal.τ).loc Cert.FinalReferenceIdeal.main_arg0)) (m ((c.tc : Thread Cert.FinalReferenceIdeal.nD Cert.FinalReferenceIdeal.τ).loc Cert.FinalReferenceIdeal.main_arg1)) (m ((c.tc : Thread Cert.FinalReferenceIdeal.nD Cert.FinalReferenceIdeal.τ).loc Cert.FinalReferenceIdeal.main_arg2)) (m ((c.tc : Thread Cert.FinalReferenceIdeal.nD Cert.FinalReferenceIdeal.τ).loc Cert.FinalReferenceIdeal.main_arg3)) (m ((c.tc : Thread Cert.FinalReferenceIdeal.nD Cert.FinalReferenceIdeal.τ).loc Cert.FinalReferenceIdeal.main_arg4)) (m ((c.tc : Thread Cert.FinalReferenceIdeal.nD Cert.FinalReferenceIdeal.τ).loc Cert.FinalReferenceIdeal.main_arg5)) (m ((c.tc : Thread Cert.FinalReferenceIdeal.nD Cert.FinalReferenceIdeal.τ).loc Cert.FinalReferenceIdeal.main_arg6)) (m ((c.tc : Thread Cert.FinalReferenceIdeal.nD Cert.FinalReferenceIdeal.τ).loc Cert.FinalReferenceIdeal.main_arg7)) (m ((c.tc : Thread Cert.FinalReferenceIdeal.nD Cert.FinalReferenceIdeal.τ).loc Cert.FinalReferenceIdeal.main_arg8)) (m ((c.tc : Thread Cert.FinalReferenceIdeal.nD Cert.FinalReferenceIdeal.τ).loc Cert.FinalReferenceIdeal.main_arg9)) (m ((c.tc : Thread Cert.FinalReferenceIdeal.nD Cert.FinalReferenceIdeal.τ).loc Cert.FinalReferenceIdeal.main_arg10))) = (fun _ => 1#1)

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsIdeal_stats_finite [hPre_stats_finite : Cert.Pre_stats_finite.Facts] (m : (ℓ : Loc Cert.StatsIdeal.nD Cert.StatsIdeal.τ Cert.StatsIdeal.sig) → Buf (Elt Ideal) ℓ) : Prop :=
  ∀ c : Dev Cert.StatsIdeal.nD,
    (Cert.Pre_stats_finite.fn (F := Ideal) (m ((c.tc : Thread Cert.StatsIdeal.nD Cert.StatsIdeal.τ).loc Cert.StatsIdeal.main_arg0)) (m ((c.tc : Thread Cert.StatsIdeal.nD Cert.StatsIdeal.τ).loc Cert.StatsIdeal.main_arg1)) (m ((c.tc : Thread Cert.StatsIdeal.nD Cert.StatsIdeal.τ).loc Cert.StatsIdeal.main_arg2)) (m ((c.tc : Thread Cert.StatsIdeal.nD Cert.StatsIdeal.τ).loc Cert.StatsIdeal.main_arg3)) (m ((c.tc : Thread Cert.StatsIdeal.nD Cert.StatsIdeal.τ).loc Cert.StatsIdeal.main_arg4)) (m ((c.tc : Thread Cert.StatsIdeal.nD Cert.StatsIdeal.τ).loc Cert.StatsIdeal.main_arg5)) (m ((c.tc : Thread Cert.StatsIdeal.nD Cert.StatsIdeal.τ).loc Cert.StatsIdeal.main_arg6)) (m ((c.tc : Thread Cert.StatsIdeal.nD Cert.StatsIdeal.τ).loc Cert.StatsIdeal.main_arg7)) (m ((c.tc : Thread Cert.StatsIdeal.nD Cert.StatsIdeal.τ).loc Cert.StatsIdeal.main_arg8)) (m ((c.tc : Thread Cert.StatsIdeal.nD Cert.StatsIdeal.τ).loc Cert.StatsIdeal.main_arg9)) (m ((c.tc : Thread Cert.StatsIdeal.nD Cert.StatsIdeal.τ).loc Cert.StatsIdeal.main_arg10)) (m ((c.tc : Thread Cert.StatsIdeal.nD Cert.StatsIdeal.τ).loc Cert.StatsIdeal.main_arg11)) (m ((c.tc : Thread Cert.StatsIdeal.nD Cert.StatsIdeal.τ).loc Cert.StatsIdeal.main_arg12)) (m ((c.tc : Thread Cert.StatsIdeal.nD Cert.StatsIdeal.τ).loc Cert.StatsIdeal.main_arg13))) = (fun _ => 1#1)

def Pre_StatsReferenceIdeal (m : (ℓ : Loc Cert.StatsReferenceIdeal.nD Cert.StatsReferenceIdeal.τ Cert.StatsReferenceIdeal.sig) → Buf (Elt Ideal) ℓ) : Prop :=
  True

def Pre_StatsReferenceIdeal_stats_finite [hPre_stats_finite : Cert.Pre_stats_finite.Facts] (m : (ℓ : Loc Cert.StatsReferenceIdeal.nD Cert.StatsReferenceIdeal.τ Cert.StatsReferenceIdeal.sig) → Buf (Elt Ideal) ℓ) : Prop :=
  ∀ c : Dev Cert.StatsReferenceIdeal.nD,
    (Cert.Pre_stats_finite.fn (F := Ideal) (m ((c.tc : Thread Cert.StatsReferenceIdeal.nD Cert.StatsReferenceIdeal.τ).loc Cert.StatsReferenceIdeal.main_arg0)) (m ((c.tc : Thread Cert.StatsReferenceIdeal.nD Cert.StatsReferenceIdeal.τ).loc Cert.StatsReferenceIdeal.main_arg1)) (m ((c.tc : Thread Cert.StatsReferenceIdeal.nD Cert.StatsReferenceIdeal.τ).loc Cert.StatsReferenceIdeal.main_arg2)) (m ((c.tc : Thread Cert.StatsReferenceIdeal.nD Cert.StatsReferenceIdeal.τ).loc Cert.StatsReferenceIdeal.main_arg3)) (m ((c.tc : Thread Cert.StatsReferenceIdeal.nD Cert.StatsReferenceIdeal.τ).loc Cert.StatsReferenceIdeal.main_arg4)) (m ((c.tc : Thread Cert.StatsReferenceIdeal.nD Cert.StatsReferenceIdeal.τ).loc Cert.StatsReferenceIdeal.main_arg5)) (m ((c.tc : Thread Cert.StatsReferenceIdeal.nD Cert.StatsReferenceIdeal.τ).loc Cert.StatsReferenceIdeal.main_arg6)) (m ((c.tc : Thread Cert.StatsReferenceIdeal.nD Cert.StatsReferenceIdeal.τ).loc Cert.StatsReferenceIdeal.main_arg7)) (m ((c.tc : Thread Cert.StatsReferenceIdeal.nD Cert.StatsReferenceIdeal.τ).loc Cert.StatsReferenceIdeal.main_arg8)) (m ((c.tc : Thread Cert.StatsReferenceIdeal.nD Cert.StatsReferenceIdeal.τ).loc Cert.StatsReferenceIdeal.main_arg9)) (m ((c.tc : Thread Cert.StatsReferenceIdeal.nD Cert.StatsReferenceIdeal.τ).loc Cert.StatsReferenceIdeal.main_arg10)) (m ((c.tc : Thread Cert.StatsReferenceIdeal.nD Cert.StatsReferenceIdeal.τ).loc Cert.StatsReferenceIdeal.main_arg11)) (m ((c.tc : Thread Cert.StatsReferenceIdeal.nD Cert.StatsReferenceIdeal.τ).loc Cert.StatsReferenceIdeal.main_arg12)) (m ((c.tc : Thread Cert.StatsReferenceIdeal.nD Cert.StatsReferenceIdeal.τ).loc Cert.StatsReferenceIdeal.main_arg13))) = (fun _ => 1#1)

def Pre_Near (m : (ℓ : Loc Cert.Near.nD Cert.Near.τ Cert.Near.sig) → Buf (Elt Bits) ℓ) : Prop :=
  True

def Pre_NearIdeal (m : (ℓ : Loc Cert.NearIdeal.nD Cert.NearIdeal.τ Cert.NearIdeal.sig) → Buf (Elt Ideal) ℓ) : Prop :=
  True

def Pre_NearIdeal_distinct [hPre_distinct : Cert.Pre_distinct.Facts] (m : (ℓ : Loc Cert.NearIdeal.nD Cert.NearIdeal.τ Cert.NearIdeal.sig) → Buf (Elt Ideal) ℓ) : Prop :=
  ∀ c : Dev Cert.NearIdeal.nD,
    (Cert.Pre_distinct.fn (F := Ideal) (m ((c.tc : Thread Cert.NearIdeal.nD Cert.NearIdeal.τ).loc Cert.NearIdeal.main_arg0))) = (fun _ => 1#1)

def Pre_NearReferenceIdeal (m : (ℓ : Loc Cert.NearReferenceIdeal.nD Cert.NearReferenceIdeal.τ Cert.NearReferenceIdeal.sig) → Buf (Elt Ideal) ℓ) : Prop :=
  True

def Pre_NearReferenceIdeal_distinct [hPre_distinct : Cert.Pre_distinct.Facts] (m : (ℓ : Loc Cert.NearReferenceIdeal.nD Cert.NearReferenceIdeal.τ Cert.NearReferenceIdeal.sig) → Buf (Elt Ideal) ℓ) : Prop :=
  ∀ c : Dev Cert.NearReferenceIdeal.nD,
    (Cert.Pre_distinct.fn (F := Ideal) (m ((c.tc : Thread Cert.NearReferenceIdeal.nD Cert.NearReferenceIdeal.τ).loc Cert.NearReferenceIdeal.main_arg0))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6)
      ∧ r.2.mem ((c.tc : Thread Cert.Final.nD Cert.Final.τ).loc Cert.Final.main_arg7) = m ((c.tc : Thread Cert.Final.nD Cert.Final.τ).loc Cert.Final.main_arg7)
      ∧ r.2.mem ((c.tc : Thread Cert.Final.nD Cert.Final.τ).loc Cert.Final.main_arg8) = m ((c.tc : Thread Cert.Final.nD Cert.Final.τ).loc Cert.Final.main_arg8)
      ∧ r.2.mem ((c.tc : Thread Cert.Final.nD Cert.Final.τ).loc Cert.Final.main_arg9) = m ((c.tc : Thread Cert.Final.nD Cert.Final.τ).loc Cert.Final.main_arg9)
      ∧ r.2.mem ((c.tc : Thread Cert.Final.nD Cert.Final.τ).loc Cert.Final.main_arg10) = m ((c.tc : Thread Cert.Final.nD Cert.Final.τ).loc Cert.Final.main_arg10))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
      ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
      ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9)
      ∧ r.2.mem ((c.tc : Thread Cert.FinalIdeal.nD Cert.FinalIdeal.τ).loc Cert.FinalIdeal.main_arg10) = m ((c.tc : Thread Cert.FinalIdeal.nD Cert.FinalIdeal.τ).loc Cert.FinalIdeal.main_arg10))
      ∧ r.2.sem = fun _ => 0)

def quiescent_FinalIdeal_pre_finite [hFinalIdeal : Cert.FinalIdeal.Facts] [hPre_finite : Cert.Pre_finite.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_finite m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
      ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
      ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9)
      ∧ r.2.mem ((c.tc : Thread Cert.FinalIdeal.nD Cert.FinalIdeal.τ).loc Cert.FinalIdeal.main_arg10) = m ((c.tc : Thread Cert.FinalIdeal.nD Cert.FinalIdeal.τ).loc Cert.FinalIdeal.main_arg10))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5)
      ∧ r.2.mem ((c.tc : Thread Cert.FinalReferenceIdeal.nD Cert.FinalReferenceIdeal.τ).loc Cert.FinalReferenceIdeal.main_arg6) = m ((c.tc : Thread Cert.FinalReferenceIdeal.nD Cert.FinalReferenceIdeal.τ).loc Cert.FinalReferenceIdeal.main_arg6)
      ∧ r.2.mem ((c.tc : Thread Cert.FinalReferenceIdeal.nD Cert.FinalReferenceIdeal.τ).loc Cert.FinalReferenceIdeal.main_arg7) = m ((c.tc : Thread Cert.FinalReferenceIdeal.nD Cert.FinalReferenceIdeal.τ).loc Cert.FinalReferenceIdeal.main_arg7)
      ∧ r.2.mem ((c.tc : Thread Cert.FinalReferenceIdeal.nD Cert.FinalReferenceIdeal.τ).loc Cert.FinalReferenceIdeal.main_arg8) = m ((c.tc : Thread Cert.FinalReferenceIdeal.nD Cert.FinalReferenceIdeal.τ).loc Cert.FinalReferenceIdeal.main_arg8)
      ∧ r.2.mem ((c.tc : Thread Cert.FinalReferenceIdeal.nD Cert.FinalReferenceIdeal.τ).loc Cert.FinalReferenceIdeal.main_arg9) = m ((c.tc : Thread Cert.FinalReferenceIdeal.nD Cert.FinalReferenceIdeal.τ).loc Cert.FinalReferenceIdeal.main_arg9)
      ∧ r.2.mem ((c.tc : Thread Cert.FinalReferenceIdeal.nD Cert.FinalReferenceIdeal.τ).loc Cert.FinalReferenceIdeal.main_arg10) = m ((c.tc : Thread Cert.FinalReferenceIdeal.nD Cert.FinalReferenceIdeal.τ).loc Cert.FinalReferenceIdeal.main_arg10))
      ∧ r.2.sem = fun _ => 0)

def quiescent_FinalReferenceIdeal_pre_finite [hFinalReferenceIdeal : Cert.FinalReferenceIdeal.Facts] [hPre_finite : Cert.Pre_finite.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal_finite m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5)
      ∧ r.2.mem ((c.tc : Thread Cert.FinalReferenceIdeal.nD Cert.FinalReferenceIdeal.τ).loc Cert.FinalReferenceIdeal.main_arg6) = m ((c.tc : Thread Cert.FinalReferenceIdeal.nD Cert.FinalReferenceIdeal.τ).loc Cert.FinalReferenceIdeal.main_arg6)
      ∧ r.2.mem ((c.tc : Thread Cert.FinalReferenceIdeal.nD Cert.FinalReferenceIdeal.τ).loc Cert.FinalReferenceIdeal.main_arg7) = m ((c.tc : Thread Cert.FinalReferenceIdeal.nD Cert.FinalReferenceIdeal.τ).loc Cert.FinalReferenceIdeal.main_arg7)
      ∧ r.2.mem ((c.tc : Thread Cert.FinalReferenceIdeal.nD Cert.FinalReferenceIdeal.τ).loc Cert.FinalReferenceIdeal.main_arg8) = m ((c.tc : Thread Cert.FinalReferenceIdeal.nD Cert.FinalReferenceIdeal.τ).loc Cert.FinalReferenceIdeal.main_arg8)
      ∧ r.2.mem ((c.tc : Thread Cert.FinalReferenceIdeal.nD Cert.FinalReferenceIdeal.τ).loc Cert.FinalReferenceIdeal.main_arg9) = m ((c.tc : Thread Cert.FinalReferenceIdeal.nD Cert.FinalReferenceIdeal.τ).loc Cert.FinalReferenceIdeal.main_arg9)
      ∧ r.2.mem ((c.tc : Thread Cert.FinalReferenceIdeal.nD Cert.FinalReferenceIdeal.τ).loc Cert.FinalReferenceIdeal.main_arg10) = m ((c.tc : Thread Cert.FinalReferenceIdeal.nD Cert.FinalReferenceIdeal.τ).loc Cert.FinalReferenceIdeal.main_arg10))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2)
      ∧ r.2.mem ((c.tc : Thread Cert.Stats.nD Cert.Stats.τ).loc Cert.Stats.main_arg3) = m ((c.tc : Thread Cert.Stats.nD Cert.Stats.τ).loc Cert.Stats.main_arg3)
      ∧ r.2.mem ((c.tc : Thread Cert.Stats.nD Cert.Stats.τ).loc Cert.Stats.main_arg4) = m ((c.tc : Thread Cert.Stats.nD Cert.Stats.τ).loc Cert.Stats.main_arg4)
      ∧ r.2.mem ((c.tc : Thread Cert.Stats.nD Cert.Stats.τ).loc Cert.Stats.main_arg5) = m ((c.tc : Thread Cert.Stats.nD Cert.Stats.τ).loc Cert.Stats.main_arg5)
      ∧ r.2.mem ((c.tc : Thread Cert.Stats.nD Cert.Stats.τ).loc Cert.Stats.main_arg6) = m ((c.tc : Thread Cert.Stats.nD Cert.Stats.τ).loc Cert.Stats.main_arg6)
      ∧ r.2.mem ((c.tc : Thread Cert.Stats.nD Cert.Stats.τ).loc Cert.Stats.main_arg7) = m ((c.tc : Thread Cert.Stats.nD Cert.Stats.τ).loc Cert.Stats.main_arg7)
      ∧ r.2.mem ((c.tc : Thread Cert.Stats.nD Cert.Stats.τ).loc Cert.Stats.main_arg8) = m ((c.tc : Thread Cert.Stats.nD Cert.Stats.τ).loc Cert.Stats.main_arg8)
      ∧ r.2.mem ((c.tc : Thread Cert.Stats.nD Cert.Stats.τ).loc Cert.Stats.main_arg9) = m ((c.tc : Thread Cert.Stats.nD Cert.Stats.τ).loc Cert.Stats.main_arg9)
      ∧ r.2.mem ((c.tc : Thread Cert.Stats.nD Cert.Stats.τ).loc Cert.Stats.main_arg10) = m ((c.tc : Thread Cert.Stats.nD Cert.Stats.τ).loc Cert.Stats.main_arg10)
      ∧ r.2.mem ((c.tc : Thread Cert.Stats.nD Cert.Stats.τ).loc Cert.Stats.main_arg11) = m ((c.tc : Thread Cert.Stats.nD Cert.Stats.τ).loc Cert.Stats.main_arg11)
      ∧ r.2.mem ((c.tc : Thread Cert.Stats.nD Cert.Stats.τ).loc Cert.Stats.main_arg12) = m ((c.tc : Thread Cert.Stats.nD Cert.Stats.τ).loc Cert.Stats.main_arg12)
      ∧ r.2.mem ((c.tc : Thread Cert.Stats.nD Cert.Stats.τ).loc Cert.Stats.main_arg13) = m ((c.tc : Thread Cert.Stats.nD Cert.Stats.τ).loc Cert.Stats.main_arg13))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
      ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3)
      ∧ r.2.mem ((c.tc : Thread Cert.StatsIdeal.nD Cert.StatsIdeal.τ).loc Cert.StatsIdeal.main_arg4) = m ((c.tc : Thread Cert.StatsIdeal.nD Cert.StatsIdeal.τ).loc Cert.StatsIdeal.main_arg4)
      ∧ r.2.mem ((c.tc : Thread Cert.StatsIdeal.nD Cert.StatsIdeal.τ).loc Cert.StatsIdeal.main_arg5) = m ((c.tc : Thread Cert.StatsIdeal.nD Cert.StatsIdeal.τ).loc Cert.StatsIdeal.main_arg5)
      ∧ r.2.mem ((c.tc : Thread Cert.StatsIdeal.nD Cert.StatsIdeal.τ).loc Cert.StatsIdeal.main_arg6) = m ((c.tc : Thread Cert.StatsIdeal.nD Cert.StatsIdeal.τ).loc Cert.StatsIdeal.main_arg6)
      ∧ r.2.mem ((c.tc : Thread Cert.StatsIdeal.nD Cert.StatsIdeal.τ).loc Cert.StatsIdeal.main_arg7) = m ((c.tc : Thread Cert.StatsIdeal.nD Cert.StatsIdeal.τ).loc Cert.StatsIdeal.main_arg7)
      ∧ r.2.mem ((c.tc : Thread Cert.StatsIdeal.nD Cert.StatsIdeal.τ).loc Cert.StatsIdeal.main_arg8) = m ((c.tc : Thread Cert.StatsIdeal.nD Cert.StatsIdeal.τ).loc Cert.StatsIdeal.main_arg8)
      ∧ r.2.mem ((c.tc : Thread Cert.StatsIdeal.nD Cert.StatsIdeal.τ).loc Cert.StatsIdeal.main_arg9) = m ((c.tc : Thread Cert.StatsIdeal.nD Cert.StatsIdeal.τ).loc Cert.StatsIdeal.main_arg9)
      ∧ r.2.mem ((c.tc : Thread Cert.StatsIdeal.nD Cert.StatsIdeal.τ).loc Cert.StatsIdeal.main_arg10) = m ((c.tc : Thread Cert.StatsIdeal.nD Cert.StatsIdeal.τ).loc Cert.StatsIdeal.main_arg10)
      ∧ r.2.mem ((c.tc : Thread Cert.StatsIdeal.nD Cert.StatsIdeal.τ).loc Cert.StatsIdeal.main_arg11) = m ((c.tc : Thread Cert.StatsIdeal.nD Cert.StatsIdeal.τ).loc Cert.StatsIdeal.main_arg11)
      ∧ r.2.mem ((c.tc : Thread Cert.StatsIdeal.nD Cert.StatsIdeal.τ).loc Cert.StatsIdeal.main_arg12) = m ((c.tc : Thread Cert.StatsIdeal.nD Cert.StatsIdeal.τ).loc Cert.StatsIdeal.main_arg12)
      ∧ r.2.mem ((c.tc : Thread Cert.StatsIdeal.nD Cert.StatsIdeal.τ).loc Cert.StatsIdeal.main_arg13) = m ((c.tc : Thread Cert.StatsIdeal.nD Cert.StatsIdeal.τ).loc Cert.StatsIdeal.main_arg13))
      ∧ r.2.sem = fun _ => 0)

def quiescent_StatsIdeal_pre_stats_finite [hStatsIdeal : Cert.StatsIdeal.Facts] [hPre_stats_finite : Cert.Pre_stats_finite.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal_stats_finite m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
      ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3)
      ∧ r.2.mem ((c.tc : Thread Cert.StatsIdeal.nD Cert.StatsIdeal.τ).loc Cert.StatsIdeal.main_arg4) = m ((c.tc : Thread Cert.StatsIdeal.nD Cert.StatsIdeal.τ).loc Cert.StatsIdeal.main_arg4)
      ∧ r.2.mem ((c.tc : Thread Cert.StatsIdeal.nD Cert.StatsIdeal.τ).loc Cert.StatsIdeal.main_arg5) = m ((c.tc : Thread Cert.StatsIdeal.nD Cert.StatsIdeal.τ).loc Cert.StatsIdeal.main_arg5)
      ∧ r.2.mem ((c.tc : Thread Cert.StatsIdeal.nD Cert.StatsIdeal.τ).loc Cert.StatsIdeal.main_arg6) = m ((c.tc : Thread Cert.StatsIdeal.nD Cert.StatsIdeal.τ).loc Cert.StatsIdeal.main_arg6)
      ∧ r.2.mem ((c.tc : Thread Cert.StatsIdeal.nD Cert.StatsIdeal.τ).loc Cert.StatsIdeal.main_arg7) = m ((c.tc : Thread Cert.StatsIdeal.nD Cert.StatsIdeal.τ).loc Cert.StatsIdeal.main_arg7)
      ∧ r.2.mem ((c.tc : Thread Cert.StatsIdeal.nD Cert.StatsIdeal.τ).loc Cert.StatsIdeal.main_arg8) = m ((c.tc : Thread Cert.StatsIdeal.nD Cert.StatsIdeal.τ).loc Cert.StatsIdeal.main_arg8)
      ∧ r.2.mem ((c.tc : Thread Cert.StatsIdeal.nD Cert.StatsIdeal.τ).loc Cert.StatsIdeal.main_arg9) = m ((c.tc : Thread Cert.StatsIdeal.nD Cert.StatsIdeal.τ).loc Cert.StatsIdeal.main_arg9)
      ∧ r.2.mem ((c.tc : Thread Cert.StatsIdeal.nD Cert.StatsIdeal.τ).loc Cert.StatsIdeal.main_arg10) = m ((c.tc : Thread Cert.StatsIdeal.nD Cert.StatsIdeal.τ).loc Cert.StatsIdeal.main_arg10)
      ∧ r.2.mem ((c.tc : Thread Cert.StatsIdeal.nD Cert.StatsIdeal.τ).loc Cert.StatsIdeal.main_arg11) = m ((c.tc : Thread Cert.StatsIdeal.nD Cert.StatsIdeal.τ).loc Cert.StatsIdeal.main_arg11)
      ∧ r.2.mem ((c.tc : Thread Cert.StatsIdeal.nD Cert.StatsIdeal.τ).loc Cert.StatsIdeal.main_arg12) = m ((c.tc : Thread Cert.StatsIdeal.nD Cert.StatsIdeal.τ).loc Cert.StatsIdeal.main_arg12)
      ∧ r.2.mem ((c.tc : Thread Cert.StatsIdeal.nD Cert.StatsIdeal.τ).loc Cert.StatsIdeal.main_arg13) = m ((c.tc : Thread Cert.StatsIdeal.nD Cert.StatsIdeal.τ).loc Cert.StatsIdeal.main_arg13))
      ∧ r.2.sem = fun _ => 0)

def quiescent_StatsReferenceIdeal [hStatsReferenceIdeal : Cert.StatsReferenceIdeal.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0)
      ∧ r.2.mem ((c.tc : Thread Cert.StatsReferenceIdeal.nD Cert.StatsReferenceIdeal.τ).loc Cert.StatsReferenceIdeal.main_arg1) = m ((c.tc : Thread Cert.StatsReferenceIdeal.nD Cert.StatsReferenceIdeal.τ).loc Cert.StatsReferenceIdeal.main_arg1)
      ∧ r.2.mem ((c.tc : Thread Cert.StatsReferenceIdeal.nD Cert.StatsReferenceIdeal.τ).loc Cert.StatsReferenceIdeal.main_arg2) = m ((c.tc : Thread Cert.StatsReferenceIdeal.nD Cert.StatsReferenceIdeal.τ).loc Cert.StatsReferenceIdeal.main_arg2)
      ∧ r.2.mem ((c.tc : Thread Cert.StatsReferenceIdeal.nD Cert.StatsReferenceIdeal.τ).loc Cert.StatsReferenceIdeal.main_arg3) = m ((c.tc : Thread Cert.StatsReferenceIdeal.nD Cert.StatsReferenceIdeal.τ).loc Cert.StatsReferenceIdeal.main_arg3)
      ∧ r.2.mem ((c.tc : Thread Cert.StatsReferenceIdeal.nD Cert.StatsReferenceIdeal.τ).loc Cert.StatsReferenceIdeal.main_arg4) = m ((c.tc : Thread Cert.StatsReferenceIdeal.nD Cert.StatsReferenceIdeal.τ).loc Cert.StatsReferenceIdeal.main_arg4)
      ∧ r.2.mem ((c.tc : Thread Cert.StatsReferenceIdeal.nD Cert.StatsReferenceIdeal.τ).loc Cert.StatsReferenceIdeal.main_arg5) = m ((c.tc : Thread Cert.StatsReferenceIdeal.nD Cert.StatsReferenceIdeal.τ).loc Cert.StatsReferenceIdeal.main_arg5)
      ∧ r.2.mem ((c.tc : Thread Cert.StatsReferenceIdeal.nD Cert.StatsReferenceIdeal.τ).loc Cert.StatsReferenceIdeal.main_arg6) = m ((c.tc : Thread Cert.StatsReferenceIdeal.nD Cert.StatsReferenceIdeal.τ).loc Cert.StatsReferenceIdeal.main_arg6)
      ∧ r.2.mem ((c.tc : Thread Cert.StatsReferenceIdeal.nD Cert.StatsReferenceIdeal.τ).loc Cert.StatsReferenceIdeal.main_arg7) = m ((c.tc : Thread Cert.StatsReferenceIdeal.nD Cert.StatsReferenceIdeal.τ).loc Cert.StatsReferenceIdeal.main_arg7)
      ∧ r.2.mem ((c.tc : Thread Cert.StatsReferenceIdeal.nD Cert.StatsReferenceIdeal.τ).loc Cert.StatsReferenceIdeal.main_arg8) = m ((c.tc : Thread Cert.StatsReferenceIdeal.nD Cert.StatsReferenceIdeal.τ).loc Cert.StatsReferenceIdeal.main_arg8)
      ∧ r.2.mem ((c.tc : Thread Cert.StatsReferenceIdeal.nD Cert.StatsReferenceIdeal.τ).loc Cert.StatsReferenceIdeal.main_arg9) = m ((c.tc : Thread Cert.StatsReferenceIdeal.nD Cert.StatsReferenceIdeal.τ).loc Cert.StatsReferenceIdeal.main_arg9)
      ∧ r.2.mem ((c.tc : Thread Cert.StatsReferenceIdeal.nD Cert.StatsReferenceIdeal.τ).loc Cert.StatsReferenceIdeal.main_arg10) = m ((c.tc : Thread Cert.StatsReferenceIdeal.nD Cert.StatsReferenceIdeal.τ).loc Cert.StatsReferenceIdeal.main_arg10)
      ∧ r.2.mem ((c.tc : Thread Cert.StatsReferenceIdeal.nD Cert.StatsReferenceIdeal.τ).loc Cert.StatsReferenceIdeal.main_arg11) = m ((c.tc : Thread Cert.StatsReferenceIdeal.nD Cert.StatsReferenceIdeal.τ).loc Cert.StatsReferenceIdeal.main_arg11)
      ∧ r.2.mem ((c.tc : Thread Cert.StatsReferenceIdeal.nD Cert.StatsReferenceIdeal.τ).loc Cert.StatsReferenceIdeal.main_arg12) = m ((c.tc : Thread Cert.StatsReferenceIdeal.nD Cert.StatsReferenceIdeal.τ).loc Cert.StatsReferenceIdeal.main_arg12)
      ∧ r.2.mem ((c.tc : Thread Cert.StatsReferenceIdeal.nD Cert.StatsReferenceIdeal.τ).loc Cert.StatsReferenceIdeal.main_arg13) = m ((c.tc : Thread Cert.StatsReferenceIdeal.nD Cert.StatsReferenceIdeal.τ).loc Cert.StatsReferenceIdeal.main_arg13))
      ∧ r.2.sem = fun _ => 0)

def quiescent_StatsReferenceIdeal_pre_stats_finite [hStatsReferenceIdeal : Cert.StatsReferenceIdeal.Facts] [hPre_stats_finite : Cert.Pre_stats_finite.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal_stats_finite m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0)
      ∧ r.2.mem ((c.tc : Thread Cert.StatsReferenceIdeal.nD Cert.StatsReferenceIdeal.τ).loc Cert.StatsReferenceIdeal.main_arg1) = m ((c.tc : Thread Cert.StatsReferenceIdeal.nD Cert.StatsReferenceIdeal.τ).loc Cert.StatsReferenceIdeal.main_arg1)
      ∧ r.2.mem ((c.tc : Thread Cert.StatsReferenceIdeal.nD Cert.StatsReferenceIdeal.τ).loc Cert.StatsReferenceIdeal.main_arg2) = m ((c.tc : Thread Cert.StatsReferenceIdeal.nD Cert.StatsReferenceIdeal.τ).loc Cert.StatsReferenceIdeal.main_arg2)
      ∧ r.2.mem ((c.tc : Thread Cert.StatsReferenceIdeal.nD Cert.StatsReferenceIdeal.τ).loc Cert.StatsReferenceIdeal.main_arg3) = m ((c.tc : Thread Cert.StatsReferenceIdeal.nD Cert.StatsReferenceIdeal.τ).loc Cert.StatsReferenceIdeal.main_arg3)
      ∧ r.2.mem ((c.tc : Thread Cert.StatsReferenceIdeal.nD Cert.StatsReferenceIdeal.τ).loc Cert.StatsReferenceIdeal.main_arg4) = m ((c.tc : Thread Cert.StatsReferenceIdeal.nD Cert.StatsReferenceIdeal.τ).loc Cert.StatsReferenceIdeal.main_arg4)
      ∧ r.2.mem ((c.tc : Thread Cert.StatsReferenceIdeal.nD Cert.StatsReferenceIdeal.τ).loc Cert.StatsReferenceIdeal.main_arg5) = m ((c.tc : Thread Cert.StatsReferenceIdeal.nD Cert.StatsReferenceIdeal.τ).loc Cert.StatsReferenceIdeal.main_arg5)
      ∧ r.2.mem ((c.tc : Thread Cert.StatsReferenceIdeal.nD Cert.StatsReferenceIdeal.τ).loc Cert.StatsReferenceIdeal.main_arg6) = m ((c.tc : Thread Cert.StatsReferenceIdeal.nD Cert.StatsReferenceIdeal.τ).loc Cert.StatsReferenceIdeal.main_arg6)
      ∧ r.2.mem ((c.tc : Thread Cert.StatsReferenceIdeal.nD Cert.StatsReferenceIdeal.τ).loc Cert.StatsReferenceIdeal.main_arg7) = m ((c.tc : Thread Cert.StatsReferenceIdeal.nD Cert.StatsReferenceIdeal.τ).loc Cert.StatsReferenceIdeal.main_arg7)
      ∧ r.2.mem ((c.tc : Thread Cert.StatsReferenceIdeal.nD Cert.StatsReferenceIdeal.τ).loc Cert.StatsReferenceIdeal.main_arg8) = m ((c.tc : Thread Cert.StatsReferenceIdeal.nD Cert.StatsReferenceIdeal.τ).loc Cert.StatsReferenceIdeal.main_arg8)
      ∧ r.2.mem ((c.tc : Thread Cert.StatsReferenceIdeal.nD Cert.StatsReferenceIdeal.τ).loc Cert.StatsReferenceIdeal.main_arg9) = m ((c.tc : Thread Cert.StatsReferenceIdeal.nD Cert.StatsReferenceIdeal.τ).loc Cert.StatsReferenceIdeal.main_arg9)
      ∧ r.2.mem ((c.tc : Thread Cert.StatsReferenceIdeal.nD Cert.StatsReferenceIdeal.τ).loc Cert.StatsReferenceIdeal.main_arg10) = m ((c.tc : Thread Cert.StatsReferenceIdeal.nD Cert.StatsReferenceIdeal.τ).loc Cert.StatsReferenceIdeal.main_arg10)
      ∧ r.2.mem ((c.tc : Thread Cert.StatsReferenceIdeal.nD Cert.StatsReferenceIdeal.τ).loc Cert.StatsReferenceIdeal.main_arg11) = m ((c.tc : Thread Cert.StatsReferenceIdeal.nD Cert.StatsReferenceIdeal.τ).loc Cert.StatsReferenceIdeal.main_arg11)
      ∧ r.2.mem ((c.tc : Thread Cert.StatsReferenceIdeal.nD Cert.StatsReferenceIdeal.τ).loc Cert.StatsReferenceIdeal.main_arg12) = m ((c.tc : Thread Cert.StatsReferenceIdeal.nD Cert.StatsReferenceIdeal.τ).loc Cert.StatsReferenceIdeal.main_arg12)
      ∧ r.2.mem ((c.tc : Thread Cert.StatsReferenceIdeal.nD Cert.StatsReferenceIdeal.τ).loc Cert.StatsReferenceIdeal.main_arg13) = m ((c.tc : Thread Cert.StatsReferenceIdeal.nD Cert.StatsReferenceIdeal.τ).loc Cert.StatsReferenceIdeal.main_arg13))
      ∧ r.2.sem = fun _ => 0)

def quiescent_Near [hNear : Cert.Near.Facts] : Prop :=
  ∀ (m : (ℓ : Loc Cert.Near.nD Cert.Near.τ Cert.Near.sig) → Buf (Elt Bits) ℓ) (g : Dev Cert.Near.nD → PrngReg), Pre_Near m →
    θ_run (Cert.Near.defs (F := Bits)) (onTc (τ := Cert.Near.τ) (Cert.Near.main (F := Bits))) ⟨m, fun _ => 0, g⟩ (fun r => (∀ c : Dev Cert.Near.nD,
      r.2.mem ((c.tc : Thread Cert.Near.nD Cert.Near.τ).loc Cert.Near.main_arg0) = m ((c.tc : Thread Cert.Near.nD Cert.Near.τ).loc Cert.Near.main_arg0))
      ∧ r.2.sem = fun _ => 0)

def quiescent_NearIdeal [hNearIdeal : Cert.NearIdeal.Facts] : Prop :=
  ∀ (m : (ℓ : Loc Cert.NearIdeal.nD Cert.NearIdeal.τ Cert.NearIdeal.sig) → Buf (Elt Ideal) ℓ) (g : Dev Cert.NearIdeal.nD → PrngReg), Pre_NearIdeal m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0))
      ∧ r.2.sem = fun _ => 0)

def quiescent_NearIdeal_pre_distinct [hNearIdeal : Cert.NearIdeal.Facts] [hPre_distinct : Cert.Pre_distinct.Facts] : Prop :=
  ∀ (m : (ℓ : Loc Cert.NearIdeal.nD Cert.NearIdeal.τ Cert.NearIdeal.sig) → Buf (Elt Ideal) ℓ) (g : Dev Cert.NearIdeal.nD → PrngReg), Pre_NearIdeal_distinct m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0))
      ∧ r.2.sem = fun _ => 0)

def quiescent_NearReferenceIdeal [hNearReferenceIdeal : Cert.NearReferenceIdeal.Facts] : Prop :=
  ∀ (m : (ℓ : Loc Cert.NearReferenceIdeal.nD Cert.NearReferenceIdeal.τ Cert.NearReferenceIdeal.sig) → Buf (Elt Ideal) ℓ) (g : Dev Cert.NearReferenceIdeal.nD → PrngReg), Pre_NearReferenceIdeal m →
    θ_run (Cert.NearReferenceIdeal.defs (F := Ideal)) (onTc (τ := Cert.NearReferenceIdeal.τ) (Cert.NearReferenceIdeal.main (F := Ideal))) ⟨m, fun _ => 0, g⟩ (fun r => (∀ c : Dev Cert.NearReferenceIdeal.nD,
      r.2.mem ((c.tc : Thread Cert.NearReferenceIdeal.nD Cert.NearReferenceIdeal.τ).loc Cert.NearReferenceIdeal.main_arg0) = m ((c.tc : Thread Cert.NearReferenceIdeal.nD Cert.NearReferenceIdeal.τ).loc Cert.NearReferenceIdeal.main_arg0))
      ∧ r.2.sem = fun _ => 0)

def quiescent_NearReferenceIdeal_pre_distinct [hNearReferenceIdeal : Cert.NearReferenceIdeal.Facts] [hPre_distinct : Cert.Pre_distinct.Facts] : Prop :=
  ∀ (m : (ℓ : Loc Cert.NearReferenceIdeal.nD Cert.NearReferenceIdeal.τ Cert.NearReferenceIdeal.sig) → Buf (Elt Ideal) ℓ) (g : Dev Cert.NearReferenceIdeal.nD → PrngReg), Pre_NearReferenceIdeal_distinct m →
    θ_run (Cert.NearReferenceIdeal.defs (F := Ideal)) (onTc (τ := Cert.NearReferenceIdeal.τ) (Cert.NearReferenceIdeal.main (F := Ideal))) ⟨m, fun _ => 0, g⟩ (fun r => (∀ c : Dev Cert.NearReferenceIdeal.nD,
      r.2.mem ((c.tc : Thread Cert.NearReferenceIdeal.nD Cert.NearReferenceIdeal.τ).loc Cert.NearReferenceIdeal.main_arg0) = m ((c.tc : Thread Cert.NearReferenceIdeal.nD Cert.NearReferenceIdeal.τ).loc Cert.NearReferenceIdeal.main_arg0))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Final_FinalIdeal : Prop :=
  True

def algebraic_FinalIdeal_FinalReferenceIdeal_pre_finite [hFinalIdeal : Cert.FinalIdeal.Facts] [hFinalReferenceIdeal : Cert.FinalReferenceIdeal.Facts] [hPre_finite : Cert.Pre_finite.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal_finite m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)
      ∧ m' ((c.tc : Thread Cert.FinalReferenceIdeal.nD Cert.FinalReferenceIdeal.τ).loc Cert.FinalReferenceIdeal.main_arg5) = m ((c.tc : Thread Cert.FinalIdeal.nD Cert.FinalIdeal.τ).loc Cert.FinalIdeal.main_arg5)
      ∧ m' ((c.tc : Thread Cert.FinalReferenceIdeal.nD Cert.FinalReferenceIdeal.τ).loc Cert.FinalReferenceIdeal.main_arg6) = m ((c.tc : Thread Cert.FinalIdeal.nD Cert.FinalIdeal.τ).loc Cert.FinalIdeal.main_arg6)
      ∧ m' ((c.tc : Thread Cert.FinalReferenceIdeal.nD Cert.FinalReferenceIdeal.τ).loc Cert.FinalReferenceIdeal.main_arg7) = m ((c.tc : Thread Cert.FinalIdeal.nD Cert.FinalIdeal.τ).loc Cert.FinalIdeal.main_arg7)
      ∧ m' ((c.tc : Thread Cert.FinalReferenceIdeal.nD Cert.FinalReferenceIdeal.τ).loc Cert.FinalReferenceIdeal.main_arg8) = m ((c.tc : Thread Cert.FinalIdeal.nD Cert.FinalIdeal.τ).loc Cert.FinalIdeal.main_arg8)
      ∧ m' ((c.tc : Thread Cert.FinalReferenceIdeal.nD Cert.FinalReferenceIdeal.τ).loc Cert.FinalReferenceIdeal.main_arg9) = m ((c.tc : Thread Cert.FinalIdeal.nD Cert.FinalIdeal.τ).loc Cert.FinalIdeal.main_arg9)
      ∧ m' ((c.tc : Thread Cert.FinalReferenceIdeal.nD Cert.FinalReferenceIdeal.τ).loc Cert.FinalReferenceIdeal.main_arg10) = m ((c.tc : Thread Cert.FinalIdeal.nD Cert.FinalIdeal.τ).loc Cert.FinalIdeal.main_arg10)) →
    ∃ (v0 : (c : Dev Cert.FinalIdeal.nD) → Buf (Elt Ideal) ((c.tc : Thread Cert.FinalIdeal.nD Cert.FinalIdeal.τ).loc Cert.FinalIdeal.main_v4)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v4) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
          ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
          ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
          ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9)
          ∧ r.2.mem ((c.tc : Thread Cert.FinalIdeal.nD Cert.FinalIdeal.τ).loc Cert.FinalIdeal.main_arg10) = m ((c.tc : Thread Cert.FinalIdeal.nD Cert.FinalIdeal.τ).loc Cert.FinalIdeal.main_arg10))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v46) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4)
          ∧ r.2.mem ((c.tc : Thread Cert.FinalReferenceIdeal.nD Cert.FinalReferenceIdeal.τ).loc Cert.FinalReferenceIdeal.main_arg5) = m' ((c.tc : Thread Cert.FinalReferenceIdeal.nD Cert.FinalReferenceIdeal.τ).loc Cert.FinalReferenceIdeal.main_arg5)
          ∧ r.2.mem ((c.tc : Thread Cert.FinalReferenceIdeal.nD Cert.FinalReferenceIdeal.τ).loc Cert.FinalReferenceIdeal.main_arg6) = m' ((c.tc : Thread Cert.FinalReferenceIdeal.nD Cert.FinalReferenceIdeal.τ).loc Cert.FinalReferenceIdeal.main_arg6)
          ∧ r.2.mem ((c.tc : Thread Cert.FinalReferenceIdeal.nD Cert.FinalReferenceIdeal.τ).loc Cert.FinalReferenceIdeal.main_arg7) = m' ((c.tc : Thread Cert.FinalReferenceIdeal.nD Cert.FinalReferenceIdeal.τ).loc Cert.FinalReferenceIdeal.main_arg7)
          ∧ r.2.mem ((c.tc : Thread Cert.FinalReferenceIdeal.nD Cert.FinalReferenceIdeal.τ).loc Cert.FinalReferenceIdeal.main_arg8) = m' ((c.tc : Thread Cert.FinalReferenceIdeal.nD Cert.FinalReferenceIdeal.τ).loc Cert.FinalReferenceIdeal.main_arg8)
          ∧ r.2.mem ((c.tc : Thread Cert.FinalReferenceIdeal.nD Cert.FinalReferenceIdeal.τ).loc Cert.FinalReferenceIdeal.main_arg9) = m' ((c.tc : Thread Cert.FinalReferenceIdeal.nD Cert.FinalReferenceIdeal.τ).loc Cert.FinalReferenceIdeal.main_arg9)
          ∧ r.2.mem ((c.tc : Thread Cert.FinalReferenceIdeal.nD Cert.FinalReferenceIdeal.τ).loc Cert.FinalReferenceIdeal.main_arg10) = m' ((c.tc : Thread Cert.FinalReferenceIdeal.nD Cert.FinalReferenceIdeal.τ).loc Cert.FinalReferenceIdeal.main_arg10))

def preserves_Stats_StatsIdeal : Prop :=
  True

def algebraic_StatsIdeal_StatsReferenceIdeal_pre_stats_finite [hStatsIdeal : Cert.StatsIdeal.Facts] [hStatsReferenceIdeal : Cert.StatsReferenceIdeal.Facts] [hPre_stats_finite : Cert.Pre_stats_finite.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsReferenceIdeal.nD Cert.StatsReferenceIdeal.τ Cert.StatsReferenceIdeal.sig) → Buf (Elt Ideal) ℓ) (g' : Dev Cert.StatsReferenceIdeal.nD → PrngReg), Pre_StatsIdeal_stats_finite m →
    (∀ c : Dev Cert.StatsIdeal.nD,
      m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)
      ∧ m' ((c.tc : Thread Cert.StatsReferenceIdeal.nD Cert.StatsReferenceIdeal.τ).loc Cert.StatsReferenceIdeal.main_arg1) = m ((c.tc : Thread Cert.StatsIdeal.nD Cert.StatsIdeal.τ).loc Cert.StatsIdeal.main_arg1)
      ∧ m' ((c.tc : Thread Cert.StatsReferenceIdeal.nD Cert.StatsReferenceIdeal.τ).loc Cert.StatsReferenceIdeal.main_arg2) = m ((c.tc : Thread Cert.StatsIdeal.nD Cert.StatsIdeal.τ).loc Cert.StatsIdeal.main_arg2)
      ∧ m' ((c.tc : Thread Cert.StatsReferenceIdeal.nD Cert.StatsReferenceIdeal.τ).loc Cert.StatsReferenceIdeal.main_arg3) = m ((c.tc : Thread Cert.StatsIdeal.nD Cert.StatsIdeal.τ).loc Cert.StatsIdeal.main_arg3)
      ∧ m' ((c.tc : Thread Cert.StatsReferenceIdeal.nD Cert.StatsReferenceIdeal.τ).loc Cert.StatsReferenceIdeal.main_arg4) = m ((c.tc : Thread Cert.StatsIdeal.nD Cert.StatsIdeal.τ).loc Cert.StatsIdeal.main_arg4)
      ∧ m' ((c.tc : Thread Cert.StatsReferenceIdeal.nD Cert.StatsReferenceIdeal.τ).loc Cert.StatsReferenceIdeal.main_arg5) = m ((c.tc : Thread Cert.StatsIdeal.nD Cert.StatsIdeal.τ).loc Cert.StatsIdeal.main_arg5)
      ∧ m' ((c.tc : Thread Cert.StatsReferenceIdeal.nD Cert.StatsReferenceIdeal.τ).loc Cert.StatsReferenceIdeal.main_arg6) = m ((c.tc : Thread Cert.StatsIdeal.nD Cert.StatsIdeal.τ).loc Cert.StatsIdeal.main_arg6)
      ∧ m' ((c.tc : Thread Cert.StatsReferenceIdeal.nD Cert.StatsReferenceIdeal.τ).loc Cert.StatsReferenceIdeal.main_arg7) = m ((c.tc : Thread Cert.StatsIdeal.nD Cert.StatsIdeal.τ).loc Cert.StatsIdeal.main_arg7)
      ∧ m' ((c.tc : Thread Cert.StatsReferenceIdeal.nD Cert.StatsReferenceIdeal.τ).loc Cert.StatsReferenceIdeal.main_arg8) = m ((c.tc : Thread Cert.StatsIdeal.nD Cert.StatsIdeal.τ).loc Cert.StatsIdeal.main_arg8)
      ∧ m' ((c.tc : Thread Cert.StatsReferenceIdeal.nD Cert.StatsReferenceIdeal.τ).loc Cert.StatsReferenceIdeal.main_arg9) = m ((c.tc : Thread Cert.StatsIdeal.nD Cert.StatsIdeal.τ).loc Cert.StatsIdeal.main_arg9)
      ∧ m' ((c.tc : Thread Cert.StatsReferenceIdeal.nD Cert.StatsReferenceIdeal.τ).loc Cert.StatsReferenceIdeal.main_arg10) = m ((c.tc : Thread Cert.StatsIdeal.nD Cert.StatsIdeal.τ).loc Cert.StatsIdeal.main_arg10)
      ∧ m' ((c.tc : Thread Cert.StatsReferenceIdeal.nD Cert.StatsReferenceIdeal.τ).loc Cert.StatsReferenceIdeal.main_arg11) = m ((c.tc : Thread Cert.StatsIdeal.nD Cert.StatsIdeal.τ).loc Cert.StatsIdeal.main_arg11)
      ∧ m' ((c.tc : Thread Cert.StatsReferenceIdeal.nD Cert.StatsReferenceIdeal.τ).loc Cert.StatsReferenceIdeal.main_arg12) = m ((c.tc : Thread Cert.StatsIdeal.nD Cert.StatsIdeal.τ).loc Cert.StatsIdeal.main_arg12)
      ∧ m' ((c.tc : Thread Cert.StatsReferenceIdeal.nD Cert.StatsReferenceIdeal.τ).loc Cert.StatsReferenceIdeal.main_arg13) = m ((c.tc : Thread Cert.StatsIdeal.nD Cert.StatsIdeal.τ).loc Cert.StatsIdeal.main_arg13)) →
    ∃ (v0 : (c : Dev Cert.StatsIdeal.nD) → Buf (Elt Ideal) ((c.tc : Thread Cert.StatsIdeal.nD Cert.StatsIdeal.τ).loc Cert.StatsIdeal.main_v23)) (v1 : (c : Dev Cert.StatsIdeal.nD) → Buf (Elt Ideal) ((c.tc : Thread Cert.StatsIdeal.nD Cert.StatsIdeal.τ).loc Cert.StatsIdeal.main_v24)) (v2 : (c : Dev Cert.StatsIdeal.nD) → Buf (Elt Ideal) ((c.tc : Thread Cert.StatsIdeal.nD Cert.StatsIdeal.τ).loc Cert.StatsIdeal.main_v44)) (v3 : (c : Dev Cert.StatsIdeal.nD) → Buf (Elt Ideal) ((c.tc : Thread Cert.StatsIdeal.nD Cert.StatsIdeal.τ).loc Cert.StatsIdeal.main_v45)) (v4 : (c : Dev Cert.StatsIdeal.nD) → Buf (Elt Ideal) ((c.tc : Thread Cert.StatsIdeal.nD Cert.StatsIdeal.τ).loc Cert.StatsIdeal.main_v65)) (v5 : (c : Dev Cert.StatsIdeal.nD) → Buf (Elt Ideal) ((c.tc : Thread Cert.StatsIdeal.nD Cert.StatsIdeal.τ).loc Cert.StatsIdeal.main_v66)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v23) = v0 c
          ∧ r.2.mem ((c.tc : Thread Cert.StatsIdeal.nD Cert.StatsIdeal.τ).loc Cert.StatsIdeal.main_v24) = v1 c
          ∧ r.2.mem ((c.tc : Thread Cert.StatsIdeal.nD Cert.StatsIdeal.τ).loc Cert.StatsIdeal.main_v44) = v2 c
          ∧ r.2.mem ((c.tc : Thread Cert.StatsIdeal.nD Cert.StatsIdeal.τ).loc Cert.StatsIdeal.main_v45) = v3 c
          ∧ r.2.mem ((c.tc : Thread Cert.StatsIdeal.nD Cert.StatsIdeal.τ).loc Cert.StatsIdeal.main_v65) = v4 c
          ∧ r.2.mem ((c.tc : Thread Cert.StatsIdeal.nD Cert.StatsIdeal.τ).loc Cert.StatsIdeal.main_v66) = v5 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
          ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
          ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3)
          ∧ r.2.mem ((c.tc : Thread Cert.StatsIdeal.nD Cert.StatsIdeal.τ).loc Cert.StatsIdeal.main_arg4) = m ((c.tc : Thread Cert.StatsIdeal.nD Cert.StatsIdeal.τ).loc Cert.StatsIdeal.main_arg4)
          ∧ r.2.mem ((c.tc : Thread Cert.StatsIdeal.nD Cert.StatsIdeal.τ).loc Cert.StatsIdeal.main_arg5) = m ((c.tc : Thread Cert.StatsIdeal.nD Cert.StatsIdeal.τ).loc Cert.StatsIdeal.main_arg5)
          ∧ r.2.mem ((c.tc : Thread Cert.StatsIdeal.nD Cert.StatsIdeal.τ).loc Cert.StatsIdeal.main_arg6) = m ((c.tc : Thread Cert.StatsIdeal.nD Cert.StatsIdeal.τ).loc Cert.StatsIdeal.main_arg6)
          ∧ r.2.mem ((c.tc : Thread Cert.StatsIdeal.nD Cert.StatsIdeal.τ).loc Cert.StatsIdeal.main_arg7) = m ((c.tc : Thread Cert.StatsIdeal.nD Cert.StatsIdeal.τ).loc Cert.StatsIdeal.main_arg7)
          ∧ r.2.mem ((c.tc : Thread Cert.StatsIdeal.nD Cert.StatsIdeal.τ).loc Cert.StatsIdeal.main_arg8) = m ((c.tc : Thread Cert.StatsIdeal.nD Cert.StatsIdeal.τ).loc Cert.StatsIdeal.main_arg8)
          ∧ r.2.mem ((c.tc : Thread Cert.StatsIdeal.nD Cert.StatsIdeal.τ).loc Cert.StatsIdeal.main_arg9) = m ((c.tc : Thread Cert.StatsIdeal.nD Cert.StatsIdeal.τ).loc Cert.StatsIdeal.main_arg9)
          ∧ r.2.mem ((c.tc : Thread Cert.StatsIdeal.nD Cert.StatsIdeal.τ).loc Cert.StatsIdeal.main_arg10) = m ((c.tc : Thread Cert.StatsIdeal.nD Cert.StatsIdeal.τ).loc Cert.StatsIdeal.main_arg10)
          ∧ r.2.mem ((c.tc : Thread Cert.StatsIdeal.nD Cert.StatsIdeal.τ).loc Cert.StatsIdeal.main_arg11) = m ((c.tc : Thread Cert.StatsIdeal.nD Cert.StatsIdeal.τ).loc Cert.StatsIdeal.main_arg11)
          ∧ r.2.mem ((c.tc : Thread Cert.StatsIdeal.nD Cert.StatsIdeal.τ).loc Cert.StatsIdeal.main_arg12) = m ((c.tc : Thread Cert.StatsIdeal.nD Cert.StatsIdeal.τ).loc Cert.StatsIdeal.main_arg12)
          ∧ r.2.mem ((c.tc : Thread Cert.StatsIdeal.nD Cert.StatsIdeal.τ).loc Cert.StatsIdeal.main_arg13) = m ((c.tc : Thread Cert.StatsIdeal.nD Cert.StatsIdeal.τ).loc Cert.StatsIdeal.main_arg13))
      ∧ θ_run (Cert.StatsReferenceIdeal.defs (F := Ideal)) (onTc (τ := Cert.StatsReferenceIdeal.τ) (Cert.StatsReferenceIdeal.main (F := Ideal))) ⟨m', fun _ => 0, g'⟩ (fun r => ∀ c : Dev Cert.StatsReferenceIdeal.nD,
          r.2.mem ((c.tc : Thread Cert.StatsReferenceIdeal.nD Cert.StatsReferenceIdeal.τ).loc Cert.StatsReferenceIdeal.main_v47) = v0 c
          ∧ r.2.mem ((c.tc : Thread Cert.StatsReferenceIdeal.nD Cert.StatsReferenceIdeal.τ).loc Cert.StatsReferenceIdeal.main_v49) = v1 c
          ∧ r.2.mem ((c.tc : Thread Cert.StatsReferenceIdeal.nD Cert.StatsReferenceIdeal.τ).loc Cert.StatsReferenceIdeal.main_v90) = v2 c
          ∧ r.2.mem ((c.tc : Thread Cert.StatsReferenceIdeal.nD Cert.StatsReferenceIdeal.τ).loc Cert.StatsReferenceIdeal.main_v92) = v3 c
          ∧ r.2.mem ((c.tc : Thread Cert.StatsReferenceIdeal.nD Cert.StatsReferenceIdeal.τ).loc Cert.StatsReferenceIdeal.main_v133) = v4 c
          ∧ r.2.mem ((c.tc : Thread Cert.StatsReferenceIdeal.nD Cert.StatsReferenceIdeal.τ).loc Cert.StatsReferenceIdeal.main_v135) = v5 c
          ∧ r.2.mem ((c.tc : Thread Cert.StatsReferenceIdeal.nD Cert.StatsReferenceIdeal.τ).loc Cert.StatsReferenceIdeal.main_arg0) = m' ((c.tc : Thread Cert.StatsReferenceIdeal.nD Cert.StatsReferenceIdeal.τ).loc Cert.StatsReferenceIdeal.main_arg0)
          ∧ r.2.mem ((c.tc : Thread Cert.StatsReferenceIdeal.nD Cert.StatsReferenceIdeal.τ).loc Cert.StatsReferenceIdeal.main_arg1) = m' ((c.tc : Thread Cert.StatsReferenceIdeal.nD Cert.StatsReferenceIdeal.τ).loc Cert.StatsReferenceIdeal.main_arg1)
          ∧ r.2.mem ((c.tc : Thread Cert.StatsReferenceIdeal.nD Cert.StatsReferenceIdeal.τ).loc Cert.StatsReferenceIdeal.main_arg2) = m' ((c.tc : Thread Cert.StatsReferenceIdeal.nD Cert.StatsReferenceIdeal.τ).loc Cert.StatsReferenceIdeal.main_arg2)
          ∧ r.2.mem ((c.tc : Thread Cert.StatsReferenceIdeal.nD Cert.StatsReferenceIdeal.τ).loc Cert.StatsReferenceIdeal.main_arg3) = m' ((c.tc : Thread Cert.StatsReferenceIdeal.nD Cert.StatsReferenceIdeal.τ).loc Cert.StatsReferenceIdeal.main_arg3)
          ∧ r.2.mem ((c.tc : Thread Cert.StatsReferenceIdeal.nD Cert.StatsReferenceIdeal.τ).loc Cert.StatsReferenceIdeal.main_arg4) = m' ((c.tc : Thread Cert.StatsReferenceIdeal.nD Cert.StatsReferenceIdeal.τ).loc Cert.StatsReferenceIdeal.main_arg4)
          ∧ r.2.mem ((c.tc : Thread Cert.StatsReferenceIdeal.nD Cert.StatsReferenceIdeal.τ).loc Cert.StatsReferenceIdeal.main_arg5) = m' ((c.tc : Thread Cert.StatsReferenceIdeal.nD Cert.StatsReferenceIdeal.τ).loc Cert.StatsReferenceIdeal.main_arg5)
          ∧ r.2.mem ((c.tc : Thread Cert.StatsReferenceIdeal.nD Cert.StatsReferenceIdeal.τ).loc Cert.StatsReferenceIdeal.main_arg6) = m' ((c.tc : Thread Cert.StatsReferenceIdeal.nD Cert.StatsReferenceIdeal.τ).loc Cert.StatsReferenceIdeal.main_arg6)
          ∧ r.2.mem ((c.tc : Thread Cert.StatsReferenceIdeal.nD Cert.StatsReferenceIdeal.τ).loc Cert.StatsReferenceIdeal.main_arg7) = m' ((c.tc : Thread Cert.StatsReferenceIdeal.nD Cert.StatsReferenceIdeal.τ).loc Cert.StatsReferenceIdeal.main_arg7)
          ∧ r.2.mem ((c.tc : Thread Cert.StatsReferenceIdeal.nD Cert.StatsReferenceIdeal.τ).loc Cert.StatsReferenceIdeal.main_arg8) = m' ((c.tc : Thread Cert.StatsReferenceIdeal.nD Cert.StatsReferenceIdeal.τ).loc Cert.StatsReferenceIdeal.main_arg8)
          ∧ r.2.mem ((c.tc : Thread Cert.StatsReferenceIdeal.nD Cert.StatsReferenceIdeal.τ).loc Cert.StatsReferenceIdeal.main_arg9) = m' ((c.tc : Thread Cert.StatsReferenceIdeal.nD Cert.StatsReferenceIdeal.τ).loc Cert.StatsReferenceIdeal.main_arg9)
          ∧ r.2.mem ((c.tc : Thread Cert.StatsReferenceIdeal.nD Cert.StatsReferenceIdeal.τ).loc Cert.StatsReferenceIdeal.main_arg10) = m' ((c.tc : Thread Cert.StatsReferenceIdeal.nD Cert.StatsReferenceIdeal.τ).loc Cert.StatsReferenceIdeal.main_arg10)
          ∧ r.2.mem ((c.tc : Thread Cert.StatsReferenceIdeal.nD Cert.StatsReferenceIdeal.τ).loc Cert.StatsReferenceIdeal.main_arg11) = m' ((c.tc : Thread Cert.StatsReferenceIdeal.nD Cert.StatsReferenceIdeal.τ).loc Cert.StatsReferenceIdeal.main_arg11)
          ∧ r.2.mem ((c.tc : Thread Cert.StatsReferenceIdeal.nD Cert.StatsReferenceIdeal.τ).loc Cert.StatsReferenceIdeal.main_arg12) = m' ((c.tc : Thread Cert.StatsReferenceIdeal.nD Cert.StatsReferenceIdeal.τ).loc Cert.StatsReferenceIdeal.main_arg12)
          ∧ r.2.mem ((c.tc : Thread Cert.StatsReferenceIdeal.nD Cert.StatsReferenceIdeal.τ).loc Cert.StatsReferenceIdeal.main_arg13) = m' ((c.tc : Thread Cert.StatsReferenceIdeal.nD Cert.StatsReferenceIdeal.τ).loc Cert.StatsReferenceIdeal.main_arg13))

def preserves_Near_NearIdeal : Prop :=
  IdealRules.named_const.Statement Cert.NearIdeal.κ "high" .f32 0x7F61B1E6#32 ⊤
  ∧ IdealRules.named_const.Statement Cert.NearIdeal.κ "low" .f32 0xFF61B1E6#32 ⊥

def algebraic_NearIdeal_NearReferenceIdeal_pre_distinct [hNearIdeal : Cert.NearIdeal.Facts] [hNearReferenceIdeal : Cert.NearReferenceIdeal.Facts] [hPre_distinct : Cert.Pre_distinct.Facts] : Prop :=
  ∀ (m : (ℓ : Loc Cert.NearIdeal.nD Cert.NearIdeal.τ Cert.NearIdeal.sig) → Buf (Elt Ideal) ℓ) (g : Dev Cert.NearIdeal.nD → PrngReg)
    (m' : (ℓ : Loc Cert.NearReferenceIdeal.nD Cert.NearReferenceIdeal.τ Cert.NearReferenceIdeal.sig) → Buf (Elt Ideal) ℓ) (g' : Dev Cert.NearReferenceIdeal.nD → PrngReg), Pre_NearIdeal_distinct m →
    (∀ c : Dev Cert.NearIdeal.nD,
      m' ((c.tc : Thread Cert.NearReferenceIdeal.nD Cert.NearReferenceIdeal.τ).loc Cert.NearReferenceIdeal.main_arg0) = m ((c.tc : Thread Cert.NearIdeal.nD Cert.NearIdeal.τ).loc Cert.NearIdeal.main_arg0)) →
    ∃ (v0 : (c : Dev Cert.NearIdeal.nD) → Buf (Elt Ideal) ((c.tc : Thread Cert.NearIdeal.nD Cert.NearIdeal.τ).loc Cert.NearIdeal.main_v0)),
      θ_run (Cert.NearIdeal.defs (F := Ideal)) (onTc (τ := Cert.NearIdeal.τ) (Cert.NearIdeal.main (F := Ideal))) ⟨m, fun _ => 0, g⟩ (fun r => ∀ c : Dev Cert.NearIdeal.nD,
          r.2.mem ((c.tc : Thread Cert.NearIdeal.nD Cert.NearIdeal.τ).loc Cert.NearIdeal.main_v0) = v0 c
          ∧ r.2.mem ((c.tc : Thread Cert.NearIdeal.nD Cert.NearIdeal.τ).loc Cert.NearIdeal.main_arg0) = m ((c.tc : Thread Cert.NearIdeal.nD Cert.NearIdeal.τ).loc Cert.NearIdeal.main_arg0))
      ∧ θ_run (Cert.NearReferenceIdeal.defs (F := Ideal)) (onTc (τ := Cert.NearReferenceIdeal.τ) (Cert.NearReferenceIdeal.main (F := Ideal))) ⟨m', fun _ => 0, g'⟩ (fun r => ∀ c : Dev Cert.NearReferenceIdeal.nD,
          r.2.mem ((c.tc : Thread Cert.NearReferenceIdeal.nD Cert.NearReferenceIdeal.τ).loc Cert.NearReferenceIdeal.main_v13) = v0 c
          ∧ r.2.mem ((c.tc : Thread Cert.NearReferenceIdeal.nD Cert.NearReferenceIdeal.τ).loc Cert.NearReferenceIdeal.main_arg0) = m' ((c.tc : Thread Cert.NearReferenceIdeal.nD Cert.NearReferenceIdeal.τ).loc Cert.NearReferenceIdeal.main_arg0))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)) →
    ∃ (v0 : (c : Dev Cert.SampleIdeal.nD) → Buf (Elt Ideal) ((c.tc : Thread Cert.SampleIdeal.nD Cert.SampleIdeal.τ).loc Cert.SampleIdeal.main_v15)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v15) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v15) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0))

def Claim : Prop :=
  ∃ (hKernel : Cert.Kernel.Facts) (hKernelIdeal : Cert.KernelIdeal.Facts) (hReferenceIdeal : Cert.ReferenceIdeal.Facts) (hFinal : Cert.Final.Facts) (hFinalIdeal : Cert.FinalIdeal.Facts) (hFinalReferenceIdeal : Cert.FinalReferenceIdeal.Facts) (hStats : Cert.Stats.Facts) (hStatsIdeal : Cert.StatsIdeal.Facts) (hStatsReferenceIdeal : Cert.StatsReferenceIdeal.Facts) (hNear : Cert.Near.Facts) (hNearIdeal : Cert.NearIdeal.Facts) (hNearReferenceIdeal : Cert.NearReferenceIdeal.Facts) (hSample : Cert.Sample.Facts) (hSampleIdeal : Cert.SampleIdeal.Facts) (hSampleReferenceIdeal : Cert.SampleReferenceIdeal.Facts) (hPre_idx_in_range : Cert.Pre_idx_in_range.Facts) (hPre_finite : Cert.Pre_finite.Facts) (hPre_stats_finite : Cert.Pre_stats_finite.Facts) (hPre_distinct : Cert.Pre_distinct.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal) (hPre_idx_in_range := hPre_idx_in_range)
    ∧ quiescent_Final (hFinal := hFinal)
    ∧ quiescent_FinalIdeal (hFinalIdeal := hFinalIdeal)
    ∧ quiescent_FinalIdeal_pre_finite (hFinalIdeal := hFinalIdeal) (hPre_finite := hPre_finite)
    ∧ quiescent_FinalReferenceIdeal (hFinalReferenceIdeal := hFinalReferenceIdeal)
    ∧ quiescent_FinalReferenceIdeal_pre_finite (hFinalReferenceIdeal := hFinalReferenceIdeal) (hPre_finite := hPre_finite)
    ∧ quiescent_Stats (hStats := hStats)
    ∧ quiescent_StatsIdeal (hStatsIdeal := hStatsIdeal)
    ∧ quiescent_StatsIdeal_pre_stats_finite (hStatsIdeal := hStatsIdeal) (hPre_stats_finite := hPre_stats_finite)
    ∧ quiescent_StatsReferenceIdeal (hStatsReferenceIdeal := hStatsReferenceIdeal)
    ∧ quiescent_StatsReferenceIdeal_pre_stats_finite (hStatsReferenceIdeal := hStatsReferenceIdeal) (hPre_stats_finite := hPre_stats_finite)
    ∧ quiescent_Near (hNear := hNear)
    ∧ quiescent_NearIdeal (hNearIdeal := hNearIdeal)
    ∧ quiescent_NearIdeal_pre_distinct (hNearIdeal := hNearIdeal) (hPre_distinct := hPre_distinct)
    ∧ quiescent_NearReferenceIdeal (hNearReferenceIdeal := hNearReferenceIdeal)
    ∧ quiescent_NearReferenceIdeal_pre_distinct (hNearReferenceIdeal := hNearReferenceIdeal) (hPre_distinct := hPre_distinct)
    ∧ quiescent_Sample (hSample := hSample)
    ∧ quiescent_SampleIdeal (hSampleIdeal := hSampleIdeal)
    ∧ quiescent_SampleReferenceIdeal (hSampleReferenceIdeal := hSampleReferenceIdeal)
    ∧ preserves_Kernel_KernelIdeal
    ∧ algebraic_KernelIdeal_ReferenceIdeal (hKernelIdeal := hKernelIdeal) (hReferenceIdeal := hReferenceIdeal) (hPre_idx_in_range := hPre_idx_in_range)
    ∧ preserves_Final_FinalIdeal
    ∧ algebraic_FinalIdeal_FinalReferenceIdeal_pre_finite (hFinalIdeal := hFinalIdeal) (hFinalReferenceIdeal := hFinalReferenceIdeal) (hPre_finite := hPre_finite)
    ∧ preserves_Stats_StatsIdeal
    ∧ algebraic_StatsIdeal_StatsReferenceIdeal_pre_stats_finite (hStatsIdeal := hStatsIdeal) (hStatsReferenceIdeal := hStatsReferenceIdeal) (hPre_stats_finite := hPre_stats_finite)
    ∧ preserves_Near_NearIdeal
    ∧ algebraic_NearIdeal_NearReferenceIdeal_pre_distinct (hNearIdeal := hNearIdeal) (hNearReferenceIdeal := hNearReferenceIdeal) (hPre_distinct := hPre_distinct)
    ∧ preserves_Sample_SampleIdeal
    ∧ algebraic_SampleIdeal_SampleReferenceIdeal (hSampleIdeal := hSampleIdeal) (hSampleReferenceIdeal := hSampleReferenceIdeal)
-- ==== Pre_distinct.lean ====
abbrev S4x3x4096 : Shape := ⟨3, ![4, 3, 4096]⟩
abbrev S4x4096x3 : Shape := ⟨3, ![4, 4096, 3]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩
abbrev S4x4096x1 : Shape := ⟨3, ![4, 4096, 1]⟩
abbrev S4x4096x32 : Shape := ⟨3, ![4, 4096, 32]⟩
abbrev S4x4096x31 : Shape := ⟨3, ![4, 4096, 31]⟩

class Facts : Prop where
  transposes_S4x3x4096_S4x4096x3_0_2_1 : S4x3x4096.Transposes [0, 2, 1] S4x4096x3
  bcast_S_S4x4096x4096 : S_.BroadcastsInDim S4x4096x4096 (![] : Fin 0 → Fin S4x4096x4096.rank)
  reducesTo_S4x3x4096_S4x4096_d1 : S4x3x4096.ReducesTo [1] S4x4096
  h_S_ : 0 < S_.numel
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  transposes_S4x1x4096_S4x4096x1_0_2_1 : S4x1x4096.Transposes [0, 2, 1] S4x4096x1
  bcast_S4x4096x1_S4x4096x4096_0_1_2 : S4x4096x1.BroadcastsInDim S4x4096x4096 (![0, 1, 2] : Fin 3 → Fin S4x4096x4096.rank)
  sliceFits_S4x4096x4096_S4x4096x32 : S4x4096x4096.Slices (fun _ => 0) S4x4096x32
  slices_S4x4096x32_S4x4096x31_0_0_1 : S4x4096x32.Slices ![0, 0, 1] S4x4096x31
  slices_S4x4096x32_S4x4096x31_0_0_0 : S4x4096x32.Slices ![0, 0, 0] S4x4096x31
  reducesTo_S4x4096x31_S_d0_1_2 : S4x4096x31.ReducesTo [0, 1, 2] S_
  dot_S4x4096x3_S4x3x4096_S4x4096x4096_2_1_1_2_0_0_wf : DotDims.WF S4x4096x3 S4x3x4096 S4x4096x4096 [2] [1] [1] [2] [0] [0]

variable [Facts]

def dot_S4x4096x3_S4x3x4096_S4x4096x4096_2_1_1_2_0_0 : DotDims S4x4096x3 S4x3x4096 S4x4096x4096 where
  lhsContracting := [2]
  rhsContracting := [1]
  lhsNonContracting := [1]
  rhsNonContracting := [2]
  lhsBatch := [0]
  rhsBatch := [0]
  wf := dot_S4x4096x3_S4x3x4096_S4x4096x4096_2_1_1_2_0_0_wf
def fn {F : FTy → Type} [FloatOps F] (main_arg0 : FVec F S4x3x4096 .f32) : IVec S_ 1 :=
  let main_v0 : FVec F S4x4096x3 .f32 := (transpose S4x4096x3 [0, 2, 1] · transposes_S4x3x4096_S4x4096x3_0_2_1) main_arg0
  let main_v1 : FVec F S4x4096x4096 .f32 := (fun l r => Host.dotGeneral dot_S4x4096x3_S4x3x4096_S4x4096x4096_2_1_1_2_0_0 none l r) main_v0 main_arg0
  let main_cst : FVec F S_ .f32 := constant S_ .f32 0xC0000000#32
  let main_v2 : FVec F S4x4096x4096 .f32 := broadcastInDim S4x4096x4096 ![] bcast_S_S4x4096x4096 main_cst
  let main_v3 : FVec F S4x4096x4096 .f32 := mulf main_v2 main_v1
  let main_v4 : FVec F S4x3x4096 .f32 := mulf main_arg0 main_arg0
  let main_cst_0 : FVec F S_ .f32 := constant S_ .f32 0x00000000#32
  let main_v5 : FVec F S4x4096 .f32 := (fun x v => Host.reduceAdd x v reducesTo_S4x3x4096_S4x4096_d1 h_S_) main_v4 main_cst_0
  let main_v6 : FVec F S4x1x4096 .f32 := broadcastInDim S4x1x4096 ![0, 2] bcast_S4x4096_S4x1x4096_0_2 main_v5
  let main_v7 : FVec F S4x1x4096 .f32 := Host.negf main_v6
  let main_v8 : FVec F S4x4096x4096 .f32 := broadcastInDim S4x4096x4096 ![0, 1, 2] bcast_S4x1x4096_S4x4096x4096_0_1_2 main_v7
  let main_v9 : FVec F S4x4096x4096 .f32 := subf main_v8 main_v3
  let main_v10 : FVec F S4x4096x1 .f32 := (transpose S4x4096x1 [0, 2, 1] · transposes_S4x1x4096_S4x4096x1_0_2_1) main_v6
  let main_v11 : FVec F S4x4096x4096 .f32 := broadcastInDim S4x4096x4096 ![0, 1, 2] bcast_S4x4096x1_S4x4096x4096_0_1_2 main_v10
  let main_v12 : FVec F S4x4096x4096 .f32 := subf main_v9 main_v11
  let main_values : FVec F S4x4096x32 .f32 := (fun x => (Host.topK S4x4096x32 2 (FloatOps.cmpfTotal .gt) x sliceFits_S4x4096x4096_S4x4096x32).1) main_v12
  let main_indices : IVec S4x4096x32 32 := (fun x => (Host.topK S4x4096x32 2 (FloatOps.cmpfTotal .gt) x sliceFits_S4x4096x4096_S4x4096x32).2) main_v12
  let main_v13 : FVec F S4x4096x31 .f32 := (extractStridedSlice S4x4096x31 ![0, 0, 1] · slices_S4x4096x32_S4x4096x31_0_0_1) main_values
  let main_v14 : FVec F S4x4096x31 .f32 := (extractStridedSlice S4x4096x31 ![0, 0, 0] · slices_S4x4096x32_S4x4096x31_0_0_0) main_values
  let main_v15 : IVec S4x4096x31 1 := cmpf .olt main_v13 main_v14
  let main_c : IVec S_ 1 := constantI S_ 1 1#1
  let main_v16 : IVec S_ 1 := (fun x v => Host.reduce IntOp.andi x v reducesTo_S4x4096x31_S_d0_1_2 h_S_) main_v15 main_c
  main_v16
-- ==== Pre_finite.lean ====
abbrev S4x3x4096 : Shape := ⟨3, ![4, 3, 4096]⟩
abbrev S4x32x3x4096 : Shape := ⟨4, ![4, 32, 3, 4096]⟩
abbrev S32x6 : Shape := ⟨2, ![32, 6]⟩
abbrev S32x32 : Shape := ⟨2, ![32, 32]⟩
abbrev S64x32 : Shape := ⟨2, ![64, 32]⟩
abbrev S128x1 : Shape := ⟨2, ![128, 1]⟩
abbrev S_ : Shape := ⟨0, ![]⟩

class Facts : Prop where
  bcast_S_S4x3x4096 : S_.BroadcastsInDim S4x3x4096 (![] : Fin 0 → Fin S4x3x4096.rank)
  reducesTo_S4x3x4096_S_d0_1_2 : S4x3x4096.ReducesTo [0, 1, 2] S_
  h_S_ : 0 < S_.numel
  bcast_S_S4x32x3x4096 : S_.BroadcastsInDim S4x32x3x4096 (![] : Fin 0 → Fin S4x32x3x4096.rank)
  reducesTo_S4x32x3x4096_S_d0_1_2_3 : S4x32x3x4096.ReducesTo [0, 1, 2, 3] S_
  bcast_S_S32x6 : S_.BroadcastsInDim S32x6 (![] : Fin 0 → Fin S32x6.rank)
  reducesTo_S32x6_S_d0_1 : S32x6.ReducesTo [0, 1] S_

variable [Facts]

def fn {F : FTy → Type} [FloatOps F] (main_arg0 : FVec F S4x3x4096 .f32) (main_arg1 : FVec F S4x32x3x4096 .f32) (main_arg2 : FVec F S32x6 .f32) (main_arg3 : FVec F S32x32 .f32) (main_arg4 : FVec F S64x32 .f32) (main_arg5 : FVec F S128x1 .f32) (main_arg6 : FVec F S128x1 .f32) (main_arg7 : FVec F S128x1 .f32) (main_arg8 : FVec F S128x1 .f32) (main_arg9 : FVec F S128x1 .f32) (main_arg10 : FVec F S128x1 .f32) : IVec S_ 1 :=
  let main_v0 : FVec F S4x3x4096 .f32 := Host.absf main_arg0
  let main_cst : FVec F S_ .f32 := constant S_ .f32 0x7F800000#32
  let main_v1 : FVec F S4x3x4096 .f32 := broadcastInDim S4x3x4096 ![] bcast_S_S4x3x4096 main_cst
  let main_v2 : IVec S4x3x4096 1 := cmpf .olt main_v0 main_v1
  let main_c : IVec S_ 1 := constantI S_ 1 1#1
  let main_v3 : IVec S_ 1 := (fun x v => Host.reduce IntOp.andi x v reducesTo_S4x3x4096_S_d0_1_2 h_S_) main_v2 main_c
  let main_v4 : FVec F S4x32x3x4096 .f32 := Host.absf main_arg1
  let main_cst_0 : FVec F S_ .f32 := constant S_ .f32 0x7F800000#32
  let main_v5 : FVec F S4x32x3x4096 .f32 := broadcastInDim S4x32x3x4096 ![] bcast_S_S4x32x3x4096 main_cst_0
  let main_v6 : IVec S4x32x3x4096 1 := cmpf .olt main_v4 main_v5
  let main_c_1 : IVec S_ 1 := constantI S_ 1 1#1
  let main_v7 : IVec S_ 1 := (fun x v => Host.reduce IntOp.andi x v reducesTo_S4x32x3x4096_S_d0_1_2_3 h_S_) main_v6 main_c_1
  let main_v8 : IVec S_ 1 := andi main_v3 main_v7
  let main_v9 : FVec F S32x6 .f32 := Host.absf main_arg2
  let main_cst_2 : FVec F S_ .f32 := constant S_ .f32 0x7F800000#32
  let main_v10 : FVec F S32x6 .f32 := broadcastInDim S32x6 ![] bcast_S_S32x6 main_cst_2
  let main_v11 : IVec S32x6 1 := cmpf .olt main_v9 main_v10
  let main_c_3 : IVec S_ 1 := constantI S_ 1 1#1
  let main_v12 : IVec S_ 1 := (fun x v => Host.reduce IntOp.andi x v reducesTo_S32x6_S_d0_1 h_S_) main_v11 main_c_3
  let main_v13 : IVec S_ 1 := andi main_v8 main_v12
  main_v13
-- ==== Pre_idx_in_range.lean ====
abbrev S4x3x4096 : Shape := ⟨3, ![4, 3, 4096]⟩
abbrev S4x32x4096 : Shape := ⟨3, ![4, 32, 4096]⟩
abbrev S_ : Shape := ⟨0, ![]⟩

class Facts : Prop where
  bcast_S_S4x32x4096 : S_.BroadcastsInDim S4x32x4096 (![] : Fin 0 → Fin S4x32x4096.rank)
  reducesTo_S4x32x4096_S_d0_1_2 : S4x32x4096.ReducesTo [0, 1, 2] S_
  h_S_ : 0 < S_.numel

variable [Facts]

def fn {F : FTy → Type} [FloatOps F] (main_arg0 : FVec F S4x3x4096 .f32) (main_arg1 : IVec S4x32x4096 32) : IVec S_ 1 :=
  let main_c : IVec S_ 32 := constantI S_ 32 0#32
  let main_v0 : IVec S4x32x4096 32 := broadcastInDim S4x32x4096 ![] bcast_S_S4x32x4096 main_c
  let main_v1 : IVec S4x32x4096 1 := cmpi .sge main_arg1 main_v0
  let main_c_0 : IVec S_ 32 := constantI S_ 32 4096#32
  let main_v2 : IVec S4x32x4096 32 := broadcastInDim S4x32x4096 ![] bcast_S_S4x32x4096 main_c_0
  let main_v3 : IVec S4x32x4096 1 := cmpi .slt main_arg1 main_v2
  let main_v4 : IVec S4x32x4096 1 := andi main_v1 main_v3
  let main_c_1 : IVec S_ 1 := constantI S_ 1 1#1
  let main_v5 : IVec S_ 1 := (fun x v => Host.reduce IntOp.andi x v reducesTo_S4x32x4096_S_d0_1_2 h_S_) main_v4 main_c_1
  main_v5
-- ==== Pre_stats_finite.lean ====
abbrev S4x3x4096 : Shape := ⟨3, ![4, 3, 4096]⟩
abbrev S4x32x3x4096 : Shape := ⟨4, ![4, 32, 3, 4096]⟩
abbrev S32x6 : Shape := ⟨2, ![32, 6]⟩
abbrev S32 : Shape := ⟨1, ![32]⟩
abbrev S32x32 : Shape := ⟨2, ![32, 32]⟩
abbrev S64x32 : Shape := ⟨2, ![64, 32]⟩
abbrev S64 : Shape := ⟨1, ![64]⟩
abbrev S_ : Shape := ⟨0, ![]⟩

class Facts : Prop where
  bcast_S_S4x3x4096 : S_.BroadcastsInDim S4x3x4096 (![] : Fin 0 → Fin S4x3x4096.rank)
  reducesTo_S4x3x4096_S_d0_1_2 : S4x3x4096.ReducesTo [0, 1, 2] S_
  h_S_ : 0 < S_.numel
  bcast_S_S4x32x3x4096 : S_.BroadcastsInDim S4x32x3x4096 (![] : Fin 0 → Fin S4x32x3x4096.rank)
  reducesTo_S4x32x3x4096_S_d0_1_2_3 : S4x32x3x4096.ReducesTo [0, 1, 2, 3] S_
  bcast_S_S32x6 : S_.BroadcastsInDim S32x6 (![] : Fin 0 → Fin S32x6.rank)
  reducesTo_S32x6_S_d0_1 : S32x6.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg7 : FVec F S32 .f32) (main_arg8 : FVec F S32 .f32) (main_arg9 : FVec F S32 .f32) (main_arg10 : FVec F S64x32 .f32) (main_arg11 : FVec F S64 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg11 main_v48 main_v49 main_v50

def fn_part1 {F : FTy → Type} [FloatOps F] (main_arg4 : FVec F S32 .f32) (main_arg5 : FVec F S32 .f32) (main_arg6 : FVec F S32x32 .f32) (main_arg7 : FVec F S32 .f32) (main_arg8 : FVec F S32 .f32) (main_arg9 : FVec F S32 .f32) (main_arg10 : FVec F S64x32 .f32) (main_arg11 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x3x4096 .f32) (main_arg1 : FVec F S4x32x3x4096 .f32) (main_arg2 : FVec F S32x6 .f32) (main_arg3 : FVec F S32 .f32) (main_arg4 : FVec F S32 .f32) (main_arg5 : FVec F S32 .f32) (main_arg6 : FVec F S32x32 .f32) (main_arg7 : FVec F S32 .f32) (main_arg8 : FVec F S32 .f32) (main_arg9 : FVec F S32 .f32) (main_arg10 : FVec F S64x32 .f32) (main_arg11 : FVec F S64 .f32) (main_arg12 : FVec F S64 .f32) (main_arg13 : FVec F S64 .f32) : IVec S_ 1 :=
  let main_v0 : FVec F S4x3x4096 .f32 := Host.absf main_arg0
  let main_cst : FVec F S_ .f32 := constant S_ .f32 0x7F800000#32
  let main_v1 : FVec F S4x3x4096 .f32 := broadcastInDim S4x3x4096 ![] bcast_S_S4x3x4096 main_cst
  let main_v2 : IVec S4x3x4096 1 := cmpf .olt main_v0 main_v1
  let main_c : IVec S_ 1 := constantI S_ 1 1#1
  let main_v3 : IVec S_ 1 := (fun x v => Host.reduce IntOp.andi x v reducesTo_S4x3x4096_S_d0_1_2 h_S_) main_v2 main_c
  let main_v4 : FVec F S4x32x3x4096 .f32 := Host.absf main_arg1
  let main_cst_0 : FVec F S_ .f32 := constant S_ .f32 0x7F800000#32
  let main_v5 : FVec F S4x32x3x4096 .f32 := broadcastInDim S4x32x3x4096 ![] bcast_S_S4x32x3x4096 main_cst_0
  let main_v6 : IVec S4x32x3x4096 1 := cmpf .olt main_v4 main_v5
  let main_c_1 : IVec S_ 1 := constantI S_ 1 1#1
  let main_v7 : IVec S_ 1 := (fun x v => Host.reduce IntOp.andi x v reducesTo_S4x32x3x4096_S_d0_1_2_3 h_S_) main_v6 main_c_1
  let main_v8 : IVec S_ 1 := andi main_v3 main_v7
  let main_v9 : FVec F S32x6 .f32 := Host.absf main_arg2
  let main_cst_2 : FVec F S_ .f32 := constant S_ .f32 0x7F800000#32
  let main_v10 : FVec F S32x6 .f32 := broadcastInDim S32x6 ![] bcast_S_S32x6 main_cst_2
  let main_v11 : IVec S32x6 1 := cmpf .olt main_v9 main_v10
  let main_c_3 : IVec S_ 1 := constantI S_ 1 1#1
  let main_v12 : IVec S_ 1 := (fun x v => Host.reduce IntOp.andi x v reducesTo_S32x6_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_v13 main_v16
-- ==== Kernel.lean ====
abbrev S4x3x4096 : Shape := ⟨3, ![4, 3, 4096]⟩
abbrev S4x32x4096 : Shape := ⟨3, ![4, 32, 4096]⟩
abbrev S524288 : Shape := ⟨1, ![524288]⟩
abbrev S49152 : Shape := ⟨1, ![49152]⟩
abbrev S1572864 : Shape := ⟨1, ![1572864]⟩
abbrev S12288 : Shape := ⟨1, ![12288]⟩
abbrev S4096 : Shape := ⟨1, ![4096]⟩
abbrev S_ : Shape := ⟨0, ![]⟩
abbrev S16 : Shape := ⟨1, ![16]⟩
abbrev S4x32x3x4096 : Shape := ⟨4, ![4, 32, 3, 4096]⟩

abbrev nBuf : Table → Nat
  | .hbm => 6
  | .local .scVector .vmem => 3
  | _ => 0

abbrev bufTy : (tb : Table) → Fin (nBuf tb) → BufTy
  | .hbm, ⟨0, _⟩ => ⟨S4x3x4096, .f32⟩
  | .hbm, ⟨1, _⟩ => ⟨S4x32x4096, .i32⟩
  | .hbm, ⟨2, _⟩ => ⟨S524288, .i32⟩
  | .hbm, ⟨3, _⟩ => ⟨S49152, .f32⟩
  | .hbm, ⟨4, _⟩ => ⟨S1572864, .f32⟩
  | .hbm, ⟨5, _⟩ => ⟨S4x32x3x4096, .f32⟩
  | .local .scVector .vmem, ⟨0, _⟩ => ⟨S12288, .f32⟩
  | .local .scVector .vmem, ⟨1, _⟩ => ⟨S4096, .i32⟩
  | .local .scVector .vmem, ⟨2, _⟩ => ⟨S12288, .f32⟩
  | _, _ => ⟨S4x3x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c3_i32 : BitVec 32 := 3#32
  let v21 : BitVec 32 := Scalar.muli v20 c3_i32
  let c4096_i32 : BitVec 32 := 4096#32
  let v22 : BitVec 32 := Scalar.muli v21 c4096_i32
  ![v22.toNat]
def k0_off2 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c4096_i32_5 : BitVec 32 := 4096#32
  let v23 : BitVec 32 := Scalar.muli v3 c4096_i32_5
  ![v23.toNat]
@[reducible] def k0_t1_loop : Scf.Loop 32 :=
  let c0_i32_7 : BitVec 32 := 0#32
  let c256_i32 : BitVec 32 := 256#32
  let v24 : BitVec 32 := Scalar.addi c0_i32_7 c256_i32
  let c1_i32_8 : BitVec 32 := 1#32
  ⟨c0_i32_7, v24, c1_i32_8⟩
def k0_off3 (k0_t1 : Fin k0_t1_loop.trips) : Fin 1 → Nat :=
  let c0_i32_7 : BitVec 32 := 0#32
  let c1_i32_8 : BitVec 32 := 1#32
  let arg8 : BitVec 32 := Scf.iv c0_i32_7 c1_i32_8 k0_t1
  let c16_i32 : BitVec 32 := 16#32
  let v134 : BitVec 32 := Scalar.muli arg8 c16_i32
  let v135 : Index := Scalar.indexCast v134
  ![v135.toNat]

def k0_chk1 (v138 : IVec S16 32) : Prop :=
  (∀ a x, ((![v138] : Fin 1 → IVec S16 32) a x).toNat < S12288.size a)
theorem k0_idx1_inb : ∀ (v138 : IVec S16 32) (k0_hw1 : k0_chk1 v138), ∀ a x, ((![v138] : Fin 1 → IVec S16 32) a x).toNat < S12288.size a := fun v138 k0_hw1 => k0_hw1
def k0_off4 (k0_t1 : Fin k0_t1_loop.trips) : Fin 1 → Nat :=
  let c0_i32_99 : BitVec 32 := 0#32
  let c0_i32_7 : BitVec 32 := 0#32
  let c1_i32_8 : BitVec 32 := 1#32
  let arg8 : BitVec 32 := Scf.iv c0_i32_7 c1_i32_8 k0_t1
  let c16_i32_98 : BitVec 32 := 16#32
  let v140 : BitVec 32 := Scalar.muli arg8 c16_i32_98
  let v141 : BitVec 32 := Scalar.addi c0_i32_99 v140
  let v142 : Index := Scalar.indexCast v141
  ![v142.toNat]

def k0_chk2 (v145 : IVec S16 32) : Prop :=
  (∀ a x, ((![v145] : Fin 1 → IVec S16 32) a x).toNat < S12288.size a)
theorem k0_idx2_inb : ∀ (v145 : IVec S16 32) (k0_hw2 : k0_chk2 v145), ∀ a x, ((![v145] : Fin 1 → IVec S16 32) a x).toNat < S12288.size a := fun v145 k0_hw2 => k0_hw2
def k0_off5 (k0_t1 : Fin k0_t1_loop.trips) : Fin 1 → Nat :=
  let c4096_i32_102 : BitVec 32 := 4096#32
  let c0_i32_7 : BitVec 32 := 0#32
  let c1_i32_8 : BitVec 32 := 1#32
  let arg8 : BitVec 32 := Scf.iv c0_i32_7 c1_i32_8 k0_t1
  let c16_i32_101 : BitVec 32 := 16#32
  let v147 : BitVec 32 := Scalar.muli arg8 c16_i32_101
  let v148 : BitVec 32 := Scalar.addi c4096_i32_102 v147
  let v149 : Index := Scalar.indexCast v148
  ![v149.toNat]

def k0_chk3 (v152 : IVec S16 32) : Prop :=
  (∀ a x, ((![v152] : Fin 1 → IVec S16 32) a x).toNat < S12288.size a)
theorem k0_idx3_inb : ∀ (v152 : IVec S16 32) (k0_hw3 : k0_chk3 v152), ∀ a x, ((![v152] : Fin 1 → IVec S16 32) a x).toNat < S12288.size a := fun v152 k0_hw3 => k0_hw3
def k0_off6 (k0_t1 : Fin k0_t1_loop.trips) : Fin 1 → Nat :=
  let c8192_i32_104 : BitVec 32 := 8192#32
  let c0_i32_7 : BitVec 32 := 0#32
  let c1_i32_8 : BitVec 32 := 1#32
  let arg8 : BitVec 32 := Scf.iv c0_i32_7 c1_i32_8 k0_t1
  let c16_i32_103 : BitVec 32 := 16#32
  let v154 : BitVec 32 := Scalar.muli arg8 c16_i32_103
  let v155 : BitVec 32 := Scalar.addi c8192_i32_104 v154
  let v156 : Index := Scalar.indexCast v155
  ![v156.toNat]
def k0_off7 (i : grid0.Coords) (c0_i32 : BitVec 32) (c0_i32_11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c3_i32_10 : BitVec 32 := 3#32
  let v26 : BitVec 32 := Scalar.muli v3 c3_i32_10
  let v27 : BitVec 32 := Scalar.addi v26 c0_i32_11
  let c4096_i32_12 : BitVec 32 := 4096#32
  let v28 : BitVec 32 := Scalar.muli v27 c4096_i32_12
  ![v28.toNat]
@[reducible] def k0_t2_loop : Scf.Loop 32 :=
  let c0_i32_32 : BitVec 32 := 0#32
  let c256_i32_33 : BitVec 32 := 256#32
  let v57 : BitVec 32 := Scalar.addi c0_i32_32 c256_i32_33
  let c1_i32_34 : BitVec 32 := 1#32
  ⟨c0_i32_32, v57, c1_i32_34⟩
def k0_off8 (k0_t2 : Fin k0_t2_loop.trips) : Fin 1 → Nat :=
  let c0_i32_32 : BitVec 32 := 0#32
  let c1_i32_34 : BitVec 32 := 1#32
  let arg8 : BitVec 32 := Scf.iv c0_i32_32 c1_i32_34 k0_t2
  let c16_i32 : BitVec 32 := 16#32
  let v134 : BitVec 32 := Scalar.muli arg8 c16_i32
  let v135 : Index := Scalar.indexCast v134
  ![v135.toNat]

def k0_chk4 (v138 : IVec S16 32) : Prop :=
  (∀ a x, ((![v138] : Fin 1 → IVec S16 32) a x).toNat < S12288.size a)
theorem k0_idx4_inb : ∀ (v138 : IVec S16 32) (k0_hw4 : k0_chk4 v138), ∀ a x, ((![v138] : Fin 1 → IVec S16 32) a x).toNat < S12288.size a := fun v138 k0_hw4 => k0_hw4
def k0_off9 (k0_t2 : Fin k0_t2_loop.trips) : Fin 1 → Nat :=
  let c0_i32_99 : BitVec 32 := 0#32
  let c0_i32_32 : BitVec 32 := 0#32
  let c1_i32_34 : BitVec 32 := 1#32
  let arg8 : BitVec 32 := Scf.iv c0_i32_32 c1_i32_34 k0_t2
  let c16_i32_98 : BitVec 32 := 16#32
  let v140 : BitVec 32 := Scalar.muli arg8 c16_i32_98
  let v141 : BitVec 32 := Scalar.addi c0_i32_99 v140
  let v142 : Index := Scalar.indexCast v141
  ![v142.toNat]

def k0_chk5 (v145 : IVec S16 32) : Prop :=
  (∀ a x, ((![v145] : Fin 1 → IVec S16 32) a x).toNat < S12288.size a)
theorem k0_idx5_inb : ∀ (v145 : IVec S16 32) (k0_hw5 : k0_chk5 v145), ∀ a x, ((![v145] : Fin 1 → IVec S16 32) a x).toNat < S12288.size a := fun v145 k0_hw5 => k0_hw5
def k0_off10 (k0_t2 : Fin k0_t2_loop.trips) : Fin 1 → Nat :=
  let c4096_i32_102 : BitVec 32 := 4096#32
  let c0_i32_32 : BitVec 32 := 0#32
  let c1_i32_34 : BitVec 32 := 1#32
  let arg8 : BitVec 32 := Scf.iv c0_i32_32 c1_i32_34 k0_t2
  let c16_i32_101 : BitVec 32 := 16#32
  let v147 : BitVec 32 := Scalar.muli arg8 c16_i32_101
  let v148 : BitVec 32 := Scalar.addi c4096_i32_102 v147
  let v149 : Index := Scalar.indexCast v148
  ![v149.toNat]

def k0_chk6 (v152 : IVec S16 32) : Prop :=
  (∀ a x, ((![v152] : Fin 1 → IVec S16 32) a x).toNat < S12288.size a)
theorem k0_idx6_inb : ∀ (v152 : IVec S16 32) (k0_hw6 : k0_chk6 v152), ∀ a x, ((![v152] : Fin 1 → IVec S16 32) a x).toNat < S12288.size a := fun v152 k0_hw6 => k0_hw6
def k0_off11 (k0_t2 : Fin k0_t2_loop.trips) : Fin 1 → Nat :=
  let c8192_i32_104 : BitVec 32 := 8192#32
  let c0_i32_32 : BitVec 32 := 0#32
  let c1_i32_34 : BitVec 32 := 1#32
  let arg8 : BitVec 32 := Scf.iv c0_i32_32 c1_i32_34 k0_t2
  let c16_i32_103 : BitVec 32 := 16#32
  let v154 : BitVec 32 := Scalar.muli arg8 c16_i32_103
  let v155 : BitVec 32 := Scalar.addi c8192_i32_104 v154
  let v156 : Index := Scalar.indexCast v155
  ![v156.toNat]
@[reducible] def k0_t3_loop : Scf.Loop 32 :=
  let c0_i32_58 : BitVec 32 := 0#32
  let c256_i32_59 : BitVec 32 := 256#32
  let v90 : BitVec 32 := Scalar.addi c0_i32_58 c256_i32_59
  let c1_i32_60 : BitVec 32 := 1#32
  ⟨c0_i32_58, v90, c1_i32_60⟩
def k0_off12 (k0_t3 : Fin k0_t3_loop.trips) : Fin 1 → Nat :=
  let c0_i32_58 : BitVec 32 := 0#32
  let c1_i32_60 : BitVec 32 := 1#32
  let arg8 : BitVec 32 := Scf.iv c0_i32_58 c1_i32_60 k0_t3
  let c16_i32 : BitVec 32 := 16#32
  let v134 : BitVec 32 := Scalar.muli arg8 c16_i32
  let v135 : Index := Scalar.indexCast v134
  ![v135.toNat]

def k0_chk7 (v138 : IVec S16 32) : Prop :=
  (∀ a x, ((![v138] : Fin 1 → IVec S16 32) a x).toNat < S12288.size a)
theorem k0_idx7_inb : ∀ (v138 : IVec S16 32) (k0_hw7 : k0_chk7 v138), ∀ a x, ((![v138] : Fin 1 → IVec S16 32) a x).toNat < S12288.size a := fun v138 k0_hw7 => k0_hw7
def k0_off13 (k0_t3 : Fin k0_t3_loop.trips) : Fin 1 → Nat :=
  let c0_i32_99 : BitVec 32 := 0#32
  let c0_i32_58 : BitVec 32 := 0#32
  let c1_i32_60 : BitVec 32 := 1#32
  let arg8 : BitVec 32 := Scf.iv c0_i32_58 c1_i32_60 k0_t3
  let c16_i32_98 : BitVec 32 := 16#32
  let v140 : BitVec 32 := Scalar.muli arg8 c16_i32_98
  let v141 : BitVec 32 := Scalar.addi c0_i32_99 v140
  let v142 : Index := Scalar.indexCast v141
  ![v142.toNat]

def k0_chk8 (v145 : IVec S16 32) : Prop :=
  (∀ a x, ((![v145] : Fin 1 → IVec S16 32) a x).toNat < S12288.size a)
theorem k0_idx8_inb : ∀ (v145 : IVec S16 32) (k0_hw8 : k0_chk8 v145), ∀ a x, ((![v145] : Fin 1 → IVec S16 32) a x).toNat < S12288.size a := fun v145 k0_hw8 => k0_hw8
def k0_off14 (k0_t3 : Fin k0_t3_loop.trips) : Fin 1 → Nat :=
  let c4096_i32_102 : BitVec 32 := 4096#32
  let c0_i32_58 : BitVec 32 := 0#32
  let c1_i32_60 : BitVec 32 := 1#32
  let arg8 : BitVec 32 := Scf.iv c0_i32_58 c1_i32_60 k0_t3
  let c16_i32_101 : BitVec 32 := 16#32
  let v147 : BitVec 32 := Scalar.muli arg8 c16_i32_101
  let v148 : BitVec 32 := Scalar.addi c4096_i32_102 v147
  let v149 : Index := Scalar.indexCast v148
  ![v149.toNat]

def k0_chk9 (v152 : IVec S16 32) : Prop :=
  (∀ a x, ((![v152] : Fin 1 → IVec S16 32) a x).toNat < S12288.size a)
theorem k0_idx9_inb : ∀ (v152 : IVec S16 32) (k0_hw9 : k0_chk9 v152), ∀ a x, ((![v152] : Fin 1 → IVec S16 32) a x).toNat < S12288.size a := fun v152 k0_hw9 => k0_hw9
def k0_off15 (k0_t3 : Fin k0_t3_loop.trips) : Fin 1 → Nat :=
  let c8192_i32_104 : BitVec 32 := 8192#32
  let c0_i32_58 : BitVec 32 := 0#32
  let c1_i32_60 : BitVec 32 := 1#32
  let arg8 : BitVec 32 := Scf.iv c0_i32_58 c1_i32_60 k0_t3
  let c16_i32_103 : BitVec 32 := 16#32
  let v154 : BitVec 32 := Scalar.muli arg8 c16_i32_103
  let v155 : BitVec 32 := Scalar.addi c8192_i32_104 v154
  let v156 : Index := Scalar.indexCast v155
  ![v156.toNat]
@[reducible] def k0_t4_loop : Scf.Loop 32 :=
  let c0_i32_84 : BitVec 32 := 0#32
  let c256_i32_85 : BitVec 32 := 256#32
  let v123 : BitVec 32 := Scalar.addi c0_i32_84 c256_i32_85
  let c1_i32_86 : BitVec 32 := 1#32
  ⟨c0_i32_84, v123, c1_i32_86⟩
def k0_off16 (k0_t4 : Fin k0_t4_loop.trips) : Fin 1 → Nat :=
  let c0_i32_84 : BitVec 32 := 0#32
  let c1_i32_86 : BitVec 32 := 1#32
  let arg8 : BitVec 32 := Scf.iv c0_i32_84 c1_i32_86 k0_t4
  let c16_i32 : BitVec 32 := 16#32
  let v134 : BitVec 32 := Scalar.muli arg8 c16_i32
  let v135 : Index := Scalar.indexCast v134
  ![v135.toNat]

def k0_chk10 (v138 : IVec S16 32) : Prop :=
  (∀ a x, ((![v138] : Fin 1 → IVec S16 32) a x).toNat < S12288.size a)
theorem k0_idx10_inb : ∀ (v138 : IVec S16 32) (k0_hw10 : k0_chk10 v138), ∀ a x, ((![v138] : Fin 1 → IVec S16 32) a x).toNat < S12288.size a := fun v138 k0_hw10 => k0_hw10
def k0_off17 (k0_t4 : Fin k0_t4_loop.trips) : Fin 1 → Nat :=
  let c0_i32_99 : BitVec 32 := 0#32
  let c0_i32_84 : BitVec 32 := 0#32
  let c1_i32_86 : BitVec 32 := 1#32
  let arg8 : BitVec 32 := Scf.iv c0_i32_84 c1_i32_86 k0_t4
  let c16_i32_98 : BitVec 32 := 16#32
  let v140 : BitVec 32 := Scalar.muli arg8 c16_i32_98
  let v141 : BitVec 32 := Scalar.addi c0_i32_99 v140
  let v142 : Index := Scalar.indexCast v141
  ![v142.toNat]

def k0_chk11 (v145 : IVec S16 32) : Prop :=
  (∀ a x, ((![v145] : Fin 1 → IVec S16 32) a x).toNat < S12288.size a)
theorem k0_idx11_inb : ∀ (v145 : IVec S16 32) (k0_hw11 : k0_chk11 v145), ∀ a x, ((![v145] : Fin 1 → IVec S16 32) a x).toNat < S12288.size a := fun v145 k0_hw11 => k0_hw11
def k0_off18 (k0_t4 : Fin k0_t4_loop.trips) : Fin 1 → Nat :=
  let c4096_i32_102 : BitVec 32 := 4096#32
  let c0_i32_84 : BitVec 32 := 0#32
  let c1_i32_86 : BitVec 32 := 1#32
  let arg8 : BitVec 32 := Scf.iv c0_i32_84 c1_i32_86 k0_t4
  let c16_i32_101 : BitVec 32 := 16#32
  let v147 : BitVec 32 := Scalar.muli arg8 c16_i32_101
  let v148 : BitVec 32 := Scalar.addi c4096_i32_102 v147
  let v149 : Index := Scalar.indexCast v148
  ![v149.toNat]

def k0_chk12 (v152 : IVec S16 32) : Prop :=
  (∀ a x, ((![v152] : Fin 1 → IVec S16 32) a x).toNat < S12288.size a)
theorem k0_idx12_inb : ∀ (v152 : IVec S16 32) (k0_hw12 : k0_chk12 v152), ∀ a x, ((![v152] : Fin 1 → IVec S16 32) a x).toNat < S12288.size a := fun v152 k0_hw12 => k0_hw12
def k0_off19 (k0_t4 : Fin k0_t4_loop.trips) : Fin 1 → Nat :=
  let c8192_i32_104 : BitVec 32 := 8192#32
  let c0_i32_84 : BitVec 32 := 0#32
  let c1_i32_86 : BitVec 32 := 1#32
  let arg8 : BitVec 32 := Scf.iv c0_i32_84 c1_i32_86 k0_t4
  let c16_i32_103 : BitVec 32 := 16#32
  let v154 : BitVec 32 := Scalar.muli arg8 c16_i32_103
  let v155 : BitVec 32 := Scalar.addi c8192_i32_104 v154
  let v156 : Index := Scalar.indexCast v155
  ![v156.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x3x4096 : Shape := ⟨3, ![4, 3, 4096]⟩
abbrev S4x32x4096 : Shape := ⟨3, ![4, 32, 4096]⟩
abbrev S4x4096x32 : Shape := ⟨3, ![4, 4096, 32]⟩
abbrev S4 : Shape := ⟨1, ![4]⟩
abbrev S4x1x1 : Shape := ⟨3, ![4, 1, 1]⟩
abbrev S_ : Shape := ⟨0, ![]⟩
abbrev S524288 : Shape := ⟨1, ![524288]⟩
abbrev S4x4096x3 : Shape := ⟨3, ![4, 4096, 3]⟩
abbrev S16384x3 : Shape := ⟨2, ![16384, 3]⟩
abbrev S524288x1 : Shape := ⟨2, ![524288, 1]⟩
abbrev S1 : Shape := ⟨1, ![1]⟩
abbrev S1x1 : Shape := ⟨2, ![1, 1]⟩
abbrev S524288x3 : Shape := ⟨2, ![524288, 3]⟩
abbrev S4x4096x32x3 : Shape := ⟨4, ![4, 4096, 32, 3]⟩
abbrev S4x32x3x4096 : Shape := ⟨4, ![4, 32, 3, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4x3x4096, .f32⟩
  | .hbm, ⟨1, _⟩ => ⟨S4x32x4096, .i32⟩
  | .hbm, ⟨2, _⟩ => ⟨S4x4096x32, .i32⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i32⟩
  | .hbm, ⟨8, _⟩ => ⟨S4x4096x32, .i32⟩
  | .hbm, ⟨9, _⟩ => ⟨S4x4096x32, .i32⟩
  | .hbm, ⟨10, _⟩ => ⟨S524288, .i32⟩
  | .hbm, ⟨11, _⟩ => ⟨S4x4096x3, .f32⟩
  | .hbm, ⟨12, _⟩ => ⟨S16384x3, .f32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S1, .i32⟩
  | .hbm, ⟨22, _⟩ => ⟨S_, .i32⟩
  | .hbm, ⟨23, _⟩ => ⟨S524288x1, .i32⟩
  | .hbm, ⟨24, _⟩ => ⟨S524288x1, .i1⟩
  | .hbm, ⟨25, _⟩ => ⟨S1x1, .i32⟩
  | .hbm, ⟨26, _⟩ => ⟨S524288x1, .i32⟩
  | .hbm, ⟨27, _⟩ => ⟨S524288x1, .i1⟩
  | .hbm, ⟨28, _⟩ => ⟨S524288x1, .i1⟩
  | .hbm, ⟨29, _⟩ => ⟨S_, .i1⟩
  | .hbm, ⟨30, _⟩ => ⟨S524288, .i1⟩
  | .hbm, ⟨31, _⟩ => ⟨S524288x3, .f32⟩
  | .hbm, ⟨32, _⟩ => ⟨S524288x3, .i1⟩
  | .hbm, ⟨33, _⟩ => ⟨S_, .f32⟩
  | .hbm, ⟨34, _⟩ => ⟨S524288x3, .f32⟩
  | .hbm, ⟨35, _⟩ => ⟨S524288x3, .f32⟩
  | .hbm, ⟨36, _⟩ => ⟨S4x4096x32x3, .f32⟩
  | .hbm, ⟨37, _⟩ => ⟨S4x32x3x4096, .f32⟩
  | _, _ => ⟨S4x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩

abbrev nD : Nat := 1
abbrev τ : Topo := Topo.v7x

variable {F : FTy → Type} [FloatOps F]
-- ==== Final.lean ====
abbrev S4x3x4096 : Shape := ⟨3, ![4, 3, 4096]⟩
abbrev S4x32x3x4096 : Shape := ⟨4, ![4, 32, 3, 4096]⟩
abbrev S32x6 : Shape := ⟨2, ![32, 6]⟩
abbrev S32x32 : Shape := ⟨2, ![32, 32]⟩
abbrev S64x32 : Shape := ⟨2, ![64, 32]⟩
abbrev S128x1 : Shape := ⟨2, ![128, 1]⟩
abbrev S32x3 : Shape := ⟨2, ![32, 3]⟩
abbrev S4x64x4096 : Shape := ⟨3, ![4, 64, 4096]⟩
abbrev S1x1x3x2048 : Shape := ⟨4, ![1, 1, 3, 2048]⟩
abbrev S1x3x2048 : Shape := ⟨3, ![1, 3, 2048]⟩
abbrev S1x64x2048 : Shape := ⟨3, ![1, 64, 2048]⟩
abbrev S3x2048 : Shape := ⟨2, ![3, 2048]⟩
abbrev S32x2048 : Shape := ⟨2, ![32, 2048]⟩
abbrev S32x1 : Shape := ⟨2, ![32, 1]⟩
abbrev S64x2048 : Shape := ⟨2, ![64, 2048]⟩
abbrev S64x1 : Shape := ⟨2, ![64, 1]⟩

abbrev nBuf : Space → Nat
  | .hbm => 16
  | .vmem => 16
  | .smem => 0
  | _ => 0

abbrev bufTy : (tb : Table) → Fin (tcTables nBuf tb) → BufTy
  | .hbm, ⟨0, _⟩ => ⟨S4x3x4096, .f32⟩
  | .hbm, ⟨1, _⟩ => ⟨S4x32x3x4096, .f32⟩
  | .hbm, ⟨2, _⟩ => ⟨S32x6, .f32⟩
  | .hbm, ⟨3, _⟩ => ⟨S32x32, .f32⟩
  | .hbm, ⟨4, _⟩ => ⟨S64x32, .f32⟩
  | .hbm, ⟨5, _⟩ => ⟨S128x1, .f32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S128x1, .f32⟩
  | .hbm, ⟨10, _⟩ => ⟨S128x1, .f32⟩
  | .hbm, ⟨11, _⟩ => ⟨S32x3, .f32⟩
  | .hbm, ⟨12, _⟩ => ⟨S32x3, .f32⟩
  | .hbm, ⟨13, _⟩ => ⟨S32x3, .f32⟩
  | .hbm, ⟨14, _⟩ => ⟨S32x3, .f32⟩
  | .hbm, ⟨15, _⟩ => ⟨S4x64x4096, .f32⟩
  | .local _ .vmem, ⟨0, _⟩ => ⟨S1x1x3x2048, .f32⟩
  | .local _ .vmem, ⟨1, _⟩ => ⟨S1x1x3x2048, .f32⟩
  | .local _ .vmem, ⟨2, _⟩ => ⟨S1x3x2048, .f32⟩
  | .local _ .vmem, ⟨3, _⟩ => ⟨S1x3x2048, .f32⟩
  | .local _ .vmem, ⟨4, _⟩ => ⟨S32x3, .f32⟩
  | .local _ .vmem, ⟨5, _⟩ => ⟨S32x3, .f32⟩
  | .local _ .vmem, ⟨6, _⟩ => ⟨S32x32, .f32⟩
  | .local _ .vmem, ⟨7, _⟩ => ⟨S64x32, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | .local _ .vmem, ⟨14, _⟩ => ⟨S1x64x2048, .f32⟩
  | .local _ .vmem, ⟨15, _⟩ => ⟨S1x64x2048, .f32⟩
  | _, _ => ⟨S4x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨3, ![4, 2, 32], ![false, false, false]⟩

def k0_cond1 (i : grid0.Coords) : BitVec 1 :=
  let arg2 : BitVec 32 := BitVec.ofNat 32 (i 2).val
  let c0_i32 : BitVec 32 := 0#32
  let v45 : BitVec 1 := Scalar.cmpi .eq arg2 c0_i32
  let v46 : BitVec 32 := Scalar.extui v45
  let c0_i32_32 : BitVec 32 := 0#32
  let v47 : BitVec 1 := Scalar.cmpi .ne v46 c0_i32_32
  v47

def k0_cond2 (i : grid0.Coords) : BitVec 1 :=
  let arg2 : BitVec 32 := BitVec.ofNat 32 (i 2).val
  let c0_i32_33 : BitVec 32 := 0#32
  let v48 : BitVec 1 := Scalar.cmpi .ne arg2 c0_i32_33
  let v49 : BitVec 32 := Scalar.extui v48
  let c0_i32_34 : BitVec 32 := 0#32
  let v50 : BitVec 1 := Scalar.cmpi .ne v49 c0_i32_34
  v50

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S32x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S32x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== FinalReferenceIdeal.lean ====
abbrev S4x3x4096 : Shape := ⟨3, ![4, 3, 4096]⟩
abbrev S4x32x3x4096 : Shape := ⟨4, ![4, 32, 3, 4096]⟩
abbrev S32x6 : Shape := ⟨2, ![32, 6]⟩
abbrev S32x32 : Shape := ⟨2, ![32, 32]⟩
abbrev S64x32 : Shape := ⟨2, ![64, 32]⟩
abbrev S128x1 : Shape := ⟨2, ![128, 1]⟩
abbrev S4x4096x32x3 : Shape := ⟨4, ![4, 4096, 32, 3]⟩
abbrev S4x4096x3 : Shape := ⟨3, ![4, 4096, 3]⟩
abbrev S4x4096x1x3 : Shape := ⟨4, ![4, 4096, 1, 3]⟩
abbrev S4x4096x32x6 : Shape := ⟨4, ![4, 4096, 32, 6]⟩
abbrev S4x6x4096x32 : Shape := ⟨4, ![4, 6, 4096, 32]⟩
abbrev S4x4096x32x32 : Shape := ⟨4, ![4, 4096, 32, 32]⟩
abbrev S4x32x4096x32 : Shape := ⟨4, ![4, 32, 4096, 32]⟩
abbrev S32x1 : Shape := ⟨2, ![32, 1]⟩
abbrev S32 : Shape := ⟨1, ![32]⟩
abbrev S1x32x1x1 : Shape := ⟨4, ![1, 32, 1, 1]⟩
abbrev S_ : Shape := ⟨0, ![]⟩
abbrev S4x4096x32x64 : Shape := ⟨4, ![4, 4096, 32, 64]⟩
abbrev S4x64x4096x32 : Shape := ⟨4, ![4, 64, 4096, 32]⟩
abbrev S64x1 : Shape := ⟨2, ![64, 1]⟩
abbrev S64 : Shape := ⟨1, ![64]⟩
abbrev S1x64x1x1 : Shape := ⟨4, ![1, 64, 1, 1]⟩
abbrev S4x64x4096 : Shape := ⟨3, ![4, 64, 4096]⟩

abbrev nBuf : Space → Nat
  | .hbm => 65
  | .vmem => 0
  | .smem => 0
  | _ => 0

abbrev bufTy : (tb : Table) → Fin (tcTables nBuf tb) → BufTy
  | .hbm, ⟨0, _⟩ => ⟨S4x3x4096, .f32⟩
  | .hbm, ⟨1, _⟩ => ⟨S4x32x3x4096, .f32⟩
  | .hbm, ⟨2, _⟩ => ⟨S32x6, .f32⟩
  | .hbm, ⟨3, _⟩ => ⟨S32x32, .f32⟩
  | .hbm, ⟨4, _⟩ => ⟨S64x32, .f32⟩
  | .hbm, ⟨5, _⟩ => ⟨S128x1, .f32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S128x1, .f32⟩
  | .hbm, ⟨10, _⟩ => ⟨S128x1, .f32⟩
  | .hbm, ⟨11, _⟩ => ⟨S4x4096x32x3, .f32⟩
  | .hbm, ⟨12, _⟩ => ⟨S4x4096x3, .f32⟩
  | .hbm, ⟨13, _⟩ => ⟨S4x4096x1x3, .f32⟩
  | .hbm, ⟨14, _⟩ => ⟨S4x4096x32x3, .f32⟩
  | .hbm, ⟨15, _⟩ => ⟨S4x4096x32x3, .f32⟩
  | .hbm, ⟨16, _⟩ => ⟨S4x4096x32x6, .f32⟩
  | .hbm, ⟨17, _⟩ => ⟨S4x6x4096x32, .f32⟩
  | .hbm, ⟨18, _⟩ => ⟨S4x4096x32x32, .f32⟩
  | .hbm, ⟨19, _⟩ => ⟨S4x32x4096x32, .f32⟩
  | .hbm, ⟨20, _⟩ => ⟨S32x1, .f32⟩
  | .hbm, ⟨21, _⟩ => ⟨S32, .f32⟩
  | .hbm, ⟨22, _⟩ => ⟨S1x32x1x1, .f32⟩
  | .hbm, ⟨23, _⟩ => ⟨S4x32x4096x32, .f32⟩
  | .hbm, ⟨24, _⟩ => ⟨S4x32x4096x32, .f32⟩
  | .hbm, ⟨25, _⟩ => ⟨S32x1, .f32⟩
  | .hbm, ⟨26, _⟩ => ⟨S32, .f32⟩
  | .hbm, ⟨27, _⟩ => ⟨S1x32x1x1, .f32⟩
  | .hbm, ⟨28, _⟩ => ⟨S4x32x4096x32, .f32⟩
  | .hbm, ⟨29, _⟩ => ⟨S4x32x4096x32, .f32⟩
  | .hbm, ⟨30, _⟩ => ⟨S_, .f32⟩
  | .hbm, ⟨31, _⟩ => ⟨S4x32x4096x32, .f32⟩
  | .hbm, ⟨32, _⟩ => ⟨S4x32x4096x32, .f32⟩
  | .hbm, ⟨33, _⟩ => ⟨S4x4096x32x32, .f32⟩
  | .hbm, ⟨34, _⟩ => ⟨S4x32x4096x32, .f32⟩
  | .hbm, ⟨35, _⟩ => ⟨S32x1, .f32⟩
  | .hbm, ⟨36, _⟩ => ⟨S32, .f32⟩
  | .hbm, ⟨37, _⟩ => ⟨S1x32x1x1, .f32⟩
  | .hbm, ⟨38, _⟩ => ⟨S4x32x4096x32, .f32⟩
  | .hbm, ⟨39, _⟩ => ⟨S4x32x4096x32, .f32⟩
  | .hbm, ⟨40, _⟩ => ⟨S32x1, .f32⟩
  | .hbm, ⟨41, _⟩ => ⟨S32, .f32⟩
  | .hbm, ⟨42, _⟩ => ⟨S1x32x1x1, .f32⟩
  | .hbm, ⟨43, _⟩ => ⟨S4x32x4096x32, .f32⟩
  | .hbm, ⟨44, _⟩ => ⟨S4x32x4096x32, .f32⟩
  | .hbm, ⟨45, _⟩ => ⟨S_, .f32⟩
  | .hbm, ⟨46, _⟩ => ⟨S4x32x4096x32, .f32⟩
  | .hbm, ⟨47, _⟩ => ⟨S4x32x4096x32, .f32⟩
  | .hbm, ⟨48, _⟩ => ⟨S4x4096x32x64, .f32⟩
  | .hbm, ⟨49, _⟩ => ⟨S4x64x4096x32, .f32⟩
  | .hbm, ⟨50, _⟩ => ⟨S64x1, .f32⟩
  | .hbm, ⟨51, _⟩ => ⟨S64, .f32⟩
  | .hbm, ⟨52, _⟩ => ⟨S1x64x1x1, .f32⟩
  | .hbm, ⟨53, _⟩ => ⟨S4x64x4096x32, .f32⟩
  | .hbm, ⟨54, _⟩ => ⟨S4x64x4096x32, .f32⟩
  | .hbm, ⟨55, _⟩ => ⟨S64x1, .f32⟩
  | .hbm, ⟨56, _⟩ => ⟨S64, .f32⟩
  | .hbm, ⟨57, _⟩ => ⟨S1x64x1x1, .f32⟩
  | .hbm, ⟨58, _⟩ => ⟨S4x64x4096x32, .f32⟩
  | .hbm, ⟨59, _⟩ => ⟨S4x64x4096x32, .f32⟩
  | .hbm, ⟨60, _⟩ => ⟨S_, .f32⟩
  | .hbm, ⟨61, _⟩ => ⟨S4x64x4096x32, .f32⟩
  | .hbm, ⟨62, _⟩ => ⟨S4x64x4096x32, .f32⟩
  | .hbm, ⟨63, _⟩ => ⟨S_, .f32⟩
  | .hbm, ⟨64, _⟩ => ⟨S4x64x4096, .f32⟩
  | _, _ => ⟨S4x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call1_cst : Ref sig .tc := ⟨.hbm, 45, rfl⟩
abbrev main_call1_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call2_cst : Ref sig .tc := ⟨.hbm, 60, rfl⟩
abbrev main_call2_v0 : Ref sig .tc := ⟨.hbm, 61, rfl⟩
abbrev main_v45 : Ref sig .tc := ⟨.hbm, 62, rfl⟩
abbrev main_cst : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Stats.lean ====
abbrev S4x3x4096 : Shape := ⟨3, ![4, 3, 4096]⟩
abbrev S4x32x3x4096 : Shape := ⟨4, ![4, 32, 3, 4096]⟩
abbrev S32x6 : Shape := ⟨2, ![32, 6]⟩
abbrev S32 : Shape := ⟨1, ![32]⟩
abbrev S32x32 : Shape := ⟨2, ![32, 32]⟩
abbrev S64x32 : Shape := ⟨2, ![64, 32]⟩
abbrev S64 : Shape := ⟨1, ![64]⟩
abbrev S32x3 : Shape := ⟨2, ![32, 3]⟩
abbrev S128x1 : Shape := ⟨2, ![128, 1]⟩
abbrev S1x1x3x2048 : Shape := ⟨4, ![1, 1, 3, 2048]⟩
abbrev S1x3x2048 : Shape := ⟨3, ![1, 3, 2048]⟩
abbrev S3x2048 : Shape := ⟨2, ![3, 2048]⟩
abbrev S32x2048 : Shape := ⟨2, ![32, 2048]⟩
abbrev S32x1 : Shape := ⟨2, ![32, 1]⟩
abbrev S128 : Shape := ⟨1, ![128]⟩
abbrev S_ : Shape := ⟨0, ![]⟩
abbrev S64x2048 : Shape := ⟨2, ![64, 2048]⟩
abbrev S64x1 : Shape := ⟨2, ![64, 1]⟩

abbrev nBuf : Space → Nat
  | .hbm => 108
  | .vmem => 36
  | .smem => 0
  | _ => 0

abbrev bufTy : (tb : Table) → Fin (tcTables nBuf tb) → BufTy
  | .hbm, ⟨0, _⟩ => ⟨S4x3x4096, .f32⟩
  | .hbm, ⟨1, _⟩ => ⟨S4x32x3x4096, .f32⟩
  | .hbm, ⟨2, _⟩ => ⟨S32x6, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S64x32, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S32x3, .f32⟩
  | .hbm, ⟨15, _⟩ => ⟨S32x3, .f32⟩
  | .hbm, ⟨16, _⟩ => ⟨S32x3, .f32⟩
  | .hbm, ⟨17, _⟩ => ⟨S32x3, .f32⟩
  | .hbm, ⟨18, _⟩ => ⟨S128x1, .f32⟩
  | .hbm, ⟨19, _⟩ => ⟨S128x1, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S_, .i32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S_, .i32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128x1, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S_, .i32⟩
  | .hbm, ⟨64, _⟩ => ⟨S_, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S_, .i32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S128x1, .f32⟩
  | .hbm, ⟨77, _⟩ => ⟨S128x1, .f32⟩
  | .hbm, ⟨78, _⟩ => ⟨S128x1, .f32⟩
  | .hbm, ⟨79, _⟩ => ⟨S128x1, .f32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S_, .i32⟩
  | .hbm, ⟨94, _⟩ => ⟨S_, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S_, .i32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S128, .f32⟩
  | .hbm, ⟨106, _⟩ => ⟨S128x1, .f32⟩
  | .hbm, ⟨107, _⟩ => ⟨S128x1, .f32⟩
  | .local _ .vmem, ⟨0, _⟩ => ⟨S1x1x3x2048, .f32⟩
  | .local _ .vmem, ⟨1, _⟩ => ⟨S1x1x3x2048, .f32⟩
  | .local _ .vmem, ⟨2, _⟩ => ⟨S1x3x2048, .f32⟩
  | .local _ .vmem, ⟨3, _⟩ => ⟨S1x3x2048, .f32⟩
  | .local _ .vmem, ⟨4, _⟩ => ⟨S32x3, .f32⟩
  | .local _ .vmem, ⟨5, _⟩ => ⟨S32x3, .f32⟩
  | .local _ .vmem, ⟨6, _⟩ => ⟨S32x32, .f32⟩
  | .local _ .vmem, ⟨7, _⟩ => ⟨S64x32, .f32⟩
  | .local _ .vmem, ⟨8, _⟩ => ⟨S128x1, .f32⟩
  | .local _ .vmem, ⟨9, _⟩ => ⟨S128x1, .f32⟩
  | .local _ .vmem, ⟨10, _⟩ => ⟨S1x1x3x2048, .f32⟩
  | .local _ .vmem, ⟨11, _⟩ => ⟨S1x1x3x2048, .f32⟩
  | .local _ .vmem, ⟨12, _⟩ => ⟨S1x3x2048, .f32⟩
  | .local _ .vmem, ⟨13, _⟩ => ⟨S1x3x2048, .f32⟩
  | .local _ .vmem, ⟨14, _⟩ => ⟨S32x3, .f32⟩
  | .local _ .vmem, ⟨15, _⟩ => ⟨S32x3, .f32⟩
  | .local _ .vmem, ⟨16, _⟩ => ⟨S32x32, .f32⟩
  | .local _ .vmem, ⟨17, _⟩ => ⟨S64x32, .f32⟩
  | .local _ .vmem, ⟨18, _⟩ => ⟨S128x1, .f32⟩
  | .local _ .vmem, ⟨19, _⟩ => ⟨S128x1, .f32⟩
  | .local _ .vmem, ⟨20, _⟩ => ⟨S128x1, .f32⟩
  | .local _ .vmem, ⟨21, _⟩ => ⟨S128x1, .f32⟩
  | .local _ .vmem, ⟨22, _⟩ => ⟨S1x1x3x2048, .f32⟩
  | .local _ .vmem, ⟨23, _⟩ => ⟨S1x1x3x2048, .f32⟩
  | .local _ .vmem, ⟨24, _⟩ => ⟨S1x3x2048, .f32⟩
  | .local _ .vmem, ⟨25, _⟩ => ⟨S1x3x2048, .f32⟩
  | .local _ .vmem, ⟨26, _⟩ => ⟨S32x3, .f32⟩
  | .local _ .vmem, ⟨27, _⟩ => ⟨S32x3, .f32⟩
  | .local _ .vmem, ⟨28, _⟩ => ⟨S32x32, .f32⟩
  | .local _ .vmem, ⟨29, _⟩ => ⟨S64x32, .f32⟩
  | .local _ .vmem, ⟨30, _⟩ => ⟨S128x1, .f32⟩
  | .local _ .vmem, ⟨31, _⟩ => ⟨S128x1, .f32⟩
  | .local _ .vmem, ⟨32, _⟩ => ⟨S128x1, .f32⟩
  | .local _ .vmem, ⟨33, _⟩ => ⟨S128x1, .f32⟩
  | .local _ .vmem, ⟨34, _⟩ => ⟨S128x1, .f32⟩
  | .local _ .vmem, ⟨35, _⟩ => ⟨S128x1, .f32⟩
  | _, _ => ⟨S4x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_call0_v0 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_call1_v0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25_0 : Ref sig .tc := ⟨.hbm, 48, rfl⟩
abbrev main_v25_1 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_call2_v0 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_9 : Ref sig .tc := ⟨.hbm, 71, rfl⟩
abbrev main_call3_v0 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46_0 : Ref sig .tc := ⟨.hbm, 78, rfl⟩
abbrev main_v46_1 : Ref sig .tc := ⟨.hbm, 79, rfl⟩
abbrev main_v47 : Ref sig .tc := ⟨.hbm, 80, rfl⟩
abbrev main_cst_10 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_11 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_12 : Ref sig .tc := ⟨.hbm, 90, rfl⟩
abbrev main_v55 : Ref sig .tc := ⟨.hbm, 91, rfl⟩
abbrev main_v56 : Ref sig .tc := ⟨.hbm, 92, rfl⟩
abbrev main_c_13 : Ref sig .tc := ⟨.hbm, 93, rfl⟩
abbrev main_call4_v0 : Ref sig .tc := ⟨.hbm, 94, rfl⟩
abbrev main_v57 : Ref sig .tc := ⟨.hbm, 95, rfl⟩
abbrev main_cst_14 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_15 : Ref sig .tc := ⟨.hbm, 101, rfl⟩
abbrev main_call5_v0 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35

abbrev nD : Nat := 1
abbrev τ : Topo := Topo.v7x

variable {F : FTy → Type} [FloatOps F]

abbrev grid0 : Pipeline.Grid := ⟨3, ![4, 2, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S32x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S32x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev grid1 : Pipeline.Grid := ⟨3, ![4, 2, 32], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x3x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x3x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 1 → Memref sig .tc .vmem S32x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S32x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 1 → Memref sig .tc .vmem S128x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false, false]

abbrev grid2 : Pipeline.Grid := ⟨3, ![4, 2, 32], ![false, false, false]⟩

def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1x3x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x3x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 1 → Memref sig .tc .vmem S32x3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 1 → Memref sig .tc .vmem S32x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 1 → Memref sig .tc .vmem S64x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, false]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false, false]

abbrev stage2_8 : Fin 1 → Memref sig .tc .vmem S128x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false, false]

abbrev stage2_9 : Fin 1 → Memref sig .tc .vmem S128x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false, false]

abbrev stage2_10 : Fin 1 → Memref sig .tc .vmem S128x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false, false]

abbrev stage2_11 : Fin 1 → Memref sig .tc .vmem S128x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false, false]
-- ==== StatsReferenceIdeal.lean ====
abbrev S4x3x4096 : Shape := ⟨3, ![4, 3, 4096]⟩
abbrev S4x32x3x4096 : Shape := ⟨4, ![4, 32, 3, 4096]⟩
abbrev S32x6 : Shape := ⟨2, ![32, 6]⟩
abbrev S32 : Shape := ⟨1, ![32]⟩
abbrev S32x32 : Shape := ⟨2, ![32, 32]⟩
abbrev S64x32 : Shape := ⟨2, ![64, 32]⟩
abbrev S64 : Shape := ⟨1, ![64]⟩
abbrev S4x4096x32x3 : Shape := ⟨4, ![4, 4096, 32, 3]⟩
abbrev S4x4096x3 : Shape := ⟨3, ![4, 4096, 3]⟩
abbrev S4x4096x1x3 : Shape := ⟨4, ![4, 4096, 1, 3]⟩
abbrev S4x4096x32x6 : Shape := ⟨4, ![4, 4096, 32, 6]⟩
abbrev S4x6x4096x32 : Shape := ⟨4, ![4, 6, 4096, 32]⟩
abbrev S4x4096x32x32 : Shape := ⟨4, ![4, 4096, 32, 32]⟩
abbrev S4x32x4096x32 : Shape := ⟨4, ![4, 32, 4096, 32]⟩
abbrev S1x32x1x1 : Shape := ⟨4, ![1, 32, 1, 1]⟩
abbrev S_ : Shape := ⟨0, ![]⟩
abbrev S128 : Shape := ⟨1, ![128]⟩
abbrev S128x1 : Shape := ⟨2, ![128, 1]⟩
abbrev S4x4096x32x64 : Shape := ⟨4, ![4, 4096, 32, 64]⟩
abbrev S4x64x4096x32 : Shape := ⟨4, ![4, 64, 4096, 32]⟩
abbrev S1x64x1x1 : Shape := ⟨4, ![1, 64, 1, 1]⟩

abbrev nBuf : Space → Nat
  | .hbm => 186
  | .vmem => 0
  | .smem => 0
  | _ => 0

abbrev hbmTy0_0 (i : Nat) : BufTy := match i % 128 with
  | 0 => ⟨S4x3x4096, .f32⟩
  | 1 => ⟨S4x32x3x4096, .f32⟩
  | 2 => ⟨S32x6, .f32⟩
  | 3 => ⟨S32, .f32⟩
  | 4 => ⟨S32, .f32⟩
  | 5 => ⟨S32, .f32⟩
  | 6 => ⟨S32x32, .f32⟩
  | 7 => ⟨S32, .f32⟩
  | 8 => ⟨S32, .f32⟩
  | 9 => ⟨S32, .f32⟩
  | 10 => ⟨S64x32, .f32⟩
  | 11 => ⟨S64, .f32⟩
  | 12 => ⟨S64, .f32⟩
  | 13 => ⟨S64, .f32⟩
  | 14 => ⟨S4x4096x32x3, .f32⟩
  | 15 => ⟨S4x4096x3, .f32⟩
  | 16 => ⟨S4x4096x1x3, .f32⟩
  | 17 => ⟨S4x4096x32x3, .f32⟩
  | 18 => ⟨S4x4096x32x3, .f32⟩
  | 19 => ⟨S4x4096x32x6, .f32⟩
  | 20 => ⟨S4x6x4096x32, .f32⟩
  | 21 => ⟨S4x4096x32x32, .f32⟩
  | 22 => ⟨S4x32x4096x32, .f32⟩
  | 23 => ⟨S1x32x1x1, .f32⟩
  | 24 => ⟨S4x32x4096x32, .f32⟩
  | 25 => ⟨S4x32x4096x32, .f32⟩
  | 26 => ⟨S_, .f32⟩
  | 27 => ⟨S32, .f32⟩
  | 28 => ⟨S1x32x1x1, .f32⟩
  | 29 => ⟨S_, .f32⟩
  | 30 => ⟨S1x32x1x1, .f32⟩
  | 31 => ⟨S1x32x1x1, .f32⟩
  | 32 => ⟨S4x32x4096x32, .f32⟩
  | 33 => ⟨S4x32x4096x32, .f32⟩
  | 34 => ⟨S4x32x4096x32, .f32⟩
  | 35 => ⟨S_, .f32⟩
  | 36 => ⟨S32, .f32⟩
  | 37 => ⟨S1x32x1x1, .f32⟩
  | 38 => ⟨S_, .f32⟩
  | 39 => ⟨S1x32x1x1, .f32⟩
  | 40 => ⟨S1x32x1x1, .f32⟩
  | 41 => ⟨S_, .f32⟩
  | 42 => ⟨S1x32x1x1, .f32⟩
  | 43 => ⟨S1x32x1x1, .f32⟩
  | 44 => ⟨S1x32x1x1, .f32⟩
  | 45 => ⟨S32, .f32⟩
  | 46 => ⟨S32, .f32⟩
  | 47 => ⟨S32, .f32⟩
  | 48 => ⟨S32, .f32⟩
  | 49 => ⟨S32, .f32⟩
  | 50 => ⟨S32, .f32⟩
  | 51 => ⟨S4x32x4096x32, .f32⟩
  | 52 => ⟨S4x32x4096x32, .f32⟩
  | 53 => ⟨S_, .f32⟩
  | 54 => ⟨S1x32x1x1, .f32⟩
  | 55 => ⟨S1x32x1x1, .f32⟩
  | 56 => ⟨S1x32x1x1, .f32⟩
  | 57 => ⟨S4x32x4096x32, .f32⟩
  | 58 => ⟨S4x32x4096x32, .f32⟩
  | 59 => ⟨S1x32x1x1, .f32⟩
  | 60 => ⟨S4x32x4096x32, .f32⟩
  | 61 => ⟨S4x32x4096x32, .f32⟩
  | 62 => ⟨S1x32x1x1, .f32⟩
  | 63 => ⟨S4x32x4096x32, .f32⟩
  | 64 => ⟨S4x32x4096x32, .f32⟩
  | 65 => ⟨S_, .f32⟩
  | 66 => ⟨S4x32x4096x32, .f32⟩
  | 67 => ⟨S4x32x4096x32, .f32⟩
  | 68 => ⟨S_, .i32⟩
  | 69 => ⟨S_, .f32⟩
  | 70 => ⟨S128, .f32⟩
  | 71 => ⟨S128x1, .f32⟩
  | 72 => ⟨S_, .i32⟩
  | 73 => ⟨S_, .f32⟩
  | 74 => ⟨S128, .f32⟩
  | 75 => ⟨S128x1, .f32⟩
  | 76 => ⟨S4x4096x32x32, .f32⟩
  | 77 => ⟨S4x32x4096x32, .f32⟩
  | 78 => ⟨S1x32x1x1, .f32⟩
  | 79 => ⟨S4x32x4096x32, .f32⟩
  | 80 => ⟨S4x32x4096x32, .f32⟩
  | 81 => ⟨S_, .f32⟩
  | 82 => ⟨S32, .f32⟩
  | 83 => ⟨S1x32x1x1, .f32⟩
  | 84 => ⟨S_, .f32⟩
  | 85 => ⟨S1x32x1x1, .f32⟩
  | 86 => ⟨S1x32x1x1, .f32⟩
  | 87 => ⟨S4x32x4096x32, .f32⟩
  | 88 => ⟨S4x32x4096x32, .f32⟩
  | 89 => ⟨S4x32x4096x32, .f32⟩
  | 90 => ⟨S_, .f32⟩
  | 91 => ⟨S32, .f32⟩
  | 92 => ⟨S1x32x1x1, .f32⟩
  | 93 => ⟨S_, .f32⟩
  | 94 => ⟨S1x32x1x1, .f32⟩
  | 95 => ⟨S1x32x1x1, .f32⟩
  | 96 => ⟨S_, .f32⟩
  | 97 => ⟨S1x32x1x1, .f32⟩
  | 98 => ⟨S1x32x1x1, .f32⟩
  | 99 => ⟨S1x32x1x1, .f32⟩
  | 100 => ⟨S32, .f32⟩
  | 101 => ⟨S32, .f32⟩
  | 102 => ⟨S32, .f32⟩
  | 103 => ⟨S32, .f32⟩
  | 104 => ⟨S32, .f32⟩
  | 105 => ⟨S32, .f32⟩
  | 106 => ⟨S4x32x4096x32, .f32⟩
  | 107 => ⟨S4x32x4096x32, .f32⟩
  | 108 => ⟨S_, .f32⟩
  | 109 => ⟨S1x32x1x1, .f32⟩
  | 110 => ⟨S1x32x1x1, .f32⟩
  | 111 => ⟨S1x32x1x1, .f32⟩
  | 112 => ⟨S4x32x4096x32, .f32⟩
  | 113 => ⟨S4x32x4096x32, .f32⟩
  | 114 => ⟨S1x32x1x1, .f32⟩
  | 115 => ⟨S4x32x4096x32, .f32⟩
  | 116 => ⟨S4x32x4096x32, .f32⟩
  | 117 => ⟨S1x32x1x1, .f32⟩
  | 118 => ⟨S4x32x4096x32, .f32⟩
  | 119 => ⟨S4x32x4096x32, .f32⟩
  | 120 => ⟨S_, .f32⟩
  | 121 => ⟨S4x32x4096x32, .f32⟩
  | 122 => ⟨S4x32x4096x32, .f32⟩
  | 123 => ⟨S_, .i32⟩
  | 124 => ⟨S_, .f32⟩
  | 125 => ⟨S128, .f32⟩
  | 126 => ⟨S128x1, .f32⟩
  | 127 => ⟨S_, .i32⟩
  | _ => ⟨S4x3x4096, .f32⟩

abbrev hbmTy0_1 (i : Nat) : BufTy := match i % 128 with
  | 0 => ⟨S_, .f32⟩
  | 1 => ⟨S128, .f32⟩
  | 2 => ⟨S128x1, .f32⟩
  | 3 => ⟨S4x4096x32x64, .f32⟩
  | 4 => ⟨S4x64x4096x32, .f32⟩
  | 5 => ⟨S1x64x1x1, .f32⟩
  | 6 => ⟨S4x64x4096x32, .f32⟩
  | 7 => ⟨S4x64x4096x32, .f32⟩
  | 8 => ⟨S_, .f32⟩
  | 9 => ⟨S64, .f32⟩
  | 10 => ⟨S1x64x1x1, .f32⟩
  | 11 => ⟨S_, .f32⟩
  | 12 => ⟨S1x64x1x1, .f32⟩
  | 13 => ⟨S1x64x1x1, .f32⟩
  | 14 => ⟨S4x64x4096x32, .f32⟩
  | 15 => ⟨S4x64x4096x32, .f32⟩
  | 16 => ⟨S4x64x4096x32, .f32⟩
  | 17 => ⟨S_, .f32⟩
  | 18 => ⟨S64, .f32⟩
  | 19 => ⟨S1x64x1x1, .f32⟩
  | 20 => ⟨S_, .f32⟩
  | 21 => ⟨S1x64x1x1, .f32⟩
  | 22 => ⟨S1x64x1x1, .f32⟩
  | 23 => ⟨S_, .f32⟩
  | 24 => ⟨S1x64x1x1, .f32⟩
  | 25 => ⟨S1x64x1x1, .f32⟩
  | 26 => ⟨S1x64x1x1, .f32⟩
  | 27 => ⟨S64, .f32⟩
  | 28 => ⟨S64, .f32⟩
  | 29 => ⟨S64, .f32⟩
  | 30 => ⟨S64, .f32⟩
  | 31 => ⟨S64, .f32⟩
  | 32 => ⟨S64, .f32⟩
  | 33 => ⟨S4x64x4096x32, .f32⟩
  | 34 => ⟨S4x64x4096x32, .f32⟩
  | 35 => ⟨S_, .f32⟩
  | 36 => ⟨S1x64x1x1, .f32⟩
  | 37 => ⟨S1x64x1x1, .f32⟩
  | 38 => ⟨S1x64x1x1, .f32⟩
  | 39 => ⟨S4x64x4096x32, .f32⟩
  | 40 => ⟨S4x64x4096x32, .f32⟩
  | 41 => ⟨S1x64x1x1, .f32⟩
  | 42 => ⟨S4x64x4096x32, .f32⟩
  | 43 => ⟨S4x64x4096x32, .f32⟩
  | 44 => ⟨S1x64x1x1, .f32⟩
  | 45 => ⟨S4x64x4096x32, .f32⟩
  | 46 => ⟨S4x64x4096x32, .f32⟩
  | 47 => ⟨S_, .f32⟩
  | 48 => ⟨S4x64x4096x32, .f32⟩
  | 49 => ⟨S4x64x4096x32, .f32⟩
  | 50 => ⟨S_, .i32⟩
  | 51 => ⟨S_, .f32⟩
  | 52 => ⟨S128, .f32⟩
  | 53 => ⟨S128x1, .f32⟩
  | 54 => ⟨S_, .i32⟩
  | 55 => ⟨S_, .f32⟩
  | 56 => ⟨S128, .f32⟩
  | 57 => ⟨S128x1, .f32⟩
  | _ => ⟨S4x3x4096, .f32⟩

abbrev hbmTy (i : Nat) : BufTy := match i / 128 with
  | 0 => hbmTy0_0 i
  | 1 => hbmTy0_1 i
  | _ => ⟨S4x3x4096, .f32⟩

abbrev bufTy : (tb : Table) → Fin (tcTables nBuf tb) → BufTy
  | .hbm, ⟨i, _⟩ => hbmTy i
  | _, _ => ⟨S4x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call0_cst : Ref sig .tc := ⟨.hbm, 65, rfl⟩
abbrev main_call0_v0 : Ref sig .tc := ⟨.hbm, 66, rfl⟩
abbrev main_v45 : Ref sig .tc := ⟨.hbm, 67, rfl⟩
abbrev main_c : Ref sig .tc := ⟨.hbm, 68, rfl⟩
abbrev main_call1_v0 : Ref sig .tc := ⟨.hbm, 69, rfl⟩
abbrev main_v46 : Ref sig .tc := ⟨.hbm, 70, rfl⟩
abbrev main_v47 : Ref sig .tc := ⟨.hbm, 71, rfl⟩
abbrev main_c_5 : Ref sig .tc := ⟨.hbm, 72, rfl⟩
abbrev main_call2_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_6 : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_8 : Ref sig .tc := ⟨.hbm, 90, rfl⟩
abbrev main_v62 : Ref sig .tc := ⟨.hbm, 91, rfl⟩
abbrev main_v63 : Ref sig .tc := ⟨.hbm, 92, rfl⟩
abbrev main_cst_9 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_11 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_call3_cst : Ref sig .tc := ⟨.hbm, 120, rfl⟩
abbrev main_call3_v0 : Ref sig .tc := ⟨.hbm, 121, rfl⟩
abbrev main_v88 : Ref sig .tc := ⟨.hbm, 122, rfl⟩
abbrev main_c_12 : Ref sig .tc := ⟨.hbm, 123, rfl⟩
abbrev main_call4_v0 : Ref sig .tc := ⟨.hbm, 124, rfl⟩
abbrev main_v89 : Ref sig .tc := ⟨.hbm, 125, rfl⟩
abbrev main_v90 : Ref sig .tc := ⟨.hbm, 126, rfl⟩
abbrev main_c_13 : Ref sig .tc := ⟨.hbm, 127, rfl⟩
abbrev main_call5_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_14 : Ref sig .tc := ⟨.hbm, 136, rfl⟩
abbrev main_v98 : Ref sig .tc := ⟨.hbm, 137, rfl⟩
abbrev main_v99 : Ref sig .tc := ⟨.hbm, 138, rfl⟩
abbrev main_cst_15 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_16 : Ref sig .tc := ⟨.hbm, 145, rfl⟩
abbrev main_v105 : Ref sig .tc := ⟨.hbm, 146, rfl⟩
abbrev main_v106 : Ref sig .tc := ⟨.hbm, 147, rfl⟩
abbrev main_cst_17 : Ref sig .tc := ⟨.hbm, 148, rfl⟩
abbrev main_v107 : Ref sig .tc := ⟨.hbm, 149, rfl⟩
abbrev main_v108 : Ref sig .tc := ⟨.hbm, 150, rfl⟩
abbrev main_cst_18 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_19 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_call6_cst : Ref sig .tc := ⟨.hbm, 175, rfl⟩
abbrev main_call6_v0 : Ref sig .tc := ⟨.hbm, 176, rfl⟩
abbrev main_v131 : Ref sig .tc := ⟨.hbm, 177, rfl⟩
abbrev main_c_20 : Ref sig .tc := ⟨.hbm, 178, rfl⟩
abbrev main_call7_v0 : Ref sig .tc := ⟨.hbm, 179, rfl⟩
abbrev main_v132 : Ref sig .tc := ⟨.hbm, 180, rfl⟩
abbrev main_v133 : Ref sig .tc := ⟨.hbm, 181, rfl⟩
abbrev main_c_21 : Ref sig .tc := ⟨.hbm, 182, rfl⟩
abbrev main_call8_v0 : Ref sig .tc := ⟨.hbm, 183, rfl⟩
abbrev main_v134 : Ref sig .tc := ⟨.hbm, 184, rfl⟩
abbrev main_v135 : Ref sig .tc := ⟨.hbm, 185, rfl⟩

abbrev nD : Nat := 1
abbrev τ : Topo := Topo.v7x

variable {F : FTy → Type} [FloatOps F]
-- ==== Near.lean ====
abbrev S4x3x4096 : Shape := ⟨3, ![4, 3, 4096]⟩
abbrev S4x32x4096 : Shape := ⟨3, ![4, 32, 4096]⟩
abbrev S1x3x4096 : Shape := ⟨3, ![1, 3, 4096]⟩
abbrev S1x3x512 : Shape := ⟨3, ![1, 3, 512]⟩
abbrev S1x32x512 : Shape := ⟨3, ![1, 32, 512]⟩
abbrev S3x4096 : Shape := ⟨2, ![3, 4096]⟩
abbrev S3x512 : Shape := ⟨2, ![3, 512]⟩
abbrev S4096 : Shape := ⟨1, ![4096]⟩
abbrev S1x4096 : Shape := ⟨2, ![1, 4096]⟩
abbrev S512 : Shape := ⟨1, ![512]⟩
abbrev S1x512 : Shape := ⟨2, ![1, 512]⟩
abbrev S4096x512 : Shape := ⟨2, ![4096, 512]⟩
abbrev S4096x1 : Shape := ⟨2, ![4096, 1]⟩
abbrev S32x512 : Shape := ⟨2, ![32, 512]⟩

abbrev nBuf : Space → Nat
  | .hbm => 2
  | .vmem => 6
  | .smem => 0
  | _ => 0

abbrev bufTy : (tb : Table) → Fin (tcTables nBuf tb) → BufTy
  | .hbm, ⟨0, _⟩ => ⟨S4x3x4096, .f32⟩
  | .hbm, ⟨1, _⟩ => ⟨S4x32x4096, .i32⟩
  | .local _ .vmem, ⟨0, _⟩ => ⟨S1x3x4096, .f32⟩
  | .local _ .vmem, ⟨1, _⟩ => ⟨S1x3x4096, .f32⟩
  | .local _ .vmem, ⟨2, _⟩ => ⟨S1x3x512, .f32⟩
  | .local _ .vmem, ⟨3, _⟩ => ⟨S1x3x512, .f32⟩
  | .local _ .vmem, ⟨4, _⟩ => ⟨S1x32x512, .i32⟩
  | .local _ .vmem, ⟨5, _⟩ => ⟨S1x32x512, .i32⟩
  | _, _ => ⟨S4x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_10 : BitVec 32 := 0#32
  let c33_i32 : BitVec 32 := 33#32
  let v22 : BitVec 32 := Scalar.addi c0_i32_10 c33_i32
  let c1_i32 : BitVec 32 := 1#32
  ⟨c0_i32_10, v22, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NearIdeal.lean ====
variable {F : FTy → Type} [FloatOps F] [Named F]
def κ : String → Option EReal := fun
  | "high" => some ⊤
  | "low" => some ⊥
  | _ => none
-- ==== NearReferenceIdeal.lean ====
abbrev S4x3x4096 : Shape := ⟨3, ![4, 3, 4096]⟩
abbrev S4x4096x3 : Shape := ⟨3, ![4, 4096, 3]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩
abbrev S4x4096x1 : Shape := ⟨3, ![4, 4096, 1]⟩
abbrev S4x4096x32 : Shape := ⟨3, ![4, 4096, 32]⟩
abbrev S4x32x4096 : Shape := ⟨3, ![4, 32, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x3x4096, .f32⟩
  | .hbm, ⟨1, _⟩ => ⟨S4x4096x3, .f32⟩
  | .hbm, ⟨2, _⟩ => ⟨S4x4096x4096, .f32⟩
  | .hbm, ⟨3, _⟩ => ⟨S_, .f32⟩
  | .hbm, ⟨4, _⟩ => ⟨S4x4096x4096, .f32⟩
  | .hbm, ⟨5, _⟩ => ⟨S4x4096x4096, .f32⟩
  | .hbm, ⟨6, _⟩ => ⟨S4x3x4096, .f32⟩
  | .hbm, ⟨7, _⟩ => ⟨S_, .f32⟩
  | .hbm, ⟨8, _⟩ => ⟨S4x4096, .f32⟩
  | .hbm, ⟨9, _⟩ => ⟨S4x1x4096, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S4x4096x32, .f32⟩
  | .hbm, ⟨17, _⟩ => ⟨S4x4096x32, .i32⟩
  | .hbm, ⟨18, _⟩ => ⟨S4x32x4096, .i32⟩
  | _, _ => ⟨S4x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_values : Ref sig .tc := ⟨.hbm, 16, rfl⟩
abbrev main_indices : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Sample.lean ====
abbrev S4x3x4096 : Shape := ⟨3, ![4, 3, 4096]⟩
abbrev S_ : Shape := ⟨0, ![]⟩
abbrev S1 : Shape := ⟨1, ![1]⟩
abbrev S2 : Shape := ⟨1, ![2]⟩
abbrev S3 : Shape := ⟨1, ![3]⟩
abbrev S2x1 : Shape := ⟨2, ![2, 1]⟩
abbrev S2x2 : Shape := ⟨2, ![2, 2]⟩
abbrev S1x2 : Shape := ⟨2, ![1, 2]⟩
abbrev S3x1 : Shape := ⟨2, ![3, 1]⟩

abbrev nBuf : Space → Nat
  | .hbm => 501
  | .vmem => 0
  | .smem => 0
  | _ => 0

abbrev hbmTy0_0 (i : Nat) : BufTy := match i % 128 with
  | 0 => ⟨S4x3x4096, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S3, .i32⟩
  | 12 => ⟨S1, .i32⟩
  | 13 => ⟨S_, .i32⟩
  | 14 => ⟨S1, .i32⟩
  | 15 => ⟨S_, .i32⟩
  | 16 => ⟨S2, .i64⟩
  | 17 => ⟨S_, .i64⟩
  | 18 => ⟨S2, .i64⟩
  | 19 => ⟨S2, .i64⟩
  | 20 => ⟨S_, .i64⟩
  | 21 => ⟨S2, .i64⟩
  | 22 => ⟨S2, .i64⟩
  | 23 => ⟨S2, .i32⟩
  | 24 => ⟨S2, .i32⟩
  | 25 => ⟨S_, .i32⟩
  | 26 => ⟨S_, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S4x3x4096, .f32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2x1, .i32⟩
  | 120 => ⟨S2x1, .i32⟩
  | 121 => ⟨S2x2, .i32⟩
  | 122 => ⟨S1x2, .i32⟩
  | 123 => ⟨S2, .i32⟩
  | 124 => ⟨S1x2, .i32⟩
  | 125 => ⟨S2, .i32⟩
  | 126 => ⟨S1, .i32⟩
  | 127 => ⟨S_, .i32⟩
  | _ => ⟨S4x3x4096, .f32⟩

abbrev hbmTy0_2 (i : Nat) : BufTy := match i % 128 with
  | 0 => ⟨S1, .i32⟩
  | 1 => ⟨S_, .i32⟩
  | 2 => ⟨S3, .i64⟩
  | 3 => ⟨S_, .i64⟩
  | 4 => ⟨S3, .i64⟩
  | 5 => ⟨S3, .i64⟩
  | 6 => ⟨S_, .i64⟩
  | 7 => ⟨S3, .i64⟩
  | 8 => ⟨S3, .i64⟩
  | 9 => ⟨S3, .i32⟩
  | 10 => ⟨S3, .i32⟩
  | 11 => ⟨S_, .i32⟩
  | 12 => ⟨S_, .i32⟩
  | 13 => ⟨S_, .i32⟩
  | 14 => ⟨S3, .i32⟩
  | 15 => ⟨S3, .i32⟩
  | 16 => ⟨S3, .i32⟩
  | 17 => ⟨S3, .i32⟩
  | 18 => ⟨S3, .i32⟩
  | 19 => ⟨S_, .i32⟩
  | 20 => ⟨S3, .i32⟩
  | 21 => ⟨S3, .i32⟩
  | 22 => ⟨S_, .i32⟩
  | 23 => ⟨S3, .i32⟩
  | 24 => ⟨S3, .i32⟩
  | 25 => ⟨S3, .i32⟩
  | 26 => ⟨S3, .i32⟩
  | 27 => ⟨S3, .i32⟩
  | 28 => ⟨S_, .i32⟩
  | 29 => ⟨S3, .i32⟩
  | 30 => ⟨S3, .i32⟩
  | 31 => ⟨S_, .i32⟩
  | 32 => ⟨S3, .i32⟩
  | 33 => ⟨S3, .i32⟩
  | 34 => ⟨S3, .i32⟩
  | 35 => ⟨S3, .i32⟩
  | 36 => ⟨S3, .i32⟩
  | 37 => ⟨S_, .i32⟩
  | 38 => ⟨S3, .i32⟩
  | 39 => ⟨S3, .i32⟩
  | 40 => ⟨S_, .i32⟩
  | 41 => ⟨S3, .i32⟩
  | 42 => ⟨S3, .i32⟩
  | 43 => ⟨S3, .i32⟩
  | 44 => ⟨S3, .i32⟩
  | 45 => ⟨S3, .i32⟩
  | 46 => ⟨S_, .i32⟩
  | 47 => ⟨S3, .i32⟩
  | 48 => ⟨S3, .i32⟩
  | 49 => ⟨S_, .i32⟩
  | 50 => ⟨S3, .i32⟩
  | 51 => ⟨S3, .i32⟩
  | 52 => ⟨S3, .i32⟩
  | 53 => ⟨S3, .i32⟩
  | 54 => ⟨S3, .i32⟩
  | 55 => ⟨S3, .i32⟩
  | 56 => ⟨S3, .i32⟩
  | 57 => ⟨S3, .i32⟩
  | 58 => ⟨S_, .i32⟩
  | 59 => ⟨S3, .i32⟩
  | 60 => ⟨S3, .i32⟩
  | 61 => ⟨S3, .i32⟩
  | 62 => ⟨S_, .i32⟩
  | 63 => ⟨S3, .i32⟩
  | 64 => ⟨S3, .i32⟩
  | 65 => ⟨S_, .i32⟩
  | 66 => ⟨S3, .i32⟩
  | 67 => ⟨S3, .i32⟩
  | 68 => ⟨S3, .i32⟩
  | 69 => ⟨S3, .i32⟩
  | 70 => ⟨S3, .i32⟩
  | 71 => ⟨S_, .i32⟩
  | 72 => ⟨S3, .i32⟩
  | 73 => ⟨S3, .i32⟩
  | 74 => ⟨S_, .i32⟩
  | 75 => ⟨S3, .i32⟩
  | 76 => ⟨S3, .i32⟩
  | 77 => ⟨S3, .i32⟩
  | 78 => ⟨S3, .i32⟩
  | 79 => ⟨S3, .i32⟩
  | 80 => ⟨S_, .i32⟩
  | 81 => ⟨S3, .i32⟩
  | 82 => ⟨S3, .i32⟩
  | 83 => ⟨S_, .i32⟩
  | 84 => ⟨S3, .i32⟩
  | 85 => ⟨S3, .i32⟩
  | 86 => ⟨S3, .i32⟩
  | 87 => ⟨S3, .i32⟩
  | 88 => ⟨S3, .i32⟩
  | 89 => ⟨S_, .i32⟩
  | 90 => ⟨S3, .i32⟩
  | 91 => ⟨S3, .i32⟩
  | 92 => ⟨S_, .i32⟩
  | 93 => ⟨S3, .i32⟩
  | 94 => ⟨S3, .i32⟩
  | 95 => ⟨S3, .i32⟩
  | 96 => ⟨S3, .i32⟩
  | 97 => ⟨S3, .i32⟩
  | 98 => ⟨S3, .i32⟩
  | 99 => ⟨S3, .i32⟩
  | 100 => ⟨S3, .i32⟩
  | 101 => ⟨S_, .i32⟩
  | 102 => ⟨S3, .i32⟩
  | 103 => ⟨S3, .i32⟩
  | 104 => ⟨S3, .i32⟩
  | 105 => ⟨S_, .i32⟩
  | 106 => ⟨S3, .i32⟩
  | 107 => ⟨S3, .i32⟩
  | 108 => ⟨S_, .i32⟩
  | 109 => ⟨S3, .i32⟩
  | 110 => ⟨S3, .i32⟩
  | 111 => ⟨S3, .i32⟩
  | 112 => ⟨S3, .i32⟩
  | 113 => ⟨S3, .i32⟩
  | 114 => ⟨S_, .i32⟩
  | 115 => ⟨S3, .i32⟩
  | 116 => ⟨S3, .i32⟩
  | 117 => ⟨S_, .i32⟩
  | 118 => ⟨S3, .i32⟩
  | 119 => ⟨S3, .i32⟩
  | 120 => ⟨S3, .i32⟩
  | 121 => ⟨S3, .i32⟩
  | 122 => ⟨S3, .i32⟩
  | 123 => ⟨S_, .i32⟩
  | 124 => ⟨S3, .i32⟩
  | 125 => ⟨S3, .i32⟩
  | 126 => ⟨S_, .i32⟩
  | 127 => ⟨S3, .i32⟩
  | _ => ⟨S4x3x4096, .f32⟩

abbrev hbmTy0_3 (i : Nat) : BufTy := match i % 128 with
  | 0 => ⟨S3, .i32⟩
  | 1 => ⟨S3, .i32⟩
  | 2 => ⟨S3, .i32⟩
  | 3 => ⟨S3, .i32⟩
  | 4 => ⟨S_, .i32⟩
  | 5 => ⟨S3, .i32⟩
  | 6 => ⟨S3, .i32⟩
  | 7 => ⟨S_, .i32⟩
  | 8 => ⟨S3, .i32⟩
  | 9 => ⟨S3, .i32⟩
  | 10 => ⟨S3, .i32⟩
  | 11 => ⟨S3, .i32⟩
  | 12 => ⟨S3, .i32⟩
  | 13 => ⟨S3, .i32⟩
  | 14 => ⟨S3, .i32⟩
  | 15 => ⟨S3, .i32⟩
  | 16 => ⟨S_, .i32⟩
  | 17 => ⟨S3, .i32⟩
  | 18 => ⟨S3, .i32⟩
  | 19 => ⟨S3, .i32⟩
  | 20 => ⟨S_, .i32⟩
  | 21 => ⟨S3, .i32⟩
  | 22 => ⟨S3, .i32⟩
  | 23 => ⟨S_, .i32⟩
  | 24 => ⟨S3, .i32⟩
  | 25 => ⟨S3, .i32⟩
  | 26 => ⟨S3, .i32⟩
  | 27 => ⟨S3, .i32⟩
  | 28 => ⟨S3, .i32⟩
  | 29 => ⟨S_, .i32⟩
  | 30 => ⟨S3, .i32⟩
  | 31 => ⟨S3, .i32⟩
  | 32 => ⟨S_, .i32⟩
  | 33 => ⟨S3, .i32⟩
  | 34 => ⟨S3, .i32⟩
  | 35 => ⟨S3, .i32⟩
  | 36 => ⟨S3, .i32⟩
  | 37 => ⟨S3, .i32⟩
  | 38 => ⟨S_, .i32⟩
  | 39 => ⟨S3, .i32⟩
  | 40 => ⟨S3, .i32⟩
  | 41 => ⟨S_, .i32⟩
  | 42 => ⟨S3, .i32⟩
  | 43 => ⟨S3, .i32⟩
  | 44 => ⟨S3, .i32⟩
  | 45 => ⟨S3, .i32⟩
  | 46 => ⟨S3, .i32⟩
  | 47 => ⟨S_, .i32⟩
  | 48 => ⟨S3, .i32⟩
  | 49 => ⟨S3, .i32⟩
  | 50 => ⟨S_, .i32⟩
  | 51 => ⟨S3, .i32⟩
  | 52 => ⟨S3, .i32⟩
  | 53 => ⟨S3, .i32⟩
  | 54 => ⟨S3, .i32⟩
  | 55 => ⟨S3, .i32⟩
  | 56 => ⟨S3, .i32⟩
  | 57 => ⟨S3, .i32⟩
  | 58 => ⟨S3, .i32⟩
  | 59 => ⟨S_, .i32⟩
  | 60 => ⟨S3, .i32⟩
  | 61 => ⟨S3, .i32⟩
  | 62 => ⟨S3, .i32⟩
  | 63 => ⟨S_, .i32⟩
  | 64 => ⟨S3, .i32⟩
  | 65 => ⟨S3, .i32⟩
  | 66 => ⟨S_, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S_, .i32⟩
  | 76 => ⟨S3, .i32⟩
  | 77 => ⟨S3, .i32⟩
  | 78 => ⟨S3, .i32⟩
  | 79 => ⟨S3, .i32⟩
  | 80 => ⟨S3, .i32⟩
  | 81 => ⟨S_, .i32⟩
  | 82 => ⟨S3, .i32⟩
  | 83 => ⟨S3, .i32⟩
  | 84 => ⟨S_, .i32⟩
  | 85 => ⟨S3, .i32⟩
  | 86 => ⟨S3, .i32⟩
  | 87 => ⟨S3, .i32⟩
  | 88 => ⟨S3, .i32⟩
  | 89 => ⟨S3, .i32⟩
  | 90 => ⟨S_, .i32⟩
  | 91 => ⟨S3, .i32⟩
  | 92 => ⟨S3, .i32⟩
  | 93 => ⟨S_, .i32⟩
  | 94 => ⟨S3, .i32⟩
  | 95 => ⟨S3, .i32⟩
  | 96 => ⟨S3, .i32⟩
  | 97 => ⟨S3, .i32⟩
  | 98 => ⟨S3, .i32⟩
  | 99 => ⟨S3, .i32⟩
  | 100 => ⟨S3, .i32⟩
  | 101 => ⟨S3, .i32⟩
  | 102 => ⟨S_, .i32⟩
  | 103 => ⟨S3, .i32⟩
  | 104 => ⟨S3, .i32⟩
  | 105 => ⟨S3, .i32⟩
  | 106 => ⟨S3, .i32⟩
  | 107 => ⟨S3, .i32⟩
  | 108 => ⟨S_, .i32⟩
  | 109 => ⟨S3, .i32⟩
  | 110 => ⟨S3, .i1⟩
  | 111 => ⟨S_, .i32⟩
  | 112 => ⟨S3, .i32⟩
  | 113 => ⟨S3, .i32⟩
  | 114 => ⟨S3, .i32⟩
  | 115 => ⟨S3x1, .i32⟩
  | 116 => ⟨S4x3x4096, .f32⟩
  | _ => ⟨S4x3x4096, .f32⟩

abbrev hbmTy (i : Nat) : BufTy := match i / 128 with
  | 0 => hbmTy0_0 i
  | 1 => hbmTy0_1 i
  | 2 => hbmTy0_2 i
  | 3 => hbmTy0_3 i
  | _ => ⟨S4x3x4096, .f32⟩

abbrev bufTy : (tb : Table) → Fin (tcTables nBuf tb) → BufTy
  | .hbm, ⟨i, _⟩ => hbmTy i
  | _, _ => ⟨S4x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_c : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_c_0 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_call0_v0 : Ref sig .tc := ⟨.hbm, 25, rfl⟩
abbrev main_call0_call0_call0_c : Ref sig .tc := ⟨.hbm, 26, rfl⟩
abbrev main_call0_call0_call0_v1 : Ref sig .tc := ⟨.hbm, 27, rfl⟩
abbrev main_call0_call0_call0_v2 : Ref sig .tc := ⟨.hbm, 28, rfl⟩
abbrev main_call0_call0_call0_v3 : Ref sig .tc := ⟨.hbm, 29, rfl⟩
abbrev main_call0_call0_call0_v4 : Ref sig .tc := ⟨.hbm, 30, rfl⟩
abbrev main_call0_call0_call0_v5 : Ref sig .tc := ⟨.hbm, 31, rfl⟩
abbrev main_call0_call0_call0_v6 : Ref sig .tc := ⟨.hbm, 32, rfl⟩
abbrev main_call0_call0_call0_c_0 : Ref sig .tc := ⟨.hbm, 33, rfl⟩
abbrev main_call0_call0_call0_v7 : Ref sig .tc := ⟨.hbm, 34, rfl⟩
abbrev main_call0_call0_call0_v8 : Ref sig .tc := ⟨.hbm, 35, rfl⟩
abbrev main_call0_call0_call0_c_1 : Ref sig .tc := ⟨.hbm, 36, rfl⟩
abbrev main_call0_call0_call0_v9 : Ref sig .tc := ⟨.hbm, 37, rfl⟩
abbrev main_call0_call0_call0_v10 : Ref sig .tc := ⟨.hbm, 38, rfl⟩
abbrev main_call0_call0_call0_v11 : Ref sig .tc := ⟨.hbm, 39, rfl⟩
abbrev main_call0_call0_call0_v12 : Ref sig .tc := ⟨.hbm, 40, rfl⟩
abbrev main_call0_call0_call0_v13 : Ref sig .tc := ⟨.hbm, 41, rfl⟩
abbrev main_call0_call0_call0_c_2 : Ref sig .tc := ⟨.hbm, 42, rfl⟩
abbrev main_call0_call0_call0_v14 : Ref sig .tc := ⟨.hbm, 43, rfl⟩
abbrev main_call0_call0_call0_v15 : Ref sig .tc := ⟨.hbm, 44, rfl⟩
abbrev main_call0_call0_call0_c_3 : Ref sig .tc := ⟨.hbm, 45, rfl⟩
abbrev main_call0_call0_call0_v16 : Ref sig .tc := ⟨.hbm, 46, rfl⟩
abbrev main_call0_call0_call0_v17 : Ref sig .tc := ⟨.hbm, 47, rfl⟩
abbrev main_call0_call0_call0_v18 : Ref sig .tc := ⟨.hbm, 48, rfl⟩
abbrev main_call0_call0_call0_v19 : Ref sig .tc := ⟨.hbm, 49, rfl⟩
abbrev main_call0_call0_call0_v20 : Ref sig .tc := ⟨.hbm, 50, rfl⟩
abbrev main_call0_call0_call0_c_4 : Ref sig .tc := ⟨.hbm, 51, rfl⟩
abbrev main_call0_call0_call0_v21 : Ref sig .tc := ⟨.hbm, 52, rfl⟩
abbrev main_call0_call0_call0_v22 : Ref sig .tc := ⟨.hbm, 53, rfl⟩
abbrev main_call0_call0_call0_c_5 : Ref sig .tc := ⟨.hbm, 54, rfl⟩
abbrev main_call0_call0_call0_v23 : Ref sig .tc := ⟨.hbm, 55, rfl⟩
abbrev main_call0_call0_call0_v24 : Ref sig .tc := ⟨.hbm, 56, rfl⟩
abbrev main_call0_call0_call0_v25 : Ref sig .tc := ⟨.hbm, 57, rfl⟩
abbrev main_call0_call0_call0_v26 : Ref sig .tc := ⟨.hbm, 58, rfl⟩
abbrev main_call0_call0_call0_v27 : Ref sig .tc := ⟨.hbm, 59, rfl⟩
abbrev main_call0_call0_call0_c_6 : Ref sig .tc := ⟨.hbm, 60, rfl⟩
abbrev main_call0_call0_call0_v28 : Ref sig .tc := ⟨.hbm, 61, rfl⟩
abbrev main_call0_call0_call0_v29 : Ref sig .tc := ⟨.hbm, 62, rfl⟩
abbrev main_call0_call0_call0_c_7 : Ref sig .tc := ⟨.hbm, 63, rfl⟩
abbrev main_call0_call0_call0_v30 : Ref sig .tc := ⟨.hbm, 64, rfl⟩
abbrev main_call0_call0_call0_v31 : Ref sig .tc := ⟨.hbm, 65, rfl⟩
abbrev main_call0_call0_call0_v32 : Ref sig .tc := ⟨.hbm, 66, rfl⟩
abbrev main_call0_call0_call0_v33 : Ref sig .tc := ⟨.hbm, 67, rfl⟩
abbrev main_call0_call0_call0_v34 : Ref sig .tc := ⟨.hbm, 68, rfl⟩
abbrev main_call0_call0_call0_v35 : Ref sig .tc := ⟨.hbm, 69, rfl⟩
abbrev main_call0_call0_call0_v36 : Ref sig .tc := ⟨.hbm, 70, rfl⟩
abbrev main_call0_call0_call0_v37 : Ref sig .tc := ⟨.hbm, 71, rfl⟩
abbrev main_call0_call0_call0_c_8 : Ref sig .tc := ⟨.hbm, 72, rfl⟩
abbrev main_call0_call0_call0_v38 : Ref sig .tc := ⟨.hbm, 73, rfl⟩
abbrev main_call0_call0_call0_v39 : Ref sig .tc := ⟨.hbm, 74, rfl⟩
abbrev main_call0_call0_call0_v40 : Ref sig .tc := ⟨.hbm, 75, rfl⟩
abbrev main_call0_call0_call0_c_9 : Ref sig .tc := ⟨.hbm, 76, rfl⟩
abbrev main_call0_call0_call0_v41 : Ref sig .tc := ⟨.hbm, 77, rfl⟩
abbrev main_call0_call0_call0_v42 : Ref sig .tc := ⟨.hbm, 78, rfl⟩
abbrev main_call0_call0_call0_c_10 : Ref sig .tc := ⟨.hbm, 79, rfl⟩
abbrev main_call0_call0_call0_v43 : Ref sig .tc := ⟨.hbm, 80, rfl⟩
abbrev main_call0_call0_call0_v44 : Ref sig .tc := ⟨.hbm, 81, rfl⟩
abbrev main_call0_call0_call0_v45 : Ref sig .tc := ⟨.hbm, 82, rfl⟩
abbrev main_call0_call0_call0_v46 : Ref sig .tc := ⟨.hbm, 83, rfl⟩
abbrev main_call0_call0_call0_v47 : Ref sig .tc := ⟨.hbm, 84, rfl⟩
abbrev main_call0_call0_call0_c_11 : Ref sig .tc := ⟨.hbm, 85, rfl⟩
abbrev main_call0_call0_call0_v48 : Ref sig .tc := ⟨.hbm, 86, rfl⟩
abbrev main_call0_call0_call0_v49 : Ref sig .tc := ⟨.hbm, 87, rfl⟩
abbrev main_call0_call0_call0_c_12 : Ref sig .tc := ⟨.hbm, 88, rfl⟩
abbrev main_call0_call0_call0_v50 : Ref sig .tc := ⟨.hbm, 89, rfl⟩
abbrev main_call0_call0_call0_v51 : Ref sig .tc := ⟨.hbm, 90, rfl⟩
abbrev main_call0_call0_call0_v52 : Ref sig .tc := ⟨.hbm, 91, rfl⟩
abbrev main_call0_call0_call0_v53 : Ref sig .tc := ⟨.hbm, 92, rfl⟩
abbrev main_call0_call0_call0_v54 : Ref sig .tc := ⟨.hbm, 93, rfl⟩
abbrev main_call0_call0_call0_c_13 : Ref sig .tc := ⟨.hbm, 94, rfl⟩
abbrev main_call0_call0_call0_v55 : Ref sig .tc := ⟨.hbm, 95, rfl⟩
abbrev main_call0_call0_call0_v56 : Ref sig .tc := ⟨.hbm, 96, rfl⟩
abbrev main_call0_call0_call0_c_14 : Ref sig .tc := ⟨.hbm, 97, rfl⟩
abbrev main_call0_call0_call0_v57 : Ref sig .tc := ⟨.hbm, 98, rfl⟩
abbrev main_call0_call0_call0_v58 : Ref sig .tc := ⟨.hbm, 99, rfl⟩
abbrev main_call0_call0_call0_v59 : Ref sig .tc := ⟨.hbm, 100, rfl⟩
abbrev main_call0_call0_call0_v60 : Ref sig .tc := ⟨.hbm, 101, rfl⟩
abbrev main_call0_call0_call0_v61 : Ref sig .tc := ⟨.hbm, 102, rfl⟩
abbrev main_call0_call0_call0_c_15 : Ref sig .tc := ⟨.hbm, 103, rfl⟩
abbrev main_call0_call0_call0_v62 : Ref sig .tc := ⟨.hbm, 104, rfl⟩
abbrev main_call0_call0_call0_v63 : Ref sig .tc := ⟨.hbm, 105, rfl⟩
abbrev main_call0_call0_call0_c_16 : Ref sig .tc := ⟨.hbm, 106, rfl⟩
abbrev main_call0_call0_call0_v64 : Ref sig .tc := ⟨.hbm, 107, rfl⟩
abbrev main_call0_call0_call0_v65 : Ref sig .tc := ⟨.hbm, 108, rfl⟩
abbrev main_call0_call0_call0_v66 : Ref sig .tc := ⟨.hbm, 109, rfl⟩
abbrev main_call0_call0_call0_v67 : Ref sig .tc := ⟨.hbm, 110, rfl⟩
abbrev main_call0_call0_call0_v68 : Ref sig .tc := ⟨.hbm, 111, rfl⟩
abbrev main_call0_call0_call0_v69 : Ref sig .tc := ⟨.hbm, 112, rfl⟩
abbrev main_call0_call0_call0_v70 : Ref sig .tc := ⟨.hbm, 113, rfl⟩
abbrev main_call0_call0_call0_v71 : Ref sig .tc := ⟨.hbm, 114, rfl⟩
abbrev main_call0_call0_call0_c_17 : Ref sig .tc := ⟨.hbm, 115, rfl⟩
abbrev main_call0_call0_call0_v72 : Ref sig .tc := ⟨.hbm, 116, rfl⟩
abbrev main_call0_call0_call0_v73 : Ref sig .tc := ⟨.hbm, 117, rfl⟩
abbrev main_call0_call0_call0_v74 : Ref sig .tc := ⟨.hbm, 118, rfl⟩
abbrev main_call0_call0_call0_c_18 : Ref sig .tc := ⟨.hbm, 119, rfl⟩
abbrev main_call0_call0_call0_v75 : Ref sig .tc := ⟨.hbm, 120, rfl⟩
abbrev main_call0_call0_call0_v76 : Ref sig .tc := ⟨.hbm, 121, rfl⟩
abbrev main_call0_call0_call0_c_19 : Ref sig .tc := ⟨.hbm, 122, rfl⟩
abbrev main_call0_call0_call0_v77 : Ref sig .tc := ⟨.hbm, 123, rfl⟩
abbrev main_call0_call0_call0_v78 : Ref sig .tc := ⟨.hbm, 124, rfl⟩
abbrev main_call0_call0_call0_v79 : Ref sig .tc := ⟨.hbm, 125, rfl⟩
abbrev main_call0_call0_call0_v80 : Ref sig .tc := ⟨.hbm, 126, rfl⟩
abbrev main_call0_call0_call0_v81 : Ref sig .tc := ⟨.hbm, 127, rfl⟩
abbrev main_call0_call0_call0_c_20 : Ref sig .tc := ⟨.hbm, 128, rfl⟩
abbrev main_call0_call0_call0_v82 : Ref sig .tc := ⟨.hbm, 129, rfl⟩
abbrev main_call0_call0_call0_v83 : Ref sig .tc := ⟨.hbm, 130, rfl⟩
abbrev main_call0_call0_call0_c_21 : Ref sig .tc := ⟨.hbm, 131, rfl⟩
abbrev main_call0_call0_call0_v84 : Ref sig .tc := ⟨.hbm, 132, rfl⟩
abbrev main_call0_call0_call0_v85 : Ref sig .tc := ⟨.hbm, 133, rfl⟩
abbrev main_call0_call0_call0_v86 : Ref sig .tc := ⟨.hbm, 134, rfl⟩
abbrev main_call0_call0_call0_v87 : Ref sig .tc := ⟨.hbm, 135, rfl⟩
abbrev main_call0_call0_call0_v88 : Ref sig .tc := ⟨.hbm, 136, rfl⟩
abbrev main_call0_call0_call0_c_22 : Ref sig .tc := ⟨.hbm, 137, rfl⟩
abbrev main_call0_call0_call0_v89 : Ref sig .tc := ⟨.hbm, 138, rfl⟩
abbrev main_call0_call0_call0_v90 : Ref sig .tc := ⟨.hbm, 139, rfl⟩
abbrev main_call0_call0_call0_c_23 : Ref sig .tc := ⟨.hbm, 140, rfl⟩
abbrev main_call0_call0_call0_v91 : Ref sig .tc := ⟨.hbm, 141, rfl⟩
abbrev main_call0_call0_call0_v92 : Ref sig .tc := ⟨.hbm, 142, rfl⟩
abbrev main_call0_call0_call0_v93 : Ref sig .tc := ⟨.hbm, 143, rfl⟩
abbrev main_call0_call0_call0_v94 : Ref sig .tc := ⟨.hbm, 144, rfl⟩
abbrev main_call0_call0_call0_v95 : Ref sig .tc := ⟨.hbm, 145, rfl⟩
abbrev main_call0_call0_call0_c_24 : Ref sig .tc := ⟨.hbm, 146, rfl⟩
abbrev main_call0_call0_call0_v96 : Ref sig .tc := ⟨.hbm, 147, rfl⟩
abbrev main_call0_call0_call0_v97 : Ref sig .tc := ⟨.hbm, 148, rfl⟩
abbrev main_call0_call0_call0_c_25 : Ref sig .tc := ⟨.hbm, 149, rfl⟩
abbrev main_call0_call0_call0_v98 : Ref sig .tc := ⟨.hbm, 150, rfl⟩
abbrev main_call0_call0_call0_v99 : Ref sig .tc := ⟨.hbm, 151, rfl⟩
abbrev main_call0_call0_call0_v100 : Ref sig .tc := ⟨.hbm, 152, rfl⟩
abbrev main_call0_call0_call0_v101 : Ref sig .tc := ⟨.hbm, 153, rfl⟩
abbrev main_call0_call0_call0_v102 : Ref sig .tc := ⟨.hbm, 154, rfl⟩
abbrev main_call0_call0_call0_v103 : Ref sig .tc := ⟨.hbm, 155, rfl⟩
abbrev main_call0_call0_call0_v104 : Ref sig .tc := ⟨.hbm, 156, rfl⟩
abbrev main_call0_call0_call0_v105 : Ref sig .tc := ⟨.hbm, 157, rfl⟩
abbrev main_call0_call0_call0_c_26 : Ref sig .tc := ⟨.hbm, 158, rfl⟩
abbrev main_call0_call0_call0_v106 : Ref sig .tc := ⟨.hbm, 159, rfl⟩
abbrev main_call0_call0_call0_v107 : Ref sig .tc := ⟨.hbm, 160, rfl⟩
abbrev main_call0_call0_call0_v108 : Ref sig .tc := ⟨.hbm, 161, rfl⟩
abbrev main_call0_call0_call0_c_27 : Ref sig .tc := ⟨.hbm, 162, rfl⟩
abbrev main_call0_call0_call0_v109 : Ref sig .tc := ⟨.hbm, 163, rfl⟩
abbrev main_call0_call0_call0_v110 : Ref sig .tc := ⟨.hbm, 164, rfl⟩
abbrev main_call0_call0_call0_c_28 : Ref sig .tc := ⟨.hbm, 165, rfl⟩
abbrev main_call0_call0_call0_v111 : Ref sig .tc := ⟨.hbm, 166, rfl⟩
abbrev main_call0_call0_call0_v112 : Ref sig .tc := ⟨.hbm, 167, rfl⟩
abbrev main_call0_call0_call0_v113 : Ref sig .tc := ⟨.hbm, 168, rfl⟩
abbrev main_call0_call0_call0_v114 : Ref sig .tc := ⟨.hbm, 169, rfl⟩
abbrev main_call0_call0_call0_v115 : Ref sig .tc := ⟨.hbm, 170, rfl⟩
abbrev main_call0_call0_call0_c_29 : Ref sig .tc := ⟨.hbm, 171, rfl⟩
abbrev main_call0_call0_call0_v116 : Ref sig .tc := ⟨.hbm, 172, rfl⟩
abbrev main_call0_call0_call0_v117 : Ref sig .tc := ⟨.hbm, 173, rfl⟩
abbrev main_call0_call0_call0_c_30 : Ref sig .tc := ⟨.hbm, 174, rfl⟩
abbrev main_call0_call0_call0_v118 : Ref sig .tc := ⟨.hbm, 175, rfl⟩
abbrev main_call0_call0_call0_v119 : Ref sig .tc := ⟨.hbm, 176, rfl⟩
abbrev main_call0_call0_call0_v120 : Ref sig .tc := ⟨.hbm, 177, rfl⟩
abbrev main_call0_call0_call0_v121 : Ref sig .tc := ⟨.hbm, 178, rfl⟩
abbrev main_call0_call0_call0_v122 : Ref sig .tc := ⟨.hbm, 179, rfl⟩
abbrev main_call0_call0_call0_c_31 : Ref sig .tc := ⟨.hbm, 180, rfl⟩
abbrev main_call0_call0_call0_v123 : Ref sig .tc := ⟨.hbm, 181, rfl⟩
abbrev main_call0_call0_call0_v124 : Ref sig .tc := ⟨.hbm, 182, rfl⟩
abbrev main_call0_call0_call0_c_32 : Ref sig .tc := ⟨.hbm, 183, rfl⟩
abbrev main_call0_call0_call0_v125 : Ref sig .tc := ⟨.hbm, 184, rfl⟩
abbrev main_call0_call0_call0_v126 : Ref sig .tc := ⟨.hbm, 185, rfl⟩
abbrev main_call0_call0_call0_v127 : Ref sig .tc := ⟨.hbm, 186, rfl⟩
abbrev main_call0_call0_call0_v128 : Ref sig .tc := ⟨.hbm, 187, rfl⟩
abbrev main_call0_call0_call0_v129 : Ref sig .tc := ⟨.hbm, 188, rfl⟩
abbrev main_call0_call0_call0_c_33 : Ref sig .tc := ⟨.hbm, 189, rfl⟩
abbrev main_call0_call0_call0_v130 : Ref sig .tc := ⟨.hbm, 190, rfl⟩
abbrev main_call0_call0_call0_v131 : Ref sig .tc := ⟨.hbm, 191, rfl⟩
abbrev main_call0_call0_call0_c_34 : Ref sig .tc := ⟨.hbm, 192, rfl⟩
abbrev main_call0_call0_call0_v132 : Ref sig .tc := ⟨.hbm, 193, rfl⟩
abbrev main_call0_call0_call0_v133 : Ref sig .tc := ⟨.hbm, 194, rfl⟩
abbrev main_call0_call0_call0_v134 : Ref sig .tc := ⟨.hbm, 195, rfl⟩
abbrev main_call0_call0_call0_v135 : Ref sig .tc := ⟨.hbm, 196, rfl⟩
abbrev main_call0_call0_call0_v136 : Ref sig .tc := ⟨.hbm, 197, rfl⟩
abbrev main_call0_call0_call0_v137 : Ref sig .tc := ⟨.hbm, 198, rfl⟩
abbrev main_call0_call0_call0_v138 : Ref sig .tc := ⟨.hbm, 199, rfl⟩
abbrev main_call0_call0_call0_v139 : Ref sig .tc := ⟨.hbm, 200, rfl⟩
abbrev main_call0_call0_call0_c_35 : Ref sig .tc := ⟨.hbm, 201, rfl⟩
abbrev main_call0_call0_call0_v140 : Ref sig .tc := ⟨.hbm, 202, rfl⟩
abbrev main_call0_call0_call0_v141 : Ref sig .tc := ⟨.hbm, 203, rfl⟩
abbrev main_call0_call0_call0_v142 : Ref sig .tc := ⟨.hbm, 204, rfl⟩
abbrev main_call0_call0_call0_c_36 : Ref sig .tc := ⟨.hbm, 205, rfl⟩
abbrev main_call0_call0_call0_v143 : Ref sig .tc := ⟨.hbm, 206, rfl⟩
abbrev main_call0_call0_call0_v144 : Ref sig .tc := ⟨.hbm, 207, rfl⟩
abbrev main_call0_call0_call0_c_37 : Ref sig .tc := ⟨.hbm, 208, rfl⟩
abbrev main_call0_call0_call0_v145 : Ref sig .tc := ⟨.hbm, 209, rfl⟩
abbrev main_call0_call0_call0_v146 : Ref sig .tc := ⟨.hbm, 210, rfl⟩
abbrev main_call0_call0_call0_v147 : Ref sig .tc := ⟨.hbm, 211, rfl⟩
abbrev main_call0_call0_call0_v148 : Ref sig .tc := ⟨.hbm, 212, rfl⟩
abbrev main_call0_call0_call0_v149 : Ref sig .tc := ⟨.hbm, 213, rfl⟩
abbrev main_call0_call0_call0_c_38 : Ref sig .tc := ⟨.hbm, 214, rfl⟩
abbrev main_call0_call0_call0_v150 : Ref sig .tc := ⟨.hbm, 215, rfl⟩
abbrev main_call0_call0_call0_v151 : Ref sig .tc := ⟨.hbm, 216, rfl⟩
abbrev main_call0_call0_call0_c_39 : Ref sig .tc := ⟨.hbm, 217, rfl⟩
abbrev main_call0_call0_call0_v152 : Ref sig .tc := ⟨.hbm, 218, rfl⟩
abbrev main_call0_call0_call0_v153 : Ref sig .tc := ⟨.hbm, 219, rfl⟩
abbrev main_call0_call0_call0_v154 : Ref sig .tc := ⟨.hbm, 220, rfl⟩
abbrev main_call0_call0_call0_v155 : Ref sig .tc := ⟨.hbm, 221, rfl⟩
abbrev main_call0_call0_call0_v156 : Ref sig .tc := ⟨.hbm, 222, rfl⟩
abbrev main_call0_call0_call0_c_40 : Ref sig .tc := ⟨.hbm, 223, rfl⟩
abbrev main_call0_call0_call0_v157 : Ref sig .tc := ⟨.hbm, 224, rfl⟩
abbrev main_call0_call0_call0_v158 : Ref sig .tc := ⟨.hbm, 225, rfl⟩
abbrev main_call0_call0_call0_c_41 : Ref sig .tc := ⟨.hbm, 226, rfl⟩
abbrev main_call0_call0_call0_v159 : Ref sig .tc := ⟨.hbm, 227, rfl⟩
abbrev main_call0_call0_call0_v160 : Ref sig .tc := ⟨.hbm, 228, rfl⟩
abbrev main_call0_call0_call0_v161 : Ref sig .tc := ⟨.hbm, 229, rfl⟩
abbrev main_call0_call0_call0_v162 : Ref sig .tc := ⟨.hbm, 230, rfl⟩
abbrev main_call0_call0_call0_v163 : Ref sig .tc := ⟨.hbm, 231, rfl⟩
abbrev main_call0_call0_call0_c_42 : Ref sig .tc := ⟨.hbm, 232, rfl⟩
abbrev main_call0_call0_call0_v164 : Ref sig .tc := ⟨.hbm, 233, rfl⟩
abbrev main_call0_call0_call0_v165 : Ref sig .tc := ⟨.hbm, 234, rfl⟩
abbrev main_call0_call0_call0_c_43 : Ref sig .tc := ⟨.hbm, 235, rfl⟩
abbrev main_call0_call0_call0_v166 : Ref sig .tc := ⟨.hbm, 236, rfl⟩
abbrev main_call0_call0_call0_v167 : Ref sig .tc := ⟨.hbm, 237, rfl⟩
abbrev main_call0_call0_call0_v168 : Ref sig .tc := ⟨.hbm, 238, rfl⟩
abbrev main_call0_call0_call0_v169 : Ref sig .tc := ⟨.hbm, 239, rfl⟩
abbrev main_call0_call0_call0_v170 : Ref sig .tc := ⟨.hbm, 240, rfl⟩
abbrev main_call0_call0_v11_0 : Ref sig .tc := ⟨.hbm, 241, rfl⟩
abbrev main_call0_call0_call0_v172 : Ref sig .tc := ⟨.hbm, 242, rfl⟩
abbrev main_call0_call0_call0_v173 : Ref sig .tc := ⟨.hbm, 243, rfl⟩
abbrev main_call0_call0_call0_c_44 : Ref sig .tc := ⟨.hbm, 244, rfl⟩
abbrev main_call0_call0_call0_v174 : Ref sig .tc := ⟨.hbm, 245, rfl⟩
abbrev main_call0_call0_v11_1 : Ref sig .tc := ⟨.hbm, 246, rfl⟩
abbrev main_call0_call0_v12 : Ref sig .tc := ⟨.hbm, 247, rfl⟩
abbrev main_call0_call0_v13 : Ref sig .tc := ⟨.hbm, 248, rfl⟩
abbrev main_call0_v0 : Ref sig .tc := ⟨.hbm, 249, rfl⟩
abbrev main_call0_v1 : Ref sig .tc := ⟨.hbm, 250, rfl⟩
abbrev main_call0_v2 : Ref sig .tc := ⟨.hbm, 251, rfl⟩
abbrev main_call0_v3 : Ref sig .tc := ⟨.hbm, 252, rfl⟩
abbrev main_call0_v4 : Ref sig .tc := ⟨.hbm, 253, rfl⟩
abbrev main_call0_v5 : Ref sig .tc := ⟨.hbm, 254, rfl⟩
abbrev main_call0_v6 : Ref sig .tc := ⟨.hbm, 255, rfl⟩
abbrev main_call0_v7 : Ref sig .tc := ⟨.hbm, 256, rfl⟩
abbrev main_call0_v8 : Ref sig .tc := ⟨.hbm, 257, rfl⟩
abbrev main_call0_v9 : Ref sig .tc := ⟨.hbm, 258, rfl⟩
abbrev main_call0_c : Ref sig .tc := ⟨.hbm, 259, rfl⟩
abbrev main_call0_v10 : Ref sig .tc := ⟨.hbm, 260, rfl⟩
abbrev main_call0_v11 : Ref sig .tc := ⟨.hbm, 261, rfl⟩
abbrev main_call0_c_0 : Ref sig .tc := ⟨.hbm, 262, rfl⟩
abbrev main_call0_v12 : Ref sig .tc := ⟨.hbm, 263, rfl⟩
abbrev main_call0_v13 : Ref sig .tc := ⟨.hbm, 264, rfl⟩
abbrev main_call0_v14 : Ref sig .tc := ⟨.hbm, 265, rfl⟩
abbrev main_call0_v15 : Ref sig .tc := ⟨.hbm, 266, rfl⟩
abbrev main_call0_call1_v0 : Ref sig .tc := ⟨.hbm, 267, rfl⟩
abbrev main_call0_call1_c : Ref sig .tc := ⟨.hbm, 268, rfl⟩
abbrev main_call0_call1_v1 : Ref sig .tc := ⟨.hbm, 269, rfl⟩
abbrev main_call0_call1_v2 : Ref sig .tc := ⟨.hbm, 270, rfl⟩
abbrev main_call0_call1_v3 : Ref sig .tc := ⟨.hbm, 271, rfl⟩
abbrev main_call0_call1_v4 : Ref sig .tc := ⟨.hbm, 272, rfl⟩
abbrev main_call0_call1_v5 : Ref sig .tc := ⟨.hbm, 273, rfl⟩
abbrev main_call0_call1_v6 : Ref sig .tc := ⟨.hbm, 274, rfl⟩
abbrev main_call0_call1_c_0 : Ref sig .tc := ⟨.hbm, 275, rfl⟩
abbrev main_call0_call1_v7 : Ref sig .tc := ⟨.hbm, 276, rfl⟩
abbrev main_call0_call1_v8 : Ref sig .tc := ⟨.hbm, 277, rfl⟩
abbrev main_call0_call1_c_1 : Ref sig .tc := ⟨.hbm, 278, rfl⟩
abbrev main_call0_call1_v9 : Ref sig .tc := ⟨.hbm, 279, rfl⟩
abbrev main_call0_call1_v10 : Ref sig .tc := ⟨.hbm, 280, rfl⟩
abbrev main_call0_call1_v11 : Ref sig .tc := ⟨.hbm, 281, rfl⟩
abbrev main_call0_call1_v12 : Ref sig .tc := ⟨.hbm, 282, rfl⟩
abbrev main_call0_call1_v13 : Ref sig .tc := ⟨.hbm, 283, rfl⟩
abbrev main_call0_call1_c_2 : Ref sig .tc := ⟨.hbm, 284, rfl⟩
abbrev main_call0_call1_v14 : Ref sig .tc := ⟨.hbm, 285, rfl⟩
abbrev main_call0_call1_v15 : Ref sig .tc := ⟨.hbm, 286, rfl⟩
abbrev main_call0_call1_c_3 : Ref sig .tc := ⟨.hbm, 287, rfl⟩
abbrev main_call0_call1_v16 : Ref sig .tc := ⟨.hbm, 288, rfl⟩
abbrev main_call0_call1_v17 : Ref sig .tc := ⟨.hbm, 289, rfl⟩
abbrev main_call0_call1_v18 : Ref sig .tc := ⟨.hbm, 290, rfl⟩
abbrev main_call0_call1_v19 : Ref sig .tc := ⟨.hbm, 291, rfl⟩
abbrev main_call0_call1_v20 : Ref sig .tc := ⟨.hbm, 292, rfl⟩
abbrev main_call0_call1_c_4 : Ref sig .tc := ⟨.hbm, 293, rfl⟩
abbrev main_call0_call1_v21 : Ref sig .tc := ⟨.hbm, 294, rfl⟩
abbrev main_call0_call1_v22 : Ref sig .tc := ⟨.hbm, 295, rfl⟩
abbrev main_call0_call1_c_5 : Ref sig .tc := ⟨.hbm, 296, rfl⟩
abbrev main_call0_call1_v23 : Ref sig .tc := ⟨.hbm, 297, rfl⟩
abbrev main_call0_call1_v24 : Ref sig .tc := ⟨.hbm, 298, rfl⟩
abbrev main_call0_call1_v25 : Ref sig .tc := ⟨.hbm, 299, rfl⟩
abbrev main_call0_call1_v26 : Ref sig .tc := ⟨.hbm, 300, rfl⟩
abbrev main_call0_call1_v27 : Ref sig .tc := ⟨.hbm, 301, rfl⟩
abbrev main_call0_call1_c_6 : Ref sig .tc := ⟨.hbm, 302, rfl⟩
abbrev main_call0_call1_v28 : Ref sig .tc := ⟨.hbm, 303, rfl⟩
abbrev main_call0_call1_v29 : Ref sig .tc := ⟨.hbm, 304, rfl⟩
abbrev main_call0_call1_c_7 : Ref sig .tc := ⟨.hbm, 305, rfl⟩
abbrev main_call0_call1_v30 : Ref sig .tc := ⟨.hbm, 306, rfl⟩
abbrev main_call0_call1_v31 : Ref sig .tc := ⟨.hbm, 307, rfl⟩
abbrev main_call0_call1_v32 : Ref sig .tc := ⟨.hbm, 308, rfl⟩
abbrev main_call0_call1_v33 : Ref sig .tc := ⟨.hbm, 309, rfl⟩
abbrev main_call0_call1_v34 : Ref sig .tc := ⟨.hbm, 310, rfl⟩
abbrev main_call0_call1_v35 : Ref sig .tc := ⟨.hbm, 311, rfl⟩
abbrev main_call0_call1_v36 : Ref sig .tc := ⟨.hbm, 312, rfl⟩
abbrev main_call0_call1_v37 : Ref sig .tc := ⟨.hbm, 313, rfl⟩
abbrev main_call0_call1_c_8 : Ref sig .tc := ⟨.hbm, 314, rfl⟩
abbrev main_call0_call1_v38 : Ref sig .tc := ⟨.hbm, 315, rfl⟩
abbrev main_call0_call1_v39 : Ref sig .tc := ⟨.hbm, 316, rfl⟩
abbrev main_call0_call1_v40 : Ref sig .tc := ⟨.hbm, 317, rfl⟩
abbrev main_call0_call1_c_9 : Ref sig .tc := ⟨.hbm, 318, rfl⟩
abbrev main_call0_call1_v41 : Ref sig .tc := ⟨.hbm, 319, rfl⟩
abbrev main_call0_call1_v42 : Ref sig .tc := ⟨.hbm, 320, rfl⟩
abbrev main_call0_call1_c_10 : Ref sig .tc := ⟨.hbm, 321, rfl⟩
abbrev main_call0_call1_v43 : Ref sig .tc := ⟨.hbm, 322, rfl⟩
abbrev main_call0_call1_v44 : Ref sig .tc := ⟨.hbm, 323, rfl⟩
abbrev main_call0_call1_v45 : Ref sig .tc := ⟨.hbm, 324, rfl⟩
abbrev main_call0_call1_v46 : Ref sig .tc := ⟨.hbm, 325, rfl⟩
abbrev main_call0_call1_v47 : Ref sig .tc := ⟨.hbm, 326, rfl⟩
abbrev main_call0_call1_c_11 : Ref sig .tc := ⟨.hbm, 327, rfl⟩
abbrev main_call0_call1_v48 : Ref sig .tc := ⟨.hbm, 328, rfl⟩
abbrev main_call0_call1_v49 : Ref sig .tc := ⟨.hbm, 329, rfl⟩
abbrev main_call0_call1_c_12 : Ref sig .tc := ⟨.hbm, 330, rfl⟩
abbrev main_call0_call1_v50 : Ref sig .tc := ⟨.hbm, 331, rfl⟩
abbrev main_call0_call1_v51 : Ref sig .tc := ⟨.hbm, 332, rfl⟩
abbrev main_call0_call1_v52 : Ref sig .tc := ⟨.hbm, 333, rfl⟩
abbrev main_call0_call1_v53 : Ref sig .tc := ⟨.hbm, 334, rfl⟩
abbrev main_call0_call1_v54 : Ref sig .tc := ⟨.hbm, 335, rfl⟩
abbrev main_call0_call1_c_13 : Ref sig .tc := ⟨.hbm, 336, rfl⟩
abbrev main_call0_call1_v55 : Ref sig .tc := ⟨.hbm, 337, rfl⟩
abbrev main_call0_call1_v56 : Ref sig .tc := ⟨.hbm, 338, rfl⟩
abbrev main_call0_call1_c_14 : Ref sig .tc := ⟨.hbm, 339, rfl⟩
abbrev main_call0_call1_v57 : Ref sig .tc := ⟨.hbm, 340, rfl⟩
abbrev main_call0_call1_v58 : Ref sig .tc := ⟨.hbm, 341, rfl⟩
abbrev main_call0_call1_v59 : Ref sig .tc := ⟨.hbm, 342, rfl⟩
abbrev main_call0_call1_v60 : Ref sig .tc := ⟨.hbm, 343, rfl⟩
abbrev main_call0_call1_v61 : Ref sig .tc := ⟨.hbm, 344, rfl⟩
abbrev main_call0_call1_c_15 : Ref sig .tc := ⟨.hbm, 345, rfl⟩
abbrev main_call0_call1_v62 : Ref sig .tc := ⟨.hbm, 346, rfl⟩
abbrev main_call0_call1_v63 : Ref sig .tc := ⟨.hbm, 347, rfl⟩
abbrev main_call0_call1_c_16 : Ref sig .tc := ⟨.hbm, 348, rfl⟩
abbrev main_call0_call1_v64 : Ref sig .tc := ⟨.hbm, 349, rfl⟩
abbrev main_call0_call1_v65 : Ref sig .tc := ⟨.hbm, 350, rfl⟩
abbrev main_call0_call1_v66 : Ref sig .tc := ⟨.hbm, 351, rfl⟩
abbrev main_call0_call1_v67 : Ref sig .tc := ⟨.hbm, 352, rfl⟩
abbrev main_call0_call1_v68 : Ref sig .tc := ⟨.hbm, 353, rfl⟩
abbrev main_call0_call1_v69 : Ref sig .tc := ⟨.hbm, 354, rfl⟩
abbrev main_call0_call1_v70 : Ref sig .tc := ⟨.hbm, 355, rfl⟩
abbrev main_call0_call1_v71 : Ref sig .tc := ⟨.hbm, 356, rfl⟩
abbrev main_call0_call1_c_17 : Ref sig .tc := ⟨.hbm, 357, rfl⟩
abbrev main_call0_call1_v72 : Ref sig .tc := ⟨.hbm, 358, rfl⟩
abbrev main_call0_call1_v73 : Ref sig .tc := ⟨.hbm, 359, rfl⟩
abbrev main_call0_call1_v74 : Ref sig .tc := ⟨.hbm, 360, rfl⟩
abbrev main_call0_call1_c_18 : Ref sig .tc := ⟨.hbm, 361, rfl⟩
abbrev main_call0_call1_v75 : Ref sig .tc := ⟨.hbm, 362, rfl⟩
abbrev main_call0_call1_v76 : Ref sig .tc := ⟨.hbm, 363, rfl⟩
abbrev main_call0_call1_c_19 : Ref sig .tc := ⟨.hbm, 364, rfl⟩
abbrev main_call0_call1_v77 : Ref sig .tc := ⟨.hbm, 365, rfl⟩
abbrev main_call0_call1_v78 : Ref sig .tc := ⟨.hbm, 366, rfl⟩
abbrev main_call0_call1_v79 : Ref sig .tc := ⟨.hbm, 367, rfl⟩
abbrev main_call0_call1_v80 : Ref sig .tc := ⟨.hbm, 368, rfl⟩
abbrev main_call0_call1_v81 : Ref sig .tc := ⟨.hbm, 369, rfl⟩
abbrev main_call0_call1_c_20 : Ref sig .tc := ⟨.hbm, 370, rfl⟩
abbrev main_call0_call1_v82 : Ref sig .tc := ⟨.hbm, 371, rfl⟩
abbrev main_call0_call1_v83 : Ref sig .tc := ⟨.hbm, 372, rfl⟩
abbrev main_call0_call1_c_21 : Ref sig .tc := ⟨.hbm, 373, rfl⟩
abbrev main_call0_call1_v84 : Ref sig .tc := ⟨.hbm, 374, rfl⟩
abbrev main_call0_call1_v85 : Ref sig .tc := ⟨.hbm, 375, rfl⟩
abbrev main_call0_call1_v86 : Ref sig .tc := ⟨.hbm, 376, rfl⟩
abbrev main_call0_call1_v87 : Ref sig .tc := ⟨.hbm, 377, rfl⟩
abbrev main_call0_call1_v88 : Ref sig .tc := ⟨.hbm, 378, rfl⟩
abbrev main_call0_call1_c_22 : Ref sig .tc := ⟨.hbm, 379, rfl⟩
abbrev main_call0_call1_v89 : Ref sig .tc := ⟨.hbm, 380, rfl⟩
abbrev main_call0_call1_v90 : Ref sig .tc := ⟨.hbm, 381, rfl⟩
abbrev main_call0_call1_c_23 : Ref sig .tc := ⟨.hbm, 382, rfl⟩
abbrev main_call0_call1_v91 : Ref sig .tc := ⟨.hbm, 383, rfl⟩
abbrev main_call0_call1_v92 : Ref sig .tc := ⟨.hbm, 384, rfl⟩
abbrev main_call0_call1_v93 : Ref sig .tc := ⟨.hbm, 385, rfl⟩
abbrev main_call0_call1_v94 : Ref sig .tc := ⟨.hbm, 386, rfl⟩
abbrev main_call0_call1_v95 : Ref sig .tc := ⟨.hbm, 387, rfl⟩
abbrev main_call0_call1_c_24 : Ref sig .tc := ⟨.hbm, 388, rfl⟩
abbrev main_call0_call1_v96 : Ref sig .tc := ⟨.hbm, 389, rfl⟩
abbrev main_call0_call1_v97 : Ref sig .tc := ⟨.hbm, 390, rfl⟩
abbrev main_call0_call1_c_25 : Ref sig .tc := ⟨.hbm, 391, rfl⟩
abbrev main_call0_call1_v98 : Ref sig .tc := ⟨.hbm, 392, rfl⟩
abbrev main_call0_call1_v99 : Ref sig .tc := ⟨.hbm, 393, rfl⟩
abbrev main_call0_call1_v100 : Ref sig .tc := ⟨.hbm, 394, rfl⟩
abbrev main_call0_call1_v101 : Ref sig .tc := ⟨.hbm, 395, rfl⟩
abbrev main_call0_call1_v102 : Ref sig .tc := ⟨.hbm, 396, rfl⟩
abbrev main_call0_call1_v103 : Ref sig .tc := ⟨.hbm, 397, rfl⟩
abbrev main_call0_call1_v104 : Ref sig .tc := ⟨.hbm, 398, rfl⟩
abbrev main_call0_call1_v105 : Ref sig .tc := ⟨.hbm, 399, rfl⟩
abbrev main_call0_call1_c_26 : Ref sig .tc := ⟨.hbm, 400, rfl⟩
abbrev main_call0_call1_v106 : Ref sig .tc := ⟨.hbm, 401, rfl⟩
abbrev main_call0_call1_v107 : Ref sig .tc := ⟨.hbm, 402, rfl⟩
abbrev main_call0_call1_v108 : Ref sig .tc := ⟨.hbm, 403, rfl⟩
abbrev main_call0_call1_c_27 : Ref sig .tc := ⟨.hbm, 404, rfl⟩
abbrev main_call0_call1_v109 : Ref sig .tc := ⟨.hbm, 405, rfl⟩
abbrev main_call0_call1_v110 : Ref sig .tc := ⟨.hbm, 406, rfl⟩
abbrev main_call0_call1_c_28 : Ref sig .tc := ⟨.hbm, 407, rfl⟩
abbrev main_call0_call1_v111 : Ref sig .tc := ⟨.hbm, 408, rfl⟩
abbrev main_call0_call1_v112 : Ref sig .tc := ⟨.hbm, 409, rfl⟩
abbrev main_call0_call1_v113 : Ref sig .tc := ⟨.hbm, 410, rfl⟩
abbrev main_call0_call1_v114 : Ref sig .tc := ⟨.hbm, 411, rfl⟩
abbrev main_call0_call1_v115 : Ref sig .tc := ⟨.hbm, 412, rfl⟩
abbrev main_call0_call1_c_29 : Ref sig .tc := ⟨.hbm, 413, rfl⟩
abbrev main_call0_call1_v116 : Ref sig .tc := ⟨.hbm, 414, rfl⟩
abbrev main_call0_call1_v117 : Ref sig .tc := ⟨.hbm, 415, rfl⟩
abbrev main_call0_call1_c_30 : Ref sig .tc := ⟨.hbm, 416, rfl⟩
abbrev main_call0_call1_v118 : Ref sig .tc := ⟨.hbm, 417, rfl⟩
abbrev main_call0_call1_v119 : Ref sig .tc := ⟨.hbm, 418, rfl⟩
abbrev main_call0_call1_v120 : Ref sig .tc := ⟨.hbm, 419, rfl⟩
abbrev main_call0_call1_v121 : Ref sig .tc := ⟨.hbm, 420, rfl⟩
abbrev main_call0_call1_v122 : Ref sig .tc := ⟨.hbm, 421, rfl⟩
abbrev main_call0_call1_c_31 : Ref sig .tc := ⟨.hbm, 422, rfl⟩
abbrev main_call0_call1_v123 : Ref sig .tc := ⟨.hbm, 423, rfl⟩
abbrev main_call0_call1_v124 : Ref sig .tc := ⟨.hbm, 424, rfl⟩
abbrev main_call0_call1_c_32 : Ref sig .tc := ⟨.hbm, 425, rfl⟩
abbrev main_call0_call1_v125 : Ref sig .tc := ⟨.hbm, 426, rfl⟩
abbrev main_call0_call1_v126 : Ref sig .tc := ⟨.hbm, 427, rfl⟩
abbrev main_call0_call1_v127 : Ref sig .tc := ⟨.hbm, 428, rfl⟩
abbrev main_call0_call1_v128 : Ref sig .tc := ⟨.hbm, 429, rfl⟩
abbrev main_call0_call1_v129 : Ref sig .tc := ⟨.hbm, 430, rfl⟩
abbrev main_call0_call1_c_33 : Ref sig .tc := ⟨.hbm, 431, rfl⟩
abbrev main_call0_call1_v130 : Ref sig .tc := ⟨.hbm, 432, rfl⟩
abbrev main_call0_call1_v131 : Ref sig .tc := ⟨.hbm, 433, rfl⟩
abbrev main_call0_call1_c_34 : Ref sig .tc := ⟨.hbm, 434, rfl⟩
abbrev main_call0_call1_v132 : Ref sig .tc := ⟨.hbm, 435, rfl⟩
abbrev main_call0_call1_v133 : Ref sig .tc := ⟨.hbm, 436, rfl⟩
abbrev main_call0_call1_v134 : Ref sig .tc := ⟨.hbm, 437, rfl⟩
abbrev main_call0_call1_v135 : Ref sig .tc := ⟨.hbm, 438, rfl⟩
abbrev main_call0_call1_v136 : Ref sig .tc := ⟨.hbm, 439, rfl⟩
abbrev main_call0_call1_v137 : Ref sig .tc := ⟨.hbm, 440, rfl⟩
abbrev main_call0_call1_v138 : Ref sig .tc := ⟨.hbm, 441, rfl⟩
abbrev main_call0_call1_v139 : Ref sig .tc := ⟨.hbm, 442, rfl⟩
abbrev main_call0_call1_c_35 : Ref sig .tc := ⟨.hbm, 443, rfl⟩
abbrev main_call0_call1_v140 : Ref sig .tc := ⟨.hbm, 444, rfl⟩
abbrev main_call0_call1_v141 : Ref sig .tc := ⟨.hbm, 445, rfl⟩
abbrev main_call0_call1_v142 : Ref sig .tc := ⟨.hbm, 446, rfl⟩
abbrev main_call0_call1_c_36 : Ref sig .tc := ⟨.hbm, 447, rfl⟩
abbrev main_call0_call1_v143 : Ref sig .tc := ⟨.hbm, 448, rfl⟩
abbrev main_call0_call1_v144 : Ref sig .tc := ⟨.hbm, 449, rfl⟩
abbrev main_call0_call1_c_37 : Ref sig .tc := ⟨.hbm, 450, rfl⟩
abbrev main_call0_call1_v145 : Ref sig .tc := ⟨.hbm, 451, rfl⟩
abbrev main_call0_call1_v146 : Ref sig .tc := ⟨.hbm, 452, rfl⟩
abbrev main_call0_call1_v147 : Ref sig .tc := ⟨.hbm, 453, rfl⟩
abbrev main_call0_call1_v148 : Ref sig .tc := ⟨.hbm, 454, rfl⟩
abbrev main_call0_call1_v149 : Ref sig .tc := ⟨.hbm, 455, rfl⟩
abbrev main_call0_call1_c_38 : Ref sig .tc := ⟨.hbm, 456, rfl⟩
abbrev main_call0_call1_v150 : Ref sig .tc := ⟨.hbm, 457, rfl⟩
abbrev main_call0_call1_v151 : Ref sig .tc := ⟨.hbm, 458, rfl⟩
abbrev main_call0_call1_c_39 : Ref sig .tc := ⟨.hbm, 459, rfl⟩
abbrev main_call0_call1_v152 : Ref sig .tc := ⟨.hbm, 460, rfl⟩
abbrev main_call0_call1_v153 : Ref sig .tc := ⟨.hbm, 461, rfl⟩
abbrev main_call0_call1_v154 : Ref sig .tc := ⟨.hbm, 462, rfl⟩
abbrev main_call0_call1_v155 : Ref sig .tc := ⟨.hbm, 463, rfl⟩
abbrev main_call0_call1_v156 : Ref sig .tc := ⟨.hbm, 464, rfl⟩
abbrev main_call0_call1_c_40 : Ref sig .tc := ⟨.hbm, 465, rfl⟩
abbrev main_call0_call1_v157 : Ref sig .tc := ⟨.hbm, 466, rfl⟩
abbrev main_call0_call1_v158 : Ref sig .tc := ⟨.hbm, 467, rfl⟩
abbrev main_call0_call1_c_41 : Ref sig .tc := ⟨.hbm, 468, rfl⟩
abbrev main_call0_call1_v159 : Ref sig .tc := ⟨.hbm, 469, rfl⟩
abbrev main_call0_call1_v160 : Ref sig .tc := ⟨.hbm, 470, rfl⟩
abbrev main_call0_call1_v161 : Ref sig .tc := ⟨.hbm, 471, rfl⟩
abbrev main_call0_call1_v162 : Ref sig .tc := ⟨.hbm, 472, rfl⟩
abbrev main_call0_call1_v163 : Ref sig .tc := ⟨.hbm, 473, rfl⟩
abbrev main_call0_call1_c_42 : Ref sig .tc := ⟨.hbm, 474, rfl⟩
abbrev main_call0_call1_v164 : Ref sig .tc := ⟨.hbm, 475, rfl⟩
abbrev main_call0_call1_v165 : Ref sig .tc := ⟨.hbm, 476, rfl⟩
abbrev main_call0_call1_c_43 : Ref sig .tc := ⟨.hbm, 477, rfl⟩
abbrev main_call0_call1_v166 : Ref sig .tc := ⟨.hbm, 478, rfl⟩
abbrev main_call0_call1_v167 : Ref sig .tc := ⟨.hbm, 479, rfl⟩
abbrev main_call0_call1_v168 : Ref sig .tc := ⟨.hbm, 480, rfl⟩
abbrev main_call0_call1_v169 : Ref sig .tc := ⟨.hbm, 481, rfl⟩
abbrev main_call0_call1_v170 : Ref sig .tc := ⟨.hbm, 482, rfl⟩
abbrev main_call0_v16_0 : Ref sig .tc := ⟨.hbm, 483, rfl⟩
abbrev main_call0_call1_v172 : Ref sig .tc := ⟨.hbm, 484, rfl⟩
abbrev main_call0_call1_v173 : Ref sig .tc := ⟨.hbm, 485, rfl⟩
abbrev main_call0_call1_c_44 : Ref sig .tc := ⟨.hbm, 486, rfl⟩
abbrev main_call0_call1_v174 : Ref sig .tc := ⟨.hbm, 487, rfl⟩
abbrev main_call0_v16_1 : Ref sig .tc := ⟨.hbm, 488, rfl⟩
abbrev main_call0_v17 : Ref sig .tc := ⟨.hbm, 489, rfl⟩
abbrev main_call0_v18_0 : Ref sig .tc := ⟨.hbm, 490, rfl⟩
abbrev main_v8 : Ref sig .tc := ⟨.hbm, 491, rfl⟩
abbrev main_c_2 : Ref sig .tc := ⟨.hbm, 492, rfl⟩
abbrev main_v9 : Ref sig .tc := ⟨.hbm, 493, rfl⟩
abbrev main_v10 : Ref sig .tc := ⟨.hbm, 494, rfl⟩
abbrev main_c_3 : Ref sig .tc := ⟨.hbm, 495, rfl⟩
abbrev main_v11 : Ref sig .tc := ⟨.hbm, 496, rfl⟩
abbrev main_v12 : Ref sig .tc := ⟨.hbm, 497, rfl⟩
abbrev main_v13 : Ref sig .tc := ⟨.hbm, 498, rfl⟩
abbrev main_v14 : Ref sig .tc := ⟨.hbm, 499, rfl⟩
abbrev main_v15 : Ref sig .tc := ⟨.hbm, 500, rfl⟩

abbrev nD : Nat := 1
abbrev τ : Topo := Topo.v7x

variable {F : FTy → Type} [FloatOps F]
-- ==== SampleReferenceIdeal.lean ====
abbrev S4x3x4096 : Shape := ⟨3, ![4, 3, 4096]⟩
abbrev S_ : Shape := ⟨0, ![]⟩
abbrev S1 : Shape := ⟨1, ![1]⟩
abbrev S2 : Shape := ⟨1, ![2]⟩
abbrev S3 : Shape := ⟨1, ![3]⟩
abbrev S2x1 : Shape := ⟨2, ![2, 1]⟩
abbrev S2x2 : Shape := ⟨2, ![2, 2]⟩
abbrev S1x2 : Shape := ⟨2, ![1, 2]⟩
abbrev S3x1 : Shape := ⟨2, ![3, 1]⟩

abbrev nBuf : Space → Nat
  | .hbm => 501
  | .vmem => 0
  | .smem => 0
  | _ => 0

abbrev hbmTy0_0 (i : Nat) : BufTy := match i % 128 with
  | 0 => ⟨S4x3x4096, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S3, .i32⟩
  | 12 => ⟨S1, .i32⟩
  | 13 => ⟨S_, .i32⟩
  | 14 => ⟨S1, .i32⟩
  | 15 => ⟨S_, .i32⟩
  | 16 => ⟨S2, .i64⟩
  | 17 => ⟨S_, .i64⟩
  | 18 => ⟨S2, .i64⟩
  | 19 => ⟨S2, .i64⟩
  | 20 => ⟨S_, .i64⟩
  | 21 => ⟨S2, .i64⟩
  | 22 => ⟨S2, .i64⟩
  | 23 => ⟨S2, .i32⟩
  | 24 => ⟨S2, .i32⟩
  | 25 => ⟨S_, .i32⟩
  | 26 => ⟨S_, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S4x3x4096, .f32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2x1, .i32⟩
  | 120 => ⟨S2x1, .i32⟩
  | 121 => ⟨S2x2, .i32⟩
  | 122 => ⟨S1x2, .i32⟩
  | 123 => ⟨S2, .i32⟩
  | 124 => ⟨S1x2, .i32⟩
  | 125 => ⟨S2, .i32⟩
  | 126 => ⟨S1, .i32⟩
  | 127 => ⟨S_, .i32⟩
  | _ => ⟨S4x3x4096, .f32⟩

abbrev hbmTy0_2 (i : Nat) : BufTy := match i % 128 with
  | 0 => ⟨S1, .i32⟩
  | 1 => ⟨S_, .i32⟩
  | 2 => ⟨S3, .i64⟩
  | 3 => ⟨S_, .i64⟩
  | 4 => ⟨S3, .i64⟩
  | 5 => ⟨S3, .i64⟩
  | 6 => ⟨S_, .i64⟩
  | 7 => ⟨S3, .i64⟩
  | 8 => ⟨S3, .i64⟩
  | 9 => ⟨S3, .i32⟩
  | 10 => ⟨S3, .i32⟩
  | 11 => ⟨S_, .i32⟩
  | 12 => ⟨S_, .i32⟩
  | 13 => ⟨S_, .i32⟩
  | 14 => ⟨S3, .i32⟩
  | 15 => ⟨S3, .i32⟩
  | 16 => ⟨S3, .i32⟩
  | 17 => ⟨S3, .i32⟩
  | 18 => ⟨S3, .i32⟩
  | 19 => ⟨S_, .i32⟩
  | 20 => ⟨S3, .i32⟩
  | 21 => ⟨S3, .i32⟩
  | 22 => ⟨S_, .i32⟩
  | 23 => ⟨S3, .i32⟩
  | 24 => ⟨S3, .i32⟩
  | 25 => ⟨S3, .i32⟩
  | 26 => ⟨S3, .i32⟩
  | 27 => ⟨S3, .i32⟩
  | 28 => ⟨S_, .i32⟩
  | 29 => ⟨S3, .i32⟩
  | 30 => ⟨S3, .i32⟩
  | 31 => ⟨S_, .i32⟩
  | 32 => ⟨S3, .i32⟩
  | 33 => ⟨S3, .i32⟩
  | 34 => ⟨S3, .i32⟩
  | 35 => ⟨S3, .i32⟩
  | 36 => ⟨S3, .i32⟩
  | 37 => ⟨S_, .i32⟩
  | 38 => ⟨S3, .i32⟩
  | 39 => ⟨S3, .i32⟩
  | 40 => ⟨S_, .i32⟩
  | 41 => ⟨S3, .i32⟩
  | 42 => ⟨S3, .i32⟩
  | 43 => ⟨S3, .i32⟩
  | 44 => ⟨S3, .i32⟩
  | 45 => ⟨S3, .i32⟩
  | 46 => ⟨S_, .i32⟩
  | 47 => ⟨S3, .i32⟩
  | 48 => ⟨S3, .i32⟩
  | 49 => ⟨S_, .i32⟩
  | 50 => ⟨S3, .i32⟩
  | 51 => ⟨S3, .i32⟩
  | 52 => ⟨S3, .i32⟩
  | 53 => ⟨S3, .i32⟩
  | 54 => ⟨S3, .i32⟩
  | 55 => ⟨S3, .i32⟩
  | 56 => ⟨S3, .i32⟩
  | 57 => ⟨S3, .i32⟩
  | 58 => ⟨S_, .i32⟩
  | 59 => ⟨S3, .i32⟩
  | 60 => ⟨S3, .i32⟩
  | 61 => ⟨S3, .i32⟩
  | 62 => ⟨S_, .i32⟩
  | 63 => ⟨S3, .i32⟩
  | 64 => ⟨S3, .i32⟩
  | 65 => ⟨S_, .i32⟩
  | 66 => ⟨S3, .i32⟩
  | 67 => ⟨S3, .i32⟩
  | 68 => ⟨S3, .i32⟩
  | 69 => ⟨S3, .i32⟩
  | 70 => ⟨S3, .i32⟩
  | 71 => ⟨S_, .i32⟩
  | 72 => ⟨S3, .i32⟩
  | 73 => ⟨S3, .i32⟩
  | 74 => ⟨S_, .i32⟩
  | 75 => ⟨S3, .i32⟩
  | 76 => ⟨S3, .i32⟩
  | 77 => ⟨S3, .i32⟩
  | 78 => ⟨S3, .i32⟩
  | 79 => ⟨S3, .i32⟩
  | 80 => ⟨S_, .i32⟩
  | 81 => ⟨S3, .i32⟩
  | 82 => ⟨S3, .i32⟩
  | 83 => ⟨S_, .i32⟩
  | 84 => ⟨S3, .i32⟩
  | 85 => ⟨S3, .i32⟩
  | 86 => ⟨S3, .i32⟩
  | 87 => ⟨S3, .i32⟩
  | 88 => ⟨S3, .i32⟩
  | 89 => ⟨S_, .i32⟩
  | 90 => ⟨S3, .i32⟩
  | 91 => ⟨S3, .i32⟩
  | 92 => ⟨S_, .i32⟩
  | 93 => ⟨S3, .i32⟩
  | 94 => ⟨S3, .i32⟩
  | 95 => ⟨S3, .i32⟩
  | 96 => ⟨S3, .i32⟩
  | 97 => ⟨S3, .i32⟩
  | 98 => ⟨S3, .i32⟩
  | 99 => ⟨S3, .i32⟩
  | 100 => ⟨S3, .i32⟩
  | 101 => ⟨S_, .i32⟩
  | 102 => ⟨S3, .i32⟩
  | 103 => ⟨S3, .i32⟩
  | 104 => ⟨S3, .i32⟩
  | 105 => ⟨S_, .i32⟩
  | 106 => ⟨S3, .i32⟩
  | 107 => ⟨S3, .i32⟩
  | 108 => ⟨S_, .i32⟩
  | 109 => ⟨S3, .i32⟩
  | 110 => ⟨S3, .i32⟩
  | 111 => ⟨S3, .i32⟩
  | 112 => ⟨S3, .i32⟩
  | 113 => ⟨S3, .i32⟩
  | 114 => ⟨S_, .i32⟩
  | 115 => ⟨S3, .i32⟩
  | 116 => ⟨S3, .i32⟩
  | 117 => ⟨S_, .i32⟩
  | 118 => ⟨S3, .i32⟩
  | 119 => ⟨S3, .i32⟩
  | 120 => ⟨S3, .i32⟩
  | 121 => ⟨S3, .i32⟩
  | 122 => ⟨S3, .i32⟩
  | 123 => ⟨S_, .i32⟩
  | 124 => ⟨S3, .i32⟩
  | 125 => ⟨S3, .i32⟩
  | 126 => ⟨S_, .i32⟩
  | 127 => ⟨S3, .i32⟩
  | _ => ⟨S4x3x4096, .f32⟩

abbrev hbmTy0_3 (i : Nat) : BufTy := match i % 128 with
  | 0 => ⟨S3, .i32⟩
  | 1 => ⟨S3, .i32⟩
  | 2 => ⟨S3, .i32⟩
  | 3 => ⟨S3, .i32⟩
  | 4 => ⟨S_, .i32⟩
  | 5 => ⟨S3, .i32⟩
  | 6 => ⟨S3, .i32⟩
  | 7 => ⟨S_, .i32⟩
  | 8 => ⟨S3, .i32⟩
  | 9 => ⟨S3, .i32⟩
  | 10 => ⟨S3, .i32⟩
  | 11 => ⟨S3, .i32⟩
  | 12 => ⟨S3, .i32⟩
  | 13 => ⟨S3, .i32⟩
  | 14 => ⟨S3, .i32⟩
  | 15 => ⟨S3, .i32⟩
  | 16 => ⟨S_, .i32⟩
  | 17 => ⟨S3, .i32⟩
  | 18 => ⟨S3, .i32⟩
  | 19 => ⟨S3, .i32⟩
  | 20 => ⟨S_, .i32⟩
  | 21 => ⟨S3, .i32⟩
  | 22 => ⟨S3, .i32⟩
  | 23 => ⟨S_, .i32⟩
  | 24 => ⟨S3, .i32⟩
  | 25 => ⟨S3, .i32⟩
  | 26 => ⟨S3, .i32⟩
  | 27 => ⟨S3, .i32⟩
  | 28 => ⟨S3, .i32⟩
  | 29 => ⟨S_, .i32⟩
  | 30 => ⟨S3, .i32⟩
  | 31 => ⟨S3, .i32⟩
  | 32 => ⟨S_, .i32⟩
  | 33 => ⟨S3, .i32⟩
  | 34 => ⟨S3, .i32⟩
  | 35 => ⟨S3, .i32⟩
  | 36 => ⟨S3, .i32⟩
  | 37 => ⟨S3, .i32⟩
  | 38 => ⟨S_, .i32⟩
  | 39 => ⟨S3, .i32⟩
  | 40 => ⟨S3, .i32⟩
  | 41 => ⟨S_, .i32⟩
  | 42 => ⟨S3, .i32⟩
  | 43 => ⟨S3, .i32⟩
  | 44 => ⟨S3, .i32⟩
  | 45 => ⟨S3, .i32⟩
  | 46 => ⟨S3, .i32⟩
  | 47 => ⟨S_, .i32⟩
  | 48 => ⟨S3, .i32⟩
  | 49 => ⟨S3, .i32⟩
  | 50 => ⟨S_, .i32⟩
  | 51 => ⟨S3, .i32⟩
  | 52 => ⟨S3, .i32⟩
  | 53 => ⟨S3, .i32⟩
  | 54 => ⟨S3, .i32⟩
  | 55 => ⟨S3, .i32⟩
  | 56 => ⟨S3, .i32⟩
  | 57 => ⟨S3, .i32⟩
  | 58 => ⟨S3, .i32⟩
  | 59 => ⟨S_, .i32⟩
  | 60 => ⟨S3, .i32⟩
  | 61 => ⟨S3, .i32⟩
  | 62 => ⟨S3, .i32⟩
  | 63 => ⟨S_, .i32⟩
  | 64 => ⟨S3, .i32⟩
  | 65 => ⟨S3, .i32⟩
  | 66 => ⟨S_, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S_, .i32⟩
  | 76 => ⟨S3, .i32⟩
  | 77 => ⟨S3, .i32⟩
  | 78 => ⟨S3, .i32⟩
  | 79 => ⟨S3, .i32⟩
  | 80 => ⟨S3, .i32⟩
  | 81 => ⟨S_, .i32⟩
  | 82 => ⟨S3, .i32⟩
  | 83 => ⟨S3, .i32⟩
  | 84 => ⟨S_, .i32⟩
  | 85 => ⟨S3, .i32⟩
  | 86 => ⟨S3, .i32⟩
  | 87 => ⟨S3, .i32⟩
  | 88 => ⟨S3, .i32⟩
  | 89 => ⟨S3, .i32⟩
  | 90 => ⟨S_, .i32⟩
  | 91 => ⟨S3, .i32⟩
  | 92 => ⟨S3, .i32⟩
  | 93 => ⟨S_, .i32⟩
  | 94 => ⟨S3, .i32⟩
  | 95 => ⟨S3, .i32⟩
  | 96 => ⟨S3, .i32⟩
  | 97 => ⟨S3, .i32⟩
  | 98 => ⟨S3, .i32⟩
  | 99 => ⟨S3, .i32⟩
  | 100 => ⟨S3, .i32⟩
  | 101 => ⟨S3, .i32⟩
  | 102 => ⟨S_, .i32⟩
  | 103 => ⟨S3, .i32⟩
  | 104 => ⟨S3, .i32⟩
  | 105 => ⟨S3, .i32⟩
  | 106 => ⟨S3, .i32⟩
  | 107 => ⟨S3, .i32⟩
  | 108 => ⟨S_, .i32⟩
  | 109 => ⟨S3, .i32⟩
  | 110 => ⟨S3, .i1⟩
  | 111 => ⟨S_, .i32⟩
  | 112 => ⟨S3, .i32⟩
  | 113 => ⟨S3, .i32⟩
  | 114 => ⟨S3, .i32⟩
  | 115 => ⟨S3x1, .i32⟩
  | 116 => ⟨S4x3x4096, .f32⟩
  | _ => ⟨S4x3x4096, .f32⟩

abbrev hbmTy (i : Nat) : BufTy := match i / 128 with
  | 0 => hbmTy0_0 i
  | 1 => hbmTy0_1 i
  | 2 => hbmTy0_2 i
  | 3 => hbmTy0_3 i
  | _ => ⟨S4x3x4096, .f32⟩

abbrev bufTy : (tb : Table) → Fin (tcTables nBuf tb) → BufTy
  | .hbm, ⟨i, _⟩ => hbmTy i
  | _, _ => ⟨S4x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_c : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_c_0 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_call0_v0 : Ref sig .tc := ⟨.hbm, 25, rfl⟩
abbrev main_call0_call0_call0_c : Ref sig .tc := ⟨.hbm, 26, rfl⟩
abbrev main_call0_call0_call0_v1 : Ref sig .tc := ⟨.hbm, 27, rfl⟩
abbrev main_call0_call0_call0_v2 : Ref sig .tc := ⟨.hbm, 28, rfl⟩
abbrev main_call0_call0_call0_v3 : Ref sig .tc := ⟨.hbm, 29, rfl⟩
abbrev main_call0_call0_call0_v4 : Ref sig .tc := ⟨.hbm, 30, rfl⟩
abbrev main_call0_call0_call0_v5 : Ref sig .tc := ⟨.hbm, 31, rfl⟩
abbrev main_call0_call0_call0_v6 : Ref sig .tc := ⟨.hbm, 32, rfl⟩
abbrev main_call0_call0_call0_c_0 : Ref sig .tc := ⟨.hbm, 33, rfl⟩
abbrev main_call0_call0_call0_v7 : Ref sig .tc := ⟨.hbm, 34, rfl⟩
abbrev main_call0_call0_call0_v8 : Ref sig .tc := ⟨.hbm, 35, rfl⟩
abbrev main_call0_call0_call0_c_1 : Ref sig .tc := ⟨.hbm, 36, rfl⟩
abbrev main_call0_call0_call0_v9 : Ref sig .tc := ⟨.hbm, 37, rfl⟩
abbrev main_call0_call0_call0_v10 : Ref sig .tc := ⟨.hbm, 38, rfl⟩
abbrev main_call0_call0_call0_v11 : Ref sig .tc := ⟨.hbm, 39, rfl⟩
abbrev main_call0_call0_call0_v12 : Ref sig .tc := ⟨.hbm, 40, rfl⟩
abbrev main_call0_call0_call0_v13 : Ref sig .tc := ⟨.hbm, 41, rfl⟩
abbrev main_call0_call0_call0_c_2 : Ref sig .tc := ⟨.hbm, 42, rfl⟩
abbrev main_call0_call0_call0_v14 : Ref sig .tc := ⟨.hbm, 43, rfl⟩
abbrev main_call0_call0_call0_v15 : Ref sig .tc := ⟨.hbm, 44, rfl⟩
abbrev main_call0_call0_call0_c_3 : Ref sig .tc := ⟨.hbm, 45, rfl⟩
abbrev main_call0_call0_call0_v16 : Ref sig .tc := ⟨.hbm, 46, rfl⟩
abbrev main_call0_call0_call0_v17 : Ref sig .tc := ⟨.hbm, 47, rfl⟩
abbrev main_call0_call0_call0_v18 : Ref sig .tc := ⟨.hbm, 48, rfl⟩
abbrev main_call0_call0_call0_v19 : Ref sig .tc := ⟨.hbm, 49, rfl⟩
abbrev main_call0_call0_call0_v20 : Ref sig .tc := ⟨.hbm, 50, rfl⟩
abbrev main_call0_call0_call0_c_4 : Ref sig .tc := ⟨.hbm, 51, rfl⟩
abbrev main_call0_call0_call0_v21 : Ref sig .tc := ⟨.hbm, 52, rfl⟩
abbrev main_call0_call0_call0_v22 : Ref sig .tc := ⟨.hbm, 53, rfl⟩
abbrev main_call0_call0_call0_c_5 : Ref sig .tc := ⟨.hbm, 54, rfl⟩
abbrev main_call0_call0_call0_v23 : Ref sig .tc := ⟨.hbm, 55, rfl⟩
abbrev main_call0_call0_call0_v24 : Ref sig .tc := ⟨.hbm, 56, rfl⟩
abbrev main_call0_call0_call0_v25 : Ref sig .tc := ⟨.hbm, 57, rfl⟩
abbrev main_call0_call0_call0_v26 : Ref sig .tc := ⟨.hbm, 58, rfl⟩
abbrev main_call0_call0_call0_v27 : Ref sig .tc := ⟨.hbm, 59, rfl⟩
abbrev main_call0_call0_call0_c_6 : Ref sig .tc := ⟨.hbm, 60, rfl⟩
abbrev main_call0_call0_call0_v28 : Ref sig .tc := ⟨.hbm, 61, rfl⟩
abbrev main_call0_call0_call0_v29 : Ref sig .tc := ⟨.hbm, 62, rfl⟩
abbrev main_call0_call0_call0_c_7 : Ref sig .tc := ⟨.hbm, 63, rfl⟩
abbrev main_call0_call0_call0_v30 : Ref sig .tc := ⟨.hbm, 64, rfl⟩
abbrev main_call0_call0_call0_v31 : Ref sig .tc := ⟨.hbm, 65, rfl⟩
abbrev main_call0_call0_call0_v32 : Ref sig .tc := ⟨.hbm, 66, rfl⟩
abbrev main_call0_call0_call0_v33 : Ref sig .tc := ⟨.hbm, 67, rfl⟩
abbrev main_call0_call0_call0_v34 : Ref sig .tc := ⟨.hbm, 68, rfl⟩
abbrev main_call0_call0_call0_v35 : Ref sig .tc := ⟨.hbm, 69, rfl⟩
abbrev main_call0_call0_call0_v36 : Ref sig .tc := ⟨.hbm, 70, rfl⟩
abbrev main_call0_call0_call0_v37 : Ref sig .tc := ⟨.hbm, 71, rfl⟩
abbrev main_call0_call0_call0_c_8 : Ref sig .tc := ⟨.hbm, 72, rfl⟩
abbrev main_call0_call0_call0_v38 : Ref sig .tc := ⟨.hbm, 73, rfl⟩
abbrev main_call0_call0_call0_v39 : Ref sig .tc := ⟨.hbm, 74, rfl⟩
abbrev main_call0_call0_call0_v40 : Ref sig .tc := ⟨.hbm, 75, rfl⟩
abbrev main_call0_call0_call0_c_9 : Ref sig .tc := ⟨.hbm, 76, rfl⟩
abbrev main_call0_call0_call0_v41 : Ref sig .tc := ⟨.hbm, 77, rfl⟩
abbrev main_call0_call0_call0_v42 : Ref sig .tc := ⟨.hbm, 78, rfl⟩
abbrev main_call0_call0_call0_c_10 : Ref sig .tc := ⟨.hbm, 79, rfl⟩
abbrev main_call0_call0_call0_v43 : Ref sig .tc := ⟨.hbm, 80, rfl⟩
abbrev main_call0_call0_call0_v44 : Ref sig .tc := ⟨.hbm, 81, rfl⟩
abbrev main_call0_call0_call0_v45 : Ref sig .tc := ⟨.hbm, 82, rfl⟩
abbrev main_call0_call0_call0_v46 : Ref sig .tc := ⟨.hbm, 83, rfl⟩
abbrev main_call0_call0_call0_v47 : Ref sig .tc := ⟨.hbm, 84, rfl⟩
abbrev main_call0_call0_call0_c_11 : Ref sig .tc := ⟨.hbm, 85, rfl⟩
abbrev main_call0_call0_call0_v48 : Ref sig .tc := ⟨.hbm, 86, rfl⟩
abbrev main_call0_call0_call0_v49 : Ref sig .tc := ⟨.hbm, 87, rfl⟩
abbrev main_call0_call0_call0_c_12 : Ref sig .tc := ⟨.hbm, 88, rfl⟩
abbrev main_call0_call0_call0_v50 : Ref sig .tc := ⟨.hbm, 89, rfl⟩
abbrev main_call0_call0_call0_v51 : Ref sig .tc := ⟨.hbm, 90, rfl⟩
abbrev main_call0_call0_call0_v52 : Ref sig .tc := ⟨.hbm, 91, rfl⟩
abbrev main_call0_call0_call0_v53 : Ref sig .tc := ⟨.hbm, 92, rfl⟩
abbrev main_call0_call0_call0_v54 : Ref sig .tc := ⟨.hbm, 93, rfl⟩
abbrev main_call0_call0_call0_c_13 : Ref sig .tc := ⟨.hbm, 94, rfl⟩
abbrev main_call0_call0_call0_v55 : Ref sig .tc := ⟨.hbm, 95, rfl⟩
abbrev main_call0_call0_call0_v56 : Ref sig .tc := ⟨.hbm, 96, rfl⟩
abbrev main_call0_call0_call0_c_14 : Ref sig .tc := ⟨.hbm, 97, rfl⟩
abbrev main_call0_call0_call0_v57 : Ref sig .tc := ⟨.hbm, 98, rfl⟩
abbrev main_call0_call0_call0_v58 : Ref sig .tc := ⟨.hbm, 99, rfl⟩
abbrev main_call0_call0_call0_v59 : Ref sig .tc := ⟨.hbm, 100, rfl⟩
abbrev main_call0_call0_call0_v60 : Ref sig .tc := ⟨.hbm, 101, rfl⟩
abbrev main_call0_call0_call0_v61 : Ref sig .tc := ⟨.hbm, 102, rfl⟩
abbrev main_call0_call0_call0_c_15 : Ref sig .tc := ⟨.hbm, 103, rfl⟩
abbrev main_call0_call0_call0_v62 : Ref sig .tc := ⟨.hbm, 104, rfl⟩
abbrev main_call0_call0_call0_v63 : Ref sig .tc := ⟨.hbm, 105, rfl⟩
abbrev main_call0_call0_call0_c_16 : Ref sig .tc := ⟨.hbm, 106, rfl⟩
abbrev main_call0_call0_call0_v64 : Ref sig .tc := ⟨.hbm, 107, rfl⟩
abbrev main_call0_call0_call0_v65 : Ref sig .tc := ⟨.hbm, 108, rfl⟩
abbrev main_call0_call0_call0_v66 : Ref sig .tc := ⟨.hbm, 109, rfl⟩
abbrev main_call0_call0_call0_v67 : Ref sig .tc := ⟨.hbm, 110, rfl⟩
abbrev main_call0_call0_call0_v68 : Ref sig .tc := ⟨.hbm, 111, rfl⟩
abbrev main_call0_call0_call0_v69 : Ref sig .tc := ⟨.hbm, 112, rfl⟩
abbrev main_call0_call0_call0_v70 : Ref sig .tc := ⟨.hbm, 113, rfl⟩
abbrev main_call0_call0_call0_v71 : Ref sig .tc := ⟨.hbm, 114, rfl⟩
abbrev main_call0_call0_call0_c_17 : Ref sig .tc := ⟨.hbm, 115, rfl⟩
abbrev main_call0_call0_call0_v72 : Ref sig .tc := ⟨.hbm, 116, rfl⟩
abbrev main_call0_call0_call0_v73 : Ref sig .tc := ⟨.hbm, 117, rfl⟩
abbrev main_call0_call0_call0_v74 : Ref sig .tc := ⟨.hbm, 118, rfl⟩
abbrev main_call0_call0_call0_c_18 : Ref sig .tc := ⟨.hbm, 119, rfl⟩
abbrev main_call0_call0_call0_v75 : Ref sig .tc := ⟨.hbm, 120, rfl⟩
abbrev main_call0_call0_call0_v76 : Ref sig .tc := ⟨.hbm, 121, rfl⟩
abbrev main_call0_call0_call0_c_19 : Ref sig .tc := ⟨.hbm, 122, rfl⟩
abbrev main_call0_call0_call0_v77 : Ref sig .tc := ⟨.hbm, 123, rfl⟩
abbrev main_call0_call0_call0_v78 : Ref sig .tc := ⟨.hbm, 124, rfl⟩
abbrev main_call0_call0_call0_v79 : Ref sig .tc := ⟨.hbm, 125, rfl⟩
abbrev main_call0_call0_call0_v80 : Ref sig .tc := ⟨.hbm, 126, rfl⟩
abbrev main_call0_call0_call0_v81 : Ref sig .tc := ⟨.hbm, 127, rfl⟩
abbrev main_call0_call0_call0_c_20 : Ref sig .tc := ⟨.hbm, 128, rfl⟩
abbrev main_call0_call0_call0_v82 : Ref sig .tc := ⟨.hbm, 129, rfl⟩
abbrev main_call0_call0_call0_v83 : Ref sig .tc := ⟨.hbm, 130, rfl⟩
abbrev main_call0_call0_call0_c_21 : Ref sig .tc := ⟨.hbm, 131, rfl⟩
abbrev main_call0_call0_call0_v84 : Ref sig .tc := ⟨.hbm, 132, rfl⟩
abbrev main_call0_call0_call0_v85 : Ref sig .tc := ⟨.hbm, 133, rfl⟩
abbrev main_call0_call0_call0_v86 : Ref sig .tc := ⟨.hbm, 134, rfl⟩
abbrev main_call0_call0_call0_v87 : Ref sig .tc := ⟨.hbm, 135, rfl⟩
abbrev main_call0_call0_call0_v88 : Ref sig .tc := ⟨.hbm, 136, rfl⟩
abbrev main_call0_call0_call0_c_22 : Ref sig .tc := ⟨.hbm, 137, rfl⟩
abbrev main_call0_call0_call0_v89 : Ref sig .tc := ⟨.hbm, 138, rfl⟩
abbrev main_call0_call0_call0_v90 : Ref sig .tc := ⟨.hbm, 139, rfl⟩
abbrev main_call0_call0_call0_c_23 : Ref sig .tc := ⟨.hbm, 140, rfl⟩
abbrev main_call0_call0_call0_v91 : Ref sig .tc := ⟨.hbm, 141, rfl⟩
abbrev main_call0_call0_call0_v92 : Ref sig .tc := ⟨.hbm, 142, rfl⟩
abbrev main_call0_call0_call0_v93 : Ref sig .tc := ⟨.hbm, 143, rfl⟩
abbrev main_call0_call0_call0_v94 : Ref sig .tc := ⟨.hbm, 144, rfl⟩
abbrev main_call0_call0_call0_v95 : Ref sig .tc := ⟨.hbm, 145, rfl⟩
abbrev main_call0_call0_call0_c_24 : Ref sig .tc := ⟨.hbm, 146, rfl⟩
abbrev main_call0_call0_call0_v96 : Ref sig .tc := ⟨.hbm, 147, rfl⟩
abbrev main_call0_call0_call0_v97 : Ref sig .tc := ⟨.hbm, 148, rfl⟩
abbrev main_call0_call0_call0_c_25 : Ref sig .tc := ⟨.hbm, 149, rfl⟩
abbrev main_call0_call0_call0_v98 : Ref sig .tc := ⟨.hbm, 150, rfl⟩
abbrev main_call0_call0_call0_v99 : Ref sig .tc := ⟨.hbm, 151, rfl⟩
abbrev main_call0_call0_call0_v100 : Ref sig .tc := ⟨.hbm, 152, rfl⟩
abbrev main_call0_call0_call0_v101 : Ref sig .tc := ⟨.hbm, 153, rfl⟩
abbrev main_call0_call0_call0_v102 : Ref sig .tc := ⟨.hbm, 154, rfl⟩
abbrev main_call0_call0_call0_v103 : Ref sig .tc := ⟨.hbm, 155, rfl⟩
abbrev main_call0_call0_call0_v104 : Ref sig .tc := ⟨.hbm, 156, rfl⟩
abbrev main_call0_call0_call0_v105 : Ref sig .tc := ⟨.hbm, 157, rfl⟩
abbrev main_call0_call0_call0_c_26 : Ref sig .tc := ⟨.hbm, 158, rfl⟩
abbrev main_call0_call0_call0_v106 : Ref sig .tc := ⟨.hbm, 159, rfl⟩
abbrev main_call0_call0_call0_v107 : Ref sig .tc := ⟨.hbm, 160, rfl⟩
abbrev main_call0_call0_call0_v108 : Ref sig .tc := ⟨.hbm, 161, rfl⟩
abbrev main_call0_call0_call0_c_27 : Ref sig .tc := ⟨.hbm, 162, rfl⟩
abbrev main_call0_call0_call0_v109 : Ref sig .tc := ⟨.hbm, 163, rfl⟩
abbrev main_call0_call0_call0_v110 : Ref sig .tc := ⟨.hbm, 164, rfl⟩
abbrev main_call0_call0_call0_c_28 : Ref sig .tc := ⟨.hbm, 165, rfl⟩
abbrev main_call0_call0_call0_v111 : Ref sig .tc := ⟨.hbm, 166, rfl⟩
abbrev main_call0_call0_call0_v112 : Ref sig .tc := ⟨.hbm, 167, rfl⟩
abbrev main_call0_call0_call0_v113 : Ref sig .tc := ⟨.hbm, 168, rfl⟩
abbrev main_call0_call0_call0_v114 : Ref sig .tc := ⟨.hbm, 169, rfl⟩
abbrev main_call0_call0_call0_v115 : Ref sig .tc := ⟨.hbm, 170, rfl⟩
abbrev main_call0_call0_call0_c_29 : Ref sig .tc := ⟨.hbm, 171, rfl⟩
abbrev main_call0_call0_call0_v116 : Ref sig .tc := ⟨.hbm, 172, rfl⟩
abbrev main_call0_call0_call0_v117 : Ref sig .tc := ⟨.hbm, 173, rfl⟩
abbrev main_call0_call0_call0_c_30 : Ref sig .tc := ⟨.hbm, 174, rfl⟩
abbrev main_call0_call0_call0_v118 : Ref sig .tc := ⟨.hbm, 175, rfl⟩
abbrev main_call0_call0_call0_v119 : Ref sig .tc := ⟨.hbm, 176, rfl⟩
abbrev main_call0_call0_call0_v120 : Ref sig .tc := ⟨.hbm, 177, rfl⟩
abbrev main_call0_call0_call0_v121 : Ref sig .tc := ⟨.hbm, 178, rfl⟩
abbrev main_call0_call0_call0_v122 : Ref sig .tc := ⟨.hbm, 179, rfl⟩
abbrev main_call0_call0_call0_c_31 : Ref sig .tc := ⟨.hbm, 180, rfl⟩
abbrev main_call0_call0_call0_v123 : Ref sig .tc := ⟨.hbm, 181, rfl⟩
abbrev main_call0_call0_call0_v124 : Ref sig .tc := ⟨.hbm, 182, rfl⟩
abbrev main_call0_call0_call0_c_32 : Ref sig .tc := ⟨.hbm, 183, rfl⟩
abbrev main_call0_call0_call0_v125 : Ref sig .tc := ⟨.hbm, 184, rfl⟩
abbrev main_call0_call0_call0_v126 : Ref sig .tc := ⟨.hbm, 185, rfl⟩
abbrev main_call0_call0_call0_v127 : Ref sig .tc := ⟨.hbm, 186, rfl⟩
abbrev main_call0_call0_call0_v128 : Ref sig .tc := ⟨.hbm, 187, rfl⟩
abbrev main_call0_call0_call0_v129 : Ref sig .tc := ⟨.hbm, 188, rfl⟩
abbrev main_call0_call0_call0_c_33 : Ref sig .tc := ⟨.hbm, 189, rfl⟩
abbrev main_call0_call0_call0_v130 : Ref sig .tc := ⟨.hbm, 190, rfl⟩
abbrev main_call0_call0_call0_v131 : Ref sig .tc := ⟨.hbm, 191, rfl⟩
abbrev main_call0_call0_call0_c_34 : Ref sig .tc := ⟨.hbm, 192, rfl⟩
abbrev main_call0_call0_call0_v132 : Ref sig .tc := ⟨.hbm, 193, rfl⟩
abbrev main_call0_call0_call0_v133 : Ref sig .tc := ⟨.hbm, 194, rfl⟩
abbrev main_call0_call0_call0_v134 : Ref sig .tc := ⟨.hbm, 195, rfl⟩
abbrev main_call0_call0_call0_v135 : Ref sig .tc := ⟨.hbm, 196, rfl⟩
abbrev main_call0_call0_call0_v136 : Ref sig .tc := ⟨.hbm, 197, rfl⟩
abbrev main_call0_call0_call0_v137 : Ref sig .tc := ⟨.hbm, 198, rfl⟩
abbrev main_call0_call0_call0_v138 : Ref sig .tc := ⟨.hbm, 199, rfl⟩
abbrev main_call0_call0_call0_v139 : Ref sig .tc := ⟨.hbm, 200, rfl⟩
abbrev main_call0_call0_call0_c_35 : Ref sig .tc := ⟨.hbm, 201, rfl⟩
abbrev main_call0_call0_call0_v140 : Ref sig .tc := ⟨.hbm, 202, rfl⟩
abbrev main_call0_call0_call0_v141 : Ref sig .tc := ⟨.hbm, 203, rfl⟩
abbrev main_call0_call0_call0_v142 : Ref sig .tc := ⟨.hbm, 204, rfl⟩
abbrev main_call0_call0_call0_c_36 : Ref sig .tc := ⟨.hbm, 205, rfl⟩
abbrev main_call0_call0_call0_v143 : Ref sig .tc := ⟨.hbm, 206, rfl⟩
abbrev main_call0_call0_call0_v144 : Ref sig .tc := ⟨.hbm, 207, rfl⟩
abbrev main_call0_call0_call0_c_37 : Ref sig .tc := ⟨.hbm, 208, rfl⟩
abbrev main_call0_call0_call0_v145 : Ref sig .tc := ⟨.hbm, 209, rfl⟩
abbrev main_call0_call0_call0_v146 : Ref sig .tc := ⟨.hbm, 210, rfl⟩
abbrev main_call0_call0_call0_v147 : Ref sig .tc := ⟨.hbm, 211, rfl⟩
abbrev main_call0_call0_call0_v148 : Ref sig .tc := ⟨.hbm, 212, rfl⟩
abbrev main_call0_call0_call0_v149 : Ref sig .tc := ⟨.hbm, 213, rfl⟩
abbrev main_call0_call0_call0_c_38 : Ref sig .tc := ⟨.hbm, 214, rfl⟩
abbrev main_call0_call0_call0_v150 : Ref sig .tc := ⟨.hbm, 215, rfl⟩
abbrev main_call0_call0_call0_v151 : Ref sig .tc := ⟨.hbm, 216, rfl⟩
abbrev main_call0_call0_call0_c_39 : Ref sig .tc := ⟨.hbm, 217, rfl⟩
abbrev main_call0_call0_call0_v152 : Ref sig .tc := ⟨.hbm, 218, rfl⟩
abbrev main_call0_call0_call0_v153 : Ref sig .tc := ⟨.hbm, 219, rfl⟩
abbrev main_call0_call0_call0_v154 : Ref sig .tc := ⟨.hbm, 220, rfl⟩
abbrev main_call0_call0_call0_v155 : Ref sig .tc := ⟨.hbm, 221, rfl⟩
abbrev main_call0_call0_call0_v156 : Ref sig .tc := ⟨.hbm, 222, rfl⟩
abbrev main_call0_call0_call0_c_40 : Ref sig .tc := ⟨.hbm, 223, rfl⟩
abbrev main_call0_call0_call0_v157 : Ref sig .tc := ⟨.hbm, 224, rfl⟩
abbrev main_call0_call0_call0_v158 : Ref sig .tc := ⟨.hbm, 225, rfl⟩
abbrev main_call0_call0_call0_c_41 : Ref sig .tc := ⟨.hbm, 226, rfl⟩
abbrev main_call0_call0_call0_v159 : Ref sig .tc := ⟨.hbm, 227, rfl⟩
abbrev main_call0_call0_call0_v160 : Ref sig .tc := ⟨.hbm, 228, rfl⟩
abbrev main_call0_call0_call0_v161 : Ref sig .tc := ⟨.hbm, 229, rfl⟩
abbrev main_call0_call0_call0_v162 : Ref sig .tc := ⟨.hbm, 230, rfl⟩
abbrev main_call0_call0_call0_v163 : Ref sig .tc := ⟨.hbm, 231, rfl⟩
abbrev main_call0_call0_call0_c_42 : Ref sig .tc := ⟨.hbm, 232, rfl⟩
abbrev main_call0_call0_call0_v164 : Ref sig .tc := ⟨.hbm, 233, rfl⟩
abbrev main_call0_call0_call0_v165 : Ref sig .tc := ⟨.hbm, 234, rfl⟩
abbrev main_call0_call0_call0_c_43 : Ref sig .tc := ⟨.hbm, 235, rfl⟩
abbrev main_call0_call0_call0_v166 : Ref sig .tc := ⟨.hbm, 236, rfl⟩
abbrev main_call0_call0_call0_v167 : Ref sig .tc := ⟨.hbm, 237, rfl⟩
abbrev main_call0_call0_call0_v168 : Ref sig .tc := ⟨.hbm, 238, rfl⟩
abbrev main_call0_call0_call0_v169 : Ref sig .tc := ⟨.hbm, 239, rfl⟩
abbrev main_call0_call0_call0_v170 : Ref sig .tc := ⟨.hbm, 240, rfl⟩
abbrev main_call0_call0_v11_0 : Ref sig .tc := ⟨.hbm, 241, rfl⟩
abbrev main_call0_call0_call0_v172 : Ref sig .tc := ⟨.hbm, 242, rfl⟩
abbrev main_call0_call0_call0_v173 : Ref sig .tc := ⟨.hbm, 243, rfl⟩
abbrev main_call0_call0_call0_c_44 : Ref sig .tc := ⟨.hbm, 244, rfl⟩
abbrev main_call0_call0_call0_v174 : Ref sig .tc := ⟨.hbm, 245, rfl⟩
abbrev main_call0_call0_v11_1 : Ref sig .tc := ⟨.hbm, 246, rfl⟩
abbrev main_call0_call0_v12 : Ref sig .tc := ⟨.hbm, 247, rfl⟩
abbrev main_call0_call0_v13 : Ref sig .tc := ⟨.hbm, 248, rfl⟩
abbrev main_call0_v0 : Ref sig .tc := ⟨.hbm, 249, rfl⟩
abbrev main_call0_v1 : Ref sig .tc := ⟨.hbm, 250, rfl⟩
abbrev main_call0_v2 : Ref sig .tc := ⟨.hbm, 251, rfl⟩
abbrev main_call0_v3 : Ref sig .tc := ⟨.hbm, 252, rfl⟩
abbrev main_call0_v4 : Ref sig .tc := ⟨.hbm, 253, rfl⟩
abbrev main_call0_v5 : Ref sig .tc := ⟨.hbm, 254, rfl⟩
abbrev main_call0_v6 : Ref sig .tc := ⟨.hbm, 255, rfl⟩
abbrev main_call0_v7 : Ref sig .tc := ⟨.hbm, 256, rfl⟩
abbrev main_call0_v8 : Ref sig .tc := ⟨.hbm, 257, rfl⟩
abbrev main_call0_v9 : Ref sig .tc := ⟨.hbm, 258, rfl⟩
abbrev main_call0_c : Ref sig .tc := ⟨.hbm, 259, rfl⟩
abbrev main_call0_v10 : Ref sig .tc := ⟨.hbm, 260, rfl⟩
abbrev main_call0_v11 : Ref sig .tc := ⟨.hbm, 261, rfl⟩
abbrev main_call0_c_0 : Ref sig .tc := ⟨.hbm, 262, rfl⟩
abbrev main_call0_v12 : Ref sig .tc := ⟨.hbm, 263, rfl⟩
abbrev main_call0_v13 : Ref sig .tc := ⟨.hbm, 264, rfl⟩
abbrev main_call0_v14 : Ref sig .tc := ⟨.hbm, 265, rfl⟩
abbrev main_call0_v15 : Ref sig .tc := ⟨.hbm, 266, rfl⟩
abbrev main_call0_call1_v0 : Ref sig .tc := ⟨.hbm, 267, rfl⟩
abbrev main_call0_call1_c : Ref sig .tc := ⟨.hbm, 268, rfl⟩
abbrev main_call0_call1_v1 : Ref sig .tc := ⟨.hbm, 269, rfl⟩
abbrev main_call0_call1_v2 : Ref sig .tc := ⟨.hbm, 270, rfl⟩
abbrev main_call0_call1_v3 : Ref sig .tc := ⟨.hbm, 271, rfl⟩
abbrev main_call0_call1_v4 : Ref sig .tc := ⟨.hbm, 272, rfl⟩
abbrev main_call0_call1_v5 : Ref sig .tc := ⟨.hbm, 273, rfl⟩
abbrev main_call0_call1_v6 : Ref sig .tc := ⟨.hbm, 274, rfl⟩
abbrev main_call0_call1_c_0 : Ref sig .tc := ⟨.hbm, 275, rfl⟩
abbrev main_call0_call1_v7 : Ref sig .tc := ⟨.hbm, 276, rfl⟩
abbrev main_call0_call1_v8 : Ref sig .tc := ⟨.hbm, 277, rfl⟩
abbrev main_call0_call1_c_1 : Ref sig .tc := ⟨.hbm, 278, rfl⟩
abbrev main_call0_call1_v9 : Ref sig .tc := ⟨.hbm, 279, rfl⟩
abbrev main_call0_call1_v10 : Ref sig .tc := ⟨.hbm, 280, rfl⟩
abbrev main_call0_call1_v11 : Ref sig .tc := ⟨.hbm, 281, rfl⟩
abbrev main_call0_call1_v12 : Ref sig .tc := ⟨.hbm, 282, rfl⟩
abbrev main_call0_call1_v13 : Ref sig .tc := ⟨.hbm, 283, rfl⟩
abbrev main_call0_call1_c_2 : Ref sig .tc := ⟨.hbm, 284, rfl⟩
abbrev main_call0_call1_v14 : Ref sig .tc := ⟨.hbm, 285, rfl⟩
abbrev main_call0_call1_v15 : Ref sig .tc := ⟨.hbm, 286, rfl⟩
abbrev main_call0_call1_c_3 : Ref sig .tc := ⟨.hbm, 287, rfl⟩
abbrev main_call0_call1_v16 : Ref sig .tc := ⟨.hbm, 288, rfl⟩
abbrev main_call0_call1_v17 : Ref sig .tc := ⟨.hbm, 289, rfl⟩
abbrev main_call0_call1_v18 : Ref sig .tc := ⟨.hbm, 290, rfl⟩
abbrev main_call0_call1_v19 : Ref sig .tc := ⟨.hbm, 291, rfl⟩
abbrev main_call0_call1_v20 : Ref sig .tc := ⟨.hbm, 292, rfl⟩
abbrev main_call0_call1_c_4 : Ref sig .tc := ⟨.hbm, 293, rfl⟩
abbrev main_call0_call1_v21 : Ref sig .tc := ⟨.hbm, 294, rfl⟩
abbrev main_call0_call1_v22 : Ref sig .tc := ⟨.hbm, 295, rfl⟩
abbrev main_call0_call1_c_5 : Ref sig .tc := ⟨.hbm, 296, rfl⟩
abbrev main_call0_call1_v23 : Ref sig .tc := ⟨.hbm, 297, rfl⟩
abbrev main_call0_call1_v24 : Ref sig .tc := ⟨.hbm, 298, rfl⟩
abbrev main_call0_call1_v25 : Ref sig .tc := ⟨.hbm, 299, rfl⟩
abbrev main_call0_call1_v26 : Ref sig .tc := ⟨.hbm, 300, rfl⟩
abbrev main_call0_call1_v27 : Ref sig .tc := ⟨.hbm, 301, rfl⟩
abbrev main_call0_call1_c_6 : Ref sig .tc := ⟨.hbm, 302, rfl⟩
abbrev main_call0_call1_v28 : Ref sig .tc := ⟨.hbm, 303, rfl⟩
abbrev main_call0_call1_v29 : Ref sig .tc := ⟨.hbm, 304, rfl⟩
abbrev main_call0_call1_c_7 : Ref sig .tc := ⟨.hbm, 305, rfl⟩
abbrev main_call0_call1_v30 : Ref sig .tc := ⟨.hbm, 306, rfl⟩
abbrev main_call0_call1_v31 : Ref sig .tc := ⟨.hbm, 307, rfl⟩
abbrev main_call0_call1_v32 : Ref sig .tc := ⟨.hbm, 308, rfl⟩
abbrev main_call0_call1_v33 : Ref sig .tc := ⟨.hbm, 309, rfl⟩
abbrev main_call0_call1_v34 : Ref sig .tc := ⟨.hbm, 310, rfl⟩
abbrev main_call0_call1_v35 : Ref sig .tc := ⟨.hbm, 311, rfl⟩
abbrev main_call0_call1_v36 : Ref sig .tc := ⟨.hbm, 312, rfl⟩
abbrev main_call0_call1_v37 : Ref sig .tc := ⟨.hbm, 313, rfl⟩
abbrev main_call0_call1_c_8 : Ref sig .tc := ⟨.hbm, 314, rfl⟩
abbrev main_call0_call1_v38 : Ref sig .tc := ⟨.hbm, 315, rfl⟩
abbrev main_call0_call1_v39 : Ref sig .tc := ⟨.hbm, 316, rfl⟩
abbrev main_call0_call1_v40 : Ref sig .tc := ⟨.hbm, 317, rfl⟩
abbrev main_call0_call1_c_9 : Ref sig .tc := ⟨.hbm, 318, rfl⟩
abbrev main_call0_call1_v41 : Ref sig .tc := ⟨.hbm, 319, rfl⟩
abbrev main_call0_call1_v42 : Ref sig .tc := ⟨.hbm, 320, rfl⟩
abbrev main_call0_call1_c_10 : Ref sig .tc := ⟨.hbm, 321, rfl⟩
abbrev main_call0_call1_v43 : Ref sig .tc := ⟨.hbm, 322, rfl⟩
abbrev main_call0_call1_v44 : Ref sig .tc := ⟨.hbm, 323, rfl⟩
abbrev main_call0_call1_v45 : Ref sig .tc := ⟨.hbm, 324, rfl⟩
abbrev main_call0_call1_v46 : Ref sig .tc := ⟨.hbm, 325, rfl⟩
abbrev main_call0_call1_v47 : Ref sig .tc := ⟨.hbm, 326, rfl⟩
abbrev main_call0_call1_c_11 : Ref sig .tc := ⟨.hbm, 327, rfl⟩
abbrev main_call0_call1_v48 : Ref sig .tc := ⟨.hbm, 328, rfl⟩
abbrev main_call0_call1_v49 : Ref sig .tc := ⟨.hbm, 329, rfl⟩
abbrev main_call0_call1_c_12 : Ref sig .tc := ⟨.hbm, 330, rfl⟩
abbrev main_call0_call1_v50 : Ref sig .tc := ⟨.hbm, 331, rfl⟩
abbrev main_call0_call1_v51 : Ref sig .tc := ⟨.hbm, 332, rfl⟩
abbrev main_call0_call1_v52 : Ref sig .tc := ⟨.hbm, 333, rfl⟩
abbrev main_call0_call1_v53 : Ref sig .tc := ⟨.hbm, 334, rfl⟩
abbrev main_call0_call1_v54 : Ref sig .tc := ⟨.hbm, 335, rfl⟩
abbrev main_call0_call1_c_13 : Ref sig .tc := ⟨.hbm, 336, rfl⟩
abbrev main_call0_call1_v55 : Ref sig .tc := ⟨.hbm, 337, rfl⟩
abbrev main_call0_call1_v56 : Ref sig .tc := ⟨.hbm, 338, rfl⟩
abbrev main_call0_call1_c_14 : Ref sig .tc := ⟨.hbm, 339, rfl⟩
abbrev main_call0_call1_v57 : Ref sig .tc := ⟨.hbm, 340, rfl⟩
abbrev main_call0_call1_v58 : Ref sig .tc := ⟨.hbm, 341, rfl⟩
abbrev main_call0_call1_v59 : Ref sig .tc := ⟨.hbm, 342, rfl⟩
abbrev main_call0_call1_v60 : Ref sig .tc := ⟨.hbm, 343, rfl⟩
abbrev main_call0_call1_v61 : Ref sig .tc := ⟨.hbm, 344, rfl⟩
abbrev main_call0_call1_c_15 : Ref sig .tc := ⟨.hbm, 345, rfl⟩
abbrev main_call0_call1_v62 : Ref sig .tc := ⟨.hbm, 346, rfl⟩
abbrev main_call0_call1_v63 : Ref sig .tc := ⟨.hbm, 347, rfl⟩
abbrev main_call0_call1_c_16 : Ref sig .tc := ⟨.hbm, 348, rfl⟩
abbrev main_call0_call1_v64 : Ref sig .tc := ⟨.hbm, 349, rfl⟩
abbrev main_call0_call1_v65 : Ref sig .tc := ⟨.hbm, 350, rfl⟩
abbrev main_call0_call1_v66 : Ref sig .tc := ⟨.hbm, 351, rfl⟩
abbrev main_call0_call1_v67 : Ref sig .tc := ⟨.hbm, 352, rfl⟩
abbrev main_call0_call1_v68 : Ref sig .tc := ⟨.hbm, 353, rfl⟩
abbrev main_call0_call1_v69 : Ref sig .tc := ⟨.hbm, 354, rfl⟩
abbrev main_call0_call1_v70 : Ref sig .tc := ⟨.hbm, 355, rfl⟩
abbrev main_call0_call1_v71 : Ref sig .tc := ⟨.hbm, 356, rfl⟩
abbrev main_call0_call1_c_17 : Ref sig .tc := ⟨.hbm, 357, rfl⟩
abbrev main_call0_call1_v72 : Ref sig .tc := ⟨.hbm, 358, rfl⟩
abbrev main_call0_call1_v73 : Ref sig .tc := ⟨.hbm, 359, rfl⟩
abbrev main_call0_call1_v74 : Ref sig .tc := ⟨.hbm, 360, rfl⟩
abbrev main_call0_call1_c_18 : Ref sig .tc := ⟨.hbm, 361, rfl⟩
abbrev main_call0_call1_v75 : Ref sig .tc := ⟨.hbm, 362, rfl⟩
abbrev main_call0_call1_v76 : Ref sig .tc := ⟨.hbm, 363, rfl⟩
abbrev main_call0_call1_c_19 : Ref sig .tc := ⟨.hbm, 364, rfl⟩
abbrev main_call0_call1_v77 : Ref sig .tc := ⟨.hbm, 365, rfl⟩
abbrev main_call0_call1_v78 : Ref sig .tc := ⟨.hbm, 366, rfl⟩
abbrev main_call0_call1_v79 : Ref sig .tc := ⟨.hbm, 367, rfl⟩
abbrev main_call0_call1_v80 : Ref sig .tc := ⟨.hbm, 368, rfl⟩
abbrev main_call0_call1_v81 : Ref sig .tc := ⟨.hbm, 369, rfl⟩
abbrev main_call0_call1_c_20 : Ref sig .tc := ⟨.hbm, 370, rfl⟩
abbrev main_call0_call1_v82 : Ref sig .tc := ⟨.hbm, 371, rfl⟩
abbrev main_call0_call1_v83 : Ref sig .tc := ⟨.hbm, 372, rfl⟩
abbrev main_call0_call1_c_21 : Ref sig .tc := ⟨.hbm, 373, rfl⟩
abbrev main_call0_call1_v84 : Ref sig .tc := ⟨.hbm, 374, rfl⟩
abbrev main_call0_call1_v85 : Ref sig .tc := ⟨.hbm, 375, rfl⟩
abbrev main_call0_call1_v86 : Ref sig .tc := ⟨.hbm, 376, rfl⟩
abbrev main_call0_call1_v87 : Ref sig .tc := ⟨.hbm, 377, rfl⟩
abbrev main_call0_call1_v88 : Ref sig .tc := ⟨.hbm, 378, rfl⟩
abbrev main_call0_call1_c_22 : Ref sig .tc := ⟨.hbm, 379, rfl⟩
abbrev main_call0_call1_v89 : Ref sig .tc := ⟨.hbm, 380, rfl⟩
abbrev main_call0_call1_v90 : Ref sig .tc := ⟨.hbm, 381, rfl⟩
abbrev main_call0_call1_c_23 : Ref sig .tc := ⟨.hbm, 382, rfl⟩
abbrev main_call0_call1_v91 : Ref sig .tc := ⟨.hbm, 383, rfl⟩
abbrev main_call0_call1_v92 : Ref sig .tc := ⟨.hbm, 384, rfl⟩
abbrev main_call0_call1_v93 : Ref sig .tc := ⟨.hbm, 385, rfl⟩
abbrev main_call0_call1_v94 : Ref sig .tc := ⟨.hbm, 386, rfl⟩
abbrev main_call0_call1_v95 : Ref sig .tc := ⟨.hbm, 387, rfl⟩
abbrev main_call0_call1_c_24 : Ref sig .tc := ⟨.hbm, 388, rfl⟩
abbrev main_call0_call1_v96 : Ref sig .tc := ⟨.hbm, 389, rfl⟩
abbrev main_call0_call1_v97 : Ref sig .tc := ⟨.hbm, 390, rfl⟩
abbrev main_call0_call1_c_25 : Ref sig .tc := ⟨.hbm, 391, rfl⟩
abbrev main_call0_call1_v98 : Ref sig .tc := ⟨.hbm, 392, rfl⟩
abbrev main_call0_call1_v99 : Ref sig .tc := ⟨.hbm, 393, rfl⟩
abbrev main_call0_call1_v100 : Ref sig .tc := ⟨.hbm, 394, rfl⟩
abbrev main_call0_call1_v101 : Ref sig .tc := ⟨.hbm, 395, rfl⟩
abbrev main_call0_call1_v102 : Ref sig .tc := ⟨.hbm, 396, rfl⟩
abbrev main_call0_call1_v103 : Ref sig .tc := ⟨.hbm, 397, rfl⟩
abbrev main_call0_call1_v104 : Ref sig .tc := ⟨.hbm, 398, rfl⟩
abbrev main_call0_call1_v105 : Ref sig .tc := ⟨.hbm, 399, rfl⟩
abbrev main_call0_call1_c_26 : Ref sig .tc := ⟨.hbm, 400, rfl⟩
abbrev main_call0_call1_v106 : Ref sig .tc := ⟨.hbm, 401, rfl⟩
abbrev main_call0_call1_v107 : Ref sig .tc := ⟨.hbm, 402, rfl⟩
abbrev main_call0_call1_v108 : Ref sig .tc := ⟨.hbm, 403, rfl⟩
abbrev main_call0_call1_c_27 : Ref sig .tc := ⟨.hbm, 404, rfl⟩
abbrev main_call0_call1_v109 : Ref sig .tc := ⟨.hbm, 405, rfl⟩
abbrev main_call0_call1_v110 : Ref sig .tc := ⟨.hbm, 406, rfl⟩
abbrev main_call0_call1_c_28 : Ref sig .tc := ⟨.hbm, 407, rfl⟩
abbrev main_call0_call1_v111 : Ref sig .tc := ⟨.hbm, 408, rfl⟩
abbrev main_call0_call1_v112 : Ref sig .tc := ⟨.hbm, 409, rfl⟩
abbrev main_call0_call1_v113 : Ref sig .tc := ⟨.hbm, 410, rfl⟩
abbrev main_call0_call1_v114 : Ref sig .tc := ⟨.hbm, 411, rfl⟩
abbrev main_call0_call1_v115 : Ref sig .tc := ⟨.hbm, 412, rfl⟩
abbrev main_call0_call1_c_29 : Ref sig .tc := ⟨.hbm, 413, rfl⟩
abbrev main_call0_call1_v116 : Ref sig .tc := ⟨.hbm, 414, rfl⟩
abbrev main_call0_call1_v117 : Ref sig .tc := ⟨.hbm, 415, rfl⟩
abbrev main_call0_call1_c_30 : Ref sig .tc := ⟨.hbm, 416, rfl⟩
abbrev main_call0_call1_v118 : Ref sig .tc := ⟨.hbm, 417, rfl⟩
abbrev main_call0_call1_v119 : Ref sig .tc := ⟨.hbm, 418, rfl⟩
abbrev main_call0_call1_v120 : Ref sig .tc := ⟨.hbm, 419, rfl⟩
abbrev main_call0_call1_v121 : Ref sig .tc := ⟨.hbm, 420, rfl⟩
abbrev main_call0_call1_v122 : Ref sig .tc := ⟨.hbm, 421, rfl⟩
abbrev main_call0_call1_c_31 : Ref sig .tc := ⟨.hbm, 422, rfl⟩
abbrev main_call0_call1_v123 : Ref sig .tc := ⟨.hbm, 423, rfl⟩
abbrev main_call0_call1_v124 : Ref sig .tc := ⟨.hbm, 424, rfl⟩
abbrev main_call0_call1_c_32 : Ref sig .tc := ⟨.hbm, 425, rfl⟩
abbrev main_call0_call1_v125 : Ref sig .tc := ⟨.hbm, 426, rfl⟩
abbrev main_call0_call1_v126 : Ref sig .tc := ⟨.hbm, 427, rfl⟩
abbrev main_call0_call1_v127 : Ref sig .tc := ⟨.hbm, 428, rfl⟩
abbrev main_call0_call1_v128 : Ref sig .tc := ⟨.hbm, 429, rfl⟩
abbrev main_call0_call1_v129 : Ref sig .tc := ⟨.hbm, 430, rfl⟩
abbrev main_call0_call1_c_33 : Ref sig .tc := ⟨.hbm, 431, rfl⟩
abbrev main_call0_call1_v130 : Ref sig .tc := ⟨.hbm, 432, rfl⟩
abbrev main_call0_call1_v131 : Ref sig .tc := ⟨.hbm, 433, rfl⟩
abbrev main_call0_call1_c_34 : Ref sig .tc := ⟨.hbm, 434, rfl⟩
abbrev main_call0_call1_v132 : Ref sig .tc := ⟨.hbm, 435, rfl⟩
abbrev main_call0_call1_v133 : Ref sig .tc := ⟨.hbm, 436, rfl⟩
abbrev main_call0_call1_v134 : Ref sig .tc := ⟨.hbm, 437, rfl⟩
abbrev main_call0_call1_v135 : Ref sig .tc := ⟨.hbm, 438, rfl⟩
abbrev main_call0_call1_v136 : Ref sig .tc := ⟨.hbm, 439, rfl⟩
abbrev main_call0_call1_v137 : Ref sig .tc := ⟨.hbm, 440, rfl⟩
abbrev main_call0_call1_v138 : Ref sig .tc := ⟨.hbm, 441, rfl⟩
abbrev main_call0_call1_v139 : Ref sig .tc := ⟨.hbm, 442, rfl⟩
abbrev main_call0_call1_c_35 : Ref sig .tc := ⟨.hbm, 443, rfl⟩
abbrev main_call0_call1_v140 : Ref sig .tc := ⟨.hbm, 444, rfl⟩
abbrev main_call0_call1_v141 : Ref sig .tc := ⟨.hbm, 445, rfl⟩
abbrev main_call0_call1_v142 : Ref sig .tc := ⟨.hbm, 446, rfl⟩
abbrev main_call0_call1_c_36 : Ref sig .tc := ⟨.hbm, 447, rfl⟩
abbrev main_call0_call1_v143 : Ref sig .tc := ⟨.hbm, 448, rfl⟩
abbrev main_call0_call1_v144 : Ref sig .tc := ⟨.hbm, 449, rfl⟩
abbrev main_call0_call1_c_37 : Ref sig .tc := ⟨.hbm, 450, rfl⟩
abbrev main_call0_call1_v145 : Ref sig .tc := ⟨.hbm, 451, rfl⟩
abbrev main_call0_call1_v146 : Ref sig .tc := ⟨.hbm, 452, rfl⟩
abbrev main_call0_call1_v147 : Ref sig .tc := ⟨.hbm, 453, rfl⟩
abbrev main_call0_call1_v148 : Ref sig .tc := ⟨.hbm, 454, rfl⟩
abbrev main_call0_call1_v149 : Ref sig .tc := ⟨.hbm, 455, rfl⟩
abbrev main_call0_call1_c_38 : Ref sig .tc := ⟨.hbm, 456, rfl⟩
abbrev main_call0_call1_v150 : Ref sig .tc := ⟨.hbm, 457, rfl⟩
abbrev main_call0_call1_v151 : Ref sig .tc := ⟨.hbm, 458, rfl⟩
abbrev main_call0_call1_c_39 : Ref sig .tc := ⟨.hbm, 459, rfl⟩
abbrev main_call0_call1_v152 : Ref sig .tc := ⟨.hbm, 460, rfl⟩
abbrev main_call0_call1_v153 : Ref sig .tc := ⟨.hbm, 461, rfl⟩
abbrev main_call0_call1_v154 : Ref sig .tc := ⟨.hbm, 462, rfl⟩
abbrev main_call0_call1_v155 : Ref sig .tc := ⟨.hbm, 463, rfl⟩
abbrev main_call0_call1_v156 : Ref sig .tc := ⟨.hbm, 464, rfl⟩
abbrev main_call0_call1_c_40 : Ref sig .tc := ⟨.hbm, 465, rfl⟩
abbrev main_call0_call1_v157 : Ref sig .tc := ⟨.hbm, 466, rfl⟩
abbrev main_call0_call1_v158 : Ref sig .tc := ⟨.hbm, 467, rfl⟩
abbrev main_call0_call1_c_41 : Ref sig .tc := ⟨.hbm, 468, rfl⟩
abbrev main_call0_call1_v159 : Ref sig .tc := ⟨.hbm, 469, rfl⟩
abbrev main_call0_call1_v160 : Ref sig .tc := ⟨.hbm, 470, rfl⟩
abbrev main_call0_call1_v161 : Ref sig .tc := ⟨.hbm, 471, rfl⟩
abbrev main_call0_call1_v162 : Ref sig .tc := ⟨.hbm, 472, rfl⟩
abbrev main_call0_call1_v163 : Ref sig .tc := ⟨.hbm, 473, rfl⟩
abbrev main_call0_call1_c_42 : Ref sig .tc := ⟨.hbm, 474, rfl⟩
abbrev main_call0_call1_v164 : Ref sig .tc := ⟨.hbm, 475, rfl⟩
abbrev main_call0_call1_v165 : Ref sig .tc := ⟨.hbm, 476, rfl⟩
abbrev main_call0_call1_c_43 : Ref sig .tc := ⟨.hbm, 477, rfl⟩
abbrev main_call0_call1_v166 : Ref sig .tc := ⟨.hbm, 478, rfl⟩
abbrev main_call0_call1_v167 : Ref sig .tc := ⟨.hbm, 479, rfl⟩
abbrev main_call0_call1_v168 : Ref sig .tc := ⟨.hbm, 480, rfl⟩
abbrev main_call0_call1_v169 : Ref sig .tc := ⟨.hbm, 481, rfl⟩
abbrev main_call0_call1_v170 : Ref sig .tc := ⟨.hbm, 482, rfl⟩
abbrev main_call0_v16_0 : Ref sig .tc := ⟨.hbm, 483, rfl⟩
abbrev main_call0_call1_v172 : Ref sig .tc := ⟨.hbm, 484, rfl⟩
abbrev main_call0_call1_v173 : Ref sig .tc := ⟨.hbm, 485, rfl⟩
abbrev main_call0_call1_c_44 : Ref sig .tc := ⟨.hbm, 486, rfl⟩
abbrev main_call0_call1_v174 : Ref sig .tc := ⟨.hbm, 487, rfl⟩
abbrev main_call0_v16_1 : Ref sig .tc := ⟨.hbm, 488, rfl⟩
abbrev main_call0_v17 : Ref sig .tc := ⟨.hbm, 489, rfl⟩
abbrev main_call0_v18_0 : Ref sig .tc := ⟨.hbm, 490, rfl⟩
abbrev main_v8 : Ref sig .tc := ⟨.hbm, 491, rfl⟩
abbrev main_c_2 : Ref sig .tc := ⟨.hbm, 492, rfl⟩
abbrev main_v9 : Ref sig .tc := ⟨.hbm, 493, rfl⟩
abbrev main_v10 : Ref sig .tc := ⟨.hbm, 494, rfl⟩
abbrev main_c_3 : Ref sig .tc := ⟨.hbm, 495, rfl⟩
abbrev main_v11 : Ref sig .tc := ⟨.hbm, 496, rfl⟩
abbrev main_v12 : Ref sig .tc := ⟨.hbm, 497, rfl⟩
abbrev main_v13 : Ref sig .tc := ⟨.hbm, 498, rfl⟩
abbrev main_v14 : Ref sig .tc := ⟨.hbm, 499, rfl⟩
abbrev main_v15 : Ref sig .tc := ⟨.hbm, 500, rfl⟩

abbrev nD : Nat := 1
abbrev τ : Topo := Topo.v7x

variable {F : FTy → Type} [FloatOps F]
-- ==== Proof.Setup.lean ====
/-
  What every module of this proof shares: the launch's names (configuration, handshake element, payload algebra),
  the kernel's memrefs at a symbolic vector subcore, and the two functions the kernel computes, a row gathered from
  the three coordinate planes of one batch and the whole flat result.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.WritesUnit
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds library beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ)

/-! ## The arrays and the memrefs -/

abbrev aLoc (d : Dev nD) : Loc nD τ sig := (SparseCore.T d).loc main_arg0
abbrev bLoc (d : Dev nD) : Loc nD τ sig := (SparseCore.T d).loc main_arg1
abbrev iLoc (d : Dev nD) : Loc nD τ sig := (SparseCore.T d).loc main_v0
abbrev pLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

abbrev cV (L : grid0.Coords) : Fin τ.nSC := (L 0).castLE hcore0
abbrev jV (L : grid0.Coords) : Fin τ.nSub := (L 1).castLE hsub0
/-- The vector subcore at grid coordinates `L` of device `d`. -/
abbrev thr (d : Dev nD) (L : grid0.Coords) : Thread nD τ := SparseCore.V d (cV L) (jV L)

/-- The kernel's number for the subcore at `L`. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-! ## The values -/

/-- Position `k` of a flat array of `n` elements. -/
abbrev at1 {n : ℕ} (k : ℕ) (h : k < n) : (⟨1, ![n]⟩ : Shape).Idx := fun a => ⟨k, by rw [Subsingleton.elim a 0]; exact h⟩

theorem at1_of {n : ℕ} (p : (⟨1, ![n]⟩ : Shape).Idx) {k : ℕ} (h : k < n) (e : (p 0).val = k) : p = at1 k h := by
  funext a; apply Fin.ext; rw [Subsingleton.elim a 0]; exact e

/-- What one row's gather leaves: coordinate `p / 4096` of the point that the index row names at `p % 4096`. -/
def gath {α : Type} (f5 : S12288.Idx → α) (f6 : S4096.Idx → BitVec 32) : S12288.Idx → α := fun p =>
  f5 (at1 (((p 0).val / 4096 * 4096 + (f6 (at1 ((p 0).val % 4096) (Nat.mod_lt _ (by decide)))).toNat) % 12288) (Nat.mod_lt _ (by decide)))

end Cert.Proof.Sc

end
-- ==== Proof.Loop.lean ====
/-
  The counted loop of one gathered row: sixteen indices a trip, each used three times, once in each coordinate plane.
-/
module

public import proofs.«01_k».proof.Proof.Setup

@[expose] public section

set_option maxRecDepth 16384

noncomputable section

namespace Cert.Proof.Sc

open Cert.KernelIdeal Cert.KernelIdeal.Gen

open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "pW" => (Memref.whole Cert.KernelIdeal.main_v1_scv : Memref Cert.KernelIdeal.sig Kind.scVector Space.hbm Cert.KernelIdeal.S49152 EltTy.f32)
local notation "iW" => (Memref.whole Cert.KernelIdeal.main_v0_scv : Memref Cert.KernelIdeal.sig Kind.scVector Space.hbm Cert.KernelIdeal.S524288 EltTy.i32)
local notation "oW" => (Memref.whole Cert.KernelIdeal.main_v2_scv : Memref Cert.KernelIdeal.sig Kind.scVector Space.hbm Cert.KernelIdeal.S1572864 EltTy.f32)
local notation "sP" => (Memref.whole Cert.KernelIdeal.cc0_scratch0 : Memref Cert.KernelIdeal.sig Kind.scVector Space.vmem Cert.KernelIdeal.S12288 EltTy.f32)
local notation "sI" => (Memref.whole Cert.KernelIdeal.cc0_scratch1 : Memref Cert.KernelIdeal.sig Kind.scVector Space.vmem Cert.KernelIdeal.S4096 EltTy.i32)
local notation "sG" => (Memref.whole Cert.KernelIdeal.cc0_scratch2 : Memref Cert.KernelIdeal.sig Kind.scVector Space.vmem Cert.KernelIdeal.S12288 EltTy.f32)

variable (d : Dev nD) (L : grid0.Coords)

/-- The scratch after `t` trips: gathered wherever an earlier trip stored. -/
def Done (f5 : S12288.Idx → Elt F .f32) (f6 : S4096.Idx → BitVec 32) (t : ℕ) (g : S12288.Idx → Elt F .f32) : Prop :=
  ∀ p : S12288.Idx, (p 0).val % 4096 < 16 * t → g p = gath f5 f6 p

def inv (f5 : S12288.Idx → Elt F .f32) (f6 : S4096.Idx → BitVec 32) (t : Nat) (_ : BitVec 32) : sProp 𝕄 :=
  iprop(((sP).view.loc (thr d L) ↦{fullShare} f5) ∗ ((sI).view.loc (thr d L) ↦{fullShare} f6)
    ∗ ∃ g, ⌜Done f5 f6 t g⌝ ∗ ((sG).view.loc (thr d L) ↦{fullShare} g))

/-! ## The index vector of a trip and what it names -/

/-- The vector `w` moved to coordinate plane `c` (`c` 0, 1 or 2): each lane a position of the scratch. -/
theorem plane_toNat {w : IVec S16 32} (hw : ∀ x, (w x).toNat < 4096) (c : BitVec 32) (hc : c.toNat ≤ 8192) (x : S16.Idx) :
    (addi w (broadcast S16 c) x).toNat = (w x).toNat + c.toNat := by
  show (w x + c).toNat = _
  have := hw x
  rw [BitVec.toNat_add, Nat.mod_eq_of_lt (by omega)]

theorem plane_lt {w : IVec S16 32} (hw : ∀ x, (w x).toNat < 4096) (c : BitVec 32) (hc : c.toNat ≤ 8192) :
    ∀ (a : Fin 1) (x : S16.Idx), ((![addi w (broadcast S16 c)] : Fin 1 → IVec S16 32) a x).toNat < S12288.size a := by
  intro a x
  obtain rfl : a = 0 := Subsingleton.elim _ _
  show (addi w (broadcast S16 c) x).toNat < 12288
  rw [plane_toNat hw c hc]
  have := hw x
  omega

/-- The sixteen index words a trip loads. -/
abbrev words (f6 : S4096.Idx → BitVec 32) (k : Fin k0_t1_loop.trips) : IVec S16 32 :=
  (sI).view.readAt (Elt F) (Rect.unit (s := S4096) (k0_off3 k) S16.size (k0_off3_inb k)).toLoadRect f6

theorem trips_lt (k : Fin k0_t1_loop.trips) : k.val < 256 := Nat.lt_of_lt_of_le k.isLt k0_t1_abs.2.1

theorem lane_lt (x : S16.Idx) : (x 0).val < 16 := (x 0).isLt

theorem words_apply (f6 : S4096.Idx → BitVec 32) (k : Fin k0_t1_loop.trips) (x : S16.Idx) :
    words (F := F) f6 k x = f6 (at1 (16 * k.val + (x 0).val) (by have := trips_lt k; have := lane_lt x; omega)) := by
  show f6 _ = _
  refine congrArg f6 (at1_of _ _ ?_)
  show k0_off3 k 0 + 1 * (x 0).val = _
  rw [k0_off3_eq]
  show 16 * k.val + 1 * (x 0).val = _
  omega

theorem words_lt (f6 : S4096.Idx → BitVec 32) (hf : ∀ j, (f6 j).toNat < 4096) (k : Fin k0_t1_loop.trips) (x : S16.Idx) :
    (words (F := F) f6 k x).toNat < 4096 := by
  rw [words_apply]; exact hf _

/-- What one indexed load of a trip returns at lane `x`. -/
theorem load_apply (f5 : S12288.Idx → Elt F .f32) (f6 : S4096.Idx → BitVec 32) (hf : ∀ j, (f6 j).toNat < 4096) (k : Fin k0_t1_loop.trips)
    (c : ℕ) (hc : c < 3) (h : ∀ a x, ((![addi (words (F := F) f6 k) (broadcast S16 (BitVec.ofNat 32 (c * 4096)))] : Fin 1 → IVec S16 32) a x).toNat < S12288.size a)
    (x : S16.Idx) (p : S12288.Idx) (hp : (p 0).val = c * 4096 + 16 * k.val + (x 0).val) :
    loadIdx (((sP).access (.whole S12288)).read (Elt F) f5) ![addi (words (F := F) f6 k) (broadcast S16 (BitVec.ofNat 32 (c * 4096)))] h x
      = gath f5 f6 p := by
  show f5 _ = f5 _
  refine congrArg f5 (at1_of _ _ ?_)
  have hk := trips_lt k
  have hx := lane_lt x
  have hcn : (BitVec.ofNat 32 (c * 4096)).toNat = c * 4096 := by
    rw [BitVec.toNat_ofNat, Nat.mod_eq_of_lt (by omega)]
  show 0 + 1 * (addi (words (F := F) f6 k) (broadcast S16 (BitVec.ofNat 32 (c * 4096))) x).toNat = _
  rw [plane_toNat (words_lt f6 hf k) _ (by rw [hcn]; omega), hcn, words_apply]
  have hdiv : (p 0).val / 4096 = c := by omega
  have hmod : (p 0).val % 4096 = 16 * k.val + (x 0).val := by omega
  have e : (at1 ((p 0).val % 4096) (Nat.mod_lt _ (by decide)) : S4096.Idx) = at1 (16 * k.val + (x 0).val) (by omega) := at1_of _ _ hmod
  rw [e, hdiv]
  have := hf (at1 (16 * k.val + (x 0).val) (by omega))
  rw [Nat.mod_eq_of_lt (by omega)]
  omega

theorem of_read (g : S12288.Idx → Elt F .f32) (p : S12288.Idx) {a : Elt F .f32} (h : (sG).view.read (Elt F) g p = a) : g p = a := h

/-- One trip: three rectangles stored, each gathered where it lies, the rest as it was. -/
theorem done_step {f5 : S12288.Idx → Elt F .f32} {f6 : S4096.Idx → BitVec 32} {k : Fin k0_t1_loop.trips} {g : S12288.Idx → Elt F .f32}
    (hg : Done f5 f6 k.val g) {w4 w5 w6 : S16.Idx → Elt F .f32}
    (h4 : ∀ (x : S16.Idx) (p : S12288.Idx), (p 0).val = 0 * 4096 + 16 * k.val + (x 0).val → w4 x = gath f5 f6 p)
    (h5 : ∀ (x : S16.Idx) (p : S12288.Idx), (p 0).val = 1 * 4096 + 16 * k.val + (x 0).val → w5 x = gath f5 f6 p)
    (h6 : ∀ (x : S16.Idx) (p : S12288.Idx), (p 0).val = 2 * 4096 + 16 * k.val + (x 0).val → w6 x = gath f5 f6 p) :
    Done f5 f6 (k.val + 1) ((sG).view.writes (Elt F) g
      [⟨Rect.unit (s := S12288) (k0_off6 k) S16.size (k0_off6_inb k), w6⟩, ⟨Rect.unit (s := S12288) (k0_off5 k) S16.size (k0_off5_inb k), w5⟩,
        ⟨Rect.unit (s := S12288) (k0_off4 k) S16.size (k0_off4_inb k), w4⟩]) := by
  intro p hp
  have hk := trips_lt k
  have hp0 : (p 0).val < 12288 := (p 0).isLt
  refine of_read _ p ?_
  rw [View.read_writes_cons_unit (sG).view g (k0_off6_inb k) w6 _ p (k0_off6_eq k)]
  split
  · rename_i h
    have h0 := h 0
    refine h6 _ p ?_
    show (p 0).val = 2 * 4096 + 16 * k.val + ((p 0).val - (16 * k.val + 8192))
    change 16 * k.val + 8192 ≤ (p 0).val ∧ (p 0).val < 16 * k.val + 8192 + 16 at h0
    omega
  rename_i n6
  rw [View.read_writes_cons_unit (sG).view g (k0_off5_inb k) w5 _ p (k0_off5_eq k)]
  split
  · rename_i h
    have h0 := h 0
    refine h5 _ p ?_
    show (p 0).val = 1 * 4096 + 16 * k.val + ((p 0).val - (16 * k.val + 4096))
    change 16 * k.val + 4096 ≤ (p 0).val ∧ (p 0).val < 16 * k.val + 4096 + 16 at h0
    omega
  rename_i n5
  rw [View.read_writes_cons_unit (sG).view g (k0_off4_inb k) w4 _ p (k0_off4_eq k)]
  split
  · rename_i h
    have h0 := h 0
    refine h4 _ p ?_
    show (p 0).val = 0 * 4096 + 16 * k.val + ((p 0).val - 16 * k.val)
    change 16 * k.val ≤ (p 0).val ∧ (p 0).val < 16 * k.val + 16 at h0
    omega
  rename_i n4
  have m6 : ¬ (16 * k.val + 8192 ≤ (p 0).val ∧ (p 0).val < 16 * k.val + 8192 + 16) := fun h => n6 fun (a : Fin 1) => by
    obtain rfl : a = 0 := Subsingleton.elim _ _
    exact h
  have m5 : ¬ (16 * k.val + 4096 ≤ (p 0).val ∧ (p 0).val < 16 * k.val + 4096 + 16) := fun h => n5 fun (a : Fin 1) => by
    obtain rfl : a = 0 := Subsingleton.elim _ _
    exact h
  have m4 : ¬ (16 * k.val ≤ (p 0).val ∧ (p 0).val < 16 * k.val + 16) := fun h => n4 fun (a : Fin 1) => by
    obtain rfl : a = 0 := Subsingleton.elim _ _
    exact h
  show g p = _
  refine hg p ?_
  omega

theorem loop1 (f5 : S12288.Idx → Elt F .f32) (f6 : S4096.Idx → BitVec 32) (hf : ∀ j, (f6 j).toNat < 4096) :
    iprop(((sP).view.loc (thr d L) ↦{fullShare} f5) ∗ ((sI).view.loc (thr d L) ↦{fullShare} f6)
        ∗ ∃ g, ((sG).view.loc (thr d L) ↦{fullShare} g))
      ⊢ (wp frame (wpE (defs₀ (F := F)) 𝒱₀ (thr d L) none) Set.univ
          (Scf.Loop.for k0_t1_loop k0_t1_ok 0#32 (k0_t1_body (F := F) L pW (Memref.isWhole_whole _) iW (Memref.isWhole_whole _) oW (Memref.isWhole_whole _)
            sP (Memref.isWhole_whole _) sI (Memref.isWhole_whole _) sG (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18 cc0_scoped19))
          fun _ => iprop(((sP).view.loc (thr d L) ↦{fullShare} f5) ∗ ((sI).view.loc (thr d L) ↦{fullShare} f6)
            ∗ ((sG).view.loc (thr d L) ↦{fullShare} gath f5 f6)) : sProp 𝕄) := by
  iintro ⟨H5, H6, %g, H7⟩
  sl_for (inv d L f5 f6) $$ [H5 H6 H7]
  case region =>
    intro k x
    unfold inv
    iintro ⟨H5, H6, %g, %hg, H7⟩
    have hw := words_lt (F := F) f6 hf k
    sl_exec
    rw [wp_assume_of _ _ _ _ (by exact plane_lt hw 0#32 (by decide))]
    iapply (SparseCore.wp_vectorLoadIdx 𝒱₀ (thr d L) none Set.univ (base := sP) (S := Finset.univ) (q := fullShare) (Finset.subset_univ _)) $$ H5; iintro H5
    sl_exec
    rw [wp_assume_of _ _ _ _ (by exact plane_lt hw 4096#32 (by decide))]
    iapply (SparseCore.wp_vectorLoadIdx 𝒱₀ (thr d L) none Set.univ (base := sP) (S := Finset.univ) (q := fullShare) (Finset.subset_univ _)) $$ H5; iintro H5
    sl_exec
    rw [wp_assume_of _ _ _ _ (by exact plane_lt hw 8192#32 (by decide))]
    iapply (SparseCore.wp_vectorLoadIdx 𝒱₀ (thr d L) none Set.univ (base := sP) (S := Finset.univ) (q := fullShare) (Finset.subset_univ _)) $$ H5; iintro H5
    sl_exec
    sl_step
    isplitl [H5]; · iexact H5
    isplitl [H6]; · iexact H6
    iexists _
    isplitr
    rotate_left
    · iexact H7
    · ipureintro
      exact done_step hg (fun x p hp => load_apply f5 f6 hf k 0 (by decide) _ x p hp) (fun x p hp => load_apply f5 f6 hf k 1 (by decide) _ x p hp)
        (fun x p hp => load_apply f5 f6 hf k 2 (by decide) _ x p hp)
  · unfold inv
    isplitl [H5 H6 H7]
    · isplitl [H5]; · iexact H5
      isplitl [H6]; · iexact H6
      iexists g
      isplitr
      · ipureintro; intro p hp; omega
      · iexact H7
    iintro %x ⟨H5, H6, %g', %hg, H7⟩
    isplitl [H5]; · iexact H5
    isplitl [H6]; · iexact H6
    have e : g' = gath f5 f6 := funext fun p => hg p (by
      rw [show Scf.trips k0_t1_loop.lb k0_t1_loop.ub k0_t1_loop.st = 256 by decide]
      exact Nat.mod_lt _ (by decide))
    rw [e]; iexact H7

end Cert.Proof.Sc

end
-- ==== Proof.Tile.lean ====
/-
  One vector subcore's task: four gathered rows, each fetched, gathered in its scratch and written out in three pieces.
-/
module

public import proofs.«01_k».proof.Proof.Loop

@[expose] public section

set_option maxRecDepth 16384

noncomputable section

namespace Cert.Proof.Sc

open Cert.KernelIdeal Cert.KernelIdeal.Gen

open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

local notation "𝕄" => MT nD τ sig (HIx 1) (Elt F) ℕ UU ℕ
local notation "pW" => (Memref.whole Cert.KernelIdeal.main_v1_scv : Memref Cert.KernelIdeal.sig Kind.scVector Space.hbm Cert.KernelIdeal.S49152 EltTy.f32)
local notation "iW" => (Memref.whole Cert.KernelIdeal.main_v0_scv : Memref Cert.KernelIdeal.sig Kind.scVector Space.hbm Cert.KernelIdeal.S524288 EltTy.i32)
local notation "oW" => (Memref.whole Cert.KernelIdeal.main_v2_scv : Memref Cert.KernelIdeal.sig Kind.scVector Space.hbm Cert.KernelIdeal.S1572864 EltTy.f32)
local notation "sP" => (Memref.whole Cert.KernelIdeal.cc0_scratch0 : Memref Cert.KernelIdeal.sig Kind.scVector Space.vmem Cert.KernelIdeal.S12288 EltTy.f32)
local notation "sI" => (Memref.whole Cert.KernelIdeal.cc0_scratch1 : Memref Cert.KernelIdeal.sig Kind.scVector Space.vmem Cert.KernelIdeal.S4096 EltTy.i32)
local notation "sG" => (Memref.whole Cert.KernelIdeal.cc0_scratch2 : Memref Cert.KernelIdeal.sig Kind.scVector Space.vmem Cert.KernelIdeal.S12288 EltTy.f32)

variable (d : Dev nD) (L : grid0.Coords)

/-! ## The pieces of the result -/

/-- Piece `n` of the result: 4096 consecutive elements, one coordinate of one gathered row. -/
def oSet (n : ℕ) : Finset S1572864.Idx := Finset.univ.filter fun p => (p 0).val / 4096 = n

abbrev oP (r : Fin 4) (c : Fin 3) : Memref sig .scVector .hbm S4096 .f32 :=
  (oW).slice (Rect.unit (s := S1572864) (k0_off7 L (BitVec.ofNat 32 r.val) (BitVec.ofNat 32 c.val)) S4096.size (k0_off7_inb L r c)) (fun _ => rfl)

/-- The number of a task's piece. -/
def pn (r : Fin 4) (c : Fin 3) : ℕ := (4 * wid L + r.val) * 3 + c.val

theorem oP_set (r : Fin 4) (c : Fin 3) : (oP L r c).view.set = oSet (pn L r c) := by
  have h0 : (L 0).val < 2 := (L 0).isLt
  have h1 : (L 1).val < 16 := (L 1).isLt
  have hc : c.val < 3 := c.isLt
  ext p
  show p ∈ ((View.whole (main_v2_scv : Ref sig .scVector)).slice _).set ↔ _
  rw [View.set_slice_whole, Rect.mem_set_unit, k0_off7_eq]
  unfold oSet pn wid
  rw [Finset.mem_filter]
  have e : ∀ n : ℕ, (∀ a : Fin 1, (![n] : Fin 1 → ℕ) a ≤ (p a).val ∧ (p a).val < (![n] : Fin 1 → ℕ) a + S4096.size a) ↔ n ≤ (p 0).val ∧ (p 0).val < n + 4096 :=
    fun n => ⟨fun h => h 0, fun h a => by obtain rfl : a = 0 := Subsingleton.elim _ _; exact h⟩
  refine (e _).trans ⟨fun h => ⟨Finset.mem_univ _, ?_⟩, fun h => ?_⟩
  · omega
  · have := h.2
    omega

/-- The three memrefs of the kernel's arguments as a subcore's thread names them: each the host's array. -/
theorem pts_p (q : PosShare TreeShare) (f : Buf (Elt F) (pLoc d)) :
    ((pW).view.loc (thr d L) ↦{q} f : sProp 𝕄) = pLoc d ↦{q} f := rfl
theorem pts_i (q : PosShare TreeShare) (f : Buf (Elt F) (iLoc d)) :
    ((iW).view.loc (thr d L) ↦{q} f : sProp 𝕄) = iLoc d ↦{q} f := rfl
theorem pts_o (r : Fin 4) (c : Fin 3) (f : Buf (Elt F) (oLoc d)) :
    ((oP L r c).view.loc (thr d L) ↦[(oP L r c).view.set]{fullShare} f : sProp 𝕄) = oLoc d ↦[oSet (pn L r c)]{fullShare} f := by
  rw [oP_set]

/-! ## What the fetches bring -/

/-- The points of row `r`'s batch, and row `r`'s indices. -/
def rowP (fp : S49152.Idx → Elt F .f32) (r : Fin 4) : S12288.Idx → Elt F .f32 := fun j =>
  fp (at1 (((4 * wid L + r.val) / 32 * 12288 + (j 0).val) % 49152) (Nat.mod_lt _ (by decide)))
def rowI (fi : S524288.Idx → BitVec 32) (r : Fin 4) : S4096.Idx → BitVec 32 := fun j =>
  fi (at1 (((4 * wid L + r.val) * 4096 + (j 0).val) % 524288) (Nat.mod_lt _ (by decide)))

theorem off1_eq : ∀ i : grid0.Coords, ∀ (r : Fin 4), k0_off1 i (BitVec.ofNat 32 r.val) = ![(4 * (2 * (i 1).val + (i 0).val) + r.val) / 32 * 12288] := by
  decide +kernel

abbrev pS (r : Fin 4) : Memref sig .scVector .hbm S12288 .f32 :=
  (pW).slice (Rect.unit (s := S49152) (k0_off1 L (BitVec.ofNat 32 r.val)) S12288.size (k0_off1_inb L r)) (fun _ => rfl)
abbrev iS (r : Fin 4) : Memref sig .scVector .hbm S4096 .i32 :=
  (iW).slice (Rect.unit (s := S524288) (k0_off2 L (BitVec.ofNat 32 r.val)) S4096.size (k0_off2_inb L r)) (fun _ => rfl)

theorem read_p (fp : S49152.Idx → Elt F .f32) (r : Fin 4) : (pS L r).view.read (Elt F) fp = rowP L fp r := by
  funext j
  have hw := wid_lt L
  have hj : (j 0).val < 12288 := (j 0).isLt
  show fp _ = fp _
  refine congrArg fp (at1_of _ _ ?_)
  show k0_off1 L (BitVec.ofNat 32 r.val) 0 + 1 * (j 0).val = _
  rw [off1_eq]
  show (4 * wid L + r.val) / 32 * 12288 + 1 * (j 0).val = _
  omega

theorem read_i (fi : S524288.Idx → BitVec 32) (r : Fin 4) : (iS L r).view.read (Elt F) fi = rowI L fi r := by
  funext j
  have hw := wid_lt L
  have hj : (j 0).val < 4096 := (j 0).isLt
  show fi _ = fi _
  refine congrArg fi (at1_of _ _ ?_)
  show k0_off2 L (BitVec.ofNat 32 r.val) 0 + 1 * (j 0).val = _
  rw [k0_off2_eq]
  show 32768 * (L 1).val + 16384 * (L 0).val + 4096 * r.val + 1 * (j 0).val = _
  unfold wid at *
  omega

theorem rowI_lt {fi : S524288.Idx → BitVec 32} (hf : ∀ j, (fi j).toNat < 4096) (r : Fin 4) (j : S4096.Idx) : (rowI L fi r j).toNat < 4096 := hf _

theorem fetch_p (fp : S49152.Idx → Elt F .f32) (r : Fin 4) (g : Buf (Elt F) ((sP).view.loc (thr d L)))
    (x : S12288.Idx → Elt F .f32) (hx : x = rowP L fp r) :
    ((sP).view.loc (thr d L) ↦{fullShare} View.write (Elt F) (sP).view g x Finset.univ : sProp 𝕄)
      = (sP).view.loc (thr d L) ↦{fullShare} rowP L fp r :=
  congrArg (fun f => ((sP).view.loc (thr d L) ↦{fullShare} f : sProp 𝕄)) ((View.write_whole_univ _ _ _).trans hx)
theorem fetch_i (fi : S524288.Idx → BitVec 32) (r : Fin 4) (g : Buf (Elt F) ((sI).view.loc (thr d L)))
    (x : S4096.Idx → BitVec 32) (hx : x = rowI L fi r) :
    ((sI).view.loc (thr d L) ↦{fullShare} View.write (Elt F) (sI).view g x Finset.univ : sProp 𝕄)
      = (sI).view.loc (thr d L) ↦{fullShare} rowI L fi r :=
  congrArg (fun f => ((sI).view.loc (thr d L) ↦{fullShare} f : sProp 𝕄)) ((View.write_whole_univ _ _ _).trans hx)

/-- What the whole result holds: entry `p` lies in batch `p / 393216`, coordinate `p / 4096 % 3`, and its neighbour's index is that of its row. -/
def G (fp : S49152.Idx → Elt F .f32) (fi : S524288.Idx → BitVec 32) : S1572864.Idx → Elt F .f32 := fun p =>
  fp (at1 (((p 0).val / 393216 * 12288 + (p 0).val / 4096 % 3 * 4096
      + (fi (at1 (((p 0).val / 12288 * 4096 + (p 0).val % 4096) % 524288) (Nat.mod_lt _ (by decide)))).toNat) % 49152) (Nat.mod_lt _ (by decide)))

theorem read_g (f : S12288.Idx → Elt F .f32) (o : ℕ) (ho : o + 4096 ≤ 12288)
    (h : ∀ a : Fin S12288.rank, (![o] : Fin 1 → ℕ) a + S4096.size a ≤ S12288.size a) :
    ((sG).slice (Rect.unit (s := S12288) ![o] S4096.size h) (fun _ => rfl)).view.read (Elt F) f
      = fun j : S4096.Idx => f (at1 (o + (j 0).val) (by have : (j 0).val < 4096 := (j 0).isLt; omega)) := by
  funext j
  show f _ = f _
  refine congrArg f (at1_of _ _ ?_)
  show o + 1 * (j 0).val = _
  omega

theorem of_read_eq {κ : Kind} {sp : Space} {s : Shape} {e : EltTy} {Val : EltTy → Type} (v : View sig κ sp s e) {f g : v.ty.Contents Val}
    (h : v.read Val f = v.read Val g) : ∀ p ∈ v.set, f p = g p := by
  intro p hp
  obtain ⟨j, -, rfl⟩ := Finset.mem_map.mp hp
  have hj := congrFun h j
  rw [View.read_apply, View.read_apply] at hj
  exact (cast_inj _).mp hj

theorem read_one {κ : Kind} {sp : Space} {s : Shape} {e : EltTy} {Val : EltTy → Type} (v : View sig κ sp s e) (f : v.ty.Contents Val) (x : s.Idx → Val e) :
    v.read Val (v.writes Val f [⟨Rect.whole s, x⟩]) = x := by
  funext j
  exact View.read_writes_cons_hit_of_coords v f (Rect.whole s) x [] j j fun a => by show (j a).val = 0 + 1 * (j a).val; omega

theorem emb_out (r : Fin 4) (c : Fin 3) (j : S4096.Idx) :
    ((oP L r c).view.emb j (0 : Fin 1)).val = (4 * wid L + r.val) * 12288 + c.val * 4096 + (j 0).val := by
  show k0_off7 L (BitVec.ofNat 32 r.val) (BitVec.ofNat 32 c.val) 0 + 1 * (j 0).val = _
  rw [k0_off7_eq]
  show 98304 * (L 1).val + 49152 * (L 0).val + 12288 * r.val + 4096 * c.val + 1 * (j 0).val = _
  unfold wid
  omega

theorem gath_eq (fp : S49152.Idx → Elt F .f32) (fi : S524288.Idx → BitVec 32) (hf : ∀ j, (fi j).toNat < 4096) (r : Fin 4) (c : Fin 3)
    (j : S4096.Idx) (p : S1572864.Idx) (hP : (p (0 : Fin 1)).val = (4 * wid L + r.val) * 12288 + c.val * 4096 + (j 0).val) :
    gath (rowP L fp r) (rowI L fi r) (at1 (c.val * 4096 + (j 0).val) (by have : (j 0).val < 4096 := (j 0).isLt; have := c.isLt; omega))
      = G fp fi p := by
  have hj : (j 0).val < 4096 := (j 0).isLt
  have hw := wid_lt L
  have hr := r.isLt
  have hc := c.isLt
  have hi : (at1 (((p 0).val / 12288 * 4096 + (p 0).val % 4096) % 524288) (Nat.mod_lt _ (by decide)) : S524288.Idx)
      = at1 (((4 * wid L + r.val) * 4096 + (c.val * 4096 + (j 0).val) % 4096) % 524288) (Nat.mod_lt _ (by decide)) :=
    at1_of _ _ (by show ((p 0).val / 12288 * 4096 + (p 0).val % 4096) % 524288 = _; rw [hP]; omega)
  have hk := hf (at1 (((4 * wid L + r.val) * 4096 + (c.val * 4096 + (j 0).val) % 4096) % 524288) (Nat.mod_lt _ (by decide)))
  have hn := congrArg (fun q => (fi q).toNat) hi
  simp only at hn
  refine congrArg fp (at1_of _ _ ?_)
  show ((4 * wid L + r.val) / 32 * 12288 + ((c.val * 4096 + (j 0).val) / 4096 * 4096
    + (fi (at1 (((4 * wid L + r.val) * 4096 + (c.val * 4096 + (j 0).val) % 4096) % 524288) (Nat.mod_lt _ (by decide)))).toNat) % 12288) % 49152
    = ((p 0).val / 393216 * 12288 + (p 0).val / 4096 % 3 * 4096
      + (fi (at1 (((p 0).val / 12288 * 4096 + (p 0).val % 4096) % 524288) (Nat.mod_lt _ (by decide)))).toNat) % 49152
  rw [hn]
  generalize (fi (at1 (((4 * wid L + r.val) * 4096 + (c.val * 4096 + (j 0).val) % 4096) % 524288) (Nat.mod_lt _ (by decide)))).toNat = n at hk ⊢
  rw [hP]
  omega

/-- A row's piece as its copy out leaves it holds the result there. -/
theorem out_eq (fp : S49152.Idx → Elt F .f32) (fi : S524288.Idx → BitVec 32) (hf : ∀ j, (fi j).toNat < 4096) (r : Fin 4) (c : Fin 3)
    (g : Buf (Elt F) (oLoc d)) (x : S4096.Idx → Elt F .f32)
    (hx : x = fun j : S4096.Idx => gath (rowP L fp r) (rowI L fi r)
      (at1 (c.val * 4096 + (j 0).val) (by have : (j 0).val < 4096 := (j 0).isLt; have := c.isLt; omega))) :
    ((oP L r c).view.loc (thr d L) ↦[(oP L r c).view.set]{fullShare} (oP L r c).view.writes (Elt F) g [⟨Rect.whole S4096, x⟩] : sProp 𝕄)
      = (oP L r c).view.loc (thr d L) ↦[(oP L r c).view.set]{fullShare} G fp fi := by
  refine pointsTo_congr (of_read_eq (Val := Elt F) (oP L r c).view ((read_one (oP L r c).view g x).trans ?_))
  rw [hx]
  funext j
  exact gath_eq L fp fi hf r c j _ (emb_out L r c j)

theorem ins {W W' : Waits sig (HIx 1)} {s : SemLoc sig} (h : ∀ p ∈ W', p ∈ W ∨ p.2 = none) : ∀ p ∈ insert (s, default) W', p ∈ W ∨ p.2 = none := by
  intro p hp
  rcases Finset.mem_insert.mp hp with rfl | hp
  · exact Or.inr rfl
  · exact h p hp

theorem loop2 (v35 : BitVec 32) (f5 : S12288.Idx → Elt F .f32) (f6 : S4096.Idx → BitVec 32) (hf : ∀ j, (f6 j).toNat < 4096) :
    iprop(((sP).view.loc (thr d L) ↦{fullShare} f5) ∗ ((sI).view.loc (thr d L) ↦{fullShare} f6)
        ∗ ∃ g, ((sG).view.loc (thr d L) ↦{fullShare} g))
      ⊢ (wp frame (wpE (defs₀ (F := F)) 𝒱₀ (thr d L) none) Set.univ
          (Scf.Loop.for k0_t2_loop k0_t2_ok 0#32 (k0_t2_body (F := F) L pW (Memref.isWhole_whole _) iW (Memref.isWhole_whole _) oW (Memref.isWhole_whole _)
            sP (Memref.isWhole_whole _) sI (Memref.isWhole_whole _) sG (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18 cc0_scoped19
            v35))
          fun _ => iprop(((sP).view.loc (thr d L) ↦{fullShare} f5) ∗ ((sI).view.loc (thr d L) ↦{fullShare} f6)
            ∗ ((sG).view.loc (thr d L) ↦{fullShare} gath f5 f6)) : sProp 𝕄) := loop1 d L f5 f6 hf

theorem loop3 (v69 c32 v70 v72 : BitVec 32) (f5 : S12288.Idx → Elt F .f32) (f6 : S4096.Idx → BitVec 32) (hf : ∀ j, (f6 j).toNat < 4096) :
    iprop(((sP).view.loc (thr d L) ↦{fullShare} f5) ∗ ((sI).view.loc (thr d L) ↦{fullShare} f6)
        ∗ ∃ g, ((sG).view.loc (thr d L) ↦{fullShare} g))
      ⊢ (wp frame (wpE (defs₀ (F := F)) 𝒱₀ (thr d L) none) Set.univ
          (Scf.Loop.for k0_t3_loop k0_t3_ok 0#32 (k0_t3_body (F := F) L pW (Memref.isWhole_whole _) iW (Memref.isWhole_whole _) oW (Memref.isWhole_whole _)
            sP (Memref.isWhole_whole _) sI (Memref.isWhole_whole _) sG (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18 cc0_scoped19
            v69 c32 v70 v72))
          fun _ => iprop(((sP).view.loc (thr d L) ↦{fullShare} f5) ∗ ((sI).view.loc (thr d L) ↦{fullShare} f6)
            ∗ ((sG).view.loc (thr d L) ↦{fullShare} gath f5 f6)) : sProp 𝕄) := loop1 d L f5 f6 hf

theorem loop4 (v102 c32 v103 v108 v110 : BitVec 32) (f5 : S12288.Idx → Elt F .f32) (f6 : S4096.Idx → BitVec 32) (hf : ∀ j, (f6 j).toNat < 4096) :
    iprop(((sP).view.loc (thr d L) ↦{fullShare} f5) ∗ ((sI).view.loc (thr d L) ↦{fullShare} f6)
        ∗ ∃ g, ((sG).view.loc (thr d L) ↦{fullShare} g))
      ⊢ (wp frame (wpE (defs₀ (F := F)) 𝒱₀ (thr d L) none) Set.univ
          (Scf.Loop.for k0_t4_loop k0_t4_ok 0#32 (k0_t4_body (F := F) L pW (Memref.isWhole_whole _) iW (Memref.isWhole_whole _) oW (Memref.isWhole_whole _)
            sP (Memref.isWhole_whole _) sI (Memref.isWhole_whole _) sG (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18 cc0_scoped19
            v102 c32 v103 v108 v110))
          fun _ => iprop(((sP).view.loc (thr d L) ↦{fullShare} f5) ∗ ((sI).view.loc (thr d L) ↦{fullShare} f6)
            ∗ ((sG).view.loc (thr d L) ↦{fullShare} gath f5 f6)) : sProp 𝕄) := loop1 d L f5 f6 hf

set_option maxHeartbeats 4000000 in
theorem body (q q' : PosShare TreeShare) (fp : S49152.Idx → Elt F .f32) (fi : S524288.Idx → BitVec 32) (fo : S1572864.Idx → Elt F .f32)
    (hf : ∀ j, (fi j).toNat < 4096) (O : CellTallies nD τ sig (HIx 1)) (W : Waits sig (HIx 1)) :
    iprop(Transfers.MayWaits (thr d L) (none : HIx 1) O
        ∗ ((pW).view.loc (thr d L) ↦{q} fp) ∗ ((iW).view.loc (thr d L) ↦{q'} fi)
        ∗ ((oP L 0 0).view.loc (thr d L) ↦[(oP L 0 0).view.set]{fullShare} fo)
        ∗ ((oP L 0 1).view.loc (thr d L) ↦[(oP L 0 1).view.set]{fullShare} fo)
        ∗ ((oP L 0 2).view.loc (thr d L) ↦[(oP L 0 2).view.set]{fullShare} fo)
        ∗ ((oP L 1 0).view.loc (thr d L) ↦[(oP L 1 0).view.set]{fullShare} fo)
        ∗ ((oP L 1 1).view.loc (thr d L) ↦[(oP L 1 1).view.set]{fullShare} fo)
        ∗ ((oP L 1 2).view.loc (thr d L) ↦[(oP L 1 2).view.set]{fullShare} fo)
        ∗ ((oP L 2 0).view.loc (thr d L) ↦[(oP L 2 0).view.set]{fullShare} fo)
        ∗ ((oP L 2 1).view.loc (thr d L) ↦[(oP L 2 1).view.set]{fullShare} fo)
        ∗ ((oP L 2 2).view.loc (thr d L) ↦[(oP L 2 2).view.set]{fullShare} fo)
        ∗ ((oP L 3 0).view.loc (thr d L) ↦[(oP L 3 0).view.set]{fullShare} fo)
        ∗ ((oP L 3 1).view.loc (thr d L) ↦[(oP L 3 1).view.set]{fullShare} fo)
        ∗ ((oP L 3 2).view.loc (thr d L) ↦[(oP L 3 2).view.set]{fullShare} fo)
        ∗ (∃ g, (sP).view.loc (thr d L) ↦{fullShare} g) ∗ (∃ g, (sI).view.loc (thr d L) ↦{fullShare} g)
        ∗ (∃ g, (sG).view.loc (thr d L) ↦{fullShare} g)
        ∗ semVal (thr d L, SemLoc.dma cc0_scoped0.sem) 0
        ∗ semVal (thr d L, SemLoc.dma cc0_scoped1.sem) 0
        ∗ semVal (thr d L, SemLoc.dma cc0_scoped2.sem) 0
        ∗ semVal (thr d L, SemLoc.dma cc0_scoped3.sem) 0
        ∗ semVal (thr d L, SemLoc.dma cc0_scoped4.sem) 0
        ∗ semVal (thr d L, SemLoc.dma cc0_scoped5.sem) 0
        ∗ semVal (thr d L, SemLoc.dma cc0_scoped6.sem) 0
        ∗ semVal (thr d L, SemLoc.dma cc0_scoped7.sem) 0
        ∗ semVal (thr d L, SemLoc.dma cc0_scoped8.sem) 0
        ∗ semVal (thr d L, SemLoc.dma cc0_scoped9.sem) 0
        ∗ semVal (thr d L, SemLoc.dma cc0_scoped10.sem) 0
        ∗ semVal (thr d L, SemLoc.dma cc0_scoped11.sem) 0
        ∗ semVal (thr d L, SemLoc.dma cc0_scoped12.sem) 0
        ∗ semVal (thr d L, SemLoc.dma cc0_scoped13.sem) 0
        ∗ semVal (thr d L, SemLoc.dma cc0_scoped14.sem) 0
        ∗ semVal (thr d L, SemLoc.dma cc0_scoped15.sem) 0
        ∗ semVal (thr d L, SemLoc.dma cc0_scoped16.sem) 0
        ∗ semVal (thr d L, SemLoc.dma cc0_scoped17.sem) 0
        ∗ semVal (thr d L, SemLoc.dma cc0_scoped18.sem) 0
        ∗ semVal (thr d L, SemLoc.dma cc0_scoped19.sem) 0
        ∗ owes (thr d L) O W)
      ⊢ (wp frame (wpE (defs₀ (F := F)) 𝒱₀ (thr d L) none) Set.univ
          (cc0_gk (F := F) L pW (Memref.isWhole_whole _) iW (Memref.isWhole_whole _) oW (Memref.isWhole_whole _)
            sP (Memref.isWhole_whole _) sI (Memref.isWhole_whole _) sG (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18 cc0_scoped19)
          fun _ => iprop(((pW).view.loc (thr d L) ↦{q} fp) ∗ ((iW).view.loc (thr d L) ↦{q'} fi)
        ∗ ((oP L 0 0).view.loc (thr d L) ↦[(oP L 0 0).view.set]{fullShare} G fp fi)
        ∗ ((oP L 0 1).view.loc (thr d L) ↦[(oP L 0 1).view.set]{fullShare} G fp fi)
        ∗ ((oP L 0 2).view.loc (thr d L) ↦[(oP L 0 2).view.set]{fullShare} G fp fi)
        ∗ ((oP L 1 0).view.loc (thr d L) ↦[(oP L 1 0).view.set]{fullShare} G fp fi)
        ∗ ((oP L 1 1).view.loc (thr d L) ↦[(oP L 1 1).view.set]{fullShare} G fp fi)
        ∗ ((oP L 1 2).view.loc (thr d L) ↦[(oP L 1 2).view.set]{fullShare} G fp fi)
        ∗ ((oP L 2 0).view.loc (thr d L) ↦[(oP L 2 0).view.set]{fullShare} G fp fi)
        ∗ ((oP L 2 1).view.loc (thr d L) ↦[(oP L 2 1).view.set]{fullShare} G fp fi)
        ∗ ((oP L 2 2).view.loc (thr d L) ↦[(oP L 2 2).view.set]{fullShare} G fp fi)
        ∗ ((oP L 3 0).view.loc (thr d L) ↦[(oP L 3 0).view.set]{fullShare} G fp fi)
        ∗ ((oP L 3 1).view.loc (thr d L) ↦[(oP L 3 1).view.set]{fullShare} G fp fi)
        ∗ ((oP L 3 2).view.loc (thr d L) ↦[(oP L 3 2).view.set]{fullShare} G fp fi)
        ∗ (∃ g, (sP).view.loc (thr d L) ↦{fullShare} g) ∗ (∃ g, (sI).view.loc (thr d L) ↦{fullShare} g)
        ∗ (∃ g, (sG).view.loc (thr d L) ↦{fullShare} g)
        ∗ semVal (thr d L, SemLoc.dma cc0_scoped0.sem) 0
        ∗ semVal (thr d L, SemLoc.dma cc0_scoped1.sem) 0
        ∗ semVal (thr d L, SemLoc.dma cc0_scoped2.sem) 0
        ∗ semVal (thr d L, SemLoc.dma cc0_scoped3.sem) 0
        ∗ semVal (thr d L, SemLoc.dma cc0_scoped4.sem) 0
        ∗ semVal (thr d L, SemLoc.dma cc0_scoped5.sem) 0
        ∗ semVal (thr d L, SemLoc.dma cc0_scoped6.sem) 0
        ∗ semVal (thr d L, SemLoc.dma cc0_scoped7.sem) 0
        ∗ semVal (thr d L, SemLoc.dma cc0_scoped8.sem) 0
        ∗ semVal (thr d L, SemLoc.dma cc0_scoped9.sem) 0
        ∗ semVal (thr d L, SemLoc.dma cc0_scoped10.sem) 0
        ∗ semVal (thr d L, SemLoc.dma cc0_scoped11.sem) 0
        ∗ semVal (thr d L, SemLoc.dma cc0_scoped12.sem) 0
        ∗ semVal (thr d L, SemLoc.dma cc0_scoped13.sem) 0
        ∗ semVal (thr d L, SemLoc.dma cc0_scoped14.sem) 0
        ∗ semVal (thr d L, SemLoc.dma cc0_scoped15.sem) 0
        ∗ semVal (thr d L, SemLoc.dma cc0_scoped16.sem) 0
        ∗ semVal (thr d L, SemLoc.dma cc0_scoped17.sem) 0
        ∗ semVal (thr d L, SemLoc.dma cc0_scoped18.sem) 0
        ∗ semVal (thr d L, SemLoc.dma cc0_scoped19.sem) 0
        ∗ ∃ W', ⌜∀ p ∈ W', p ∈ W ∨ p.2 = none⌝ ∗ owes (thr d L) O W') : sProp 𝕄) := by
  rw [cc0_gk_eq_skeleton]; unfold cc0_gk_skel
  rw [k0_part1_eq_skeleton, k0_part2_eq_skeleton, k0_part3_eq_skeleton, k0_part4_eq_skeleton, k0_part5_eq_skeleton, k0_part6_eq_skeleton, k0_part7_eq_skeleton]
  iintro ⟨Hmw, Hp, Hi, Ho00, Ho01, Ho02, Ho10, Ho11, Ho12, Ho20, Ho21, Ho22, Ho30, Ho31, Ho32, ⟨%g0, H5⟩, ⟨%g1, H6⟩, H7, Hs0, Hs1, Hs2, Hs3, Hs4, Hs5, Hs6, Hs7, Hs8, Hs9, Hs10, Hs11, Hs12, Hs13, Hs14, Hs15, Hs16, Hs17, Hs18, Hs19, HO⟩
  sl_exec
  ihave H5 := (Entails.of_eq (fetch_p d L fp 0 g0 (body.sl.dma0 L fp) (read_p L fp 0))) $$ H5
  ihave H6 := (Entails.of_eq (fetch_i d L fi 0 g1 (body.sl.dma0_1 (F := F) L fi) (read_i (F := F) L fi 0))) $$ H6
  rw [wp_bind]
  ihave Hl := (loop1 d L (rowP L fp 0) (rowI L fi 0) (rowI_lt L hf 0)) $$ [H5 H6 H7]
  · isplitl [H5]; · iexact H5
    isplitl [H6] <;> iassumption
  iapply (wp_wand _ _ _) $$ Hl
  iintro %_ ⟨H5, H6, H7⟩
  sl_exec
  ihave H5 := (Entails.of_eq (fetch_p d L fp 1 (rowP L fp 0) (body.sl.dma0_5 L fp) (read_p L fp 1))) $$ H5
  ihave H6 := (Entails.of_eq (fetch_i d L fi 1 (rowI L fi 0) (body.sl.dma0_6 (F := F) L fi) (read_i (F := F) L fi 1))) $$ H6
  ihave H7 := (exists_intro (Φ := fun g => iprop((sG).view.loc (thr d L) ↦{fullShare} g)) _) $$ H7
  rw [wp_bind]
  ihave Hl := (loop2 d L _ (rowP L fp 1) (rowI L fi 1) (rowI_lt L hf 1)) $$ [H5 H6 H7]
  · isplitl [H5]; · iexact H5
    isplitl [H6] <;> iassumption
  iapply (wp_wand _ _ _) $$ Hl
  iintro %_ ⟨H5, H6, H7⟩
  sl_exec
  ihave H5 := (Entails.of_eq (fetch_p d L fp 2 (rowP L fp 1) (body.sl.dma0_10 L fp) (read_p L fp 2))) $$ H5
  ihave H6 := (Entails.of_eq (fetch_i d L fi 2 (rowI L fi 1) (body.sl.dma0_11 (F := F) L fi) (read_i (F := F) L fi 2))) $$ H6
  ihave H7 := (exists_intro (Φ := fun g => iprop((sG).view.loc (thr d L) ↦{fullShare} g)) _) $$ H7
  rw [wp_bind]
  ihave Hl := (loop3 d L _ _ _ _ (rowP L fp 2) (rowI L fi 2) (rowI_lt L hf 2)) $$ [H5 H6 H7]
  · isplitl [H5]; · iexact H5
    isplitl [H6] <;> iassumption
  iapply (wp_wand _ _ _) $$ Hl
  iintro %_ ⟨H5, H6, H7⟩
  sl_exec
  ihave H5 := (Entails.of_eq (fetch_p d L fp 3 (rowP L fp 2) (body.sl.dma0_15 L fp) (read_p L fp 3))) $$ H5
  ihave H6 := (Entails.of_eq (fetch_i d L fi 3 (rowI L fi 2) (body.sl.dma0_16 (F := F) L fi) (read_i (F := F) L fi 3))) $$ H6
  ihave H7 := (exists_intro (Φ := fun g => iprop((sG).view.loc (thr d L) ↦{fullShare} g)) _) $$ H7
  rw [wp_bind]
  ihave Hl := (loop4 d L _ _ _ _ _ (rowP L fp 3) (rowI L fi 3) (rowI_lt L hf 3)) $$ [H5 H6 H7]
  · isplitl [H5]; · iexact H5
    isplitl [H6] <;> iassumption
  iapply (wp_wand _ _ _) $$ Hl
  iintro %_ ⟨H5, H6, H7⟩
  sl_exec
  ihave Ho00 := (Entails.of_eq (out_eq d L fp fi hf 0 0 _ (body.sl.dma0_2 d L fp fi) (read_g _ 0 (by decide) inb_S12288_S4096_0))) $$ Ho00
  ihave Ho01 := (Entails.of_eq (out_eq d L fp fi hf 0 1 _ (body.sl.dma0_3 d L fp fi) (read_g _ 4096 (by decide) inb_S12288_S4096_4096))) $$ Ho01
  ihave Ho02 := (Entails.of_eq (out_eq d L fp fi hf 0 2 _ (body.sl.dma0_4 d L fp fi) (read_g _ 8192 (by decide) inb_S12288_S4096_8192))) $$ Ho02
  ihave Ho10 := (Entails.of_eq (out_eq d L fp fi hf 1 0 _ (body.sl.dma0_7 d L fp fi) (read_g _ 0 (by decide) inb_S12288_S4096_0))) $$ Ho10
  ihave Ho11 := (Entails.of_eq (out_eq d L fp fi hf 1 1 _ (body.sl.dma0_8 d L fp fi) (read_g _ 4096 (by decide) inb_S12288_S4096_4096))) $$ Ho11
  ihave Ho12 := (Entails.of_eq (out_eq d L fp fi hf 1 2 _ (body.sl.dma0_9 d L fp fi) (read_g _ 8192 (by decide) inb_S12288_S4096_8192))) $$ Ho12
  ihave Ho20 := (Entails.of_eq (out_eq d L fp fi hf 2 0 _ (body.sl.dma0_12 d L fp fi) (read_g _ 0 (by decide) inb_S12288_S4096_0))) $$ Ho20
  ihave Ho21 := (Entails.of_eq (out_eq d L fp fi hf 2 1 _ (body.sl.dma0_13 d L fp fi) (read_g _ 4096 (by decide) inb_S12288_S4096_4096))) $$ Ho21
  ihave Ho22 := (Entails.of_eq (out_eq d L fp fi hf 2 2 _ (body.sl.dma0_14 d L fp fi) (read_g _ 8192 (by decide) inb_S12288_S4096_8192))) $$ Ho22
  ihave Ho30 := (Entails.of_eq (out_eq d L fp fi hf 3 0 _ (body.sl.dma0_17 d L fp fi) (read_g _ 0 (by decide) inb_S12288_S4096_0))) $$ Ho30
  ihave Ho31 := (Entails.of_eq (out_eq d L fp fi hf 3 1 _ (body.sl.dma0_18 d L fp fi) (read_g _ 4096 (by decide) inb_S12288_S4096_4096))) $$ Ho31
  ihave Ho32 := (Entails.of_eq (out_eq d L fp fi hf 3 2 _ (body.sl.dma0_19 d L fp fi) (read_g _ 8192 (by decide) inb_S12288_S4096_8192))) $$ Ho32
  sl_step
  isplitl [Hp]; · iexact Hp
  isplitl [Hi]; · iexact Hi
  isplitl [Ho00]; · iexact Ho00
  isplitl [Ho01]; · iexact Ho01
  isplitl [Ho02]; · iexact Ho02
  isplitl [Ho10]; · iexact Ho10
  isplitl [Ho11]; · iexact Ho11
  isplitl [Ho12]; · iexact Ho12
  isplitl [Ho20]; · iexact Ho20
  isplitl [Ho21]; · iexact Ho21
  isplitl [Ho22]; · iexact Ho22
  isplitl [Ho30]; · iexact Ho30
  isplitl [Ho31]; · iexact Ho31
  isplitl [Ho32]; · iexact Ho32
  isplitl [H5]; · iexists _; iexact H5
  isplitl [H6]; · iexists _; iexact H6
  isplitl [H7]; · iexists _; iexact H7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  iexists _; isplitr [HO]; swap
  · iexact HO
  · ipureintro
    iterate 20 refine ins ?_
    exact fun p hp => Or.inl hp

end Cert.Proof.Sc

end
-- ==== Proof.Task.lean ====
/-
  A vector subcore's task as the launch states it: its scoped semaphores and scratch buffers taken out of what the
  subcore holds, the twelve pieces of the result out of one separating conjunction, and all given back.
-/
module

public import proofs.«01_k».proof.Proof.Tile

@[expose] public section

set_option maxRecDepth 16384

noncomputable section

namespace Cert.Proof.Sc

open Cert.KernelIdeal Cert.KernelIdeal.Gen

open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type} [FloatOps F]

local notation "𝕄" => MT nD τ sig (HIx 1) (Elt F) ℕ UU ℕ
local notation "pW" => (Memref.whole Cert.KernelIdeal.main_v1_scv : Memref Cert.KernelIdeal.sig Kind.scVector Space.hbm Cert.KernelIdeal.S49152 EltTy.f32)
local notation "iW" => (Memref.whole Cert.KernelIdeal.main_v0_scv : Memref Cert.KernelIdeal.sig Kind.scVector Space.hbm Cert.KernelIdeal.S524288 EltTy.i32)
local notation "oW" => (Memref.whole Cert.KernelIdeal.main_v2_scv : Memref Cert.KernelIdeal.sig Kind.scVector Space.hbm Cert.KernelIdeal.S1572864 EltTy.f32)
local notation "sP" => (Memref.whole Cert.KernelIdeal.cc0_scratch0 : Memref Cert.KernelIdeal.sig Kind.scVector Space.vmem Cert.KernelIdeal.S12288 EltTy.f32)
local notation "sI" => (Memref.whole Cert.KernelIdeal.cc0_scratch1 : Memref Cert.KernelIdeal.sig Kind.scVector Space.vmem Cert.KernelIdeal.S4096 EltTy.i32)
local notation "sG" => (Memref.whole Cert.KernelIdeal.cc0_scratch2 : Memref Cert.KernelIdeal.sig Kind.scVector Space.vmem Cert.KernelIdeal.S12288 EltTy.f32)

variable (d : Dev nD) (L : grid0.Coords)

omit [FloatOps F] in
theorem fin_succ {n : ℕ} (f : Fin (n + 1) → sProp 𝕄) :
    bigSep Finset.univ f = iprop(f 0 ∗ bigSep Finset.univ fun k : Fin n => f k.succ) := by
  rw [Fin.univ_succ, Finset.cons_eq_insert, BI.bigSep_insert (by simp), BI.bigSep_map]
  rfl

omit [FloatOps F] in
theorem fin20 (f : Fin 20 → sProp 𝕄) :
    bigSep Finset.univ f = iprop(f 0 ∗ f 1 ∗ f 2 ∗ f 3 ∗ f 4 ∗ f 5 ∗ f 6 ∗ f 7 ∗ f 8 ∗ f 9 ∗ f 10 ∗ f 11 ∗ f 12 ∗ f 13 ∗ f 14 ∗ f 15 ∗ f 16 ∗ f 17 ∗ f 18 ∗ f 19) := by
  iterate 19 rw [fin_succ]
  rw [bigSep_univ_of_subsingleton (0 : Fin 1)]
  rfl

omit [FloatOps F] in
theorem fin12 (f : Fin 12 → sProp 𝕄) :
    bigSep Finset.univ f = iprop(f 0 ∗ f 1 ∗ f 2 ∗ f 3 ∗ f 4 ∗ f 5 ∗ f 6 ∗ f 7 ∗ f 8 ∗ f 9 ∗ f 10 ∗ f 11) := by
  iterate 11 rw [fin_succ]
  rw [bigSep_univ_of_subsingleton (0 : Fin 1)]
  rfl

omit [FloatOps F] in
/-- The twenty semaphores are among the subcore's own. -/
theorem ownSems0_V :
    (ownSems0 (thr d L) : sProp 𝕄)
      = iprop((bigSep Finset.univ fun k : Fin 20 => semVal ((thr d L, SemLoc.dma k) : GSem nD τ sig) 0)
          ∗ bigSep (ownCells (thr d L) \ (Finset.univ.image fun k : Fin 20 => ((thr d L, SemLoc.dma k) : GSem nD τ sig))) fun g => semVal g 0) := by
  unfold SparseCore.Cfg.ownSems0
  have hs : (Finset.univ.image fun k : Fin 20 => ((thr d L, SemLoc.dma k) : GSem nD τ sig)) ⊆ ownCells (thr d L) := by
    intro g hg
    obtain ⟨k, -, rfl⟩ := Finset.mem_image.mp hg
    refine mem_ownCells.mpr ⟨rfl, ?_⟩
    show (SemLoc.dma k : SemLoc sig).isScoped .scVector = true
    clear hg; revert k; decide
  rw [bigSep_sdiff_split hs, SparseCore.bigSep_image_of_injOn (fun a _ b _ e => SemLoc.dma.inj (Prod.mk.inj e).2)]
  rfl

omit [FloatOps F] in
/-- The three scratch buffers are among the subcore's own, at some contents. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- What subcore number `w` of the 32 holds of the arrays: a read share of the points and of the indices, and its twelve pieces of the result. -/
def tile (d : Dev nD) (w : ℕ) (fp : Buf (Elt F) (pLoc d)) (fi : Buf (Elt F) (iLoc d)) (fo : Buf (Elt F) (oLoc d)) : sProp 𝕄 :=
  iprop((pLoc d ↦{Transfers.shareTokN fullShare w} fp) ∗ (iLoc d ↦{Transfers.shareTokN fullShare w} fi)
    ∗ bigSep Finset.univ fun k : Fin 12 => oLoc d ↦[oSet (12 * w + k.val)]{fullShare} fo)

instance tile_storable (d : Dev nD) (w : ℕ) (fp : Buf (Elt F) (pLoc d)) (fi : Buf (Elt F) (iLoc d)) (fo : Buf (Elt F) (oLoc d)) :
    BI.Storable (upEmb : UEmb _ 𝕄) (tile d w fp fi fo) := by
  unfold tile; infer_instance

theorem piece_eq (r : Fin 4) (c : Fin 3) (k : Fin 12) (hk : k.val = 3 * r.val + c.val) (f : Buf (Elt F) (oLoc d)) :
    (oLoc d ↦[oSet (12 * wid L + k.val)]{fullShare} f : sProp 𝕄)
      = (oP L r c).view.loc (thr d L) ↦[(oP L r c).view.set]{fullShare} f := by
  rw [pts_o, show pn L r c = 12 * wid L + k.val by unfold pn; omega]

theorem tile_eq (fp : Buf (Elt F) (pLoc d)) (fi : Buf (Elt F) (iLoc d)) (fo : Buf (Elt F) (oLoc d)) :
    (tile d (wid L) fp fi fo : sProp 𝕄)
      = iprop(((pW).view.loc (thr d L) ↦{Transfers.shareTokN fullShare (wid L)} fp) ∗ ((iW).view.loc (thr d L) ↦{Transfers.shareTokN fullShare (wid L)} fi)
        ∗ ((oP L 0 0).view.loc (thr d L) ↦[(oP L 0 0).view.set]{fullShare} fo)
        ∗ ((oP L 0 1).view.loc (thr d L) ↦[(oP L 0 1).view.set]{fullShare} fo)
        ∗ ((oP L 0 2).view.loc (thr d L) ↦[(oP L 0 2).view.set]{fullShare} fo)
        ∗ ((oP L 1 0).view.loc (thr d L) ↦[(oP L 1 0).view.set]{fullShare} fo)
        ∗ ((oP L 1 1).view.loc (thr d L) ↦[(oP L 1 1).view.set]{fullShare} fo)
        ∗ ((oP L 1 2).view.loc (thr d L) ↦[(oP L 1 2).view.set]{fullShare} fo)
        ∗ ((oP L 2 0).view.loc (thr d L) ↦[(oP L 2 0).view.set]{fullShare} fo)
        ∗ ((oP L 2 1).view.loc (thr d L) ↦[(oP L 2 1).view.set]{fullShare} fo)
        ∗ ((oP L 2 2).view.loc (thr d L) ↦[(oP L 2 2).view.set]{fullShare} fo)
        ∗ ((oP L 3 0).view.loc (thr d L) ↦[(oP L 3 0).view.set]{fullShare} fo)
        ∗ ((oP L 3 1).view.loc (thr d L) ↦[(oP L 3 1).view.set]{fullShare} fo)
        ∗ ((oP L 3 2).view.loc (thr d L) ↦[(oP L 3 2).view.set]{fullShare} fo)) := by
  unfold tile
  rw [fin12, pts_p, pts_i]
  simp only [← piece_eq d L 0 0 0 rfl, ← piece_eq d L 0 1 1 rfl, ← piece_eq d L 0 2 2 rfl, ← piece_eq d L 1 0 3 rfl, ← piece_eq d L 1 1 4 rfl, ← piece_eq d L 1 2 5 rfl, ← piece_eq d L 2 0 6 rfl, ← piece_eq d L 2 1 7 rfl, ← piece_eq d L 2 2 8 rfl, ← piece_eq d L 3 0 9 rfl, ← piece_eq d L 3 1 10 rfl, ← piece_eq d L 3 2 11 rfl]

set_option maxHeartbeats 2000000 in
/-- The task on the subcore at `L`. -/
theorem tile_body (hF : (K (F := F)).Facts) (fp : Buf (Elt F) (pLoc d)) (fi : Buf (Elt F) (iLoc d)) (fo : Buf (Elt F) (oLoc d))
    (hf : ∀ j : S524288.Idx, (fi j : BitVec 32).toNat < 4096)
    (O : CellTallies nD τ sig (HIx 1)) (W : Waits sig (HIx 1)) (hO : ∀ g, O g none = 0) :
    iprop(levAts (K (F := F)).L (K (F := F)).lev ∗ emp ∗ tile d (wid L) fp fi fo
        ∗ scopedBufs (thr d L) ∗ scopedSems0 (thr d L) ∗ owes (thr d L) O W)
      ⊢ (wp frame (wpE (defs₀ (F := F)) 𝒱₀ (thr d L) none) Set.univ
          (cc0_gk (F := F) L pW (Memref.isWhole_whole _) iW (Memref.isWhole_whole _) oW (Memref.isWhole_whole _)
            sP (Memref.isWhole_whole _) sI (Memref.isWhole_whole _) sG (Memref.isWhole_whole _)
            cc0_scoped0 cc0_scoped1 cc0_scoped2 cc0_scoped3 cc0_scoped4 cc0_scoped5 cc0_scoped6 cc0_scoped7 cc0_scoped8 cc0_scoped9
            cc0_scoped10 cc0_scoped11 cc0_scoped12 cc0_scoped13 cc0_scoped14 cc0_scoped15 cc0_scoped16 cc0_scoped17 cc0_scoped18 cc0_scoped19)
          fun _ => iprop(tile d (wid L) fp fi (G fp fi) ∗ scopedBufs (thr d L) ∗ scopedSems0 (thr d L)
            ∗ ∃ W', ⌜∀ p ∈ W', p ∈ W ∨ p.2 = none⌝ ∗ owes (thr d L) O W') : sProp 𝕄) := by
  rw [(K (F := F)).scopedBufs_V hF d (cV L) (jV L), SparseCore.Cfg.scopedSems0_V (Val := Elt F) d (cV L) (jV L), ownSems0_V, ownBufs_V, fin20,
    tile_eq, tile_eq]
  iintro ⟨#Hlv, -, ⟨Hp, Hi, Ho00, Ho01, Ho02, Ho10, Ho11, Ho12, Ho20, Ho21, Ho22, Ho30, Ho31, Ho32⟩, ⟨H5, H6, H7, Hbufs⟩, ⟨⟨Hs0, Hs1, Hs2, Hs3, Hs4, Hs5, Hs6, Hs7, Hs8, Hs9, Hs10, Hs11, Hs12, Hs13, Hs14, Hs15, Hs16, Hs17, Hs18, Hs19⟩, Hsems⟩, HO⟩
  ihave Hmw := ((K (F := F)).mayWaits_none (thr := thr d L) hO) $$ Hlv
  ihave Hb := (body d L _ _ fp fi fo hf O W) $$ [Hmw Hp Hi Ho00 Ho01 Ho02 Ho10 Ho11 Ho12 Ho20 Ho21 Ho22 Ho30 Ho31 Ho32 H5 H6 H7 Hs0 Hs1 Hs2 Hs3 Hs4 Hs5 Hs6 Hs7 Hs8 Hs9 Hs10 Hs11 Hs12 Hs13 Hs14 Hs15 Hs16 Hs17 Hs18 Hs19 HO]
  · isplitl [Hmw]; · iexact Hmw
    isplitl [Hp]; · iexact Hp
    isplitl [Hi]; · iexact Hi
    isplitl [Ho00]; · iexact Ho00
    isplitl [Ho01]; · iexact Ho01
    isplitl [Ho02]; · iexact Ho02
    isplitl [Ho10]; · iexact Ho10
    isplitl [Ho11]; · iexact Ho11
    isplitl [Ho12]; · iexact Ho12
    isplitl [Ho20]; · iexact Ho20
    isplitl [Ho21]; · iexact Ho21
    isplitl [Ho22]; · iexact Ho22
    isplitl [Ho30]; · iexact Ho30
    isplitl [Ho31]; · iexact Ho31
    isplitl [Ho32]; · iexact Ho32
    isplitl [H5]; · iexact H5
    isplitl [H6]; · iexact H6
    isplitl [H7]; · iexact H7
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    iexact HO
  iapply (wp_wand _ _ _) $$ Hb
  iintro %_ ⟨Hp, Hi, Ho00, Ho01, Ho02, Ho10, Ho11, Ho12, Ho20, Ho21, Ho22, Ho30, Ho31, Ho32, H5, H6, H7, Hs0, Hs1, Hs2, Hs3, Hs4, Hs5, Hs6, Hs7, Hs8, Hs9, Hs10, Hs11, Hs12, Hs13, Hs14, Hs15, Hs16, Hs17, Hs18, Hs19, HO⟩
  isplitl [Hp Hi Ho00 Ho01 Ho02 Ho10 Ho11 Ho12 Ho20 Ho21 Ho22 Ho30 Ho31 Ho32]
  · isplitl [Hp]; · iexact Hp
    isplitl [Hi]; · iexact Hi
    isplitl [Ho00]; · iexact Ho00
    isplitl [Ho01]; · iexact Ho01
    isplitl [Ho02]; · iexact Ho02
    isplitl [Ho10]; · iexact Ho10
    isplitl [Ho11]; · iexact Ho11
    isplitl [Ho12]; · iexact Ho12
    isplitl [Ho20]; · iexact Ho20
    isplitl [Ho21]; · iexact Ho21
    isplitl [Ho22]; · iexact Ho22
    isplitl [Ho30]; · iexact Ho30
    isplitl [Ho31]; · iexact Ho31
    iexact Ho32
  isplitl [H5 H6 H7 Hbufs]
  · isplitl [H5]; · iexact H5
    isplitl [H6]; · iexact H6
    isplitl [H7]; · iexact H7
    iexact Hbufs
  isplitl [Hs0 Hs1 Hs2 Hs3 Hs4 Hs5 Hs6 Hs7 Hs8 Hs9 Hs10 Hs11 Hs12 Hs13 Hs14 Hs15 Hs16 Hs17 Hs18 Hs19 Hsems]
  · isplitr [Hsems]; swap
    · iexact Hsems
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    iexact Hs19
  iexact HO

end Cert.Proof.Sc

end
-- ==== Proof.Launch.lean ====
/-
  The launch of the whole program: the arrays dealt to the thirty-two subcores and joined again, @main's three
  reshapes around the call, and what every run of the program leaves in memory.
-/
module

public import proofs.«01_k».proof.Proof.Task

@[expose] public section

set_option maxRecDepth 16384

noncomputable section

namespace Cert.Proof.Sc

open Cert.KernelIdeal Cert.KernelIdeal.Gen

open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ)

/-! ## The six arrays of @main, and the operations beside the call -/

abbrev a' : DevRef τ sig := Proc.devRef .tc (main_arg0 : Ref sig .tc)
abbrev b' : DevRef τ sig := Proc.devRef .tc (main_arg1 : Ref sig .tc)
abbrev i' : DevRef τ sig := Proc.devRef .tc (main_v0 : Ref sig .tc)
abbrev p' : DevRef τ sig := Proc.devRef .tc (main_v1 : Ref sig .tc)
abbrev o' : DevRef τ sig := Proc.devRef .tc (main_v2 : Ref sig .tc)
abbrev r' : DevRef τ sig := Proc.devRef .tc (main_v3 : Ref sig .tc)
abbrev S6 : Finset (DevRef τ sig) := {a', b', i', p', o', r'}

abbrev op0 : HloOp τ sig (Elt F) := StableHlo.reshape main_arg1 main_v0 (rfl : (.i32 : EltTy) = .i32) shapeCasts_S4x32x4096_S524288
abbrev op1 : HloOp τ sig (Elt F) := StableHlo.reshape main_arg0 main_v1 (rfl : (.f32 : EltTy) = .f32) shapeCasts_S4x3x4096_S49152
abbrev op2 : HloOp τ sig (Elt F) := StableHlo.reshape main_v2 main_v3 (rfl : (.f32 : EltTy) = .f32) shapeCasts_S1572864_S4x32x3x4096

theorem hop0 : (op0 (F := F)).bufs ⊆ S6 := show ({b', i'} : Finset (DevRef τ sig)) ⊆ S6 by decide
theorem hop1 : (op1 (F := F)).bufs ⊆ S6 := show ({a', p'} : Finset (DevRef τ sig)) ⊆ S6 by decide
theorem hop2 : (op2 (F := F)).bufs ⊆ S6 := show ({o', r'} : Finset (DevRef τ sig)) ⊆ S6 by decide

theorem held_S6 (d : Dev nD) (W : Valuation τ sig (Elt F)) :
    (held (SparseCore.T d) S6 W : sProp 𝕄) = iprop((aLoc d ↦{fullShare} W a') ∗ (bLoc d ↦{fullShare} W b') ∗ (iLoc d ↦{fullShare} W i')
      ∗ (pLoc d ↦{fullShare} W p') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (iLoc d ↦{fullShare} W main_v0)
      ∗ (pLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The arrays at the launch, after the two reshapes before the call, after the call, and at the end. -/
def V0 (d : Dev nD) : Valuation τ sig (Elt F) := fun b => m (d, b)
def V2 (d : Dev nD) : Valuation τ sig (Elt F) := (op1 (F := F)).result ((op0 (F := F)).result (V0 m d))
def fi0 (d : Dev nD) : Buf (Elt F) (iLoc d) := V2 m d i'
def fp0 (d : Dev nD) : Buf (Elt F) (pLoc d) := V2 m d p'
def V3 (d : Dev nD) : Valuation τ sig (Elt F) := Function.update (V2 m d) o' (G (fp0 m d) (fi0 m d))
def V4 (d : Dev nD) : Valuation τ sig (Elt F) := (op2 (F := F)).result (V3 m d)

theorem unscoped_held (d : Dev nD) : (unscopedBufs d (fun b => m ((SparseCore.T d).loc b)) : sProp 𝕄) = held (SparseCore.T d) S6 (V0 m d) := by
  rw [unscopedBufs_eq, held_S6]; rfl

theorem V3_of_ne (d : Dev nD) {b : DevRef τ sig} (h : b ≠ o') : V3 m d b = V2 m d b := Function.update_of_ne h _ _
theorem V3_o (d : Dev nD) : V3 m d o' = G (fp0 m d) (fi0 m d) := Function.update_self _ _ _

theorem V4_keep (d : Dev nD) {b : DevRef τ sig} (h0 : b ∉ ({i'} : Finset (DevRef τ sig))) (h1 : b ∉ ({p'} : Finset (DevRef τ sig)))
    (h2 : b ∉ ({r'} : Finset (DevRef τ sig))) (ho : b ≠ o') : V4 m d b = m (d, b) := by
  unfold V4
  rw [HloOp.result_of_not_mem _ _ (show b ∉ (op2 (F := F)).writes from h2), V3_of_ne m d ho]
  unfold V2
  rw [HloOp.result_of_not_mem _ _ (show b ∉ (op1 (F := F)).writes from h1), HloOp.result_of_not_mem _ _ (show b ∉ (op0 (F := F)).writes from h0)]
  rfl
theorem V4_a (d : Dev nD) : V4 m d a' = m (aLoc d) := V4_keep m d (by decide) (by decide) (by decide) (by decide)
theorem V4_b (d : Dev nD) : V4 m d b' = m (bLoc d) := V4_keep m d (by decide) (by decide) (by decide) (by decide)

/-- The flat indices and the flat points that the call is given, and the result it comes back as. -/
theorem fi0_eq (d : Dev nD) : fi0 m d = shapeCast S524288 (m (bLoc d) : S4x32x4096.Idx → BitVec 32) shapeCasts_S4x32x4096_S524288 := by
  unfold fi0 V2
  rw [HloOp.result_of_not_mem _ _ (show i' ∉ (op1 (F := F)).writes from (by decide : i' ∉ ({p'} : Finset (DevRef τ sig))))]
  exact StableHlo.reshape_result ..
theorem fp0_eq (d : Dev nD) : fp0 m d = shapeCast S49152 (m (aLoc d) : S4x3x4096.Idx → Elt F .f32) shapeCasts_S4x3x4096_S49152 := by
  unfold fp0 V2
  refine (StableHlo.reshape_result ..).trans ?_
  rw [HloOp.result_of_not_mem _ _ (show a' ∉ (op0 (F := F)).writes from (by decide : a' ∉ ({i'} : Finset (DevRef τ sig))))]
  rfl
theorem V4_r (d : Dev nD) : V4 m d r' = shapeCast S4x32x3x4096 (G (fp0 m d) (fi0 m d)) shapeCasts_S1572864_S4x32x3x4096 := by
  unfold V4
  refine (StableHlo.reshape_result ..).trans ?_
  rw [V3_o]; rfl

/-! ## Dealing the arrays to the subcores -/

theorem bigSep_blocks {a b n : ℕ} (hn : n = a * b) (f : ℕ → sProp 𝕄) :
    bigSep (Finset.range n) f = bigSep (Finset.range a) fun w => bigSep Finset.univ fun k : Fin b => f (b * w + k.val) := by
  subst hn
  rw [← SparseCore.bigSep_product (Finset.range a) (Finset.univ : Finset (Fin b)) fun x => f (b * x.1 + x.2.val),
    ← SparseCore.bigSep_image_of_injOn (f := fun x : ℕ × Fin b => b * x.1 + x.2.val) (s := Finset.range a ×ˢ Finset.univ) ?_ f]
  · congr 1
    ext x
    rw [Finset.mem_image, Finset.mem_range]
    constructor
    · intro hx
      have hb : 0 < b := Nat.pos_of_ne_zero fun h => by subst h; simp at hx
      exact ⟨(x / b, ⟨x % b, Nat.mod_lt _ hb⟩), Finset.mem_product.mpr ⟨Finset.mem_range.mpr (Nat.div_lt_of_lt_mul (by rwa [Nat.mul_comm] at hx)), Finset.mem_univ _⟩,
        Nat.div_add_mod x b⟩
    · rintro ⟨⟨w, k⟩, hk, rfl⟩
      have hw := Finset.mem_range.mp (Finset.mem_product.mp hk).1
      calc b * w + k.val < b * w + b := Nat.add_lt_add_left k.isLt _
        _ = (w + 1) * b := by ring
        _ ≤ a * b := Nat.mul_le_mul_right _ hw
  · rintro ⟨w, k⟩ - ⟨w', k'⟩ - e
    have e' : b * w + k.val = b * w' + k'.val := e
    have hb : 0 < b := lt_of_le_of_lt (Nat.zero_le _) k.isLt
    have hw : w = w' := by
      have h1 := congrArg (· / b) e'
      simpa [Nat.mul_add_div hb, Nat.div_eq_of_lt k.isLt, Nat.div_eq_of_lt k'.isLt] using h1
    subst hw
    exact Prod.ext rfl (Fin.ext (Nat.add_left_cancel e'))

/-- The thirty-two subcores by number are the sixteen of each of the two SparseCores. -/
theorem bigSep_subcores (f : ℕ → sProp 𝕄) :
    bigSep (Finset.range 32) f = bigSep Finset.univ fun c : Fin 2 => bigSep Finset.univ fun i : Fin 16 => f (2 * i.val + c.val) := by
  rw [bigSep_blocks (a := 16) (b := 2) rfl f, show Finset.range 16 = Finset.univ.image (fun i : Fin 16 => i.val) by decide,
    SparseCore.bigSep_image_of_injOn (fun a _ b _ e => Fin.ext e)]
  exact bigSep_univ_comm _

theorem oPieces (d : Dev nD) (f : Buf (Elt F) (oLoc d)) :
    (oLoc d ↦{fullShare} f : sProp 𝕄) = bigSep (Finset.range 384) fun n => oLoc d ↦[oSet n]{fullShare} f := by
  have hS : (Finset.range 384).biUnion oSet = (Finset.univ : Finset S1572864.Idx) := by
    refine Finset.eq_univ_iff_forall.mpr fun p => ?_
    have hp : (p 0).val < 1572864 := (p 0).isLt
    exact Finset.mem_biUnion.mpr ⟨(p 0).val / 4096, Finset.mem_range.mpr (by omega), Finset.mem_filter.mpr ⟨Finset.mem_univ _, rfl⟩⟩
  rw [← pointsTo_biUnion (Finset.range 384) (ℓ := oLoc d) oSet]
  · exact congrArg (fun S => (oLoc d ↦[S]{fullShare} f : sProp 𝕄)) hS.symm
  · intro i _ j _ hij
    refine Finset.disjoint_left.mpr fun p hi hj => hij ?_
    exact (Finset.mem_filter.mp hi).2.symm.trans (Finset.mem_filter.mp hj).2

theorem regroup (A B C D E : sProp 𝕄) : iprop((A ∗ B) ∗ (C ∗ D) ∗ E) = iprop((A ∗ C) ∗ B ∗ D ∗ E) := by
  have h1 : iprop((A ∗ B) ∗ (C ∗ D) ∗ E) ⊢ iprop((A ∗ C) ∗ B ∗ D ∗ E) := by
    iintro ⟨⟨Ha, Hb⟩, ⟨Hc, Hd⟩, He⟩
    isplitl [Ha Hc]
    · isplitl [Ha] <;> iassumption
    isplitl [Hb]; · iexact Hb
    isplitl [Hd]; · iexact Hd
    iexact He
  have h2 : iprop((A ∗ C) ∗ B ∗ D ∗ E) ⊢ iprop((A ∗ B) ∗ (C ∗ D) ∗ E) := by
    iintro ⟨⟨Ha, Hc⟩, Hb, Hd, He⟩
    isplitl [Ha Hb]
    · isplitl [Ha] <;> iassumption
    isplitl [Hc Hd]
    · isplitl [Hc] <;> iassumption
    iexact He
  exact BI.Entails.antisymm h1 h2

/-- What is kept back of the two arrays that the subcores only read. -/
def kept (d : Dev nD) (fp : Buf (Elt F) (pLoc d)) (fi : Buf (Elt F) (iLoc d)) : sProp 𝕄 :=
  iprop((pLoc d ↦{Transfers.shareDrop fullShare 32} fp) ∗ (iLoc d ↦{Transfers.shareDrop fullShare 32} fi))

theorem deal (d : Dev nD) (fp : Buf (Elt F) (pLoc d)) (fi : Buf (Elt F) (iLoc d)) (fo : Buf (Elt F) (oLoc d)) :
    (iprop((pLoc d ↦{fullShare} fp) ∗ (iLoc d ↦{fullShare} fi) ∗ (oLoc d ↦{fullShare} fo)) : sProp 𝕄)
      = iprop(kept d fp fi ∗ bigSep Finset.univ fun c : Fin 2 => bigSep Finset.univ fun i : Fin 16 => tile d (2 * i.val + c.val) fp fi fo) := by
  rw [← bigSep_subcores (F := F) (fun w => tile d w fp fi fo), oPieces, bigSep_blocks (a := 32) (b := 12) rfl]
  unfold tile kept
  rw [bigSep_sep', bigSep_sep',
    BI.Entails.antisymm (Transfers.pointsTo_toks_range (ℓ := pLoc d) (S := Finset.univ) (f := fp) fullShare 32).1 (Transfers.pointsTo_toks_range (ℓ := pLoc d) (S := Finset.univ) (f := fp) fullShare 32).2,
    BI.Entails.antisymm (Transfers.pointsTo_toks_range (ℓ := iLoc d) (S := Finset.univ) (f := fi) fullShare 32).1 (Transfers.pointsTo_toks_range (ℓ := iLoc d) (S := Finset.univ) (f := fi) fullShare 32).2]
  exact regroup _ _ _ _ _

/-! ## The handshakes' payloads and the kernel's obligation -/

/-- Every subcore is handed its tile with the result as it stood, and hands it back with the result gathered. -/
def P : (K (F := F)).Pay (nD := nD) (Val := Elt F) (Name := ℕ) (U := UU) where
  st := fun q d c => bigSep Finset.univ fun i : Fin ((K (F := F)).nSub q) => tile d (2 * i.val + c.val) (fp0 m d) (fi0 m d) (V2 m d o')
  dn := fun q d c => bigSep Finset.univ fun i : Fin ((K (F := F)).nSub q) => tile d (2 * i.val + c.val) (fp0 m d) (fi0 m d) (G (fp0 m d) (fi0 m d))
  go := fun _ d c i => tile d (2 * i.val + c.val) (fp0 m d) (fi0 m d) (V2 m d o')
  td := fun _ d c i => tile d (2 * i.val + c.val) (fp0 m d) (fi0 m d) (G (fp0 m d) (fi0 m d))
  x := fun _ _ => iprop(emp)

instance P_storable : (P (F := F) m).IsStorable where
  st _ _ _ := by unfold P; infer_instance
  dn _ _ _ := by unfold P; infer_instance
  go _ _ _ _ := by unfold P; infer_instance
  td _ _ _ _ := by unfold P; infer_instance

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gk (F := F) (coordsV c s)
          (Memref.whole main_v1_scv) (Memref.isWhole_whole _) (Memref.whole main_v0_scv) (Memref.isWhole_whole _) (Memref.whole main_v2_scv) (Memref.isWhole_whole _)
          (Memref.whole cc0_scratch0) (Memref.isWhole_whole _) (Memref.whole cc0_scratch1) (Memref.isWhole_whole _) (Memref.whole cc0_scratch2) (Memref.isWhole_whole _)
          cc0_scoped0 cc0_scoped1 cc0_scoped2 cc0_scoped3 cc0_scoped4 cc0_scoped5 cc0_scoped6 cc0_scoped7 cc0_scoped8 cc0_scoped9
          cc0_scoped10 cc0_scoped11 cc0_scoped12 cc0_scoped13 cc0_scoped14 cc0_scoped15 cc0_scoped16 cc0_scoped17 cc0_scoped18 cc0_scoped19) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every index that the call is given names a point. -/
def InRange : Prop := ∀ (d : Dev nD) (j : S524288.Idx), (fi0 m d j : BitVec 32).toNat < 4096

theorem tileObl (hF : (K (F := F)).Facts) (hpre : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (fp0 m d) (fi0 m d) (V2 m d o') (hpre d) O W hO).trans (wp_mono frame _ _ fun _ => obl_post)

theorem vecSplit : (K (F := F)).VecSplit' (P m) 0 := by
  intro d c
  unfold P
  iintro H; imodintro
  isplitl [H]; · iexact H
  iintro H; iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable (ρ : Dev nD → PrngReg)

theorem st0_eq (d : Dev nD) : (bigSep Finset.univ fun c : Fin ((K (F := F)).nCore 0) => (P m).st 0 d c)
    = bigSep Finset.univ fun c : Fin 2 => bigSep Finset.univ fun i : Fin 16 => tile d (2 * i.val + c.val) (fp0 m d) (fi0 m d) (V2 m d o') := rfl
theorem dn0_eq (d : Dev nD) : (bigSep Finset.univ fun c : Fin ((K (F := F)).nCore 0) => (P m).dn 0 d c)
    = bigSep Finset.univ fun c : Fin 2 => bigSep Finset.univ fun i : Fin 16 => tile d (2 * i.val + c.val) (fp0 m d) (fi0 m d) (G (fp0 m d) (fi0 m d)) := rfl

abbrev FIN (d : Dev nD) : sProp 𝕄 := iprop((aLoc d ↦{fullShare} V4 m d a') ∗ (bLoc d ↦{fullShare} V4 m d b') ∗ rLoc d ↦{fullShare} V4 m d r')

/-- @main on device `d`'s TensorCore: two reshapes, the call, the reshape of its result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S6) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S6) hop1 (V := (op0 (F := F)).result (V0 m d))) $$ [Hb Hheld]
  · isplitl [Hb] <;> iassumption
  iintro ⟨Hb, Hheld⟩
  rw [wp_ret]; imodintro
  ihave Hh := (Entails.of_eq (show held (SparseCore.T d) S6 ((op1 (F := F)).result ((op0 (F := F)).result (V0 m d))) = _ from held_S6 (F := F) d (V2 m d))) $$ Hheld
  icases Hh with ⟨Ha, Hbb, Hi, Hp, Ho, Hr⟩
  ihave Hd := (Entails.of_eq (deal d (fp0 m d) (fi0 m d) (V2 m d o'))) $$ [Hp Hi Ho]
  · isplitl [Hp]; · iexact Hp
    isplitl [Hi]; · iexact Hi
    iexact Ho
  icases Hd with ⟨Hk, Hd⟩
  iapply ((K (F := F)).wp_run (D (F := F)) 𝒱 (EH := EH) (P := P m) κ d 0) $$ [Hst Hd Hk Ha Hbb Hr Hb Hts]
  isplitr; · iexact Hctx
  isplitl [Hst]; · iexact Hst
  isplitl [Hd]
  · rw [st0_eq]; iexact Hd
  iintro ⟨Hst, Hdn⟩
  ihave Hdn' := (Entails.of_eq (dn0_eq m d)) $$ Hdn
  ihave Hj := (Entails.of_eq (deal d (fp0 m d) (fi0 m d) (G (fp0 m d) (fi0 m d))).symm) $$ [Hk Hdn']
  · isplitl [Hk] <;> iassumption
  icases Hj with ⟨Hp, Hi, Ho⟩
  iapply (wp_hlo_within 𝒱 (SparseCore.T d) none Set.univ (op := op2) (S := S6) hop2 (V := V3 m d)) $$ [Hb Ha Hbb Hi Hp Ho Hr]
  · isplitl [Hb]; · iexact Hb
    rw [held_S6, V3_o, V3_of_ne m d (b := a') (by decide), V3_of_ne m d (b := b') (by decide), V3_of_ne m d (b := i') (by decide),
      V3_of_ne m d (b := p') (by decide), V3_of_ne m d (b := r') (by decide)]
    isplitl [Ha]; · iexact Ha
    isplitl [Hbb]; · iexact Hbb
    isplitl [Hi]; · iexact Hi
    isplitl [Hp]; · iexact Hp
    isplitl [Ho]; · iexact Ho
    iexact Hr
  iintro ⟨Hb, Hheld⟩
  ihave Hh := (Entails.of_eq (show held (SparseCore.T d) S6 ((op2 (F := F)).result (V3 m d)) = _ from held_S6 (F := F) d (V4 m d))) $$ Hheld
  icases Hh with ⟨Ha, Hbb, -, -, -, Hr⟩
  rw [wp_ret]; imodintro; imodintro
  isplitl [Hst]; · iexact Hst
  isplitr [Hb Hts]
  · isplitl [Ha]; · iexact Ha
    isplitl [Hbb]; · iexact Hbb
    iexact Hr
  isplitl [Hb] <;> iassumption

/-! ## What a run leaves -/

def fq (d : Dev nD) (s' : Phys nD τ sig (Elt F)) : Prop :=
  s'.mem.mem (aLoc d) = m (aLoc d) ∧ s'.mem.mem (bLoc d) = m (bLoc d) ∧ s'.mem.mem (rLoc d) = V4 m d r'

theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := V4 m d a'))) $$ [HSI Ha]
  · isplitl [HSI] <;> iassumption
  icases H with ⟨%h1, HSI, -⟩
  ihave H := (persistent_entails_right (SI_pointsTo_agree (st := s') (ℓ := bLoc d) (I := Finset.univ) (q := fullShare) (f := V4 m d b'))) $$ [HSI Hb]
  · isplitl [HSI] <;> iassumption
  icases H with ⟨%h2, HSI, -⟩
  ihave H := (SI_pointsTo_agree (st := s') (ℓ := rLoc d) (I := Finset.univ) (q := fullShare) (f := V4 m d r')) $$ [HSI Hr]
  · isplitl [HSI] <;> iassumption
  icases H with %h3
  ipureintro
  exact ⟨(funext fun i => h1 i (Finset.mem_univ i)).trans (V4_a m d), (funext fun i => h2 i (Finset.mem_univ i)).trans (V4_b m d),
    funext fun i => h3 i (Finset.mem_univ i)⟩

def QC : PUnit × MemSt nD τ sig (Elt F) → Prop := fun r =>
  (∀ c : Dev nD, r.2.mem (aLoc c) = m (aLoc c) ∧ r.2.mem (bLoc c) = m (bLoc c) ∧ r.2.mem (rLoc c) = V4 m c r') ∧ r.2.sem = fun _ => 0

/-- Every run leaves the arguments, the gathered result and every counter at zero. -/
theorem run_main [∀ e, Nonempty (Elt F e)] (hpre : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Sc

end
-- ==== Proof.Value.lean ====
/-
  The values: the gathered array of the kernel, reshaped, is the reference's result at every index, given that
  every neighbour index names a point; and the precondition says that every one does.
-/
module

public import proofs.«01_k».proof.Defs
public import proofs.«01_k».proof.Proof.Launch
public import proofs.«01_k».proof.Proof.Gen.ReferenceIdeal
public import proofs.«01_k».proof.Proof.Gen.ReferenceIdeal.Read
public import proofs.«01_k».proof.Proof.Gen.Pre_idx_in_range
public import Idealize.ShloMosaic.Lib.ReduceAll
public import Idealize.ShloMosaic.Lib.Routing.Ops

@[expose] public section

set_option maxRecDepth 16384

noncomputable section

namespace Cert.Proof.Sc

open Idealize.ShloMosaic Idealize.SL.Sem Idealize.ShloMosaic.ValueIdx
open Cert.KernelIdeal (S4x3x4096 S4x32x4096 S4x32x3x4096 S49152 S524288 S1572864)
open Cert.ReferenceIdeal.Read

variable {F : FTy → Type} [FloatOps F]

/-- Every neighbour index names a point of its cloud. -/
def Named (x1 : S4x32x4096.Idx → BitVec 32) : Prop := ∀ j, (x1 j).toNat < 4096

/-- The gathered array: entry `(b, k, c, n)` is coordinate `c` of the point that neighbour `k` of point `n` names in cloud `b`. -/
def gathered (x0 : S4x3x4096.Idx → Elt F .f32) (x1 : S4x32x4096.Idx → BitVec 32) (h : Named x1) : S4x32x3x4096.Idx → Elt F .f32 :=
  fun i => x0 (ix3 (i 0) (i 2) ⟨(x1 (ix3 (i 0) (i 1) (i 3))).toNat, h _⟩)

/-! ## The kernel's side -/

theorem read_flat_idx (x1 : S4x32x4096.Idx → BitVec 32) (hs : S4x32x4096.ShapeCasts S524288) (i : S4x32x3x4096.Idx) (n : ℕ) (hn : n < 524288)
    (e : n = ((i 0).val * 32 + (i 1).val) * 4096 + (i 3).val) : shapeCast S524288 x1 hs (at1 n hn) = x1 (ix3 (i 0) (i 1) (i 3)) := by
  refine shapeCast_apply x1 hs _ _ ?_
  rw [Shape.rowMajor_val_three, Shape.rowMajor_val_one]
  exact e.symm

theorem read_flat_pts (x0 : S4x3x4096.Idx → Elt F .f32) (hs : S4x3x4096.ShapeCasts S49152) (b : Fin 4) (c : Fin 3) (k : Fin 4096) (n : ℕ) (hn : n < 49152)
    (e : n = (b.val * 3 + c.val) * 4096 + k.val) : shapeCast S49152 x0 hs (at1 n hn) = x0 (ix3 b c k) := by
  refine shapeCast_apply x0 hs _ _ ?_
  rw [Shape.rowMajor_val_three, Shape.rowMajor_val_one]
  exact e.symm

theorem kernel_value (x0 : S4x3x4096.Idx → Elt F .f32) (x1 : S4x32x4096.Idx → BitVec 32) (h : Named x1)
    (h0 : S4x3x4096.ShapeCasts S49152) (h1 : S4x32x4096.ShapeCasts S524288) (h2 : S1572864.ShapeCasts S4x32x3x4096) :
    shapeCast S4x32x3x4096 (G (F := F) (shapeCast S49152 x0 h0) (shapeCast S524288 x1 h1)) h2 = gathered x0 x1 h := by
  funext i
  have b0 : (i 0).val < 4 := (i 0).isLt
  have b1 : (i 1).val < 32 := (i 1).isLt
  have b2 : (i 2).val < 3 := (i 2).isLt
  have b3 : (i 3).val < 4096 := (i 3).isLt
  obtain ⟨q, hq⟩ : ∃ q, q = (((i 0).val * 32 + (i 1).val) * 3 + (i 2).val) * 4096 + (i 3).val := ⟨_, rfl⟩
  rw [shapeCast_apply (s := S1572864) (t := S4x32x3x4096) _ h2 i (at1 q (by omega))
    (by rw [Shape.rowMajor_val_four, Shape.rowMajor_val_one]; exact hq)]
  unfold G gathered
  have hv : shapeCast S524288 x1 h1 (at1 ((q / 12288 * 4096 + q % 4096) % 524288) (Nat.mod_lt _ (by decide))) = x1 (ix3 (i 0) (i 1) (i 3)) :=
    read_flat_idx x1 h1 i _ _ (by omega)
  have hw := h (ix3 (i 0) (i 1) (i 3))
  refine read_flat_pts x0 h0 (i 0) (i 2) _ _ _ ?_
  show (q / 393216 * 12288 + q / 4096 % 3 * 4096
    + (shapeCast S524288 x1 h1 (at1 ((q / 12288 * 4096 + q % 4096) % 524288) (Nat.mod_lt _ (by decide)))).toNat) % 49152 = _
  rw [hv]
  show _ = ((i 0).val * 3 + (i 2).val) * 4096 + (x1 (ix3 (i 0) (i 1) (i 3))).toNat
  omega

/-! ## The reference's side -/

theorem word {v : BitVec 32} {b : ℕ} (hv : v.toNat < 4096) (hb : b < 4) :
    IntOp.addi v (IntOp.muli (BitVec.ofNat 32 b) 4096#32) = BitVec.ofNat 32 (v.toNat + b * 4096) := by
  apply BitVec.eq_of_toNat_eq
  show (v + BitVec.ofNat 32 b * 4096#32).toNat = _
  rw [BitVec.toNat_add, BitVec.toNat_mul, BitVec.toNat_ofNat, BitVec.toNat_ofNat, BitVec.toNat_ofNat]
  omega

theorem nat_toInt {k : ℕ} (hk : k < 16384) : (BitVec.ofNat 32 k).toInt = k := by
  rw [BitVec.toInt_eq_toNat_cond, BitVec.toNat_ofNat]
  have : k % 2 ^ 32 = k := Nat.mod_eq_of_lt (by omega)
  rw [this, if_pos (by omega)]

theorem not_slt {k : ℕ} (hk : k < 16384) : IntOp.cmpi .slt (BitVec.ofNat 32 k) 0#32 = 0#1 := by
  have : (BitVec.ofNat 32 k).slt 0#32 = false := by
    rw [BitVec.slt_eq_decide, nat_toInt hk]; exact decide_eq_false (by simp)
  show BitVec.ofBool ((BitVec.ofNat 32 k).slt 0#32) = _
  rw [this]; rfl

theorem sge_zero {k : ℕ} (hk : k < 16384) : IntOp.cmpi .sge (BitVec.ofNat 32 k) 0#32 = 1#1 := by
  have : (0#32).sle (BitVec.ofNat 32 k) = true := by
    rw [BitVec.sle_eq_decide, nat_toInt hk]; exact decide_eq_true (by simp)
  show BitVec.ofBool ((0#32).sle (BitVec.ofNat 32 k)) = _
  rw [this]; rfl

theorem sle_last {k : ℕ} (hk : k < 16384) : IntOp.cmpi .sle (BitVec.ofNat 32 k) 16383#32 = 1#1 := by
  have : (BitVec.ofNat 32 k).sle 16383#32 = true := by
    rw [BitVec.sle_eq_decide, nat_toInt hk]; exact decide_eq_true (by show (k : ℤ) ≤ 16383; omega)
  show BitVec.ofBool ((BitVec.ofNat 32 k).sle 16383#32) = _
  rw [this]; rfl

/-- The row of the table of all clouds' points that flat neighbour `p` names. -/
def row (x1 : S4x32x4096.Idx → BitVec 32) (p : S524288.Idx) : ℕ := (x1 (idx_main_v0 (idx_main_v7 p))).toNat + (p 0).val / 131072 * 4096

theorem row_lt {x1 : S4x32x4096.Idx → BitVec 32} (h : Named x1) (p : S524288.Idx) : row x1 p < 16384 := by
  have hp : (p 0).val < 524288 := (p 0).isLt
  have := h (idx_main_v0 (idx_main_v7 p))
  unfold row; omega

theorem v7_eq {x1 : S4x32x4096.Idx → BitVec 32} (h : Named x1) (p : S524288.Idx) :
    val_main_v7 (F := F) x1 p = BitVec.ofNat 32 (row x1 p) := by
  have hp : (p 0).val < 524288 := (p 0).isLt
  rw [val_main_v7_apply, val_main_v6_apply, val_main_v0_apply, val_main_v5_apply, val_main_v4_apply, val_main_v2_apply, val_main_v1_apply,
    val_main_v3_apply, val_main_c_apply]
  have e : ((idx_main_v2 (idx_main_v5 (idx_main_v7 p))) 0).val = (p 0).val / 131072 := by
    show ((p 0).val / 131072 * 1 + 0) * 1 + 0 = _
    omega
  rw [e]
  exact word (h _) (by omega)

theorem v5_eq {x1 : S4x32x4096.Idx → BitVec 32} (h : Named x1) (q : Cert.ReferenceIdeal.S524288x1.Idx) :
    val_main_call0_v5 (F := F) x1 q = BitVec.ofNat 32 (row x1 (idx_main_call0_v5 q)) := by
  rw [val_main_call0_v5_apply, val_main_call0_v4_apply, val_main_call0_v1_apply, v7_eq h, val_main_call0_v0_apply, val_main_call0_c_apply,
    not_slt (row_lt h _)]
  rfl

theorem v12_eq {x1 : S4x32x4096.Idx → BitVec 32} (h : Named x1) (q : S524288.Idx) : val_main_call0_v12 (F := F) x1 q = 1#1 := by
  unfold val_main_call0_v12
  refine Host.reduce_andi_one _ _ _ _ _ rfl fun q => ?_
  rw [val_main_call0_v11_apply, val_main_call0_v7_apply, val_main_call0_v10_apply, v5_eq h, val_main_call0_v6_apply, val_main_call0_c_2_apply,
    val_main_call0_v9_apply, val_main_call0_v8_apply, val_main_call0_c_1_apply, sge_zero (row_lt h _), sle_last (row_lt h _)]
  rfl

theorem reference_value (x0 : S4x3x4096.Idx → Elt F .f32) (x1 : S4x32x4096.Idx → BitVec 32) (h : Named x1) :
    val_main_v12 (F := F) x0 x1 = gathered x0 x1 h := by
  funext i
  have b0 : (i 0).val < 4 := (i 0).isLt
  have b1 : (i 1).val < 32 := (i 1).isLt
  have b2 : (i 2).val < 3 := (i 2).isLt
  have b3 : (i 3).val < 4096 := (i 3).isLt
  rw [val_main_v12_apply, val_main_v11_apply, val_main_v10_apply, val_main_call0_v14_apply, v12_eq h]
  have ec : idx_main_v11 (idx_main_v12 i)
      = ix2 (⟨((i 0).val * 4096 + (i 3).val) * 32 + (i 1).val, by omega⟩ : Fin 524288) (⟨(i 2).val, b2⟩ : Fin 3) := by
    funext a
    match a with
    | ⟨0, _⟩ => exact Fin.ext (by show ((((i 0).val * 4096 + (i 3).val) * 32 + (i 1).val) * 3 + (i 2).val) / 3 = ((i 0).val * 4096 + (i 3).val) * 32 + (i 1).val; omega)
    | ⟨1, _⟩ => exact Fin.ext (by show ((((i 0).val * 4096 + (i 3).val) * 32 + (i 1).val) * 3 + (i 2).val) % 3 = (i 2).val; omega)
  rw [ec]
  show val_main_call0_v13 (F := F) x0 x1 _ = _
  unfold val_main_call0_v13
  let p : S524288.Idx := at1 (((i 0).val * 4096 + (i 3).val) * 32 + (i 1).val) (by omega)
  have ep : idx_main_v0 (idx_main_v7 p) = ix3 (i 0) (i 1) (i 3) := by
    funext a
    match a with
    | ⟨0, _⟩ => exact Fin.ext (by show (((i 0).val * 4096 + (i 3).val) * 32 + (i 1).val) / 131072 = (i 0).val; omega)
    | ⟨1, _⟩ => exact Fin.ext (by show (((i 0).val * 4096 + (i 3).val) * 32 + (i 1).val) % 32 = (i 1).val; omega)
    | ⟨2, _⟩ => exact Fin.ext (by show (((i 0).val * 4096 + (i 3).val) * 32 + (i 1).val) / 32 % 4096 = (i 3).val; omega)
  have er : row x1 p = (x1 (ix3 (i 0) (i 1) (i 3))).toNat + (i 0).val * 4096 := by
    unfold row
    rw [ep]
    show _ + (((i 0).val * 4096 + (i 3).val) * 32 + (i 1).val) / 131072 * 4096 = _
    rw [show (((i 0).val * 4096 + (i 3).val) * 32 + (i 1).val) / 131072 = (i 0).val by omega]
    rfl
  have hw := h (ix3 (i 0) (i 1) (i 3))
  rw [Routing.gather_row Cert.ReferenceIdeal.gather_S16384x3_S524288x1_S524288x3_1_0_n_n_0_1_13 rfl rfl rfl rfl rfl _ _ _ _
    ⟨row x1 p, row_lt h p⟩ (v5_eq h _) (by decide), val_main_v9_apply, val_main_v8_apply]
  refine congrArg x0 (funext fun a => ?_)
  match a with
  | ⟨0, _⟩ => exact Fin.ext (by show (row x1 p * 3 + (i 2).val) / 12288 = (i 0).val; omega)
  | ⟨1, _⟩ => exact Fin.ext (by show (row x1 p * 3 + (i 2).val) % 3 = (i 2).val; omega)
  | ⟨2, _⟩ => exact Fin.ext (by show (row x1 p * 3 + (i 2).val) / 3 % 4096 = (x1 (ix3 (i 0) (i 1) (i 3))).toNat; omega)

/-! ## The precondition -/

theorem named_of_pre (x0 : S4x3x4096.Idx → Elt F .f32) (x1 : S4x32x4096.Idx → BitVec 32)
    (h : Cert.Pre_idx_in_range.fn (F := F) x0 x1 = fun _ => 1#1) : Named x1 := by
  have andi_ofBool : ∀ a b : Bool, IntOp.andi (BitVec.ofBool a) (BitVec.ofBool b) = BitVec.ofBool (a && b) := by decide
  have ofBool_eq_one : ∀ b : Bool, (BitVec.ofBool b = 1#1) = (b = true) := by decide
  intro j
  haveI : Subsingleton Cert.Pre_idx_in_range.S_.Idx := ⟨fun a b => funext fun k => k.elim0⟩
  have e := congrFun h (fun k => k.elim0)
  have e1 := Host.reduce_andi_all _ _ _ _ _ e j
  simp only [andi, cmpi, broadcastInDim, constantI, IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e1
  omega

theorem inRange_of_named (m : (ℓ : Loc Cert.KernelIdeal.nD Cert.KernelIdeal.τ Cert.KernelIdeal.sig) → Buf (Elt F) ℓ)
    (h : ∀ d, Named (m (bLoc d))) : InRange m := by
  intro d j
  rw [fi0_eq]
  exact h d _

end Cert.Proof.Sc

end
-- ==== Proof.FinalBody.lean ====
/-
  The last pass, point by point: what the output's staging block holds after a grid point, as the kernel's own terms of the
  point's input blocks.
-/
module

public import proofs.«01_k».proof.Proof.Gen.FinalIdeal.Value
public import Idealize.ShloMosaic.Lib.Tactic

@[expose] public section

noncomputable section

namespace Cert.FinalIdeal.Body

open Cert.FinalIdeal Cert.FinalIdeal.Gen Idealize.ShloMosaic Idealize.ShloMosaic.TcCoe Idealize.SL.Sem

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The activated block of the third layer at a point. -/
def act (c : Dev nD) (t : Fin cfg0.N) : FVec F S64x2048 .f32 :=
  k0_pay1 (iblk m c 9 t) (iblk m c 10 t) (iblk m c 11 t)
    (k0_pay4 (iblk m c 6 t) (iblk m c 7 t) (iblk m c 0 t) (iblk m c 1 t) (iblk m c 2 t) (iblk m c 3 t) (iblk m c 4 t))
    (k0_pay5 (iblk m c 8 t)) (iblk m c 5 t)

/-- At the first neighbour the block is stored as it is. -/
theorem outs_first (c : Dev nD) (t : Fin cfg0.N) (h : t.val % 32 = 0) :
    outsAt0 m c t.val t.isLt = shapeCast S1x64x2048 (act m c t) shapeCasts_S64x2048_S1x64x2048 := by
  rw [outsAt0_A m c t h (by omega)]
  unfold out0_A_12
  refine (View.read_writes_eq_canon _ _ _ (fun y => by apply cover0_A_12)).trans ?_
  unfold kernelRun0_A
  dsimp only
  sl_unfold_words
  rw [View.canon_unit_zero zero3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread,
    View.ld_unit_zero (S := S1x1x3x2048) zero4, View.ld_unit_zero (S := S1x3x2048) zero3, View.ld_unit_zero (S := S32x3) zero2,
    View.ld_unit_zero (S := S32x32) zero2, View.ld_unit_zero (S := S64x32) zero2, View.ld_unit_zero (S := S128x1) zero2]
  rfl

/-- At a later neighbour it is joined to the block by the elementwise maximum. -/
theorem outs_next (c : Dev nD) (t : Fin cfg0.N) (h : ¬t.val % 32 = 0) :
    outsAt0 m c t.val t.isLt = shapeCast S1x64x2048 (maximumf
      (shapeCast S64x2048 (outsAt0 m c (t.val - 1) (Nat.lt_of_le_of_lt (Nat.sub_le _ _) t.isLt)) shapeCasts_S1x64x2048_S64x2048)
      (act m c t)) shapeCasts_S64x2048_S1x64x2048 := by
  rw [outsAt0_B m c t h (by omega)]
  unfold out0_B_12
  refine (View.read_writes_eq_canon _ _ _ (fun y => by apply cover0_B_12)).trans ?_
  unfold kernelRun0_B
  dsimp only
  sl_unfold_words
  rw [View.canon_unit_zero zero3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (hs0_12 t).read_unread,
    View.ld_unit_zero (S := S1x1x3x2048) zero4, View.ld_unit_zero (S := S1x3x2048) zero3, View.ld_unit_zero (S := S32x3) zero2,
    View.ld_unit_zero (S := S32x32) zero2, View.ld_unit_zero (S := S64x32) zero2, View.ld_unit_zero (S := S128x1) zero2,
    View.ld_unit_zero (S := S1x64x2048) zero3]
  rfl

end Cert.FinalIdeal.Body

end
-- ==== Proof.Layers.lean ====
/-
  The three layers at one point and one neighbour, on plain coordinates, and the identity by which the first layer
  splits into one product with the neighbour and one with the point.
-/
module

public import Idealize.ShloMosaic.Lib.Pointwise

@[expose] public section

noncomputable section

namespace Cert.Proof.Layers

open Idealize.ShloMosaic

/-- A row of channels against a layer's weights. -/
def layer {a b : ℕ} (w : Fin a → Fin b → EReal) (v : Fin b → EReal) (o : Fin a) : EReal := ∑ x : Fin b, w o x * v x

/-- Scale, shift and rectify. -/
def unit {a : ℕ} (s h : Fin a → EReal) (y : Fin a → EReal) (o : Fin a) : EReal := max (y o * s o + h o) 0

/-- The first `a` of the constants a column of 128 holds. -/
def column {a : ℕ} (ha : a ≤ 128) (s : (⟨2, ![128, 1]⟩ : Shape).Idx → EReal) (o : Fin a) : EReal := s (ix2 ⟨o.val, o.isLt.trans_le ha⟩ 0)

/-- A matrix by row and column. -/
def entry {a b : ℕ} (w : (⟨2, ![a, b]⟩ : Shape).Idx → EReal) (o : Fin a) (x : Fin b) : EReal := w (ix2 o x)

/-- The first layer of the edge feature: the neighbour minus the point, then the point. -/
def first (w : Fin 32 → Fin 6 → EReal) (x p : Fin 3 → EReal) (o : Fin 32) : EReal :=
  ∑ d : Fin 3, w o (d.castLE (by decide)) * (x d - p d) + ∑ d : Fin 3, w o (d.natAdd 3) * p d

/-- The same layer as the kernel has it. -/
def split (w : Fin 32 → Fin 6 → EReal) (x p : Fin 3 → EReal) (o : Fin 32) : EReal :=
  ∑ d : Fin 3, w o (d.castLE (by decide)) * x d + ∑ d : Fin 3, (w o (d.natAdd 3) - w o (d.castLE (by decide))) * p d

/-- Of finite values the two agree. -/
theorem split_eq (w : Fin 32 → Fin 6 → ℝ) (x p : Fin 3 → ℝ) (o : Fin 32) :
    split (fun o d => (w o d : EReal)) (fun d => (x d : EReal)) (fun d => (p d : EReal)) o
      = first (fun o d => (w o d : EReal)) (fun d => (x d : EReal)) (fun d => (p d : EReal)) o := by
  unfold split first
  simp only [Fin.sum_univ_three]
  norm_cast
  ring

theorem split_eq_of_real (w : Fin 32 → Fin 6 → EReal) (x p : Fin 3 → EReal) (hw : ∀ o d, ∃ r : ℝ, w o d = r) (hx : ∀ d, ∃ r : ℝ, x d = r)
    (hp : ∀ d, ∃ r : ℝ, p d = r) (o : Fin 32) : split w x p o = first w x p o := by
  choose w' hw using hw
  choose x' hx using hx
  choose p' hp using hp
  obtain rfl : w = fun o d => (w' o d : EReal) := funext fun o => funext fun d => hw o d
  obtain rfl : x = fun d => (x' d : EReal) := funext hx
  obtain rfl : p = fun d => (p' d : EReal) := funext hp
  exact split_eq w' x' p' o

end Cert.Proof.Layers

end
-- ==== Proof.FinalAct.lean ====
/-
  The last pass, element by element: the kernel's block and the reference's result as the layers on plain coordinates.
-/
module

public import proofs.«01_k».proof.Proof.FinalBody
public import proofs.«01_k».proof.Proof.Layers
public import proofs.«01_k».proof.Proof.Gen.FinalReferenceIdeal.Read
public import Idealize.ShloMosaic.Lib.Pointwise

@[expose] public section

set_option maxRecDepth 16384

noncomputable section

namespace Cert.FinalIdeal.Act

open Cert.FinalIdeal Cert.FinalIdeal.Gen Cert.FinalIdeal.Body Idealize.ShloMosaic Idealize.ShloMosaic.TcCoe Idealize.SL.Sem
open Cert.Proof.Layers

/-- The layers after the first, from the first layer's channels. -/
def rest (w2 : Vec Ideal S32x32 .f32) (w3 : Vec Ideal S64x32 .f32) (s1 h1 s2 h2 s3 h3 : Vec Ideal S128x1 .f32) (y : Fin 32 → EReal) (o : Fin 64) : EReal :=
  unit (column (by decide) s3) (column (by decide) h3) (layer (entry w3)
    (unit (column (by decide) s2) (column (by decide) h2) (layer (entry w2) (unit (column (by decide) s1) (column (by decide) h1) y)))) o

theorem chain_apply (x0 : Vec Ideal S1x1x3x2048 .f32) (x1 : Vec Ideal S1x3x2048 .f32) (x2 x3 : Vec Ideal S32x3 .f32)
    (x4 : Vec Ideal S32x32 .f32) (x5 : Vec Ideal S64x32 .f32) (x6 x7 x8 x9 x10 x11 : Vec Ideal S128x1 .f32) (o : Fin 64) (j : Fin 2048) :
    k0_pay1 x9 x10 x11 (k0_pay4 x6 x7 x0 x1 x2 x3 x4) (k0_pay5 x8) x5 (ix2 o j) = rest x4 x5 x6 x7 x8 x9 x10 x11
      (fun i => layer (entry x2) (fun d => x0 (ix4 0 0 d j)) i + layer (entry x3) (fun d => x1 (ix3 0 d j)) i) o := by
  unfold rest unit layer entry column
  pointwise [k0_pay1, k0_pay4, k0_pay5]

open Cert.FinalReferenceIdeal.Read in
theorem ref_first x0 x1 x2 x5 x6 (b : Fin 4) (o : Fin 32) (n : Fin 4096) (k : Fin 32) :
    val_main_v19 (F := Ideal) x0 x1 x2 x5 x6 (ix4 b o n k)
      = unit (column (by decide) x5) (column (by decide) x6) (first (entry x2) (fun d => x1 (ix4 b k d n)) (fun d => x0 (ix3 b d n))) o := by
  unfold unit first entry column
  unfold val_main_v19 val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0 val_main_call0_v0
    val_main_call0_cst
  pointwise []
  simp only [mul_comm (x2 _)]
  rfl

open Cert.FinalReferenceIdeal.Read in
theorem ref_second x0 x1 x2 x3 x5 x6 x7 x8 (b : Fin 4) (o : Fin 32) (n : Fin 4096) (k : Fin 32) :
    val_main_v32 (F := Ideal) x0 x1 x2 x3 x5 x6 x7 x8 (ix4 b o n k)
      = unit (column (by decide) x7) (column (by decide) x8) (layer (entry x3) (fun i => val_main_v19 (F := Ideal) x0 x1 x2 x5 x6 (ix4 b i n k))) o := by
  unfold unit layer entry column
  unfold val_main_v32 val_main_v31 val_main_v30 val_main_v29 val_main_v28 val_main_v27 val_main_v26 val_main_v25 val_main_v24 val_main_v23
    val_main_v22 val_main_v21 val_main_v20 val_main_call1_v0 val_main_call1_cst
  pointwise []
  simp only [mul_comm (x3 _)]

open Cert.FinalReferenceIdeal.Read in
theorem ref_apply x0 x1 x2 x3 x4 x5 x6 x7 x8 x9 x10 (b : Fin 4) (o : Fin 64) (n : Fin 4096) :
    val_main_v46 (F := Ideal) x0 x1 x2 x3 x4 x5 x6 x7 x8 x9 x10 (ix3 b o n) = Finset.univ.sup fun k : Fin 32 => unit (column (by decide) x9)
      (column (by decide) x10) (layer (entry x4) (fun i => val_main_v32 (F := Ideal) x0 x1 x2 x3 x5 x6 x7 x8 (ix4 b i n k))) o := by
  unfold unit layer entry column
  unfold val_main_v46 val_main_v45 val_main_v44 val_main_v43 val_main_v42 val_main_v41 val_main_v40 val_main_v39 val_main_v38 val_main_v37
    val_main_v36 val_main_v35 val_main_v34 val_main_v33 val_main_cst val_main_call2_v0 val_main_call2_cst
  pointwise []
  simp only [mul_comm (x4 _)]
  rw [show Ideal.ofBits FTy.f32 4286578688#32 = ⊥ by simp [Ideal.ofBits, Ideal.ieee]]
  rfl

theorem ref_eq x0 x1 x2 x3 x4 x5 x6 x7 x8 x9 x10 (b : Fin 4) (o : Fin 64) (n : Fin 4096) :
    Cert.FinalReferenceIdeal.Read.val_main_v46 (F := Ideal) x0 x1 x2 x3 x4 x5 x6 x7 x8 x9 x10 (ix3 b o n)
      = Finset.univ.sup fun k : Fin 32 => rest x3 x4 x5 x6 x7 x8 x9 x10 (first (entry x2) (fun d => x1 (ix4 b k d n)) (fun d => x0 (ix3 b d n))) o := by
  simp only [ref_apply, ref_second, ref_first]
  rfl

end Cert.FinalIdeal.Act

end
-- ==== Proof.Norm.lean ====
/-
  Normalization of real numbers over all clouds, points and neighbours, as the kernel and as the reference compute it.
-/
module

public import proofs.«01_k».proof.Proof.Layers

@[expose] public section

noncomputable section

namespace Cert.Proof.Norm

open Idealize.ShloMosaic Cert.Proof.Layers

/-- The places a channel is normalized over: cloud, point and neighbour. -/
abbrev P : Type := Fin 4 × Fin 4096 × Fin 32

/-- How many they are, and the constant added to a variance. -/
abbrev count : EReal := Ideal.ofBits .f32 0x49000000#32
abbrev little : EReal := Ideal.ofBits .f32 0x3A83126F#32
def eps : ℝ := 8589935 * 2 ^ (-33 : ℤ)

theorem count_eq : count = ((524288 : ℝ) : EReal) := by
  unfold count
  simp [Ideal.ofBits, Ideal.ieee]
  norm_cast
  norm_num
theorem little_eq : little = (eps : EReal) := by
  unfold little eps
  simp [Ideal.ofBits, Ideal.ieee]
theorem eps_pos : 0 < eps := by unfold eps; positivity

theorem coe_sum {ι : Type} (s : Finset ι) (f : ι → ℝ) : ((∑ x ∈ s, f x : ℝ) : EReal) = ∑ x ∈ s, (f x : EReal) := by
  classical
  induction s using Finset.induction_on with
  | empty => simp
  | insert a s h ih => rw [Finset.sum_insert h, Finset.sum_insert h, EReal.coe_add, ih]

theorem coe_max (a b : ℝ) : ((max a b : ℝ) : EReal) = max (a : EReal) (b : EReal) := EReal.coe_strictMono.monotone.map_max

theorem div_real (a b : ℝ) (hb : b ≠ 0) : Ideal.div (a : EReal) (b : EReal) = ((a / b : ℝ) : EReal) := by
  rw [Ideal.div_coe hb, ← EReal.coe_mul, mul_one_div]

def mean (y : P → ℝ) : ℝ := (∑ p, y p) / 524288
def var (y : P → ℝ) : ℝ := (∑ p, (y p - mean y) * (y p - mean y)) / 524288
/-- A channel's scale and shift, of a gamma and a beta; the same of real ones. -/
def scale (g : EReal) (y : P → ℝ) : EReal := g * ((√(var y + eps))⁻¹ : ℝ)
def shift (g e : EReal) (y : P → ℝ) : EReal := e - mean y * scale g y
def rscale (g : ℝ) (y : P → ℝ) : ℝ := g / √(var y + eps)
def rshift (g e : ℝ) (y : P → ℝ) : ℝ := e - mean y * rscale g y

theorem scale_coe (g : ℝ) (y : P → ℝ) : scale g y = (rscale g y : EReal) := (EReal.coe_mul _ _).symm
theorem shift_coe (g e : ℝ) (y : P → ℝ) : shift g e y = (rshift g e y : EReal) := by
  unfold shift
  rw [scale_coe, ← EReal.coe_mul, ← EReal.coe_sub]
  rfl

/-- The channel after normalization, shift and rectification. -/
def next (g e : ℝ) (y : P → ℝ) (p : P) : ℝ := max (y p * rscale g y + rshift g e y) 0

theorem var_nonneg (y : P → ℝ) : 0 ≤ var y := div_nonneg (Finset.sum_nonneg fun _ _ => mul_self_nonneg _) (by norm_num)
theorem root_pos (y : P → ℝ) : 0 < √(var y + eps) := Real.sqrt_pos.mpr (add_pos_of_nonneg_of_pos (var_nonneg y) eps_pos)

theorem card_P : (Fintype.card P : ℝ) = 524288 := by
  simp only [Fintype.card_prod, Fintype.card_fin]; norm_num

theorem var_eq (y : P → ℝ) : (∑ p, y p * y p) / 524288 - mean y * mean y = var y := by
  unfold var
  have : ∑ p, (y p - mean y) * (y p - mean y) = ∑ p, y p * y p - 2 * mean y * ∑ p, y p + 524288 * (mean y * mean y) := by
    rw [← card_P, Finset.mul_sum, ← Finset.card_univ, ← nsmul_eq_mul, ← Finset.sum_const, ← Finset.sum_sub_distrib, ← Finset.sum_add_distrib]
    exact Finset.sum_congr rfl fun p _ => by ring
  rw [this, show ∑ p, y p = 524288 * mean y by unfold mean; ring]
  ring

/-! ## The kernel's scale and shift, from the sum and the sum of squares -/

def kernelScale (g s q : EReal) : EReal :=
  g * Ideal.rsqrt (max (Ideal.div q count - Ideal.div s count * Ideal.div s count) 0 + little)
def kernelShift (g e s q : EReal) : EReal := e - Ideal.div s count * kernelScale g s q

theorem kernelScale_eq (g : EReal) (y : P → ℝ) : kernelScale g ((∑ p, y p : ℝ) : EReal) ((∑ p, y p * y p : ℝ) : EReal) = scale g y := by
  unfold kernelScale
  rw [count_eq, little_eq, div_real _ _ (by norm_num), div_real _ _ (by norm_num), ← EReal.coe_mul, ← EReal.coe_sub,
    show (∑ p, y p * y p) / 524288 - (∑ p, y p) / 524288 * ((∑ p, y p) / 524288) = var y from var_eq y, ← EReal.coe_zero, ← coe_max,
    max_eq_left (var_nonneg y), ← EReal.coe_add, Ideal.rsqrt_coe]
  have h : 0 < var y + eps := add_pos_of_nonneg_of_pos (var_nonneg y) eps_pos
  rw [if_neg (not_lt.mpr h.le), if_neg h.ne']
  rfl

theorem kernelShift_eq (g e : EReal) (y : P → ℝ) : kernelShift g e ((∑ p, y p : ℝ) : EReal) ((∑ p, y p * y p : ℝ) : EReal) = shift g e y := by
  unfold kernelShift
  rw [kernelScale_eq, count_eq, div_real _ _ (by norm_num)]
  rfl

theorem kernelScale_zero (s q : EReal) : kernelScale 0 s q = 0 := zero_mul _
theorem kernelShift_zero (s q : EReal) : kernelShift 0 0 s q = 0 := by
  unfold kernelShift
  rw [kernelScale_zero, mul_zero, sub_zero]

/-! ## The reference's, of values that are larger by a bias -/

def refMean (y : P → EReal) : EReal := Ideal.div (0 + ∑ p, y p) count
def refRoot (y : P → EReal) : EReal := Ideal.sqrt (Ideal.div (0 + ∑ p, (y p - refMean y) * (y p - refMean y)) count + little)
def refScale (g : EReal) (y : P → EReal) : EReal := Ideal.div g (refRoot y)
def refShift (b g e : EReal) (y : P → EReal) : EReal := e + (b - refMean y) * refScale g y
def refNext (g e : EReal) (y : P → EReal) (p : P) : EReal := max (Ideal.div (y p - refMean y) (refRoot y) * g + e) 0

theorem refMean_eq (y : P → ℝ) (b : ℝ) : refMean (fun p => (y p : EReal) + b) = ((mean y + b : ℝ) : EReal) := by
  unfold refMean
  simp only [← EReal.coe_add]
  rw [zero_add, ← coe_sum, count_eq, div_real _ _ (by norm_num), Finset.sum_add_distrib, Finset.sum_const, nsmul_eq_mul, Finset.card_univ, card_P]
  unfold mean
  rw [add_div, mul_div_cancel_left₀ _ (by norm_num)]

theorem refRoot_eq (y : P → ℝ) (b : ℝ) : refRoot (fun p => (y p : EReal) + b) = (√(var y + eps) : EReal) := by
  unfold refRoot
  rw [refMean_eq]
  simp only [← EReal.coe_add, ← EReal.coe_sub, ← EReal.coe_mul]
  rw [zero_add, ← coe_sum, count_eq, little_eq, div_real _ _ (by norm_num), ← EReal.coe_add]
  simp only [add_sub_add_right_eq_sub]
  rw [Ideal.sqrt_coe]
  exact if_neg (not_lt.mpr (add_pos_of_nonneg_of_pos (var_nonneg y) eps_pos).le)

theorem refScale_eq (g : EReal) (y : P → ℝ) (b : ℝ) : refScale g (fun p => (y p : EReal) + b) = scale g y := by
  unfold refScale
  rw [refRoot_eq, Ideal.div_coe (root_pos y).ne', one_div]
  rfl

theorem refShift_eq (g e : EReal) (y : P → ℝ) (b : ℝ) : refShift b g e (fun p => (y p : EReal) + b) = shift g e y := by
  unfold refShift
  rw [refScale_eq, refMean_eq, ← EReal.coe_sub, show b - (mean y + b) = -mean y by ring, EReal.coe_neg, EReal.neg_mul, ← sub_eq_add_neg]
  rfl

theorem refNext_eq (g e : ℝ) (y : P → ℝ) (b : ℝ) (p : P) : refNext g e (fun p => (y p : EReal) + b) p = (next g e y p : EReal) := by
  unfold refNext
  rw [refRoot_eq, refMean_eq]
  dsimp only
  rw [← EReal.coe_add, ← EReal.coe_sub, div_real _ _ (root_pos y).ne', ← EReal.coe_mul, ← EReal.coe_add, ← EReal.coe_zero, ← coe_max]
  congr 1
  unfold next rshift rscale
  congr 1
  ring

/-! ## The layers of real numbers -/

def rlayer {a b : ℕ} (w : Fin a → Fin b → ℝ) (v : Fin b → P → ℝ) (o : Fin a) (p : P) : ℝ := ∑ x : Fin b, w o x * v x p

def rfirst (w : Fin 32 → Fin 6 → ℝ) (x q : Fin 3 → P → ℝ) (o : Fin 32) (p : P) : ℝ :=
  ∑ d : Fin 3, w o (d.castLE (by decide)) * (x d p - q d p) + ∑ d : Fin 3, w o (d.natAdd 3) * q d p

theorem layer_coe {a b : ℕ} (w : Fin a → Fin b → ℝ) (v : Fin b → P → ℝ) (o : Fin a) (p : P) :
    layer (fun o x => (w o x : EReal)) (fun x => (v x p : EReal)) o = (rlayer w v o p : EReal) := by
  unfold layer rlayer
  rw [coe_sum]
  simp only [EReal.coe_mul]

theorem first_coe (w : Fin 32 → Fin 6 → ℝ) (x q : Fin 3 → P → ℝ) (o : Fin 32) (p : P) :
    first (fun o x => (w o x : EReal)) (fun d => (x d p : EReal)) (fun d => (q d p : EReal)) o = (rfirst w x q o p : EReal) := by
  unfold first rfirst
  rw [EReal.coe_add, coe_sum, coe_sum]
  simp only [EReal.coe_mul, EReal.coe_sub]

theorem unit_coe {a : ℕ} (g e : Fin a → ℝ) (y : Fin a → P → ℝ) (o : Fin a) (p : P) :
    unit (fun o => scale (g o) (y o)) (fun o => shift (g o) (e o) (y o)) (fun o => (y o p : EReal)) o = (next (g o) (e o) (y o) p : EReal) := by
  unfold unit next
  dsimp only
  rw [scale_coe, shift_coe, ← EReal.coe_mul, ← EReal.coe_add, ← EReal.coe_zero, ← coe_max]

/-! ## The grid's points and lanes are the places -/

/-- The place that lane `j` of point `t` is at. -/
def place (t : Fin 256) (j : Fin 2048) : P :=
  (⟨t.val / 64, by have := t.isLt; omega⟩, ⟨t.val / 32 % 2 * 2048 + j.val, by have := j.isLt; omega⟩, ⟨t.val % 32, by omega⟩)

theorem sum_place (f : P → ℝ) : ∑ t, ∑ j, f (place t j) = ∑ p, f p := by
  rw [← Fintype.sum_prod_type']
  refine Fintype.sum_bijective (fun tj : Fin 256 × Fin 2048 => place tj.1 tj.2) ⟨?_, ?_⟩ _ _ fun _ => rfl
  · rintro ⟨t, j⟩ ⟨t', j'⟩ h
    have := t.isLt; have := j.isLt; have := t'.isLt; have := j'.isLt
    simp only [place, Prod.mk.injEq, Fin.mk.injEq] at h
    simp only [Prod.mk.injEq, Fin.ext_iff]
    omega
  · rintro ⟨b, n, k⟩
    have := b.isLt; have := n.isLt; have := k.isLt
    refine ⟨(⟨b.val * 64 + n.val / 2048 * 32 + k.val, by omega⟩, ⟨n.val % 2048, by omega⟩), ?_⟩
    simp only [place, Prod.mk.injEq, Fin.ext_iff]
    omega

end Cert.Proof.Norm

end
-- ==== Proof.Net.lean ====
/-
  The three normalized layers over the real numbers.
-/
module

public import proofs.«01_k».proof.Proof.Norm

@[expose] public section

noncomputable section

namespace Cert.Proof.Net

open Idealize.ShloMosaic Cert.Proof.Layers Cert.Proof.Norm

/-- The points and their neighbours, and each layer's weights, bias, gamma and beta; only the last gamma and beta may be infinite. -/
structure Net where
  pts : Fin 3 → P → ℝ
  nbr : Fin 3 → P → ℝ
  w1 : Fin 32 → Fin 6 → ℝ
  b1 : Fin 32 → ℝ
  g1 : Fin 32 → ℝ
  e1 : Fin 32 → ℝ
  w2 : Fin 32 → Fin 32 → ℝ
  b2 : Fin 32 → ℝ
  g2 : Fin 32 → ℝ
  e2 : Fin 32 → ℝ
  w3 : Fin 64 → Fin 32 → ℝ
  b3 : Fin 64 → ℝ
  g3 : Fin 64 → EReal
  e3 : Fin 64 → EReal

namespace Net

variable (n : Net)

/-- Each layer before its normalization and without its bias, and after. -/
def z1 : Fin 32 → P → ℝ := rfirst n.w1 n.nbr n.pts
def a1 (o : Fin 32) : P → ℝ := next (n.g1 o) (n.e1 o) (n.z1 o)
def z2 : Fin 32 → P → ℝ := rlayer n.w2 n.a1
def a2 (o : Fin 32) : P → ℝ := next (n.g2 o) (n.e2 o) (n.z2 o)
def z3 : Fin 64 → P → ℝ := rlayer n.w3 n.a2

end Net

/-- The fourteen arrays hold the net's numbers. -/
structure Reads (n : Net) (x0 : (⟨3, ![4, 3, 4096]⟩ : Shape).Idx → EReal) (x1 : (⟨4, ![4, 32, 3, 4096]⟩ : Shape).Idx → EReal)
    (x2 : (⟨2, ![32, 6]⟩ : Shape).Idx → EReal) (x3 x4 x5 : (⟨1, ![32]⟩ : Shape).Idx → EReal)
    (x6 : (⟨2, ![32, 32]⟩ : Shape).Idx → EReal) (x7 x8 x9 : (⟨1, ![32]⟩ : Shape).Idx → EReal)
    (x10 : (⟨2, ![64, 32]⟩ : Shape).Idx → EReal) (x11 x12 x13 : (⟨1, ![64]⟩ : Shape).Idx → EReal) : Prop where
  pts : ∀ d p, x0 (ix3 p.1 d p.2.1) = (n.pts d p : EReal)
  nbr : ∀ d p, x1 (ix4 p.1 p.2.2 d p.2.1) = (n.nbr d p : EReal)
  w1 : ∀ o d, x2 (ix2 o d) = (n.w1 o d : EReal)
  b1 : ∀ o, x3 (ix1 o) = (n.b1 o : EReal)
  g1 : ∀ o, x4 (ix1 o) = (n.g1 o : EReal)
  e1 : ∀ o, x5 (ix1 o) = (n.e1 o : EReal)
  w2 : ∀ o d, x6 (ix2 o d) = (n.w2 o d : EReal)
  b2 : ∀ o, x7 (ix1 o) = (n.b2 o : EReal)
  g2 : ∀ o, x8 (ix1 o) = (n.g2 o : EReal)
  e2 : ∀ o, x9 (ix1 o) = (n.e2 o : EReal)
  w3 : ∀ o d, x10 (ix2 o d) = (n.w3 o d : EReal)
  b3 : ∀ o, x11 (ix1 o) = (n.b3 o : EReal)
  g3 : ∀ o, x12 (ix1 o) = n.g3 o
  e3 : ∀ o, x13 (ix1 o) = n.e3 o

end Cert.Proof.Net

end
-- ==== Proof.Finite.lean ====
/-
  What the preconditions on floats say of an array: every element is a real number.
-/
module

public import proofs.«01_k».proof.Defs
public import proofs.«01_k».proof.Proof.Gen.Pre_finite
public import proofs.«01_k».proof.Proof.Gen.Pre_stats_finite
public import proofs.«01_k».proof.Proof.Net
public import Idealize.ShloMosaic.Lib.ReduceAll
public import Idealize.ShloMosaic.Lib.Pointwise

@[expose] public section

noncomputable section

namespace Cert.Proof.Finite

open Idealize.ShloMosaic

/-- Every element is a real number. -/
def Real {s : Shape} (x : s.Idx → EReal) : Prop := ∀ j, ∃ r : ℝ, x j = (r : EReal)

theorem real_of_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [show Ideal.ofBits .f32 0x7F800000#32 = ⊤ by simp [Ideal.ofBits, Ideal.ieee]] at h
  induction x with
  | bot => change Ideal.cmp .olt (max ⊥ (-⊥)) ⊤ = 1#1 at h; simp [Ideal.cmp] at h
  | top => change Ideal.cmp .olt (max ⊤ (-⊤)) ⊤ = 1#1 at h; simp [Ideal.cmp] at h
  | coe r => exact ⟨r, rfl⟩

theorem andi_one : ∀ a b : BitVec 1, IntOp.andi a b = 1#1 → a = 1#1 ∧ b = 1#1 := by decide

theorem finite_of_pre x0 x1 x2 x3 x4 x5 x6 x7 x8 x9 x10
    (h : Cert.Pre_finite.fn (F := Ideal) x0 x1 x2 x3 x4 x5 x6 x7 x8 x9 x10 = fun _ => 1#1) : Real x0 ∧ Real x1 ∧ Real x2 := by
  haveI : Subsingleton Cert.Pre_finite.S_.Idx := ⟨fun a b => funext fun k => k.elim0⟩
  have e := congrFun h (fun k => k.elim0)
  obtain ⟨e01, e2⟩ := andi_one _ _ e
  obtain ⟨e0, e1⟩ := andi_one _ _ e01
  exact ⟨fun j => real_of_lt _ (Host.reduce_andi_all _ _ _ _ _ e0 j), fun j => real_of_lt _ (Host.reduce_andi_all _ _ _ _ _ e1 j),
    fun j => real_of_lt _ (Host.reduce_andi_all _ _ _ _ _ e2 j)⟩

/-- An array all of whose magnitudes are below infinity. -/
theorem real_of_all {s t u : Shape} [Subsingleton t.Idx] (x : s.Idx → EReal) {dims : List (Fin s.rank)} {h : s.ReducesTo dims t} {hu : 0 < u.numel} {init : IVec u 1}
    {hb : (⟨0, ![]⟩ : Shape).BroadcastsInDim s (![] : Fin 0 → Fin s.rank)} {k : t.Idx}
    (e : Host.reduce IntOp.andi (cmpf (F := Ideal) (φ := .f32) .olt (Host.absf (F := Ideal) (φ := .f32) x)
      (broadcastInDim s ![] hb (constant (F := Ideal) ⟨0, ![]⟩ .f32 0x7F800000#32))) init h hu k = 1#1) : Real x :=
  fun j => real_of_lt _ (Host.reduce_andi_all _ _ _ _ _ e j)

theorem real_of_stats_finite x0 x1 x2 x3 x4 x5 x6 x7 x8 x9 x10 x11 x12 x13
    (h : Cert.Pre_stats_finite.fn (F := Ideal) x0 x1 x2 x3 x4 x5 x6 x7 x8 x9 x10 x11 x12 x13 = fun _ => 1#1) :
    ((Real x0 ∧ Real x1) ∧ Real x2 ∧ Real x3 ∧ Real x4 ∧ Real x5) ∧ (Real x6 ∧ Real x7 ∧ Real x8 ∧ Real x9) ∧ Real x10 ∧ Real x11 := by
  haveI : Subsingleton Cert.Pre_stats_finite.S_.Idx := ⟨fun a b => funext fun k => k.elim0⟩
  have e := congrFun h (fun k => k.elim0)
  obtain ⟨e, e11⟩ := andi_one _ _ e
  obtain ⟨e, e10⟩ := andi_one _ _ e
  obtain ⟨e, e9⟩ := andi_one _ _ e
  obtain ⟨e, e8⟩ := andi_one _ _ e
  obtain ⟨e, e7⟩ := andi_one _ _ e
  obtain ⟨e, e6⟩ := andi_one _ _ e
  obtain ⟨e, e5⟩ := andi_one _ _ e
  obtain ⟨e, e4⟩ := andi_one _ _ e
  obtain ⟨e, e3⟩ := andi_one _ _ e
  obtain ⟨e, e2⟩ := andi_one _ _ e
  obtain ⟨e0, e1⟩ := andi_one _ _ e
  exact ⟨⟨⟨real_of_all _ e0, real_of_all _ e1⟩, real_of_all _ e2, real_of_all _ e3, real_of_all _ e4, real_of_all _ e5⟩,
    ⟨real_of_all _ e6, real_of_all _ e7, real_of_all _ e8, real_of_all _ e9⟩, real_of_all _ e10, real_of_all _ e11⟩

/-- Arrays of real numbers are a net. -/
theorem net_of_stats_finite x0 x1 x2 x3 x4 x5 x6 x7 x8 x9 x10 x11 x12 x13
    (h : Cert.Pre_stats_finite.fn (F := Ideal) x0 x1 x2 x3 x4 x5 x6 x7 x8 x9 x10 x11 x12 x13 = fun _ => 1#1) :
    ∃ n : Net.Net, Net.Reads n x0 x1 x2 x3 x4 x5 x6 x7 x8 x9 x10 x11 x12 x13 := by
  obtain ⟨⟨⟨h0, h1⟩, h2, h3, h4, h5⟩, ⟨h6, h7, h8, h9⟩, h10, h11⟩ := real_of_stats_finite _ _ _ _ _ _ _ _ _ _ _ _ _ _ h
  choose y0 h0 using h0
  choose y1 h1 using h1
  choose y2 h2 using h2
  choose y3 h3 using h3
  choose y4 h4 using h4
  choose y5 h5 using h5
  choose y6 h6 using h6
  choose y7 h7 using h7
  choose y8 h8 using h8
  choose y9 h9 using h9
  choose y10 h10 using h10
  choose y11 h11 using h11
  exact ⟨⟨fun d p => y0 (ix3 p.1 d p.2.1), fun d p => y1 (ix4 p.1 p.2.2 d p.2.1), fun o d => y2 (ix2 o d), fun o => y3 (ix1 o), fun o => y4 (ix1 o), fun o => y5 (ix1 o),
    fun o d => y6 (ix2 o d), fun o => y7 (ix1 o), fun o => y8 (ix1 o), fun o => y9 (ix1 o), fun o d => y10 (ix2 o d), fun o => y11 (ix1 o), fun o => x12 (ix1 o), fun o => x13 (ix1 o)⟩,
    fun _ _ => h0 _, fun _ _ => h1 _, fun _ _ => h2 _, fun _ => h3 _, fun _ => h4 _, fun _ => h5 _, fun _ _ => h6 _, fun _ => h7 _, fun _ => h8 _, fun _ => h9 _,
    fun _ _ => h10 _, fun _ => h11 _, fun _ => rfl, fun _ => rfl⟩

end Cert.Proof.Finite

end
-- ==== Proof.FinalValue.lean ====
/-
  The last pass, whole: the array it leaves is, at every channel and point, the largest activation over the neighbours.
-/
module

public import proofs.«01_k».proof.Proof.FinalAct
public import proofs.«01_k».proof.Proof.Finite
public import Idealize.ShloMosaic.Lib.Pipeline.Value

@[expose] public section

set_option maxRecDepth 16384

noncomputable section

namespace Cert.FinalIdeal.Whole

open Cert.FinalIdeal Cert.FinalIdeal.Gen Cert.FinalIdeal.Body Cert.FinalIdeal.Act Cert.Proof.Layers Cert.Proof.Finite
open Idealize.ShloMosaic Idealize.ShloMosaic.TcCoe Idealize.SL.Sem

variable (m : (ℓ : Loc nD τ sig) → Buf (Elt Ideal) ℓ)

/-! ## Which part of each array a point reads -/

theorem idx0 : ∀ t : Fin cfg0.N, win0_0.index t (0 : Fin 4) = t.val / 64 ∧ win0_0.index t (1 : Fin 4) = t.val % 32
    ∧ win0_0.index t (2 : Fin 4) = 0 ∧ win0_0.index t (3 : Fin 4) = t.val / 32 % 2 :=
  (by decide +kernel : ∀ t : Fin grid0.N, _)

theorem idx1 : ∀ t : Fin cfg0.N, win0_1.index t (0 : Fin 3) = t.val / 64 ∧ win0_1.index t (1 : Fin 3) = 0
    ∧ win0_1.index t (2 : Fin 3) = t.val / 32 % 2 :=
  (by decide +kernel : ∀ t : Fin grid0.N, _)

theorem idx12 : ∀ t : Fin cfg0.N, win0_12.index t (0 : Fin 3) = t.val / 64 ∧ win0_12.index t (1 : Fin 3) = 0
    ∧ win0_12.index t (2 : Fin 3) = t.val / 32 % 2 :=
  (by decide +kernel : ∀ t : Fin grid0.N, _)

theorem lt_N (t : Fin cfg0.N) : t.val < 256 := t.isLt.trans_eq N_0

/-- The cloud, the neighbour and the position that a point and a lane of it name. -/
abbrev cloud (t : Fin cfg0.N) : Fin 4 := ⟨t.val / 64, by have := lt_N t; omega⟩
abbrev neighbour (t : Fin cfg0.N) : Fin 32 := ⟨t.val % 32, by omega⟩
abbrev position (t : Fin cfg0.N) (j : Fin 2048) : Fin 4096 := ⟨t.val / 32 % 2 * 2048 + j.val, by have := j.isLt; omega⟩

theorem iblk0 (c : Dev nD) (t : Fin cfg0.N) (d : Fin 3) (j : Fin 2048) :
    (iblk m c 0 t : Vec Ideal S1x1x3x2048 .f32) (ix4 0 0 d j) = m ((c : Thread nD τ).loc main_arg1) (ix4 (cloud t) (neighbour t) d (position t j)) := by
  show V m c main_arg1 (((cfg0.win 0).blk t).view.emb _) = _
  rw [V_main_arg1]
  obtain ⟨e0, e1, e2, e3⟩ := idx0 t
  congr 1
  funext a; apply Fin.ext
  match a with
  | ⟨0, _⟩ => show win0_0.index t 0 * 1 + 1 * 0 = t.val / 64; omega
  | ⟨1, _⟩ => show win0_0.index t 1 * 1 + 1 * 0 = t.val % 32; omega
  | ⟨2, _⟩ => show win0_0.index t 2 * 3 + 1 * d.val = d.val; omega
  | ⟨3, _⟩ => show win0_0.index t 3 * 2048 + 1 * j.val = t.val / 32 % 2 * 2048 + j.val; omega

theorem iblk1 (c : Dev nD) (t : Fin cfg0.N) (d : Fin 3) (j : Fin 2048) :
    (iblk m c 1 t : Vec Ideal S1x3x2048 .f32) (ix3 0 d j) = m ((c : Thread nD τ).loc main_arg0) (ix3 (cloud t) d (position t j)) := by
  show V m c main_arg0 (((cfg0.win 1).blk t).view.emb _) = _
  rw [V_main_arg0]
  obtain ⟨e0, e1, e2⟩ := idx1 t
  congr 1
  funext a; apply Fin.ext
  match a with
  | ⟨0, _⟩ => show win0_1.index t 0 * 1 + 1 * 0 = t.val / 64; omega
  | ⟨1, _⟩ => show win0_1.index t 1 * 3 + 1 * d.val = d.val; omega
  | ⟨2, _⟩ => show win0_1.index t 2 * 2048 + 1 * j.val = t.val / 32 % 2 * 2048 + j.val; omega

theorem iblk2 (c : Dev nD) (t : Fin cfg0.N) : (iblk m c 2 t : Vec Ideal S32x3 .f32) = V m c main_v0 :=
  Memref.read_access_unit_zero (Elt Ideal) main_v0 (funext fun a => by fin_cases a <;> rfl) _ _

theorem iblk3 (c : Dev nD) (t : Fin cfg0.N) : (iblk m c 3 t : Vec Ideal S32x3 .f32) = V m c main_v3 :=
  Memref.read_access_unit_zero (Elt Ideal) main_v3 (funext fun a => by fin_cases a <;> rfl) _ _

theorem iblk4 (c : Dev nD) (t : Fin cfg0.N) : (iblk m c 4 t : Vec Ideal S32x32 .f32) = m ((c : Thread nD τ).loc main_arg3) :=
  (Memref.read_access_unit_zero (Elt Ideal) main_arg3 (funext fun a => by fin_cases a <;> rfl) _ _).trans (V_main_arg3 m c)

theorem iblk5 (c : Dev nD) (t : Fin cfg0.N) : (iblk m c 5 t : Vec Ideal S64x32 .f32) = m ((c : Thread nD τ).loc main_arg4) :=
  (Memref.read_access_unit_zero (Elt Ideal) main_arg4 (funext fun a => by fin_cases a <;> rfl) _ _).trans (V_main_arg4 m c)

theorem iblk6 (c : Dev nD) (t : Fin cfg0.N) : (iblk m c 6 t : Vec Ideal S128x1 .f32) = m ((c : Thread nD τ).loc main_arg5) :=
  (Memref.read_access_unit_zero (Elt Ideal) main_arg5 (funext fun a => by fin_cases a <;> rfl) _ _).trans (V_main_arg5 m c)

theorem iblk7 (c : Dev nD) (t : Fin cfg0.N) : (iblk m c 7 t : Vec Ideal S128x1 .f32) = m ((c : Thread nD τ).loc main_arg6) :=
  (Memref.read_access_unit_zero (Elt Ideal) main_arg6 (funext fun a => by fin_cases a <;> rfl) _ _).trans (V_main_arg6 m c)

theorem iblk8 (c : Dev nD) (t : Fin cfg0.N) : (iblk m c 8 t : Vec Ideal S128x1 .f32) = m ((c : Thread nD τ).loc main_arg7) :=
  (Memref.read_access_unit_zero (Elt Ideal) main_arg7 (funext fun a => by fin_cases a <;> rfl) _ _).trans (V_main_arg7 m c)

theorem iblk9 (c : Dev nD) (t : Fin cfg0.N) : (iblk m c 9 t : Vec Ideal S128x1 .f32) = m ((c : Thread nD τ).loc main_arg8) :=
  (Memref.read_access_unit_zero (Elt Ideal) main_arg8 (funext fun a => by fin_cases a <;> rfl) _ _).trans (V_main_arg8 m c)

theorem iblk10 (c : Dev nD) (t : Fin cfg0.N) : (iblk m c 10 t : Vec Ideal S128x1 .f32) = m ((c : Thread nD τ).loc main_arg9) :=
  (Memref.read_access_unit_zero (Elt Ideal) main_arg9 (funext fun a => by fin_cases a <;> rfl) _ _).trans (V_main_arg9 m c)

theorem iblk11 (c : Dev nD) (t : Fin cfg0.N) : (iblk m c 11 t : Vec Ideal S128x1 .f32) = m ((c : Thread nD τ).loc main_arg10) :=
  (Memref.read_access_unit_zero (Elt Ideal) main_arg10 (funext fun a => by fin_cases a <;> rfl) _ _).trans (V_main_arg10 m c)

/-! ## The two halves of the first layer's weights -/

/-- The first layer's weights, as launched. -/
abbrev W (c : Dev nD) : S32x6.Idx → EReal := m ((c : Thread nD τ).loc main_arg2)

theorem V_near (c : Dev nD) (o : Fin 32) (d : Fin 3) :
    (V m c main_v0 : Vec Ideal S32x3 .f32) (ix2 o d) = W m c (ix2 o (d.castLE (by decide))) := by
  have e : V m c main_v0 = extractStridedSlice S32x3 ![0, 0] (W m c) slices_S32x6_S32x3_0_0 := rfl
  rw [e]
  pointwise []
  rfl

theorem V_own (c : Dev nD) (o : Fin 32) (d : Fin 3) :
    (V m c main_v3 : Vec Ideal S32x3 .f32) (ix2 o d) = W m c (ix2 o (d.natAdd 3))
      - W m c (ix2 o (d.castLE (by decide))) := by
  have e : V m c main_v3 = subf (F := Ideal) (extractStridedSlice S32x3 ![0, 3] (W m c) slices_S32x6_S32x3_0_3)
    (extractStridedSlice S32x3 ![0, 0] (W m c) slices_S32x6_S32x3_0_0) := rfl
  rw [e]
  pointwise []
  rfl

/-! ## A point's block, and the array after the run -/

/-- The activation of channel `o` at neighbour `k` of position `n` in cloud `b`. -/
def A (c : Dev nD) (b : Fin 4) (k : Fin 32) (n : Fin 4096) (o : Fin 64) : EReal :=
  rest (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))
    (split (entry (W m c)) (fun d => m ((c : Thread nD τ).loc main_arg1) (ix4 b k d n))
      (fun d => m ((c : Thread nD τ).loc main_arg0) (ix3 b d n))) o

theorem act_apply (c : Dev nD) (t : Fin cfg0.N) (o : Fin 64) (j : Fin 2048) :
    act m c t (ix2 o j) = A m c (cloud t) (neighbour t) (position t j) o := by
  unfold act A
  rw [chain_apply, iblk4, iblk5, iblk6, iblk7, iblk8, iblk9, iblk10, iblk11, iblk2, iblk3]
  congr 1
  funext i
  unfold split layer entry
  simp only [iblk0, iblk1]
  exact congrArg₂ (· + ·) (Finset.sum_congr rfl fun x _ => congrArg (· * _) (V_near m c i x))
    (Finset.sum_congr rfl fun x _ => congrArg (· * _) (V_own m c i x))

/-- The staging block after a point: the largest activation over the neighbours met so far. -/
theorem outs_apply (c : Dev nD) (o : Fin 64) (j : Fin 2048) : ∀ (n : ℕ) (h : n < cfg0.N), outsAt0 m c n h (ix3 0 o j)
    = (Finset.univ.filter fun k : Fin 32 => k.val ≤ n % 32).sup fun k => A m c (cloud ⟨n, h⟩) k (position ⟨n, h⟩ j) o := by
  intro n
  induction n with
  | zero =>
    intro h
    rw [outs_first m c ⟨0, h⟩ rfl]
    have e : (Finset.univ.filter fun k : Fin 32 => k.val ≤ 0 % 32) = {neighbour ⟨0, h⟩} := by
      ext k
      simp only [Finset.mem_filter, Finset.mem_univ, true_and, Finset.mem_singleton, Fin.ext_iff]
      omega
    rw [e, Finset.sup_singleton, ← act_apply]
    pointwise []
  | succ n ih =>
    intro h
    have hN := h.trans_eq N_0
    by_cases hz : (n + 1) % 32 = 0
    · rw [outs_first m c ⟨n + 1, h⟩ hz]
      have e : (Finset.univ.filter fun k : Fin 32 => k.val ≤ (n + 1) % 32) = {neighbour ⟨n + 1, h⟩} := by
        ext k
        simp only [Finset.mem_filter, Finset.mem_univ, true_and, Finset.mem_singleton, Fin.ext_iff]
        omega
      rw [e, Finset.sup_singleton, ← act_apply]
      pointwise []
    · rw [outs_next m c ⟨n + 1, h⟩ hz]
      have e : (Finset.univ.filter fun k : Fin 32 => k.val ≤ (n + 1) % 32)
          = insert (neighbour ⟨n + 1, h⟩) (Finset.univ.filter fun k : Fin 32 => k.val ≤ n % 32) := by
        ext k
        simp only [Finset.mem_filter, Finset.mem_univ, true_and, Finset.mem_insert, Fin.ext_iff]
        omega
      have e1 : cloud ⟨n + 1, h⟩ = cloud ⟨n, Nat.lt_of_succ_lt h⟩ := Fin.ext (by show (n + 1) / 64 = n / 64; omega)
      have e2 : position ⟨n + 1, h⟩ j = position ⟨n, Nat.lt_of_succ_lt h⟩ j :=
        Fin.ext (by show (n + 1) / 32 % 2 * 2048 + _ = n / 32 % 2 * 2048 + _; omega)
      rw [e, Finset.sup_insert, ← act_apply, e1, e2, ← ih (Nat.lt_of_succ_lt h), max_comm]
      pointwise []
      rfl

/-- The result: the largest activation over all neighbours. -/
def result (c : Dev nD) : S4x64x4096.Idx → EReal := fun i => Finset.univ.sup fun k => A m c (i 0) k (i 2) (i 1)

theorem flushed_eq (c : Dev nD) (t : Fin cfg0.N) (hf : (cfg0.win 12).flush t = true) :
    (dats m 0 c).flushed 12 t = ((cfg0.win 12).blk t).view.read (Elt Ideal) (result m c) := by
  have ht := (flush0_12 t).mp hf
  obtain ⟨e0, e1, e2⟩ := idx12 t
  have ho : outsAt0 m c t.val t.isLt = ((cfg0.win 12).blk t).view.read (Elt Ideal) (result m c) := by
    funext y
    obtain ⟨o, j, rfl⟩ : ∃ (o : Fin 64) (j : Fin 2048), y = ix3 0 o j :=
      ⟨y 1, y 2, funext fun a => by
        match a with
        | ⟨0, _⟩ => exact Subsingleton.elim (α := Fin 1) _ _
        | ⟨1, _⟩ => rfl
        | ⟨2, _⟩ => rfl⟩
    rw [outs_apply]
    show _ = result m c (((cfg0.win 12).blk t).view.emb (ix3 0 o j))
    have ea : ((cfg0.win 12).blk t).view.emb (ix3 0 o j) = ix3 (cloud t) o (position t j) := by
      funext a; apply Fin.ext
      match a with
      | ⟨0, _⟩ => show win0_12.index t 0 * 1 + 1 * 0 = t.val / 64; omega
      | ⟨1, _⟩ => show win0_12.index t 1 * 64 + 1 * o.val = o.val; omega
      | ⟨2, _⟩ => show win0_12.index t 2 * 2048 + 1 * j.val = t.val / 32 % 2 * 2048 + j.val; omega
    rw [ea]
    unfold result
    have : (Finset.univ.filter fun k : Fin 32 => k.val ≤ t.val % 32) = Finset.univ := by ext k; simp; omega
    rw [this]
    rfl
  rw [Cert.FinalIdeal.Value.flushed12, ho]

theorem array_eq (c : Dev nD) : (dats m 0 c).arrAt 12 cfg0.N = result m c :=
  (dats m 0 c).arrAt_eq_of_cover 12 (result m c) (flushed_eq m c) fun i => by
    have h0 : (i 0 : Nat) < 4 := (i 0).isLt
    have h1 : (i 1 : Nat) < 64 := (i 1).isLt
    have h2 : (i 2 : Nat) < 4096 := (i 2).isLt
    obtain ⟨t, ht⟩ : ∃ t : Fin cfg0.N, t.val = ((i 0 : Nat) * 2 + (i 2 : Nat) / 2048) * 32 + 31 := ⟨⟨_, by show _ < grid0.N; rw [N_0]; omega⟩, rfl⟩
    refine ⟨t, (flush0_12 t).mpr (by omega), ?_⟩
    obtain ⟨e0, e1, e2⟩ := idx12 t
    show i ∈ ((View.whole main_v4).slice (win0_12.rect t)).set
    rw [View.set_slice_whole, Rect.mem_set_unit]
    intro a
    match a with
    | ⟨0, _⟩ => show win0_12.index t 0 * 1 ≤ (i 0 : Nat) ∧ (i 0 : Nat) < win0_12.index t 0 * 1 + 1; omega
    | ⟨1, _⟩ => show win0_12.index t 1 * 64 ≤ (i 1 : Nat) ∧ (i 1 : Nat) < win0_12.index t 1 * 64 + 64; omega
    | ⟨2, _⟩ => show win0_12.index t 2 * 2048 ≤ (i 2 : Nat) ∧ (i 2 : Nat) < win0_12.index t 2 * 2048 + 2048; omega

/-! ## The reference's array -/

theorem reference_eq (c : Dev nD) (h0 : Real (s := S4x3x4096) (m ((c : Thread nD τ).loc main_arg0)))
    (h1 : Real (s := S4x32x3x4096) (m ((c : Thread nD τ).loc main_arg1))) (h2 : Real (s := S32x6) (m ((c : Thread nD τ).loc main_arg2))) :
    Cert.FinalReferenceIdeal.Read.val_main_v46 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) = result m c := by
  funext i
  obtain ⟨b, o, n, rfl⟩ : ∃ (b : Fin 4) (o : Fin 64) (n : Fin 4096), i = ix3 b o n :=
    ⟨i 0, i 1, i 2, funext fun a => by fin_cases a <;> rfl⟩
  rw [ref_eq]
  refine Finset.sup_congr rfl fun k _ => ?_
  show _ = A m c b k n o
  unfold A
  congr 1
  funext y
  exact (split_eq_of_real _ _ _ (fun _ _ => h2 _) (fun _ => h1 _) (fun _ => h0 _) y).symm

end Cert.FinalIdeal.Whole

end
-- ==== Proof.StatsAct.lean ====
/-
  The statistics passes' blocks, element by element: the layers on plain coordinates, and the sums over a block's lanes.
-/
module

public import proofs.«01_k».proof.Proof.Gen.StatsIdeal.Skeleton
public import proofs.«01_k».proof.Proof.Layers

@[expose] public section

set_option maxRecDepth 16384

noncomputable section

namespace Cert.StatsIdeal.Act

open Cert.StatsIdeal Cert.StatsIdeal.Gen Idealize.ShloMosaic Idealize.ShloMosaic.TcCoe Idealize.SL.Sem
open Cert.Proof.Layers

/-- The first layer at a lane of a block. -/
def one (x0 : Vec Ideal S1x1x3x2048 .f32) (x1 : Vec Ideal S1x3x2048 .f32) (x2 x3 : Vec Ideal S32x3 .f32) (j : Fin 2048) (i : Fin 32) : EReal :=
  layer (entry x2) (fun d => x0 (ix4 0 0 d j)) i + layer (entry x3) (fun d => x1 (ix3 0 d j)) i

/-- Rectified and put through a further layer. -/
def further {a : ℕ} (w : Fin a → Fin 32 → EReal) (s h : Vec Ideal S128x1 .f32) (y : Fin 32 → EReal) (o : Fin a) : EReal :=
  layer w (unit (column (by decide) s) (column (by decide) h) y) o

theorem first_sum x0 x1 x2 x3 (v : Vec Ideal S32x1 .f32) (o : Fin 32) :
    k0_pay4 x0 x1 x2 x3 v (ix2 o 0) = v (ix2 o 0) + ∑ j : Fin 2048, one x0 x1 x2 x3 j o := by
  unfold one layer entry
  pointwise [k0_pay4, k0_pay3]

theorem first_square x0 x1 x2 x3 (v : Vec Ideal S32x1 .f32) (o : Fin 32) :
    k0_pay5 x0 x1 x2 x3 v (ix2 o 0) = v (ix2 o 0) + ∑ j : Fin 2048, one x0 x1 x2 x3 j o * one x0 x1 x2 x3 j o := by
  unfold one layer entry
  pointwise [k0_pay5, k0_pay3]

theorem second_sum s1 h1 x0 x1 x2 x3 x4 (v : Vec Ideal S32x1 .f32) (o : Fin 32) :
    k1_pay2 (k1_pay6 s1 h1 x0 x1 x2 x3) x4 (constant S32x2048 .f32 0x00000000#32) v (ix2 o 0)
      = v (ix2 o 0) + ∑ j : Fin 2048, further (entry x4) s1 h1 (one x0 x1 x2 x3 j) o := by
  unfold further one unit layer entry column
  pointwise [k1_pay2, k1_pay1, k1_pay6]

theorem second_square s1 h1 x0 x1 x2 x3 x4 (v : Vec Ideal S32x1 .f32) (o : Fin 32) :
    k1_pay3 (k1_pay6 s1 h1 x0 x1 x2 x3) x4 (constant S32x2048 .f32 0x00000000#32) v (ix2 o 0)
      = v (ix2 o 0) + ∑ j : Fin 2048, further (entry x4) s1 h1 (one x0 x1 x2 x3 j) o * further (entry x4) s1 h1 (one x0 x1 x2 x3 j) o := by
  unfold further one unit layer entry column
  pointwise [k1_pay3, k1_pay1, k1_pay6]

theorem third_sum s1 h1 s2 h2 x0 x1 x2 x3 x4 x5 (v : Vec Ideal S64x1 .f32) (o : Fin 64) :
    k2_pay2 (k2_pay4 s2) (k2_pay5 h2) (k2_pay8 s1 x0 x1 x2 x3) (k2_pay9 h1) x4 x5 v (ix2 o 0)
      = v (ix2 o 0) + ∑ j : Fin 2048, further (entry x5) s2 h2 (further (entry x4) s1 h1 (one x0 x1 x2 x3 j)) o := by
  unfold further one unit layer entry column
  pointwise [k2_pay2, k2_pay1, k2_pay4, k2_pay5, k2_pay8, k2_pay9]

theorem third_square s1 h1 s2 h2 x0 x1 x2 x3 x4 x5 (v : Vec Ideal S64x1 .f32) (o : Fin 64) :
    k2_pay3 (k2_pay4 s2) (k2_pay5 h2) (k2_pay8 s1 x0 x1 x2 x3) (k2_pay9 h1) x4 x5 v (ix2 o 0)
      = v (ix2 o 0) + ∑ j : Fin 2048, further (entry x5) s2 h2 (further (entry x4) s1 h1 (one x0 x1 x2 x3 j)) o
        * further (entry x5) s2 h2 (further (entry x4) s1 h1 (one x0 x1 x2 x3 j)) o := by
  unfold further one unit layer entry column
  pointwise [k2_pay3, k2_pay1, k2_pay4, k2_pay5, k2_pay8, k2_pay9]

end Cert.StatsIdeal.Act

end
-- ==== Proof.Columns.lean ====
/-
  A column of 128 of which only the first rows are added to: what a store of the first rows leaves, and what a run of
  such additions from zero sums to.
-/
module

public import Idealize.ShloMosaic.Lib.Tactic
public import Idealize.ShloMosaic.Lib.Pipeline.Value
public import Idealize.ShloMosaic.Lib.Pointwise

@[expose] public section

noncomputable section

namespace Cert.Proof.Columns

open Idealize.ShloMosaic

/-- A column of `a`. -/
abbrev Col (a : ℕ) : Shape := ⟨2, ![a, 1]⟩

section Stores
variable {Val : EltTy → Type} {sig : RefSig} {κ : Kind} {sp : Space} {e : EltTy}
variable (v : View sig κ sp (Col 128) e) (f : v.ty.Contents Val)

/-- The first `a` rows. -/
abbrev top {a : ℕ} (inb : ∀ x, (![0, 0] : Fin 2 → ℕ) x + (Col a).size x ≤ (Col 128).size x) : Rect (Col 128) :=
  Rect.unit (s := Col 128) ![0, 0] (Col a).size inb

theorem top_emb {a : ℕ} (inb : ∀ x, (![0, 0] : Fin 2 → ℕ) x + (Col a).size x ≤ (Col 128).size x) (o : Fin 128) (h : o.val < a) :
    (top inb).emb (ix2 ⟨o.val, h⟩ 0 : (Col a).Idx) = ix2 o 0 := by
  funext x; apply Fin.ext
  fin_cases x
  · show 0 + 1 * o.val = o.val; omega
  · rfl

/-- After a store of the first `a` rows, those are the stored ones and the others as before. -/
theorem read_rows {a : ℕ} (inb : ∀ x, (![0, 0] : Fin 2 → ℕ) x + (Col a).size x ≤ (Col 128).size x)
    (P : (Col a).Idx → Val e) (L : List (View.Piece Val (Col 128) e)) (o : Fin 128) :
    v.read Val (v.writes Val f ((⟨top inb, P⟩ : View.Piece Val (Col 128) e) :: L)) (ix2 o 0)
      = if h : o.val < a then P (ix2 ⟨o.val, h⟩ 0) else v.read Val (v.writes Val f L) (ix2 o 0) := by
  split
  · rename_i h
    exact View.read_writes_cons_hit v f (top inb) P L (ix2 ⟨o.val, h⟩ 0 : (Col a).Idx) (ix2 o 0) (top_emb inb o h)
  · rename_i h
    exact View.read_writes_cons_miss_of_axis v f ⟨top inb, P⟩ L (ix2 o 0) (0 : Fin 2) 0 a rfl rfl rfl (.inr (by show 0 + a ≤ o.val; omega))

/-- After a store of the whole column, it is the stored one. -/
theorem read_all (inb : ∀ x, (![0, 0] : Fin 2 → ℕ) x + (Col 128).size x ≤ (Col 128).size x)
    (Z : (Col 128).Idx → Val e) (L : List (View.Piece Val (Col 128) e)) (o : Fin 128) :
    v.read Val (v.writes Val f ((⟨top inb, Z⟩ : View.Piece Val (Col 128) e) :: L)) (ix2 o 0) = Z (ix2 o 0) :=
  View.read_writes_cons_hit v f (top inb) Z L (ix2 o 0 : (Col 128).Idx) (ix2 o 0) (top_emb inb o o.isLt)

/-- The first rows of a column, loaded. -/
theorem ld_rows {a : ℕ} (ha : a ≤ 128) (inb : ∀ x, (![0, 0] : Fin 2 → ℕ) x + (Col a).size x ≤ (Col 128).size x)
    (X : (Col 128).Idx → Val e) (o : Fin a) :
    View.ld X (top inb) (ix2 o 0 : (Col a).Idx) = X (ix2 ⟨o.val, o.isLt.trans_le ha⟩ 0) :=
  congrArg X (top_emb inb ⟨o.val, o.isLt.trans_le ha⟩ o.isLt)

/-- The first rows of a column just stored whole, loaded. -/
theorem cov_rows [∀ e, Nonempty (Val e)] {a : ℕ} (ha : a ≤ 128) (inb : ∀ x, (![0, 0] : Fin 2 → ℕ) x + (Col a).size x ≤ (Col 128).size x)
    (inb' : ∀ x, (![0, 0] : Fin 2 → ℕ) x + (Col 128).size x ≤ (Col 128).size x) (Z : (Col 128).Idx → Val e) (o : Fin a) :
    v.readCov [(⟨top inb', Z⟩ : View.Piece Val (Col 128) e)] (top inb).toLoadRect (ix2 o 0 : (Col a).Idx)
      = Z (ix2 ⟨o.val, o.isLt.trans_le ha⟩ 0) := by
  rw [View.readCov_eq_canon', View.canon_unit_zero (funext fun a => by fin_cases a <;> rfl)]
  exact ld_rows ha inb Z o

end Stores

/-- A column of `a` rows added to a column of 128. -/
def plus {a : ℕ} (x : (Col 128).Idx → EReal) (d : Fin a → EReal) (o : Fin 128) : EReal := if h : o.val < a then x (ix2 o 0) + d ⟨o.val, h⟩ else x (ix2 o 0)

/-- The column of zeros. -/
abbrev none : (Col 128).Idx → EReal := fun _ => 0

section Additions
variable {sig : RefSig} {κ : Kind} {sp sp' : Space} {a : ℕ} {d : Fin a → EReal} {P : (Col a).Idx → EReal}
variable {inb : ∀ x, (![0, 0] : Fin 2 → ℕ) x + (Col a).size x ≤ (Col 128).size x}

/-- Zeros stored whole, then its first rows added to: the addition to zeros. -/
theorem start (ha : a ≤ 128) (v : View sig κ sp (Col 128) .f32) (v' : View sig κ sp' (Col 128) .f32) (f : v.ty.Contents (Elt Ideal)) {Z : (Col 128).Idx → EReal}
    {inb' : ∀ x, (![0, 0] : Fin 2 → ℕ) x + (Col 128).size x ≤ (Col 128).size x} (hZ : ∀ o : Fin 128, Z (ix2 o 0) = 0)
    (hP : ∀ o : Fin a, P (ix2 o 0) = v'.readCov (Val := Elt Ideal) [(⟨top inb', Z⟩ : View.Piece (Elt Ideal) (Col 128) .f32)] (top inb).toLoadRect (ix2 o 0 : (Col a).Idx) + d o)
    (o : Fin 128) : v.read (Elt Ideal) (v.writes (Elt Ideal) f [(⟨top inb, P⟩ : View.Piece (Elt Ideal) (Col 128) .f32), ⟨top inb', Z⟩]) (ix2 o 0) = plus none d o := by
  rw [read_rows]
  unfold plus
  split
  · rw [hP, cov_rows (Val := Elt Ideal) v' ha inb inb' Z, hZ]
  · rw [read_all, hZ]

/-- A column's first rows added to: the addition to it. -/
theorem step (ha : a ≤ 128) {m : Memref sig κ sp (Col 128) .f32} (hm : m.IsWhole) {x : (Col 128).Idx → EReal}
    (hP : ∀ o : Fin a, P (ix2 o 0) = m.view.readAt (Elt Ideal) (top inb).toLoadRect (hm.unread x) (ix2 o 0 : (Col a).Idx) + d o)
    (o : Fin 128) : m.view.read (Elt Ideal) (m.view.writes (Elt Ideal) (hm.unread x) [(⟨top inb, P⟩ : View.Piece (Elt Ideal) (Col 128) .f32)]) (ix2 o 0) = plus x d o := by
  rw [read_rows, View.writes_nil, hm.read_unread]
  unfold plus
  split
  · rw [hP, View.readAt_eq_ld, hm.read_unread, ld_rows (Val := Elt Ideal) (e := .f32) ha inb x]
  · rfl

end Additions

/-- A whole block, loaded. -/
theorem load_whole {sig : RefSig} {κ : Kind} {sp : Space} {s : Shape} {e : EltTy} {m : Memref sig κ sp s e} (hm : m.IsWhole) {off : Fin s.rank → ℕ}
    (h : off = fun _ => 0) (inb : ∀ a, off a + s.size a ≤ s.size a) (x : s.Idx → Elt Ideal e) :
    m.view.readAt (Elt Ideal) (Rect.unit off s.size inb).toLoadRect (hm.unread x) = x := by
  rw [View.readAt_eq_ld, hm.read_unread, View.ld_unit_zero h]

/-- A column of zeros whose first `a` rows are added to at each of the points in turn. -/
theorem total {a N : ℕ} (f : (n : ℕ) → n < N → (Col 128).Idx → EReal) (g : Fin N → Fin a → EReal)
    (h0 : ∀ (h : 0 < N) (o : Fin 128), f 0 h (ix2 o 0) = plus none (g ⟨0, h⟩) o)
    (hs : ∀ (n : ℕ) (hn : n + 1 < N) (o : Fin 128), f (n + 1) hn (ix2 o 0) = plus (f n (Nat.lt_of_succ_lt hn)) (g ⟨n + 1, hn⟩) o) (o : Fin 128) :
    ∀ (n : ℕ) (hn : n < N), f n hn (ix2 o 0) = plus none (fun o => ∑ t ∈ Finset.univ.filter (fun t : Fin N => t.val ≤ n), g t o) o
  | 0, hn => by
    rw [h0 hn o, show (Finset.univ.filter fun t : Fin N => t.val ≤ 0) = {⟨0, hn⟩} by
      ext t; simp only [Finset.mem_filter, Finset.mem_univ, true_and, Finset.mem_singleton, Fin.ext_iff]; omega]
    simp only [Finset.sum_singleton]
  | n + 1, hn => by
    rw [hs n hn o, show (Finset.univ.filter fun t : Fin N => t.val ≤ n + 1) = insert ⟨n + 1, hn⟩ (Finset.univ.filter fun t : Fin N => t.val ≤ n) by
      ext t; simp only [Finset.mem_filter, Finset.mem_univ, true_and, Finset.mem_insert, Fin.ext_iff]; omega]
    unfold plus
    split
    · rename_i h
      rw [total f g h0 hs o n]
      unfold plus
      rw [dif_pos h]
      dsimp only
      rw [Finset.sum_insert (by simp), zero_add, zero_add, add_comm]
    · rename_i h
      rw [total f g h0 hs o n]
      unfold plus
      rw [dif_neg h]

theorem total_all {a N : ℕ} (f : (n : ℕ) → n < N → (Col 128).Idx → EReal) (g : Fin N → Fin a → EReal)
    (h0 : ∀ (h : 0 < N) (o : Fin 128), f 0 h (ix2 o 0) = plus none (g ⟨0, h⟩) o)
    (hs : ∀ (n : ℕ) (hn : n + 1 < N) (o : Fin 128), f (n + 1) hn (ix2 o 0) = plus (f n (Nat.lt_of_succ_lt hn)) (g ⟨n + 1, hn⟩) o) (o : Fin 128)
    (n : ℕ) (hn : n < N) (hl : N = n + 1) : f n hn (ix2 o 0) = plus none (fun o => ∑ t, g t o) o := by
  rw [total f g h0 hs o n hn, show (Finset.univ.filter fun t : Fin N => t.val ≤ n) = Finset.univ by
    ext t; have := t.isLt; simp only [Finset.mem_filter, Finset.mem_univ, true_and, iff_true]; omega]

end Cert.Proof.Columns

end
-- ==== Proof.StatsBody.lean ====
/-
  The statistics passes, point by point: what the two columns' staging blocks hold after a grid point, in terms of the
  point's blocks and of what they held before.
-/
module

public import proofs.«01_k».proof.Proof.Gen.StatsIdeal.Frame.Region0
public import proofs.«01_k».proof.Proof.Gen.StatsIdeal.Frame.Region1
public import proofs.«01_k».proof.Proof.Gen.StatsIdeal.Frame.Region2
public import proofs.«01_k».proof.Proof.StatsAct
public import proofs.«01_k».proof.Proof.Columns

@[expose] public section

set_option maxRecDepth 16384

noncomputable section

namespace Cert.StatsIdeal.Body

open Cert.StatsIdeal Cert.StatsIdeal.Gen Cert.StatsIdeal.Act Idealize.ShloMosaic Idealize.ShloMosaic.TcCoe Idealize.SL.Sem
open Cert.Proof.Layers Cert.Proof.Columns

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

theorem zeros (Z : Vec Ideal S128x1 .f32) (hZ : Z = broadcast S128x1 (Scalar.ofBits (F := Ideal) .f32 0x00000000#32)) (o : Fin 128) : Z (ix2 o 0) = 0 := by
  subst hZ
  pointwise []

/-- Both columns after a point, over what they held before: the sum over the lanes of a layer, and of its square, added. -/
def Adds {a : ℕ} (x : Vec Ideal S128x1 .f32 × Vec Ideal S128x1 .f32) (p q : Vec Ideal S128x1 .f32) (y : Fin 2048 → Fin a → EReal) : Prop :=
  ∀ o, x.1 (ix2 o 0) = plus p (fun o => ∑ j, y j o) o ∧ x.2 (ix2 o 0) = plus q (fun o => ∑ j, y j o * y j o) o

/-- The first layer at a lane of a point of the first pass. -/
def y0 (c : Dev nD) (t : Fin cfg0.N) (j : Fin 2048) (o : Fin 32) : EReal :=
  one (iblk0 V c 0 t) (iblk0 V c 1 t) (iblk0 V c 2 t) (iblk0 V c 3 t) j o

/-- The second layer at a lane of a point of the second pass. -/
def y1 (c : Dev nD) (t : Fin cfg1.N) (j : Fin 2048) (o : Fin 32) : EReal :=
  further (entry (iblk1 V c 4 t)) (iblk1 V c 6 t) (iblk1 V c 7 t)
    (one (iblk1 V c 0 t) (iblk1 V c 1 t) (iblk1 V c 2 t) (iblk1 V c 3 t) j) o

/-- The third layer at a lane of a point of the third pass. -/
def y2 (c : Dev nD) (t : Fin cfg2.N) (j : Fin 2048) (o : Fin 64) : EReal :=
  further (entry (iblk2 V c 5 t)) (iblk2 V c 8 t) (iblk2 V c 9 t) (further (entry (iblk2 V c 4 t)) (iblk2 V c 6 t) (iblk2 V c 7 t)
    (one (iblk2 V c 0 t) (iblk2 V c 1 t) (iblk2 V c 2 t) (iblk2 V c 3 t) j)) o

theorem first0 (c : Dev nD) (t : Fin cfg0.N) (h : t.val % 256 = 0) : Adds (outsAt0 V c t.val t.isLt) none none (y0 V c t) := fun o => by
  rw [outsAt0_A V c t h]
  unfold out0_A_6 out0_A_7 kernelRun0_A
  dsimp only
  sl_unfold_words
  rw [load_whole (hs0_0 t) zero4, load_whole (hs0_1 t) zero3, load_whole (hs0_2 t) zero2, load_whole (hs0_3 t) zero2]
  exact ⟨start (by decide) _ _ _ (zeros _ rfl) (first_sum _ _ _ _ _) o, start (by decide) _ _ _ (zeros _ rfl) (first_square _ _ _ _ _) o⟩

theorem next0 (c : Dev nD) (t : Fin cfg0.N) (h : ¬t.val % 256 = 0) :
    Adds (outsAt0 V c t.val t.isLt) (outsAt0 V c (t.val - 1) (Nat.lt_of_le_of_lt (Nat.sub_le _ _) t.isLt)).1
      (outsAt0 V c (t.val - 1) (Nat.lt_of_le_of_lt (Nat.sub_le _ _) t.isLt)).2 (y0 V c t) := fun o => by
  rw [outsAt0_B V c t h]
  unfold out0_B_6 out0_B_7 kernelRun0_B
  dsimp only
  sl_unfold_words
  rw [load_whole (hs0_0 t) zero4, load_whole (hs0_1 t) zero3, load_whole (hs0_2 t) zero2, load_whole (hs0_3 t) zero2]
  exact ⟨step (by decide) _ (first_sum _ _ _ _ _) o, step (by decide) _ (first_square _ _ _ _ _) o⟩

theorem first1 (c : Dev nD) (t : Fin cfg1.N) (h : t.val % 256 = 0) : Adds (outsAt1 V c t.val t.isLt) none none (y1 V c t) := fun o => by
  rw [outsAt1_A V c t h]
  unfold out1_A_8 out1_A_9 kernelRun1_A
  dsimp only
  sl_unfold_words
  rw [load_whole (hs1_0 t) zero4, load_whole (hs1_1 t) zero3, load_whole (hs1_2 t) zero2, load_whole (hs1_3 t) zero2, load_whole (hs1_4 t) zero2,
    load_whole (hs1_6 t) zero2, load_whole (hs1_7 t) zero2]
  exact ⟨start (by decide) _ _ _ (zeros _ rfl) (second_sum _ _ _ _ _ _ _ _) o, start (by decide) _ _ _ (zeros _ rfl) (second_square _ _ _ _ _ _ _ _) o⟩

theorem next1 (c : Dev nD) (t : Fin cfg1.N) (h : ¬t.val % 256 = 0) :
    Adds (outsAt1 V c t.val t.isLt) (outsAt1 V c (t.val - 1) (Nat.lt_of_le_of_lt (Nat.sub_le _ _) t.isLt)).1
      (outsAt1 V c (t.val - 1) (Nat.lt_of_le_of_lt (Nat.sub_le _ _) t.isLt)).2 (y1 V c t) := fun o => by
  rw [outsAt1_B V c t h]
  unfold out1_B_8 out1_B_9 kernelRun1_B
  dsimp only
  sl_unfold_words
  rw [load_whole (hs1_0 t) zero4, load_whole (hs1_1 t) zero3, load_whole (hs1_2 t) zero2, load_whole (hs1_3 t) zero2, load_whole (hs1_4 t) zero2,
    load_whole (hs1_6 t) zero2, load_whole (hs1_7 t) zero2]
  exact ⟨step (by decide) _ (second_sum _ _ _ _ _ _ _ _) o, step (by decide) _ (second_square _ _ _ _ _ _ _ _) o⟩

theorem first2 (c : Dev nD) (t : Fin cfg2.N) (h : t.val % 256 = 0) : Adds (outsAt2 V c t.val t.isLt) none none (y2 V c t) := fun o => by
  rw [outsAt2_A V c t h]
  unfold out2_A_10 out2_A_11 kernelRun2_A
  dsimp only
  sl_unfold_words
  rw [load_whole (hs2_0 t) zero4, load_whole (hs2_1 t) zero3, load_whole (hs2_2 t) zero2, load_whole (hs2_3 t) zero2, load_whole (hs2_4 t) zero2,
    load_whole (hs2_5 t) zero2, load_whole (hs2_6 t) zero2, load_whole (hs2_7 t) zero2, load_whole (hs2_8 t) zero2, load_whole (hs2_9 t) zero2]
  exact ⟨start (by decide) _ _ _ (zeros _ rfl) (third_sum _ _ _ _ _ _ _ _ _ _ _) o, start (by decide) _ _ _ (zeros _ rfl) (third_square _ _ _ _ _ _ _ _ _ _ _) o⟩

theorem next2 (c : Dev nD) (t : Fin cfg2.N) (h : ¬t.val % 256 = 0) :
    Adds (outsAt2 V c t.val t.isLt) (outsAt2 V c (t.val - 1) (Nat.lt_of_le_of_lt (Nat.sub_le _ _) t.isLt)).1
      (outsAt2 V c (t.val - 1) (Nat.lt_of_le_of_lt (Nat.sub_le _ _) t.isLt)).2 (y2 V c t) := fun o => by
  rw [outsAt2_B V c t h]
  unfold out2_B_10 out2_B_11 kernelRun2_B
  dsimp only
  sl_unfold_words
  rw [load_whole (hs2_0 t) zero4, load_whole (hs2_1 t) zero3, load_whole (hs2_2 t) zero2, load_whole (hs2_3 t) zero2, load_whole (hs2_4 t) zero2,
    load_whole (hs2_5 t) zero2, load_whole (hs2_6 t) zero2, load_whole (hs2_7 t) zero2, load_whole (hs2_8 t) zero2, load_whole (hs2_9 t) zero2]
  exact ⟨step (by decide) _ (third_sum _ _ _ _ _ _ _ _ _ _ _) o, step (by decide) _ (third_square _ _ _ _ _ _ _ _ _ _ _) o⟩

end Cert.StatsIdeal.Body

end
-- ==== Proof.StatsSums.lean ====
/-
  The statistics passes' arrays: each pass leaves, in its first rows, the sum over all points and lanes of its last layer,
  and of the square of it.
-/
module

public import proofs.«01_k».proof.Proof.StatsBody
public import Idealize.ShloMosaic.Lib.Pipeline.ValueKit.Geometry

@[expose] public section

set_option maxRecDepth 16384

noncomputable section

namespace Cert.StatsIdeal.Sums

open Cert.StatsIdeal Cert.StatsIdeal.Gen Cert.StatsIdeal.Body Idealize.ShloMosaic Idealize.ShloMosaic.TcCoe Idealize.SL.Sem
open Cert.Proof.Columns

variable (V : (c : Dev nD) → (b : Ref sig .tc) → Buf (Elt Ideal) ((c : Thread nD τ).loc b))

/-- A window that stays at its array and is written back at the last of 256 points. -/
theorem whole_at {G : Pipeline.Grid} {w : Pipeline.Window sig G} (hN : G.N = 256) (hf : ∀ t, w.flush t = true ↔ t.val % 256 = 255)
    (hi : ∀ t a, w.index t a = 0 ∧ w.xsize (G.coords t) a = w.shape.size a) (t : Fin G.N) (ht : t.val = 255) : w.WholeAt t :=
  ⟨(hf t).mpr (by omega), fun u hu => Fin.ext (by have := (hf u).mp hu; have := u.isLt; omega), hi t⟩

/-- Columns added to at each of 256 points, from zeros at the first: the sums over all of them. -/
theorem sum_all {a N : ℕ} (hN : N = 256) (f : (n : ℕ) → n < N → Vec Ideal S128x1 .f32 × Vec Ideal S128x1 .f32) (y : Fin N → Fin 2048 → Fin a → EReal)
    (h0 : ∀ t : Fin N, t.val % 256 = 0 → Adds (f t.val t.isLt) none none (y t))
    (hs : ∀ t : Fin N, ¬t.val % 256 = 0 → Adds (f t.val t.isLt) (f (t.val - 1) (Nat.lt_of_le_of_lt (Nat.sub_le _ _) t.isLt)).1
      (f (t.val - 1) (Nat.lt_of_le_of_lt (Nat.sub_le _ _) t.isLt)).2 (y t)) (t : Fin N) (ht : t.val = 255) (o : Fin 128) :
    (f t.val t.isLt).1 (ix2 o 0) = plus none (fun o => ∑ t, ∑ j, y t j o) o
      ∧ (f t.val t.isLt).2 (ix2 o 0) = plus none (fun o => ∑ t, ∑ j, y t j o * y t j o) o := by
  have first : ∀ (h : 0 < N) (o : Fin 128), _ := fun h o => h0 ⟨0, h⟩ rfl o
  have next : ∀ (n : ℕ) (hn : n + 1 < N) (o : Fin 128), _ := fun n hn o => hs ⟨n + 1, hn⟩ (by dsimp only; omega) o
  exact ⟨total_all (fun n hn => (f n hn).1) (fun t o => ∑ j, y t j o) (fun h o => (first h o).1) (fun n hn o => (next n hn o).1) o t.val t.isLt (by omega),
    total_all (fun n hn => (f n hn).2) (fun t o => ∑ j, y t j o * y t j o) (fun h o => (first h o).2) (fun n hn o => (next n hn o).2) o t.val t.isLt (by omega)⟩

/-- The last of 256 points. -/
theorem last {N : ℕ} (hN : N = 256) : ∃ t : Fin N, t.val = 255 := ⟨⟨255, by omega⟩, rfl⟩

/-- The two columns the first pass leaves. -/
theorem sums0 (c : Dev nD) (o : Fin 128) : ((dat0 V c).arrAt 6 cfg0.N : Vec Ideal S128x1 .f32) (ix2 o 0) = plus none (fun o => ∑ t, ∑ j, y0 V c t j o) o
    ∧ ((dat0 V c).arrAt 7 cfg0.N : Vec Ideal S128x1 .f32) (ix2 o 0) = plus none (fun o => ∑ t, ∑ j, y0 V c t j o * y0 V c t j o) o := by
  obtain ⟨t, ht⟩ := last N_0
  rw [(dat0 V c).arrAt_eq_of_after_last 6 t (whole_at N_0 flush0_6 (fun _ a => by fin_cases a <;> exact ⟨rfl, rfl⟩) t ht) _ fun j => congrFun (after0_6 V c t) j,
    (dat0 V c).arrAt_eq_of_after_last 7 t (whole_at N_0 flush0_7 (fun _ a => by fin_cases a <;> exact ⟨rfl, rfl⟩) t ht) _ fun j => congrFun (after0_7 V c t) j]
  exact sum_all N_0 (outsAt0 V c) (y0 V c) (first0 V c) (next0 V c) t ht o

/-- The two columns the second pass leaves. -/
theorem sums1 (c : Dev nD) (o : Fin 128) : ((dat1 V c).arrAt 8 cfg1.N : Vec Ideal S128x1 .f32) (ix2 o 0) = plus none (fun o => ∑ t, ∑ j, y1 V c t j o) o
    ∧ ((dat1 V c).arrAt 9 cfg1.N : Vec Ideal S128x1 .f32) (ix2 o 0) = plus none (fun o => ∑ t, ∑ j, y1 V c t j o * y1 V c t j o) o := by
  obtain ⟨t, ht⟩ := last N_1
  rw [(dat1 V c).arrAt_eq_of_after_last 8 t (whole_at N_1 flush1_8 (fun _ a => by fin_cases a <;> exact ⟨rfl, rfl⟩) t ht) _ fun j => congrFun (after1_8 V c t) j,
    (dat1 V c).arrAt_eq_of_after_last 9 t (whole_at N_1 flush1_9 (fun _ a => by fin_cases a <;> exact ⟨rfl, rfl⟩) t ht) _ fun j => congrFun (after1_9 V c t) j]
  exact sum_all N_1 (outsAt1 V c) (y1 V c) (first1 V c) (next1 V c) t ht o

/-- The two columns the third pass leaves. -/
theorem sums2 (c : Dev nD) (o : Fin 128) : ((dat2 V c).arrAt 10 cfg2.N : Vec Ideal S128x1 .f32) (ix2 o 0) = plus none (fun o => ∑ t, ∑ j, y2 V c t j o) o
    ∧ ((dat2 V c).arrAt 11 cfg2.N : Vec Ideal S128x1 .f32) (ix2 o 0) = plus none (fun o => ∑ t, ∑ j, y2 V c t j o * y2 V c t j o) o := by
  obtain ⟨t, ht⟩ := last N_2
  rw [(dat2 V c).arrAt_eq_of_after_last 10 t (whole_at N_2 flush2_10 (fun _ a => by fin_cases a <;> exact ⟨rfl, rfl⟩) t ht) _ fun j => congrFun (after2_10 V c t) j,
    (dat2 V c).arrAt_eq_of_after_last 11 t (whole_at N_2 flush2_11 (fun _ a => by fin_cases a <;> exact ⟨rfl, rfl⟩) t ht) _ fun j => congrFun (after2_11 V c t) j]
  exact sum_all N_2 (outsAt2 V c) (y2 V c) (first2 V c) (next2 V c) t ht o

end Cert.StatsIdeal.Sums

end
-- ==== Proof.StatsRef.lean ====
/-
  The reference's constants: each layer's, from its values at all places.
-/
module

public import proofs.«01_k».proof.Proof.Norm
public import proofs.«01_k».proof.Proof.Gen.StatsReferenceIdeal.Read
public import Idealize.ShloMosaic.Lib.Pointwise
public import Idealize.ShloMosaic.Lib.Pointwise.IndexVar

@[expose] public section

set_option maxRecDepth 16384

noncomputable section

namespace Cert.StatsReferenceIdeal.Consts

open Idealize.ShloMosaic Idealize.ShloMosaic.TcCoe Idealize.SL.Sem
open Cert.StatsReferenceIdeal Cert.StatsReferenceIdeal.Read Cert.StatsReferenceIdeal.Facts₀
open Cert.Proof.Layers Cert.Proof.Norm

/-- A channel's values at all places. -/
abbrev along {a : ℕ} (y : (⟨4, ![4, a, 4096, 32]⟩ : Shape).Idx → EReal) (o : Fin a) : P → EReal := fun p => y (ix4 p.1 o p.2.1 p.2.2)

/-- A sum over all but the channels. -/
theorem sum_along {a : ℕ} (h : (⟨4, ![4, a, 4096, 32]⟩ : Shape).ReducesTo [0, 2, 3] ⟨1, ![a]⟩) (y : (⟨4, ![4, a, 4096, 32]⟩ : Shape).Idx → EReal)
    (init : EReal) (o : Fin a) : Ideal.hostReduceAdd h y init (ix1 o) = init + ∑ p, along y o p := by
  refine congrArg (init + ·) ?_
  refine Finset.sum_filter_eq_sum_of_fiber _ (fun p : P => (ix4 p.1 o p.2.1 p.2.2 : (⟨4, ![4, a, 4096, 32]⟩ : Shape).Idx))
    (fun _ _ e => Prod.ext (congrFun e 0) (Prod.ext (congrFun e 2) (congrFun e 3))) (fun i => ⟨fun e => ?_, ?_⟩) y
  · refine ⟨(i 0, i 2, i 3), ?_⟩
    funext a; apply Fin.ext
    match a with
    | ⟨0, _⟩ => rfl
    | ⟨1, _⟩ => exact (congrArg Fin.val (congrFun e 0)).symm
    | ⟨2, _⟩ => rfl
    | ⟨3, _⟩ => rfl
  · rintro ⟨p, rfl⟩
    funext b
    apply Fin.ext
    match b with
    | ⟨0, _⟩ => rfl

/-- The first `a` rows of a column of 128, and zeros. -/
def padded {a : ℕ} (f : Fin a → EReal) (o : Fin 128) : EReal := if h : o.val < a then f ⟨o.val, h⟩ else 0

theorem zero_int : ((((0#32 : BitVec 32).toInt : ℤ) : ℝ) : EReal) = 0 := by simp

/-! ## A layer's normalization, for any number of channels -/

abbrev Full (a : ℕ) : Shape := ⟨4, ![4, a, 4096, 32]⟩
abbrev Each (a : ℕ) : Shape := ⟨4, ![1, a, 1, 1]⟩
abbrev Flat (a : ℕ) : Shape := ⟨1, ![a]⟩

/-- How the shapes of a layer of `a` channels fit. -/
structure Fit (a r : ℕ) : Prop where
  each : (Flat a).BroadcastsInDim (Each a) (![1] : Fin 1 → Fin (Each a).rank)
  full : (Each a).BroadcastsInDim (Full a) (![0, 1, 2, 3] : Fin 4 → Fin (Full a).rank)
  sums : (Full a).ReducesTo [0, 2, 3] (Flat a)
  one : S_.BroadcastsInDim (Each a) (![] : Fin 0 → Fin (Each a).rank)
  all : S_.BroadcastsInDim (Full a) (![] : Fin 0 → Fin (Full a).rank)
  flat : (Each a).ShapeCasts (Flat a)
  unit : 0 < S_.numel
  col : S128.BroadcastsInDim S128x1 (![0] : Fin 1 → Fin S128x1.rank)
  many : a ≠ 1
  pads : (Flat a).Pads (![0] : Fin 1 → ℕ) ![r] ![0] S128

/-- A channel's value, of values padded with zeros to 128. -/
theorem pad_apply {a r : ℕ} (h : (Flat a).Pads (![0] : Fin 1 → ℕ) ![r] ![0] S128) (hS : 0 < S_.numel) (x : (Flat a).Idx → EReal) (o : Fin 128) :
    pad S128 ![0] ![r] ![0] x (sitofp (F := Ideal) .f32 (constantI S_ 32 0#32)) h hS (ix1 o) = padded (fun o => x (ix1 o)) o := by
  unfold padded
  pointwise []
  exact dite_congr rfl (fun _ => rfl) fun _ => zero_int

section Normalize
variable {a r : ℕ} (q : Fit a r) (y : (Full a).Idx → EReal) (b g e : (Flat a).Idx → EReal)

/-- The averages over all places, the roots, the scales, the shifts, the padded columns, and the rectified values. -/
def aves (y : (Full a).Idx → EReal) : (Each a).Idx → EReal :=
  Host.divf (F := Ideal) (φ := .f32) (broadcastInDim (Each a) ![1] q.each (Host.reduceAdd (F := Ideal) (φ := .f32) y (constant (F := Ideal) S_ .f32 0x00000000#32) q.sums q.unit))
    (broadcastInDim (Each a) ![] q.one (constant (F := Ideal) S_ .f32 0x49000000#32))
def devs : (Full a).Idx → EReal := subf (F := Ideal) (φ := .f32) y (broadcastInDim (Full a) ![0, 1, 2, 3] q.full (aves q y))
def roots : (Each a).Idx → EReal :=
  Host.sqrt (F := Ideal) (φ := .f32) (addf (F := Ideal) (φ := .f32) (aves q (mulf (F := Ideal) (φ := .f32) (devs q y) (devs q y)))
    (broadcastInDim (Each a) ![] q.one (constant (F := Ideal) S_ .f32 0x3A83126F#32)))
def scales : (Flat a).Idx → EReal := Host.divf (F := Ideal) (φ := .f32) g (shapeCast (Flat a) (roots q y) q.flat)
def shifts : (Flat a).Idx → EReal :=
  addf (F := Ideal) (φ := .f32) e (mulf (F := Ideal) (φ := .f32) (subf (F := Ideal) (φ := .f32) b (shapeCast (Flat a) (aves q y) q.flat)) (scales q y g))
def column (x : (Flat a).Idx → EReal) : S128x1.Idx → EReal :=
  broadcastInDim S128x1 ![0] q.col (pad S128 ![0] ![r] ![0] x (sitofp (F := Ideal) .f32 (constantI S_ 32 0#32)) q.pads q.unit)
def nexts : (Full a).Idx → EReal :=
  maximumf (F := Ideal) (φ := .f32) (addf (F := Ideal) (φ := .f32) (mulf (F := Ideal) (φ := .f32)
    (Host.divf (F := Ideal) (φ := .f32) (devs q y) (broadcastInDim (Full a) ![0, 1, 2, 3] q.full (roots q y)))
    (broadcastInDim (Full a) ![0, 1, 2, 3] q.full (broadcastInDim (Each a) ![1] q.each g)))
    (broadcastInDim (Full a) ![0, 1, 2, 3] q.full (broadcastInDim (Each a) ![1] q.each e)))
    (broadcastInDim (Full a) ![] q.all (constant (F := Ideal) S_ .f32 0x00000000#32))

/-- A channel's entry, spread over all places; a channel's value, as an entry; entries, laid flat. -/
theorem full_apply (x : (Each a).Idx → EReal) (o : Fin a) (p : P) :
    broadcastInDim (Full a) ![0, 1, 2, 3] q.full x (ix4 p.1 o p.2.1 p.2.2) = x (ix4 0 o 0 0) := by
  have := q.many
  pointwise [this]

theorem each_apply (x : (Flat a).Idx → EReal) (o : Fin a) : broadcastInDim (Each a) ![1] q.each x (ix4 0 o 0 0) = x (ix1 o) := by
  have := q.many
  pointwise [this]

theorem flat_apply (x : (Each a).Idx → EReal) (o : Fin a) : shapeCast (Flat a) x q.flat (ix1 o) = x (ix4 0 o 0 0) := by
  refine congrArg x (Shape.reshapeEquiv_eq_of_rowMajor _ ?_)
  show (Shape.rowMajorPi ![1, a, 1, 1] (ix4 (0 : Fin 1) o (0 : Fin 1) (0 : Fin 1))).val = (Shape.rowMajorPi ![a] (ix1 o)).val
  simp [Shape.rowMajorPi_succ_val]
  exact (Shape.rowMajorPi_zero _ _).trans (Shape.rowMajorPi_zero _ _).symm

theorem column_apply (x : (Flat a).Idx → EReal) (o : Fin 128) : column q x (ix2 o 0) = padded (fun o => x (ix1 o)) o := by
  refine Eq.trans ?_ (pad_apply q.pads q.unit x o)
  unfold column
  pointwise []

theorem aves_apply (o : Fin a) : aves q y (ix4 0 o 0 0) = refMean (along y o) := by
  refine (congrArg (Ideal.div · _) (each_apply q _ o)).trans ?_
  pointwise []
  rw [sum_along]
  rfl

theorem devs_apply (o : Fin a) (p : P) : along (devs q y) o p = along y o p - refMean (along y o) := by
  rw [← aves_apply q]
  exact congrArg (along y o p - ·) (full_apply q _ o p)

theorem roots_apply (o : Fin a) : roots q y (ix4 0 o 0 0) = refRoot (along y o) := by
  refine congrArg (fun v => Ideal.sqrt (v + little)) ((aves_apply q _ o).trans ?_)
  unfold refMean
  exact congrArg (fun s => Ideal.div (0 + s) count) (Finset.sum_congr rfl fun p _ => congrArg (fun d => d * d) (devs_apply q y o p))

theorem scales_apply (o : Fin a) : scales q y g (ix1 o) = refScale (g (ix1 o)) (along y o) :=
  congrArg (Ideal.div (g (ix1 o))) ((flat_apply q _ o).trans (roots_apply q y o))

theorem shifts_apply (o : Fin a) : shifts q y b g e (ix1 o) = refShift (b (ix1 o)) (g (ix1 o)) (e (ix1 o)) (along y o) :=
  congrArg₂ (fun m s => e (ix1 o) + (b (ix1 o) - m) * s) ((flat_apply q _ o).trans (aves_apply q y o)) (scales_apply q y g o)

theorem spread_apply (x : (Flat a).Idx → EReal) (o : Fin a) (p : P) :
    broadcastInDim (Full a) ![0, 1, 2, 3] q.full (broadcastInDim (Each a) ![1] q.each x) (ix4 p.1 o p.2.1 p.2.2) = x (ix1 o) :=
  (full_apply q _ o p).trans (each_apply q x o)

theorem nexts_apply (o : Fin a) (p : P) : along (nexts q y g e) o p = refNext (g (ix1 o)) (e (ix1 o)) (along y o) p := by
  unfold refNext
  rw [← devs_apply q, ← roots_apply q, ← full_apply q (roots q y) o p, ← spread_apply q g o p, ← spread_apply q e o p]
  unfold along nexts
  pointwise []

variable {q y b g e} {z : Fin a → P → ℝ} {rb : Fin a → ℝ} (hy : ∀ o, along y o = fun p => (z o p : EReal) + (rb o : EReal))
include hy

/-- Of real values with a bias: the scales, the shifts and the values after the normalization. -/
theorem scales_net {g' : Fin a → EReal} (hg : ∀ o, g (ix1 o) = g' o) (o : Fin 128) : column q (scales q y g) (ix2 o 0) = padded (fun o => scale (g' o) (z o)) o := by
  simp only [column_apply, scales_apply, hy, hg, refScale_eq]

theorem shifts_net {g' e' : Fin a → EReal} (hb : ∀ o, b (ix1 o) = (rb o : EReal)) (hg : ∀ o, g (ix1 o) = g' o) (he : ∀ o, e (ix1 o) = e' o) (o : Fin 128) :
    column q (shifts q y b g e) (ix2 o 0) = padded (fun o => shift (g' o) (e' o) (z o)) o := by
  simp only [column_apply, shifts_apply, hy, hb, hg, he, refShift_eq]

theorem nexts_net {rg re : Fin a → ℝ} (hg : ∀ o, g (ix1 o) = (rg o : EReal)) (he : ∀ o, e (ix1 o) = (re o : EReal)) (o : Fin a) (p : P) :
    along (nexts q y g e) o p = (next (rg o) (re o) (z o) p : EReal) := by
  simp only [nexts_apply, hy, hg, he, refNext_eq]

end Normalize

/-! ## A dense layer of `a` channels -/

abbrev Last (a : ℕ) : Shape := ⟨4, ![4, 4096, 32, a]⟩
abbrev Square (a : ℕ) : Shape := ⟨2, ![a, 32]⟩

/-- Each channel's weights against the 32 values at a place. -/
def dims (a : ℕ) (wf : DotDims.WF (Full 32) (Square a) (Last a) [1] [1] [0, 2, 3] [0] [] []) : DotDims (Full 32) (Square a) (Last a) where
  lhsContracting := [1]
  rhsContracting := [1]
  lhsNonContracting := [0, 2, 3]
  rhsNonContracting := [0]
  lhsBatch := []
  rhsBatch := []
  wf := wf

def dense {a r : ℕ} (q : Fit a r) (wf : DotDims.WF (Full 32) (Square a) (Last a) [1] [1] [0, 2, 3] [0] [] []) (ht : (Last a).Transposes [0, 3, 1, 2] (Full a))
    (x : (Full 32).Idx → EReal) (w : (Square a).Idx → EReal) (b : (Flat a).Idx → EReal) : (Full a).Idx → EReal :=
  addf (F := Ideal) (φ := .f32) (transpose (Full a) [0, 3, 1, 2] (Host.dotGeneral (F := Ideal) (φ₁ := .f32) (φ₂ := .f32) (dims a wf) none x w) ht)
    (broadcastInDim (Full a) ![0, 1, 2, 3] q.full (broadcastInDim (Each a) ![1] q.each b))

theorem dense_apply {a r : ℕ} (q : Fit a r) (wf) (ht : (Last a).Transposes [0, 3, 1, 2] (Full a)) (x w b) (o : Fin a) (p : P) :
    along (dense q wf ht x w b) o p = layer (entry w) (fun i => along x i p) o + b (ix1 o) := by
  rw [← spread_apply q b o p]
  refine congrArg (· + _) ?_
  unfold layer entry along dims
  pointwise []
  simp only [mul_comm (w _)]

/-- Of real values with real weights: the layer of them, with the bias. -/
theorem dense_net {a r : ℕ} (q : Fit a r) (wf) (ht : (Last a).Transposes [0, 3, 1, 2] (Full a)) {x w b} {v : Fin 32 → P → ℝ} {rw : Fin a → Fin 32 → ℝ} {rb : Fin a → ℝ}
    (hx : ∀ i p, along x i p = (v i p : EReal)) (hw : ∀ o i, w (ix2 o i) = (rw o i : EReal)) (hb : ∀ o, b (ix1 o) = (rb o : EReal)) (o : Fin a) :
    along (dense q wf ht x w b) o = fun p => (rlayer rw v o p : EReal) + (rb o : EReal) := by
  funext p
  rw [dense_apply, hb, show entry w = fun o i => (rw o i : EReal) from funext fun o => funext fun i => hw o i]
  simp only [hx]
  rw [layer_coe]

/-! ## The reference's three layers -/

theorem fit32 : Fit 32 96 :=
  ⟨bcast_S32_S1x32x1x1_1, bcast_S1x32x1x1_S4x32x4096x32_0_1_2_3, reducesTo_S4x32x4096x32_S32_d0_2_3, bcast_S_S1x32x1x1, bcast_S_S4x32x4096x32, shapeCasts_S1x32x1x1_S32,
    h_S_, bcast_S128_S128x1_0, by decide, pads_S32_S128_0960⟩

theorem fit64 : Fit 64 64 :=
  ⟨bcast_S64_S1x64x1x1_1, bcast_S1x64x1x1_S4x64x4096x32_0_1_2_3, reducesTo_S4x64x4096x32_S64_d0_2_3, bcast_S_S1x64x1x1, bcast_S_S4x64x4096x32, shapeCasts_S1x64x1x1_S64,
    h_S_, bcast_S128_S128x1_0, by decide, pads_S64_S128_0640⟩

theorem first_eq x0 x1 x2 x3 (b : Fin 4) (o : Fin 32) (n : Fin 4096) (k : Fin 32) :
    val_main_v11 (F := Ideal) x0 x1 x2 x3 (ix4 b o n k)
      = first (entry x2) (fun d => x1 (ix4 b k d n)) (fun d => x0 (ix3 b d n)) o + x3 (ix1 o) := by
  unfold first entry
  unfold val_main_v11 val_main_v10 val_main_v9 val_main_v8 val_main_v7 val_main_v6 val_main_v5 val_main_v4 val_main_v3 val_main_v2 val_main_v1 val_main_v0
  pointwise []
  simp only [mul_comm (x2 _)]
  rfl

end Cert.StatsReferenceIdeal.Consts

end
-- ==== Proof.StatsHost.lean ====
/-
  Between the passes: a pass's two columns of sums become the columns of constants of its layer.
-/
module

public import proofs.«01_k».proof.Proof.StatsRef
public import proofs.«01_k».proof.Proof.Gen.StatsIdeal.Frame

@[expose] public section

set_option maxRecDepth 16384

noncomputable section

namespace Cert.StatsIdeal.Host

open Cert.StatsIdeal Cert.StatsIdeal.Gen Idealize.ShloMosaic Idealize.ShloMosaic.TcCoe Idealize.SL.Sem
open Cert.Proof.Norm
open Cert.StatsReferenceIdeal.Consts (padded pad_apply)

/-- The sums of a column over the number of places. -/
def over (s : Vec Ideal S128x1 .f32) : Vec Ideal S128 .f32 :=
  Host.divf (F := Ideal) (shapeCast S128 s shapeCasts_S128x1_S128) (broadcastInDim S128 ![] bcast_S_S128 (constant (F := Ideal) S_ .f32 0x49000000#32))

/-- The scales, of the padded gammas and the two columns. -/
def scales (g : Vec Ideal S128 .f32) (s q : Vec Ideal S128x1 .f32) : Vec Ideal S128 .f32 :=
  mulf (F := Ideal) g (Host.rsqrt (F := Ideal) (addf (F := Ideal)
    (maximumf (F := Ideal) (subf (F := Ideal) (over q) (mulf (F := Ideal) (over s) (over s))) (broadcastInDim S128 ![] bcast_S_S128 (constant (F := Ideal) S_ .f32 0x00000000#32)))
    (broadcastInDim S128 ![] bcast_S_S128 (constant (F := Ideal) S_ .f32 0x3A83126F#32))))

/-- The shifts. -/
def shifts (g e : Vec Ideal S128 .f32) (s q : Vec Ideal S128x1 .f32) : Vec Ideal S128 .f32 :=
  subf (F := Ideal) (φ := .f32) e (mulf (F := Ideal) (φ := .f32) (over s) (scales g s q))

/-- As a column. -/
def col (x : Vec Ideal S128 .f32) : Vec Ideal S128x1 .f32 := broadcastInDim S128x1 ![0] bcast_S128_S128x1_0 x

/-- Gammas and betas of 32 and of 64 channels, padded with zeros. -/
def pad32 (x : Vec Ideal S32 .f32) : Vec Ideal S128 .f32 := pad S128 ![0] ![96] ![0] x (sitofp (F := Ideal) .f32 (constantI S_ 32 0#32)) pads_S32_S128_0960 h_S_
def pad64 (x : Vec Ideal S64 .f32) : Vec Ideal S128 .f32 := pad S128 ![0] ![64] ![0] x (sitofp (F := Ideal) .f32 (constantI S_ 32 0#32)) pads_S64_S128_0640 h_S_

theorem pad32_apply (x : Vec Ideal S32 .f32) (o : Fin 128) : pad32 x (ix1 o) = padded (fun i : Fin 32 => x (ix1 i)) o := pad_apply _ _ x o
theorem pad64_apply (x : Vec Ideal S64 .f32) (o : Fin 128) : pad64 x (ix1 o) = padded (fun i : Fin 64 => x (ix1 i)) o := pad_apply _ _ x o

theorem scales_apply (g : Vec Ideal S128 .f32) (s q : Vec Ideal S128x1 .f32) (o : Fin 128) :
    col (scales g s q) (ix2 o 0) = kernelScale (g (ix1 o)) (s (ix2 o 0)) (q (ix2 o 0)) := by
  unfold col scales kernelScale over
  pointwise []

theorem shifts_apply (g e : Vec Ideal S128 .f32) (s q : Vec Ideal S128x1 .f32) (o : Fin 128) :
    col (shifts g e s q) (ix2 o 0) = kernelShift (g (ix1 o)) (e (ix1 o)) (s (ix2 o 0)) (q (ix2 o 0)) := by
  unfold col shifts kernelShift kernelScale scales over
  pointwise []

/-! ## The three stretches -/

variable (U : Valuation τ sig (Elt Ideal))

/-- The contents after the stretch that follows each pass. -/
abbrev end1 : Valuation τ sig (Elt Ideal) := StableHlo.after hostOps1_4 (StableHlo.after hostOps1_3 (StableHlo.after hostOps1_2 (StableHlo.after hostOps1_1 (StableHlo.after hostOps1 U))))
abbrev end2 : Valuation τ sig (Elt Ideal) := StableHlo.after hostOps2_4 (StableHlo.after hostOps2_3 (StableHlo.after hostOps2_2 (StableHlo.after hostOps2_1 (StableHlo.after hostOps2 U))))
abbrev end3 : Valuation τ sig (Elt Ideal) := StableHlo.after hostOps3_4 (StableHlo.after hostOps3_3 (StableHlo.after hostOps3_2 (StableHlo.after hostOps3_1 (StableHlo.after hostOps3 U))))

theorem scale1 : end1 U (Proc.devRef .tc main_v23) = col (scales (pad32 (U (Proc.devRef .tc main_arg4))) (U (Proc.devRef .tc main_v4_0)) (U (Proc.devRef .tc main_v4_1))) := rfl
theorem shift1 : end1 U (Proc.devRef .tc main_v24) = col (shifts (pad32 (U (Proc.devRef .tc main_arg4))) (pad32 (U (Proc.devRef .tc main_arg5))) (U (Proc.devRef .tc main_v4_0)) (U (Proc.devRef .tc main_v4_1))) := rfl
theorem scale2 : end2 U (Proc.devRef .tc main_v44) = col (scales (pad32 (U (Proc.devRef .tc main_arg8))) (U (Proc.devRef .tc main_v25_0)) (U (Proc.devRef .tc main_v25_1))) := rfl
theorem shift2 : end2 U (Proc.devRef .tc main_v45) = col (shifts (pad32 (U (Proc.devRef .tc main_arg8))) (pad32 (U (Proc.devRef .tc main_arg9))) (U (Proc.devRef .tc main_v25_0)) (U (Proc.devRef .tc main_v25_1))) := rfl
theorem scale3 : end3 U (Proc.devRef .tc main_v65) = col (scales (pad64 (U (Proc.devRef .tc main_arg12))) (U (Proc.devRef .tc main_v46_0)) (U (Proc.devRef .tc main_v46_1))) := rfl
theorem shift3 : end3 U (Proc.devRef .tc main_v66) = col (shifts (pad64 (U (Proc.devRef .tc main_arg12))) (pad64 (U (Proc.devRef .tc main_arg13))) (U (Proc.devRef .tc main_v46_0)) (U (Proc.devRef .tc main_v46_1))) := rfl

end Cert.StatsIdeal.Host

end
-- ==== Proof.StatsPass.lean ====
/-
  The passes over real arrays: what each reads, and that the sums it leaves are the net's.
-/
module

public import proofs.«01_k».proof.Proof.StatsSums
public import proofs.«01_k».proof.Proof.StatsHost
public import proofs.«01_k».proof.Proof.Net

@[expose] public section

set_option maxRecDepth 16384

noncomputable section

namespace Cert.StatsIdeal.Pass

open Cert.StatsIdeal Cert.StatsIdeal.Gen Cert.StatsIdeal.Act Cert.StatsIdeal.Body Cert.StatsIdeal.Sums
open Idealize.ShloMosaic Idealize.ShloMosaic.TcCoe Idealize.SL.Sem
open Cert.Proof.Layers Cert.Proof.Columns Cert.Proof.Norm Cert.Proof.Net
open Cert.StatsReferenceIdeal.Consts (padded)

variable (V : (c : Dev nD) → (b : Ref sig .tc) → Buf (Elt Ideal) ((c : Thread nD τ).loc b)) (c : Dev nD)

theorem three : 3 ≤ 6 := by decide

/-- The arrays every pass reads hold the net's numbers. -/
structure Holds (n : Net) : Prop where
  pts : ∀ d p, (V c main_arg0 : S4x3x4096.Idx → EReal) (ix3 p.1 d p.2.1) = (n.pts d p : EReal)
  nbr : ∀ d p, (V c main_arg1 : S4x32x3x4096.Idx → EReal) (ix4 p.1 p.2.2 d p.2.1) = (n.nbr d p : EReal)
  near : ∀ o d, (V c main_v0 : S32x3.Idx → EReal) (ix2 o d) = (n.w1 o (d.castLE three) : EReal)
  own : ∀ o d, (V c main_v3 : S32x3.Idx → EReal) (ix2 o d) = ((n.w1 o (d.natAdd 3) - n.w1 o (d.castLE three) : ℝ) : EReal)
  w2 : ∀ o d, (V c main_arg6 : S32x32.Idx → EReal) (ix2 o d) = (n.w2 o d : EReal)
  w3 : ∀ o d, (V c main_arg10 : S64x32.Idx → EReal) (ix2 o d) = (n.w3 o d : EReal)

/-- A column of constants holds `f`, padded. -/
def Col {a : ℕ} (x : Vec Ideal S128x1 .f32) (f : Fin a → EReal) : Prop := ∀ o, x (ix2 o 0) = padded f o

variable {V c}

theorem column_of {a : ℕ} (ha : a ≤ 128) {x : Vec Ideal S128x1 .f32} {f : Fin a → EReal} (h : Col x f) : column ha x = f := by
  funext o
  refine (h _).trans ?_
  unfold padded
  exact dif_pos o.isLt

/-- A first layer whose blocks hold the net's numbers at a place. -/
theorem one_eq {n : Net} (x0 : Vec Ideal S1x1x3x2048 .f32) (x1 : Vec Ideal S1x3x2048 .f32) (x2 x3 : Vec Ideal S32x3 .f32) (j : Fin 2048) (p : P)
    (h0 : ∀ d, x0 (ix4 0 0 d j) = (n.nbr d p : EReal)) (h1 : ∀ d, x1 (ix3 0 d j) = (n.pts d p : EReal))
    (h2 : ∀ o d, x2 (ix2 o d) = (n.w1 o (d.castLE three) : EReal))
    (h3 : ∀ o d, x3 (ix2 o d) = ((n.w1 o (d.natAdd 3) - n.w1 o (d.castLE three) : ℝ) : EReal)) :
    one x0 x1 x2 x3 j = fun o => (n.z1 o p : EReal) := by
  funext o
  unfold one
  rw [show entry x2 = fun o d => (n.w1 o (d.castLE three) : EReal) from funext fun o => funext fun d => h2 o d,
    show entry x3 = fun o d => ((n.w1 o (d.natAdd 3) - n.w1 o (d.castLE three) : ℝ) : EReal) from funext fun o => funext fun d => h3 o d]
  simp only [h0, h1]
  rw [layer_coe, layer_coe, ← EReal.coe_add]
  congr 1
  unfold rlayer Net.z1 rfirst
  simp only [Fin.sum_univ_three]
  ring

/-- A further layer of a normalized one. -/
theorem further_eq {a : ℕ} (w : Fin a → Fin 32 → EReal) (w' : Fin a → Fin 32 → ℝ) (hw : ∀ o d, w o d = (w' o d : EReal)) (s h : Vec Ideal S128x1 .f32)
    (g e : Fin 32 → ℝ) (y : Fin 32 → P → ℝ) (hs : Col s fun o => scale (g o) (y o)) (hh : Col h fun o => shift (g o) (e o) (y o)) (p : P) :
    further w s h (fun o => (y o p : EReal)) = fun o => (rlayer w' (fun i => next (g i) (e i) (y i)) o p : EReal) := by
  funext o
  unfold further
  rw [column_of _ hs, column_of _ hh, show w = fun o d => (w' o d : EReal) from funext fun o => funext fun d => hw o d]
  refine Eq.trans ?_ (layer_coe w' (fun i => next (g i) (e i) (y i)) o p)
  refine congrArg (fun v => layer _ v o) (funext fun i => ?_)
  exact unit_coe g e y i p

/-- Sums over points and lanes of values at places, as a padded column. -/
theorem column_sum {a N : ℕ} (hN : N = 256) (y : Fin N → Fin 2048 → Fin a → EReal) (z : Fin a → P → ℝ)
    (hy : ∀ t j o, y t j o = (z o (place (t.cast hN) j) : EReal)) (o : Fin 128) :
    plus none (fun o => ∑ t, ∑ j, y t j o) o = padded (fun o => ((∑ p, z o p : ℝ) : EReal)) o
      ∧ plus none (fun o => ∑ t, ∑ j, y t j o * y t j o) o = padded (fun o => ((∑ p, z o p * z o p : ℝ) : EReal)) o := by
  subst hN
  unfold plus padded
  simp only [hy, ← EReal.coe_mul, ← coe_sum, zero_add]
  exact ⟨dite_congr rfl (fun _ => congrArg _ (sum_place (z _))) fun _ => rfl,
    dite_congr rfl (fun _ => congrArg _ (sum_place fun p => z _ p * z _ p)) fun _ => rfl⟩

/-! ## What a point of a pass reads

The earlier passes read the blocks of the third one's first windows. -/

theorem idx_nbr : ∀ t : Fin cfg2.N, win2_0.index t (0 : Fin 4) = t.val / 64 ∧ win2_0.index t (1 : Fin 4) = t.val % 32
    ∧ win2_0.index t (2 : Fin 4) = 0 ∧ win2_0.index t (3 : Fin 4) = t.val / 32 % 2 :=
  (by decide +kernel : ∀ t : Fin grid2.N, _)

theorem idx_pts : ∀ t : Fin cfg2.N, win2_1.index t (0 : Fin 3) = t.val / 64 ∧ win2_1.index t (1 : Fin 3) = 0
    ∧ win2_1.index t (2 : Fin 3) = t.val / 32 % 2 :=
  (by decide +kernel : ∀ t : Fin grid2.N, _)

section Reads
variable (t : Fin cfg2.N)

theorem read_nbr (d : Fin 3) (j : Fin 2048) :
    (iblk2 V c 0 t : Vec Ideal S1x1x3x2048 .f32) (ix4 0 0 d j) = (V c main_arg1 : S4x32x3x4096.Idx → EReal)
      (ix4 (place (t.cast N_2) j).1 (place (t.cast N_2) j).2.2 d (place (t.cast N_2) j).2.1) := by
  show V c main_arg1 (((cfg2.win 0).blk t).view.emb _) = _
  obtain ⟨e0, e1, e2, e3⟩ := idx_nbr t
  congr 1
  funext a; apply Fin.ext
  match a with
  | ⟨0, _⟩ => show win2_0.index t 0 * 1 + 1 * 0 = t.val / 64; omega
  | ⟨1, _⟩ => show win2_0.index t 1 * 1 + 1 * 0 = t.val % 32; omega
  | ⟨2, _⟩ => show win2_0.index t 2 * 3 + 1 * d.val = d.val; omega
  | ⟨3, _⟩ => show win2_0.index t 3 * 2048 + 1 * j.val = t.val / 32 % 2 * 2048 + j.val; omega

theorem read_pts (d : Fin 3) (j : Fin 2048) :
    (iblk2 V c 1 t : Vec Ideal S1x3x2048 .f32) (ix3 0 d j) = (V c main_arg0 : S4x3x4096.Idx → EReal)
      (ix3 (place (t.cast N_2) j).1 d (place (t.cast N_2) j).2.1) := by
  show V c main_arg0 (((cfg2.win 1).blk t).view.emb _) = _
  obtain ⟨e0, e1, e2⟩ := idx_pts t
  congr 1
  funext a; apply Fin.ext
  match a with
  | ⟨0, _⟩ => show win2_1.index t 0 * 1 + 1 * 0 = t.val / 64; omega
  | ⟨1, _⟩ => show win2_1.index t 1 * 3 + 1 * d.val = d.val; omega
  | ⟨2, _⟩ => show win2_1.index t 2 * 2048 + 1 * j.val = t.val / 32 % 2 * 2048 + j.val; omega

/-- The other windows stay at their whole arrays. -/
theorem read_whole : ((iblk2 V c 2 t : Vec Ideal S32x3 .f32) = V c main_v0 ∧ (iblk2 V c 3 t : Vec Ideal S32x3 .f32) = V c main_v3)
    ∧ ((iblk2 V c 4 t : Vec Ideal S32x32 .f32) = V c main_arg6 ∧ (iblk2 V c 5 t : Vec Ideal S64x32 .f32) = V c main_arg10)
    ∧ ((iblk2 V c 6 t : Vec Ideal S128x1 .f32) = V c main_v23 ∧ (iblk2 V c 7 t : Vec Ideal S128x1 .f32) = V c main_v24)
    ∧ (iblk2 V c 8 t : Vec Ideal S128x1 .f32) = V c main_v44 ∧ (iblk2 V c 9 t : Vec Ideal S128x1 .f32) = V c main_v45 := by
  refine ⟨⟨?_, ?_⟩, ⟨?_, ?_⟩, ⟨?_, ?_⟩, ?_, ?_⟩ <;> exact Memref.read_access_unit_zero (Elt Ideal) _ (funext fun a => by fin_cases a <;> rfl) _ _

variable {n : Net} (h : Holds V c n) (j : Fin 2048)
include h

/-- The first layer at a lane of a point is the net's at a place. -/
theorem layer1 : one (iblk2 V c 0 t) (iblk2 V c 1 t) (iblk2 V c 2 t) (iblk2 V c 3 t) j = fun o => (n.z1 o (place (t.cast N_2) j) : EReal) := by
  rw [(read_whole t).1.1, (read_whole t).1.2]
  exact one_eq _ _ _ _ j _ (fun d => (read_nbr t d j).trans (h.nbr d _)) (fun d => (read_pts t d j).trans (h.pts d _)) h.near h.own

variable (s1 : Col (a := 32) (V c main_v23) fun o => scale (n.g1 o) (n.z1 o)) (h1 : Col (a := 32) (V c main_v24) fun o => shift (n.g1 o) (n.e1 o) (n.z1 o))
include s1 h1

/-- The second layer. -/
theorem layer2 : further (entry (iblk2 V c 4 t)) (iblk2 V c 6 t) (iblk2 V c 7 t)
    (one (iblk2 V c 0 t) (iblk2 V c 1 t) (iblk2 V c 2 t) (iblk2 V c 3 t) j) = fun o => (n.z2 o (place (t.cast N_2) j) : EReal) := by
  rw [layer1 t h j, (read_whole t).2.1.1, (read_whole t).2.2.1.1, (read_whole t).2.2.1.2]
  exact further_eq _ n.w2 h.w2 _ _ n.g1 n.e1 n.z1 s1 h1 _

variable (s2 : Col (a := 32) (V c main_v44) fun o => scale (n.g2 o) (n.z2 o)) (h2 : Col (a := 32) (V c main_v45) fun o => shift (n.g2 o) (n.e2 o) (n.z2 o))
include s2 h2

/-- The third layer. -/
theorem layer3 : further (entry (iblk2 V c 5 t)) (iblk2 V c 8 t) (iblk2 V c 9 t) (further (entry (iblk2 V c 4 t)) (iblk2 V c 6 t) (iblk2 V c 7 t)
    (one (iblk2 V c 0 t) (iblk2 V c 1 t) (iblk2 V c 2 t) (iblk2 V c 3 t) j)) = fun o => (n.z3 o (place (t.cast N_2) j) : EReal) := by
  rw [layer2 t h j s1 h1, (read_whole t).2.1.2, (read_whole t).2.2.2.1, (read_whole t).2.2.2.2]
  exact further_eq _ n.w3 h.w3 _ _ n.g2 n.e2 n.z2 s2 h2 _

end Reads

/-! ## What the passes leave -/

/-- Two columns hold the sums over all places of `z` and of its square. -/
def Sums {a : ℕ} (x y : Vec Ideal S128x1 .f32) (z : Fin a → P → ℝ) : Prop := Col x (fun o => ((∑ p, z o p : ℝ) : EReal)) ∧ Col y fun o => ((∑ p, z o p * z o p : ℝ) : EReal)

/-- Columns of sums over a pass's points and lanes of values at places. -/
theorem sums_of {a N : ℕ} (hN : N = 256) {x x' : Vec Ideal S128x1 .f32} {y : Fin N → Fin 2048 → Fin a → EReal} {z : Fin a → P → ℝ}
    (hx : ∀ o, x (ix2 o 0) = plus none (fun o => ∑ t, ∑ j, y t j o) o ∧ x' (ix2 o 0) = plus none (fun o => ∑ t, ∑ j, y t j o * y t j o) o)
    (hy : ∀ t j o, y t j o = (z o (place (t.cast hN) j) : EReal)) : Sums x x' z :=
  ⟨fun o => (hx o).1.trans (column_sum hN y z hy o).1, fun o => (hx o).2.trans (column_sum hN y z hy o).2⟩

theorem columns0 {n : Net} (h : Holds V c n) : Sums ((dat0 V c).arrAt 6 cfg0.N) ((dat0 V c).arrAt 7 cfg0.N) n.z1 :=
  sums_of N_0 (sums0 V c) fun t j o => congrFun (layer1 t h j) o

theorem columns1 {n : Net} (h : Holds V c n) (s1 : Col (a := 32) (V c main_v23) fun o => scale (n.g1 o) (n.z1 o))
    (h1 : Col (a := 32) (V c main_v24) fun o => shift (n.g1 o) (n.e1 o) (n.z1 o)) : Sums ((dat1 V c).arrAt 8 cfg1.N) ((dat1 V c).arrAt 9 cfg1.N) n.z2 :=
  sums_of N_1 (sums1 V c) fun t j o => congrFun (layer2 t h j s1 h1) o

theorem columns2 {n : Net} (h : Holds V c n) (s1 : Col (a := 32) (V c main_v23) fun o => scale (n.g1 o) (n.z1 o))
    (h1 : Col (a := 32) (V c main_v24) fun o => shift (n.g1 o) (n.e1 o) (n.z1 o)) (s2 : Col (a := 32) (V c main_v44) fun o => scale (n.g2 o) (n.z2 o))
    (h2 : Col (a := 32) (V c main_v45) fun o => shift (n.g2 o) (n.e2 o) (n.z2 o)) : Sums ((dat2 V c).arrAt 10 cfg2.N) ((dat2 V c).arrAt 11 cfg2.N) n.z3 :=
  sums_of N_2 (sums2 V c) fun t j o => congrFun (layer3 t h j s1 h1 s2 h2) o

/-! ## The stretch after a pass -/

section Stretch
variable {a : ℕ} {g e : Vec Ideal S128 .f32} {g' e' : Fin a → EReal} {s q : Vec Ideal S128x1 .f32} {z : Fin a → P → ℝ}
  (hg : ∀ o, g (ix1 o) = padded g' o) (hs : Sums s q z)
include hg hs

theorem scales_col : Col (Host.col (Host.scales g s q)) fun o => scale (g' o) (z o) := fun o => by
  rw [Host.scales_apply, hg, hs.1, hs.2]
  unfold padded
  split
  · exact kernelScale_eq _ _
  · exact kernelScale_zero _ _

theorem shifts_col (he : ∀ o, e (ix1 o) = padded e' o) :
    Col (Host.col (Host.shifts g e s q)) fun o => shift (g' o) (e' o) (z o) := fun o => by
  rw [Host.shifts_apply, hg, he, hs.1, hs.2]
  unfold padded
  split
  · exact kernelShift_eq _ _ _
  · exact kernelShift_zero _ _

end Stretch

end Cert.StatsIdeal.Pass

end
-- ==== Proof.StatsValue.lean ====
/-
  The six columns of constants, after the run: the net's scales and shifts, padded with zeros.
-/
module

public import proofs.«01_k».proof.Proof.StatsPass

@[expose] public section

set_option maxRecDepth 16384

noncomputable section

namespace Cert.StatsIdeal.Value

open Cert.StatsIdeal Cert.StatsIdeal.Gen Cert.StatsIdeal.Pass
open Idealize.ShloMosaic Idealize.ShloMosaic.TcCoe Idealize.SL.Sem
open Cert.Proof.Layers Cert.Proof.Norm Cert.Proof.Net
open Cert.StatsReferenceIdeal.Consts (padded)

variable (m : (ℓ : Loc nD τ sig) → Buf (Elt Ideal) ℓ) (ρ : Dev nD → PrngReg) (c : Dev nD)

/-- The launch arrays hold the net's numbers. -/
abbrev Launch (n : Net) : Prop :=
  Reads n (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13))

/-- Two columns of constants hold a layer's scales and shifts. -/
structure Constants {a : ℕ} (s h : Vec Ideal S128x1 .f32) (g e : Fin a → EReal) (z : Fin a → P → ℝ) : Prop where
  scales : Pass.Col s fun o => scale (g o) (z o)
  shifts : Pass.Col h fun o => shift (g o) (e o) (z o)

theorem Constants.of_eq {a : ℕ} {s h s' h' : Vec Ideal S128x1 .f32} {g e : Fin a → EReal} {z : Fin a → P → ℝ} (k : Constants s h g e z) (es : s' = s) (eh : h' = h) :
    Constants s' h' g e z := by
  subst es eh; exact k

/-- They do, where they are computed from sums. -/
theorem constants_of {a : ℕ} {x y s q : Vec Ideal S128x1 .f32} {g e : Vec Ideal S128 .f32} {g' e' : Fin a → EReal} {z : Fin a → P → ℝ}
    (hx : x = Host.col (Host.scales g s q)) (hy : y = Host.col (Host.shifts g e s q)) (hs : Sums s q z)
    (hg : ∀ o, g (ix1 o) = padded g' o) (he : ∀ o, e (ix1 o) = padded e' o) : Constants x y g' e' z := by
  subst hx hy; exact ⟨scales_col hg hs, shifts_col hg hs he⟩

/-- An array of gammas or betas that holds real numbers, padded. -/
theorem padded32 {x y : Vec Ideal S32 .f32} {g : Fin 32 → EReal} (e : x = y) (hg : ∀ o, y (ix1 o) = g o) (o : Fin 128) :
    Host.pad32 x (ix1 o) = padded g o := by
  subst e; exact (Host.pad32_apply x o).trans (congrArg (padded · o) (funext hg))

theorem padded64 {x y : Vec Ideal S64 .f32} {g : Fin 64 → EReal} (e : x = y) (hg : ∀ o, y (ix1 o) = g o) (o : Fin 128) :
    Host.pad64 x (ix1 o) = padded g o := by
  subst e; exact (Host.pad64_apply x o).trans (congrArg (padded · o) (funext hg))

theorem Sums.of_eq {a : ℕ} {s q s' q' : Vec Ideal S128x1 .f32} {z : Fin a → P → ℝ} (k : Sums s q z) (es : s' = s) (eq : q' = q) : Sums s' q' z := by
  subst es eq; exact k

variable {m c} {n : Net} (h : Launch m c n)
include h

/-- Where the arguments are as launched and the first weights are split, the passes read the net's numbers. -/
theorem holds_of {V : (c : Dev nD) → (b : Ref sig .tc) → Buf (Elt Ideal) ((c : Thread nD τ).loc b)} (hV : ∀ b ∈ argRefs, V c b = m ((c : Thread nD τ).loc b))
    (near : V c main_v0 = V1 m ρ c main_v0) (own : V c main_v3 = V1 m ρ c main_v3) : Holds V c n where
  pts d p := (congrFun (hV main_arg0 (by decide)) _).trans (h.pts d p)
  nbr d p := (congrFun (hV main_arg1 (by decide)) _).trans (h.nbr d p)
  near o d := by
    have e : V1 m ρ c main_v0 = extractStridedSlice S32x3 ![0, 0] (m ((c : Thread nD τ).loc main_arg2)) slices_S32x6_S32x3_0_0 := rfl
    rw [near, e, ← h.w1]
    pointwise []
    rfl
  own o d := by
    have e : V1 m ρ c main_v3 = subf (F := Ideal) (extractStridedSlice S32x3 ![0, 3] (m ((c : Thread nD τ).loc main_arg2)) slices_S32x6_S32x3_0_3)
      (extractStridedSlice S32x3 ![0, 0] (m ((c : Thread nD τ).loc main_arg2)) slices_S32x6_S32x3_0_0) := rfl
    rw [own, e, EReal.coe_sub, ← h.w1, ← h.w1]
    pointwise []
    rfl
  w2 o d := (congrFun (hV main_arg6 (by decide)) _).trans (h.w2 o d)
  w3 o d := (congrFun (hV main_arg10 (by decide)) _).trans (h.w3 o d)

omit h in
/-- A split of the first weights stays until the last pass. -/
theorem split_kept (b : Ref sig .tc) (h1 : ∀ U, Host.end1 U (Proc.devRef .tc b) = U (Proc.devRef .tc b)) (h2 : ∀ U, Host.end2 U (Proc.devRef .tc b) = U (Proc.devRef .tc b))
    (k0 : ∀ w : Fin cfg0.W, Pipeline.arrRef spec0 w = b → (cfg0.win w).isOut = false) (k1 : ∀ w : Fin cfg1.W, Pipeline.arrRef spec1 w = b → (cfg1.win w).isOut = false) :
    V7 m ρ c b = V1 m ρ c b ∧ V13 m ρ c b = V1 m ρ c b := by
  have e7 : V7 m ρ c b = V1 m ρ c b := (h1 (W2 m ρ c)).trans (W2_of m ρ c b k0)
  exact ⟨e7, ((h2 (W8 m ρ c)).trans (W8_of m ρ c b k1)).trans e7⟩

omit h in
theorem near_kept : V7 m ρ c main_v0 = V1 m ρ c main_v0 ∧ V13 m ρ c main_v0 = V1 m ρ c main_v0 :=
  split_kept ρ main_v0 (fun _ => rfl) (fun _ => rfl) (by decide) (by decide)

omit h in
theorem own_kept : V7 m ρ c main_v3 = V1 m ρ c main_v3 ∧ V13 m ρ c main_v3 = V1 m ρ c main_v3 :=
  split_kept ρ main_v3 (fun _ => rfl) (fun _ => rfl) (by decide) (by decide)

/-- The first layer's constants, after the first pass. -/
theorem first : Constants (W7 m ρ c (Proc.devRef .tc main_v23)) (W7 m ρ c (Proc.devRef .tc main_v24)) (fun o => (n.g1 o : EReal)) (fun o => (n.e1 o : EReal)) n.z1 :=
  constants_of (Host.scale1 (W2 m ρ c)) (Host.shift1 (W2 m ρ c))
    (Sums.of_eq (columns0 (holds_of ρ h (W1_args m ρ c) rfl rfl)) (W2_arr m ρ c 6) (W2_arr m ρ c 7))
    (padded32 (W2_args m ρ c main_arg4 (by decide)) h.g1) (padded32 (W2_args m ρ c main_arg5 (by decide)) h.e1)

/-- The second's, after the second. -/
theorem second : Constants (W13 m ρ c (Proc.devRef .tc main_v44)) (W13 m ρ c (Proc.devRef .tc main_v45)) (fun o => (n.g2 o : EReal)) (fun o => (n.e2 o : EReal)) n.z2 :=
  constants_of (Host.scale2 (W8 m ρ c)) (Host.shift2 (W8 m ρ c))
    (Sums.of_eq (columns1 (holds_of ρ h (W7_args m ρ c) (near_kept ρ).1 (own_kept ρ).1) (first ρ h).scales (first ρ h).shifts) (W8_arr m ρ c 8) (W8_arr m ρ c 9))
    (padded32 (W8_args m ρ c main_arg8 (by decide)) h.g2) (padded32 (W8_args m ρ c main_arg9 (by decide)) h.e2)

/-- The first's stay until the last pass. -/
theorem first_kept : Constants (W13 m ρ c (Proc.devRef .tc main_v23)) (W13 m ρ c (Proc.devRef .tc main_v24)) (fun o => (n.g1 o : EReal)) (fun o => (n.e1 o : EReal)) n.z1 :=
  (first ρ h).of_eq (W8_of m ρ c main_v23 (by decide)) (W8_of m ρ c main_v24 (by decide))

/-! ## After the run -/

theorem third : Constants (W19 m ρ c (Proc.devRef .tc main_v65)) (W19 m ρ c (Proc.devRef .tc main_v66)) n.g3 n.e3 n.z3 :=
  constants_of (Host.scale3 (W14 m ρ c)) (Host.shift3 (W14 m ρ c))
    (Sums.of_eq (columns2 (holds_of ρ h (W13_args m ρ c) (near_kept ρ).2 (own_kept ρ).2) (first_kept ρ h).scales (first_kept ρ h).shifts
      (second ρ h).scales (second ρ h).shifts) (W14_arr m ρ c 10) (W14_arr m ρ c 11))
    (padded64 (W14_args m ρ c main_arg12 (by decide)) h.g3) (padded64 (W14_args m ρ c main_arg13 (by decide)) h.e3)

theorem second_end : Constants (W19 m ρ c (Proc.devRef .tc main_v44)) (W19 m ρ c (Proc.devRef .tc main_v45)) (fun o => (n.g2 o : EReal)) (fun o => (n.e2 o : EReal)) n.z2 :=
  (second ρ h).of_eq (W14_of m ρ c main_v44 (by decide)) (W14_of m ρ c main_v45 (by decide))

theorem first_end : Constants (W19 m ρ c (Proc.devRef .tc main_v23)) (W19 m ρ c (Proc.devRef .tc main_v24)) (fun o => (n.g1 o : EReal)) (fun o => (n.e1 o : EReal)) n.z1 :=
  (first_kept ρ h).of_eq (W14_of m ρ c main_v23 (by decide)) (W14_of m ρ c main_v24 (by decide))

end Cert.StatsIdeal.Value

end
-- ==== Proof.StatsRun.lean ====
/-
  The statistics passes, run: every array ends holding what the last of the program's boundaries says of it.
-/
module

public import proofs.«01_k».proof.Proof.Gen.StatsIdeal.Frame

@[expose] public section

noncomputable section

namespace Cert.StatsIdeal.Run

open Cert.StatsIdeal Cert.StatsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

-- the implicit arguments of the region launch are found by unfolding plain definitions in a metavariable's type
set_option backward.isDefEq.respectTransparency.types false in
theorem whole : θ_run defs (onTc (τ := τ) (main (F := F))) ⟨m, fun _ => 0, ρ⟩ (fun r => ∀ c : Dev nD,
    ∀ b ∈ Pipeline.ucRefs τ sig, r.2.mem (((c : Thread nD τ)).1, b) = W19 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl,
      fun _ => .rfl, fun _ => .rfl, fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun _ h _ => h)

end Cert.StatsIdeal.Run

end
-- ==== Proof.StatsRefNet.lean ====
/-
  The reference's constants of real arrays are the net's.
-/
module

public import proofs.«01_k».proof.Proof.StatsRef
public import proofs.«01_k».proof.Proof.Net

@[expose] public section

set_option maxRecDepth 16384

noncomputable section

namespace Cert.StatsReferenceIdeal.Consts

open Idealize.ShloMosaic Idealize.ShloMosaic.TcCoe Idealize.SL.Sem
open Cert.StatsReferenceIdeal Cert.StatsReferenceIdeal.Read Cert.StatsReferenceIdeal.Facts₀
open Cert.Proof.Layers Cert.Proof.Norm Cert.Proof.Net

/-- Contents whose arguments hold the net's numbers. -/
abbrev Launch (V : Valuation τ sig (Elt Ideal)) (n : Net) : Prop :=
  Reads n (V (Proc.devRef .tc main_arg0)) (V (Proc.devRef .tc main_arg1)) (V (Proc.devRef .tc main_arg2)) (V (Proc.devRef .tc main_arg3)) (V (Proc.devRef .tc main_arg4))
    (V (Proc.devRef .tc main_arg5)) (V (Proc.devRef .tc main_arg6)) (V (Proc.devRef .tc main_arg7)) (V (Proc.devRef .tc main_arg8)) (V (Proc.devRef .tc main_arg9))
    (V (Proc.devRef .tc main_arg10)) (V (Proc.devRef .tc main_arg11)) (V (Proc.devRef .tc main_arg12)) (V (Proc.devRef .tc main_arg13))

variable {n : Net} {x0 : S4x3x4096.Idx → EReal} {x1 : S4x32x3x4096.Idx → EReal} {x2 : S32x6.Idx → EReal} {x3 x4 x5 : S32.Idx → EReal}
  {x6 : S32x32.Idx → EReal} {x7 x8 x9 : S32.Idx → EReal} {x10 : S64x32.Idx → EReal} {x11 x12 x13 : S64.Idx → EReal}
  (h : Reads n x0 x1 x2 x3 x4 x5 x6 x7 x8 x9 x10 x11 x12 x13)

include h

theorem value1 (o : Fin 32) : along (val_main_v11 (F := Ideal) x0 x1 x2 x3) o = fun p => (n.z1 o p : EReal) + (n.b1 o : EReal) := by
  funext p
  refine (first_eq x0 x1 x2 x3 p.1 o p.2.1 p.2.2).trans ?_
  rw [h.b1, show entry x2 = fun o d => (n.w1 o d : EReal) from funext fun o => funext fun d => h.w1 o d]
  simp only [h.nbr, h.pts]
  rw [first_coe]
  rfl

theorem scale1 (o : Fin 128) : val_main_v47 (F := Ideal) x0 x1 x2 x3 x4 (ix2 o 0) = padded (fun o => scale (n.g1 o) (n.z1 o)) o :=
  scales_net (q := fit32) (value1 h) h.g1 o

theorem shift1 (o : Fin 128) : val_main_v49 (F := Ideal) x0 x1 x2 x3 x4 x5 (ix2 o 0) = padded (fun o => shift (n.g1 o) (n.e1 o) (n.z1 o)) o :=
  shifts_net (q := fit32) (value1 h) h.b1 h.g1 h.e1 o

theorem next1 (o : Fin 32) (p : P) : along (val_main_v45 (F := Ideal) x0 x1 x2 x3 x4 x5) o p = (n.a1 o p : EReal) :=
  nexts_net (q := fit32) (value1 h) h.g1 h.e1 o p

theorem value2 (o : Fin 32) : along (val_main_v54 (F := Ideal) x0 x1 x2 x3 x4 x5 x6 x7) o = fun p => (n.z2 o p : EReal) + (n.b2 o : EReal) :=
  dense_net fit32 dot_S4x32x4096x32_S32x32_S4x4096x32x32_1_1_023_0_n_n_wf transposes_S4x4096x32x32_S4x32x4096x32_0_3_1_2 (next1 h) h.w2 h.b2 o

theorem scale2 (o : Fin 128) : val_main_v90 (F := Ideal) x0 x1 x2 x3 x4 x5 x6 x7 x8 (ix2 o 0) = padded (fun o => scale (n.g2 o) (n.z2 o)) o :=
  scales_net (q := fit32) (value2 h) h.g2 o

theorem shift2 (o : Fin 128) : val_main_v92 (F := Ideal) x0 x1 x2 x3 x4 x5 x6 x7 x8 x9 (ix2 o 0) = padded (fun o => shift (n.g2 o) (n.e2 o) (n.z2 o)) o :=
  shifts_net (q := fit32) (value2 h) h.b2 h.g2 h.e2 o

theorem next2 (o : Fin 32) (p : P) : along (val_main_v88 (F := Ideal) x0 x1 x2 x3 x4 x5 x6 x7 x8 x9) o p = (n.a2 o p : EReal) :=
  nexts_net (q := fit32) (value2 h) h.g2 h.e2 o p

theorem value3 (o : Fin 64) :
    along (val_main_v97 (F := Ideal) x0 x1 x2 x3 x4 x5 x6 x7 x8 x9 x10 x11) o = fun p => (n.z3 o p : EReal) + (n.b3 o : EReal) :=
  dense_net fit64 dot_S4x32x4096x32_S64x32_S4x4096x32x64_1_1_023_0_n_n_wf transposes_S4x4096x32x64_S4x64x4096x32_0_3_1_2 (next2 h) h.w3 h.b3 o

theorem scale3 (o : Fin 128) :
    val_main_v133 (F := Ideal) x0 x1 x2 x3 x4 x5 x6 x7 x8 x9 x10 x11 x12 (ix2 o 0) = padded (fun o => scale (n.g3 o) (n.z3 o)) o :=
  scales_net (q := fit64) (value3 h) h.g3 o

theorem shift3 (o : Fin 128) :
    val_main_v135 (F := Ideal) x0 x1 x2 x3 x4 x5 x6 x7 x8 x9 x10 x11 x12 x13 (ix2 o 0) = padded (fun o => shift (n.g3 o) (n.e3 o) (n.z3 o)) o :=
  shifts_net (q := fit64) (value3 h) h.b3 h.g3 h.e3 o

end Cert.StatsReferenceIdeal.Consts

end
-- ==== Proof.Select.lean ====
/-
  Choosing the greatest entries of a column of extended reals, one at a time. A stable sort, greatest first, lists the
  places; taking again and again the greatest value below the last one meets the same places, as long as the listed values
  fall strictly.
-/
module

public import Idealize.ShloMosaic.Lib.SortPrefix
public import Idealize.ShloMosaic.PureOps.Ideal.Laws
public import Idealize.ShloMosaic.Lib.Exec.Context

@[expose] public section

namespace Cert.Proof.Select

open Idealize.ShloMosaic

/-! ## The stable sort -/

/-- Among positions in increasing order a stable sort may as well break ties by position. -/
theorem stableSort_ties {n : ℕ} (B B' : Fin n → Fin n → Bool) (h : ∀ a b, a < b → B' b a = B b a) :
    ∀ l : List (Fin n), l.Pairwise (· < ·) → stableSort B l = stableSort B' l
  | [], _ => rfl
  | a :: l, hl => by
    rw [List.pairwise_cons] at hl
    unfold stableSort
    rw [← stableSort_ties B B' h l hl.2]
    exact insertBefore_congr _ _ _ _ fun b hb => (h a b (hl.1 b ((perm_stableSort B l).mem_iff.mp hb))).symm

variable {n : ℕ} (s : Fin n → EReal)

/-- The place of the entry that comes at `i` when the greater come first. -/
noncomputable def place (i : Fin n) : Fin n := sortedFrom (fun a b => decide (s b < s a)) i

/-- A later entry is smaller, or equal and further on. -/
theorem place_order {i j : Fin n} (h : i < j) : s (place s j) < s (place s i) ∨ s (place s j) = s (place s i) ∧ place s i < place s j := by
  have hB := StrictTotalBefore.of_key_then_position (fun a b : EReal => decide (b < a)) s (fun a => by simp)
    (fun a b c hab hbc => by simp only [decide_eq_true_eq] at *; exact hbc.trans hab)
    (fun a b => by simp only [decide_eq_true_eq]; rcases lt_trichotomy a b with h | h | h <;> simp [h])
  have e : place s = sortedFrom fun k k' : Fin n => decide (s k' < s k) || (decide (s k = s k') && decide (k < k')) := by
    funext k
    unfold place sortedFrom
    have : sortPositions n (fun a b => decide (s b < s a)) = sortPositions n fun k k' : Fin n => decide (s k' < s k) || (decide (s k = s k') && decide (k < k')) :=
      stableSort_ties _ _ (fun a b hab => by simp [not_lt.mpr hab.le]) _ (List.pairwise_lt_finRange n)
    rw [List.get_of_eq this]
    rfl
  have hne : place s i ≠ place s j := fun h' => h.ne (sortedFrom_injective _ h')
  have hno := sortedFrom_noInversion _ _ hB.asymm (fun _ _ h => h) hB.negTrans i j h
  rw [← e] at hno
  rcases hB.total _ _ hne with h' | h'
  · simp only [Bool.or_eq_true, Bool.and_eq_true, decide_eq_true_eq] at h'
    exact h'.imp id fun h' => ⟨h'.1.symm, h'.2⟩
  · rw [hno] at h'; exact absurd h' (by decide)

theorem place_le {i j : Fin n} (h : i ≤ j) : s (place s j) ≤ s (place s i) := by
  rcases h.eq_or_lt with rfl | h
  · exact le_rfl
  · exact (place_order s h).elim le_of_lt fun h => h.1.le

theorem place_surj (j : Fin n) : ∃ i, place s i = j := sortedFrom_surjective _ j

/-! ## Taking the greatest value below the last one -/

/-- The greatest value that lies below `v`. -/
noncomputable def below (v : EReal) : EReal := Finset.univ.sup fun j => if s j < v then s j else ⊥

/-- What is held after `t` steps, from the top. -/
noncomputable def level : ℕ → EReal
  | 0 => ⊤
  | t + 1 => below s (level t)

/-- The first `k` listed values fall strictly. -/
def Falls (k : ℕ) (hk : k ≤ n) : Prop := ∀ i : ℕ, ∀ h : i + 1 < k, s (place s ⟨i + 1, h.trans_le hk⟩) < s (place s ⟨i, (Nat.lt_of_succ_lt h).trans_le hk⟩)

variable {s}

/-- Each step holds the next listed value. -/
theorem level_eq {k : ℕ} {hk : k ≤ n} (hs : ∀ j, s j < ⊤) (hf : Falls s k hk) : ∀ i : ℕ, ∀ h : i < k, level s (i + 1) = s (place s ⟨i, h.trans_le hk⟩)
  | 0, h => by
    refine le_antisymm (show below s _ ≤ _ from Finset.sup_le fun j _ => ?_) ?_
    · obtain ⟨q, rfl⟩ := place_surj s j
      split
      · exact place_le s (Nat.zero_le _)
      · exact bot_le
    · exact (if_pos (hs _)).symm.trans_le (Finset.le_sup (f := fun j => if s j < level s 0 then s j else ⊥) (Finset.mem_univ (place s ⟨0, h.trans_le hk⟩)))
  | i + 1, h => by
    have ih := level_eq hs hf i (Nat.lt_of_succ_lt h)
    refine le_antisymm (show below s _ ≤ _ from Finset.sup_le fun j _ => ?_) ?_
    · obtain ⟨q, rfl⟩ := place_surj s j
      split
      · rename_i hlt
        rw [ih] at hlt
        refine place_le s (show i + 1 ≤ q.val from ?_)
        by_contra hq
        exact absurd (place_le s (show q ≤ ⟨i, _⟩ from Nat.le_of_lt_succ (Nat.lt_of_not_le hq))) (not_le.mpr hlt)
      · exact bot_le
    · have hlt : s (place s ⟨i + 1, h.trans_le hk⟩) < level s (i + 1) := by rw [ih]; exact hf i h
      exact (if_pos hlt).symm.trans_le (Finset.le_sup (f := fun j => if s j < level s (i + 1) then s j else ⊥) (Finset.mem_univ (place s ⟨i + 1, h.trans_le hk⟩)))

/-- The listed place is the first that holds its value. -/
theorem place_first {k : ℕ} {hk : k ≤ n} (hf : Falls s k hk) (i : ℕ) (h : i < k) (j : Fin n) (hj : s j = s (place s ⟨i, h.trans_le hk⟩)) :
    place s ⟨i, h.trans_le hk⟩ ≤ j := by
  obtain ⟨q, rfl⟩ := place_surj s j
  rcases lt_trichotomy q.val i with hq | hq | hq
  · obtain ⟨i, rfl⟩ : ∃ i', i = i' + 1 := ⟨i - 1, by omega⟩
    have := (hf i h).trans_le (place_le s (show q ≤ ⟨i, _⟩ from Nat.le_of_lt_succ hq))
    exact absurd hj this.ne'
  · exact le_of_eq (congrArg (place s) (Fin.ext hq.symm))
  · rcases place_order s (show (⟨i, h.trans_le hk⟩ : Fin n) < q from hq) with h' | h'
    · exact absurd hj h'.ne
    · exact h'.2.le

/-! ## A fold that one entry wins -/

/-- If combining with `a` gives `a` back, for the start and every entry, so it does for their fold. -/
theorem op_fold {α ι : Type} [DecidableEq ι] (op : α → α → α) [Std.Commutative op] [Std.Associative op] (init : α) (f : ι → α) (a : α)
    (h0 : op a init = a) (S : Finset ι) (h : ∀ j ∈ S, op a (f j) = a) : op a (S.fold op init f) = a := by
  induction S using Finset.induction_on with
  | empty => exact h0
  | insert j S hj ih =>
    rw [Finset.fold_insert hj, ← Std.Associative.assoc (op := op), h j (Finset.mem_insert_self _ _)]
    exact ih fun j' hj' => h j' (Finset.mem_insert_of_mem hj')

theorem fold_eq {α ι : Type} [DecidableEq ι] (op : α → α → α) [Std.Commutative op] [Std.Associative op] (init : α) (f : ι → α) (S : Finset ι)
    (p : ι) (hp : p ∈ S) (h0 : op (f p) init = f p) (h : ∀ j ∈ S, op (f p) (f j) = f p) : S.fold op init f = f p := by
  rw [← Finset.insert_erase hp, Finset.fold_insert (Finset.notMem_erase _ _)]
  exact op_fold op init f (f p) h0 _ fun j hj => h j (Finset.mem_of_mem_erase hj)

/-- What holds at the start and is kept by every trip holds after the loop. -/
theorem fold_inv {σ : Type} {n : ℕ} (g : Fin n → σ → σ) (P : ℕ → σ → Prop) (init : σ) (h0 : P 0 init)
    (h : ∀ (k : Fin n) acc, P k.val acc → P (k.val + 1) (g k acc)) : P n (Scf.fold g init) := by
  rw [Scf.fold_eq]
  induction n with
  | zero => exact h0
  | succ n ih =>
    rw [List.finRange_succ_last, List.foldl_append, List.foldl_map]
    exact h (Fin.last n) _ (ih (fun k => g k.castSucc) fun k => h k.castSucc)

end Cert.Proof.Select

end
-- ==== Proof.NearBody.lean ====
/-
  The selection of neighbours, block by block: the scores, and one step of the loop, element by element.
-/
module

public import proofs.«01_k».proof.Proof.Gen.NearIdeal.Value
public import proofs.«01_k».proof.Proof.Select
public import Idealize.ShloMosaic.Lib.Tactic
public import Idealize.ShloMosaic.Lib.Pointwise

@[expose] public section

set_option maxRecDepth 16384

noncomputable section

namespace Cert.NearIdeal.Body

open Cert.NearIdeal Cert.NearIdeal.Gen Cert.Proof.Select Idealize.ShloMosaic Idealize.ShloMosaic.TcCoe Idealize.SL.Sem

/-- The first place, as a word, at which `v` is found. -/
@[irreducible] def first (s : Fin 4096 → EReal) (v : EReal) : BitVec 32 :=
  Finset.univ.fold IntOp.minsi 2147483647#32 fun q => if s q = v then BitVec.ofNat 32 q.val else 4096#32

/-- The trip that fills row `i`. -/
theorem row_word : ∀ (i : Fin 32) (k : Fin k0_t1_loop.trips),
    IntOp.cmpi CmpIPredicate.eq (BitVec.ofNat 32 i.val) (Scalar.subi (Scf.iv 0#32 1#32 k.val) 1#32) = if i.val + 1 = k.val then 1#1 else 0#1 := by
  decide +kernel

/-- The score of point `q` for lane `j`. -/
def score (x : Vec Ideal S1x3x4096 .f32) (y : Vec Ideal S1x3x512 .f32) (j : Fin 512) (q : Fin 4096) : EReal :=
  2 * (∑ d : Fin 3, x (ix3 0 d q) * y (ix3 0 d j)) - (∑ d : Fin 3, x (ix3 0 d q) * x (ix3 0 d q)) - ∑ d : Fin 3, y (ix3 0 d j) * y (ix3 0 d j)

theorem score_apply x y (q : Fin 4096) (j : Fin 512) : k0_pay1 (F := Ideal) x y (ix2 q j) = score x y j q := by
  unfold score
  pointwise [k0_pay1]
  rw [show Ideal.ofBits FTy.f32 1073741824#32 = 2 by simp [Ideal.ofBits, Ideal.ieee]; rw [← EReal.coe_mul]; norm_num; rfl]

theorem below_apply x y (v : Vec Ideal S1x512 .f32) (j : Fin 512) :
    k0_pay4 (F := Ideal) x y v (ix2 0 j) = below (score x y j) (v (ix2 0 j)) := by
  unfold below
  simp only [← score_apply]
  unfold k0_pay4
  generalize k0_pay1 (F := Ideal) x y = w
  pointwise []
  rw [show Ideal.ofBits FTy.f32 4286578688#32 = ⊥ by simp [Ideal.ofBits, Ideal.ieee],
    show (Named.named κ "low" 4284592614#32 : Ideal .f32) = ⊥ from IdealRules.named_const.ideal_named_scalar _ _ _ _ rfl]
  rfl

theorem step_apply x y (k : Fin k0_t1_loop.trips) (v : Vec Ideal S1x512 .f32) (w : IVec S32x512 32) (i : Fin 32) (j : Fin 512) :
    k0_pay5 (F := Ideal) x y k v w (ix2 i j) = if i.val + 1 = k.val then first (score x y j) (v (ix2 0 j)) else w (ix2 i j) := by
  unfold first
  simp only [← score_apply]
  unfold k0_pay5
  generalize k0_pay1 (F := Ideal) x y = s
  pointwise []
  rw [row_word]
  split <;> rfl

theorem top_apply (j : Fin 512) : k0_pay3 (F := Ideal) (ix2 0 j) = ⊤ := by
  show (Named.named κ "high" _ : Ideal .f32) = ⊤
  exact IdealRules.named_const.ideal_named_scalar _ _ _ _ rfl

/-! ## The loop, and a point's block -/

/-- After the loop row `i` holds the first place of the value held after `i + 1` steps. -/
theorem loop_apply x y (i : Fin 32) (j : Fin 512) :
    (Scf.fold (fun (k : Fin k0_t1_loop.trips) (acc : FVec Ideal S1x512 .f32 × IVec S32x512 32) => (k0_pay4 x y acc.1, k0_pay5 x y k acc.1 acc.2))
      (k0_pay3 (F := Ideal), k0_pay2)).2 (ix2 i j) = first (score x y j) (level (score x y j) (i.val + 1)) := by
  have e : k0_t1_loop.trips = 33 := by decide +kernel
  have h0 : k0_pay3 (F := Ideal) (ix2 0 j) = level (score x y j) 0 := top_apply j
  refine (fold_inv (fun (k : Fin k0_t1_loop.trips) (acc : FVec Ideal S1x512 .f32 × IVec S32x512 32) => (k0_pay4 x y acc.1, k0_pay5 x y k acc.1 acc.2))
    (fun t acc => acc.1 (ix2 0 j) = level (score x y j) t ∧ (i.val + 1 < t → acc.2 (ix2 i j) = first (score x y j) (level (score x y j) (i.val + 1))))
    (k0_pay3 (F := Ideal), k0_pay2) ⟨h0, fun h => absurd h (Nat.not_lt_zero _)⟩ fun k acc h => ⟨?_, fun hi => ?_⟩).2 (by omega)
  · dsimp only at h ⊢
    rw [below_apply, h.1, level]
  · dsimp only at h ⊢
    rw [step_apply, h.1]
    split
    · rename_i e; rw [e]
    · exact h.2 (by omega)

variable (m : (ℓ : Loc nD τ sig) → Buf (Elt Ideal) ℓ)

theorem zero3 : (![0, 0, 0] : Fin 3 → Nat) = fun _ => 0 := funext fun a => by fin_cases a <;> rfl

theorem outs_eq (c : Dev nD) (t : Fin cfg0.N) : outsAt0 m c t = k0_pay6
    (Scf.fold (fun (k : Fin k0_t1_loop.trips) (acc : FVec Ideal S1x512 .f32 × IVec S32x512 32) =>
      (k0_pay4 (iblk m c 0 t) (iblk m c 1 t) acc.1, k0_pay5 (iblk m c 0 t) (iblk m c 1 t) k acc.1 acc.2)) (k0_pay3 (F := Ideal), k0_pay2)).2 := by
  unfold outsAt0 out0_A_2
  refine (View.read_writes_eq_canon _ _ _ (fun y => by apply cover0_A_2)).trans ?_
  unfold kernelRun0_A
  dsimp only
  sl_unfold_words
  rw [View.canon_unit_zero zero3]
  simp only [View.readAt_eq_ld, (hs0_0 t).read_unread, (hs0_1 t).read_unread,
    View.ld_unit_zero (S := S1x3x4096) zero3, View.ld_unit_zero (S := S1x3x512) zero3]

theorem outs_apply (c : Dev nD) (t : Fin cfg0.N) (i : Fin 32) (j : Fin 512) : outsAt0 m c t (ix3 0 i j)
    = first (score (iblk m c 0 t) (iblk m c 1 t) j) (level (score (iblk m c 0 t) (iblk m c 1 t) j) (i.val + 1)) := by
  rw [outs_eq, ← loop_apply]
  generalize Scf.fold _ _ = r
  pointwise [k0_pay6]

end Cert.NearIdeal.Body

end
-- ==== Proof.NearValue.lean ====
/-
  The selection of neighbours, whole: the array it leaves holds, at row `i` of a point, the first place of the value held
  after `i + 1` steps of the selection.
-/
module

public import proofs.«01_k».proof.Proof.NearBody
public import Idealize.ShloMosaic.Lib.Pipeline.Value

@[expose] public section

set_option maxRecDepth 16384

noncomputable section

namespace Cert.NearIdeal.Whole

open Cert.NearIdeal Cert.NearIdeal.Gen Cert.NearIdeal.Body Cert.Proof.Select
open Idealize.ShloMosaic Idealize.ShloMosaic.TcCoe Idealize.SL.Sem

variable (m : (ℓ : Loc nD τ sig) → Buf (Elt Ideal) ℓ)

/-! ## Which part of each array a point reads -/

theorem idx0 : ∀ t : Fin cfg0.N, win0_0.index t (0 : Fin 3) = t.val / 8 ∧ win0_0.index t (1 : Fin 3) = 0 ∧ win0_0.index t (2 : Fin 3) = 0 :=
  (by decide +kernel : ∀ t : Fin grid0.N, _)

theorem idx1 : ∀ t : Fin cfg0.N, win0_1.index t (0 : Fin 3) = t.val / 8 ∧ win0_1.index t (1 : Fin 3) = 0 ∧ win0_1.index t (2 : Fin 3) = t.val % 8 :=
  (by decide +kernel : ∀ t : Fin grid0.N, _)

theorem idx2 : ∀ t : Fin cfg0.N, win0_2.index t (0 : Fin 3) = t.val / 8 ∧ win0_2.index t (1 : Fin 3) = 0 ∧ win0_2.index t (2 : Fin 3) = t.val % 8 :=
  (by decide +kernel : ∀ t : Fin grid0.N, _)

theorem lt_N (t : Fin cfg0.N) : t.val < 32 := t.isLt.trans_eq N_0

/-- The cloud and the position that a grid point and a lane of it name. -/
abbrev cloud (t : Fin cfg0.N) : Fin 4 := ⟨t.val / 8, by have := lt_N t; omega⟩
abbrev position (t : Fin cfg0.N) (j : Fin 512) : Fin 4096 := ⟨t.val % 8 * 512 + j.val, by have := j.isLt; omega⟩

theorem iblk0 (c : Dev nD) (t : Fin cfg0.N) (d : Fin 3) (q : Fin 4096) :
    (iblk m c 0 t : Vec Ideal S1x3x4096 .f32) (ix3 0 d q) = m ((c : Thread nD τ).loc main_arg0) (ix3 (cloud t) d q) := by
  show V m c main_arg0 (((cfg0.win 0).blk t).view.emb _) = _
  rw [V_main_arg0]
  obtain ⟨e0, e1, e2⟩ := idx0 t
  congr 1
  funext a; apply Fin.ext
  match a with
  | ⟨0, _⟩ => show win0_0.index t 0 * 1 + 1 * 0 = t.val / 8; omega
  | ⟨1, _⟩ => show win0_0.index t 1 * 3 + 1 * d.val = d.val; omega
  | ⟨2, _⟩ => show win0_0.index t 2 * 4096 + 1 * q.val = q.val; omega

theorem iblk1 (c : Dev nD) (t : Fin cfg0.N) (d : Fin 3) (j : Fin 512) :
    (iblk m c 1 t : Vec Ideal S1x3x512 .f32) (ix3 0 d j) = m ((c : Thread nD τ).loc main_arg0) (ix3 (cloud t) d (position t j)) := by
  show V m c main_arg0 (((cfg0.win 1).blk t).view.emb _) = _
  rw [V_main_arg0]
  obtain ⟨e0, e1, e2⟩ := idx1 t
  congr 1
  funext a; apply Fin.ext
  match a with
  | ⟨0, _⟩ => show win0_1.index t 0 * 1 + 1 * 0 = t.val / 8; omega
  | ⟨1, _⟩ => show win0_1.index t 1 * 3 + 1 * d.val = d.val; omega
  | ⟨2, _⟩ => show win0_1.index t 2 * 512 + 1 * j.val = t.val % 8 * 512 + j.val; omega

/-! ## The array after the run -/

/-- The score of point `q` of cloud `b` for its point `n`. -/
def scores (x : S4x3x4096.Idx → EReal) (b : Fin 4) (n q : Fin 4096) : EReal :=
  2 * (∑ d : Fin 3, x (ix3 b d q) * x (ix3 b d n)) - (∑ d : Fin 3, x (ix3 b d q) * x (ix3 b d q)) - ∑ d : Fin 3, x (ix3 b d n) * x (ix3 b d n)

theorem score_eq (c : Dev nD) (t : Fin cfg0.N) (j : Fin 512) :
    score (iblk m c 0 t) (iblk m c 1 t) j = scores (m ((c : Thread nD τ).loc main_arg0)) (cloud t) (position t j) := by
  funext q
  unfold score scores
  simp only [iblk0, iblk1]

/-- What the run leaves. -/
def result (x : S4x3x4096.Idx → EReal) : S4x32x4096.Idx → BitVec 32 := fun i =>
  first (scores x (i 0) (i 2)) (level (scores x (i 0) (i 2)) ((i 1).val + 1))

theorem flushed_eq (c : Dev nD) (t : Fin cfg0.N) (_ : (cfg0.win 2).flush t = true) :
    (dats m 0 c).flushed 2 t = ((cfg0.win 2).blk t).view.read (Elt Ideal) (result (m ((c : Thread nD τ).loc main_arg0))) := by
  obtain ⟨e0, e1, e2⟩ := idx2 t
  have ho : outsAt0 m c t = ((cfg0.win 2).blk t).view.read (Elt Ideal) (result (m ((c : Thread nD τ).loc main_arg0))) := by
    funext y
    obtain ⟨i, j, rfl⟩ : ∃ (i : Fin 32) (j : Fin 512), y = ix3 0 i j :=
      ⟨y 1, y 2, funext fun a => by
        match a with
        | ⟨0, _⟩ => exact Subsingleton.elim (α := Fin 1) _ _
        | ⟨1, _⟩ => rfl
        | ⟨2, _⟩ => rfl⟩
    rw [outs_apply, score_eq]
    show _ = result (m ((c : Thread nD τ).loc main_arg0)) (((cfg0.win 2).blk t).view.emb (ix3 0 i j))
    have ea : ((cfg0.win 2).blk t).view.emb (ix3 0 i j) = ix3 (cloud t) i (position t j) := by
      funext a; apply Fin.ext
      match a with
      | ⟨0, _⟩ => show win0_2.index t 0 * 1 + 1 * 0 = t.val / 8; omega
      | ⟨1, _⟩ => show win0_2.index t 1 * 32 + 1 * i.val = i.val; omega
      | ⟨2, _⟩ => show win0_2.index t 2 * 512 + 1 * j.val = t.val % 8 * 512 + j.val; omega
    rw [ea]
    rfl
  rw [Cert.NearIdeal.Value.flushed2, ho]

theorem array_eq (c : Dev nD) : (dats m 0 c).arrAt 2 cfg0.N = result (m ((c : Thread nD τ).loc main_arg0)) :=
  (dats m 0 c).arrAt_eq_of_cover 2 (result (m ((c : Thread nD τ).loc main_arg0))) (flushed_eq m c) fun i => by
    have h0 : (i 0 : Nat) < 4 := (i 0).isLt
    have h1 : (i 1 : Nat) < 32 := (i 1).isLt
    have h2 : (i 2 : Nat) < 4096 := (i 2).isLt
    obtain ⟨t, ht⟩ : ∃ t : Fin cfg0.N, t.val = (i 0 : Nat) * 8 + (i 2 : Nat) / 512 := ⟨⟨_, by show _ < grid0.N; rw [N_0]; omega⟩, rfl⟩
    refine ⟨t, flush0_2 t, ?_⟩
    obtain ⟨e0, e1, e2⟩ := idx2 t
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; omega
    | ⟨1, _⟩ => show win0_2.index t 1 * 32 ≤ (i 1 : Nat) ∧ (i 1 : Nat) < win0_2.index t 1 * 32 + 32; omega
    | ⟨2, _⟩ => show win0_2.index t 2 * 512 ≤ (i 2 : Nat) ∧ (i 2 : Nat) < win0_2.index t 2 * 512 + 512; omega

end Cert.NearIdeal.Whole

end
-- ==== Proof.TopK.lean ====
/-
  The host's selection of the greatest along the last axis: the entries that the stable sort lists first, and their places.
-/
module

public import proofs.«01_k».proof.Proof.Select
public import Idealize.ShloMosaic.Lib.Pointwise

@[expose] public section

namespace Cert.Proof.Select

open Idealize.ShloMosaic

variable {A B N K : ℕ} (y : Vec Ideal ⟨3, ![A, B, N]⟩ .f32)
  (h : (⟨3, ![A, B, N]⟩ : Shape).Slices (fun _ => 0) ⟨3, ![A, B, K]⟩) (hK : K ≤ N)

theorem along_last (a : Fin A) (b : Fin B) (n k : Fin N) : (ix3 a b n : (⟨3, ![A, B, N]⟩ : Shape).Idx).along (2 : Fin 3) k = ix3 a b k := by
  funext x
  match x with
  | ⟨0, _⟩ => rfl
  | ⟨1, _⟩ => rfl
  | ⟨2, _⟩ => rfl

theorem greater (a b : EReal) : (FloatOps.cmpfTotal (F := Ideal) (φ := .f32) .gt a b == 1#1) = decide (b < a) := by
  rw [Ideal.cmpfTotal_def]
  by_cases h : b < a <;> simp [Ideal.cmp, CmpDirection.ordered, h]

theorem slice_last {α : Type} (z : (⟨3, ![A, B, N]⟩ : Shape).Idx → α) (a : Fin A) (b : Fin B) (i : Fin K) :
    extractStridedSlice ⟨3, ![A, B, K]⟩ (fun _ => 0) z h (ix3 a b i) = z (ix3 a b (i.castLE hK)) := by
  refine congrArg z (funext fun x => ?_)
  match x with
  | ⟨0, _⟩ => exact Fin.ext (Nat.zero_add _)
  | ⟨1, _⟩ => exact Fin.ext (Nat.zero_add _)
  | ⟨2, _⟩ => exact Fin.ext (Nat.zero_add _)

/-- The sort that the selection takes its entries from lists the places of each column. -/
theorem sort_place (a : Fin A) (b : Fin B) (n : Fin N) :
    sortedFrom (fun k k' : Fin N => FloatOps.cmpfTotal (F := Ideal) (φ := .f32) .gt
      (y ((ix3 a b n : (⟨3, ![A, B, N]⟩ : Shape).Idx).along (2 : Fin 3) k)) (y ((ix3 a b n : (⟨3, ![A, B, N]⟩ : Shape).Idx).along (2 : Fin 3) k')) == 1#1) n
      = place (fun q => y (ix3 a b q)) n := by
  simp only [along_last, greater]
  rfl

/-- The place that comes at `i`. -/
theorem topK_place (a : Fin A) (b : Fin B) (i : Fin K) :
    (Host.topK ⟨3, ![A, B, K]⟩ 2 (FloatOps.cmpfTotal (F := Ideal) (φ := .f32) .gt) y h).2 (ix3 a b i)
      = BitVec.ofNat 32 (place (fun q => y (ix3 a b q)) (i.castLE hK)).val := by
  unfold Host.topK
  dsimp only
  rw [slice_last h hK]
  exact congrArg (fun q : Fin N => BitVec.ofNat 32 q.val) (sort_place y a b (i.castLE hK))

/-- The value that comes at `i`. -/
theorem topK_value (a : Fin A) (b : Fin B) (i : Fin K) :
    (Host.topK ⟨3, ![A, B, K]⟩ 2 (FloatOps.cmpfTotal (F := Ideal) (φ := .f32) .gt) y h).1 (ix3 a b i)
      = y (ix3 a b (place (fun q => y (ix3 a b q)) (i.castLE hK))) := by
  unfold Host.topK
  dsimp only
  rw [slice_last h hK, ← sort_place]
  exact congrArg y (along_last a b (i.castLE hK) _)

end Cert.Proof.Select

end
-- ==== Proof.NearRef.lean ====
/-
  The reference's choice of neighbours, and the precondition: the places that the stable sort of a point's row lists first,
  their values falling strictly.
-/
module

public import proofs.«01_k».proof.Proof.Gen.NearReferenceIdeal.Read
public import proofs.«01_k».proof.Proof.Gen.Pre_distinct
public import proofs.«01_k».proof.Proof.TopK
public import Idealize.ShloMosaic.Lib.ReduceAll
public import Idealize.ShloMosaic.Lib.Tactic

@[expose] public section

set_option maxRecDepth 16384

noncomputable section

namespace Cert.NearReferenceIdeal.Choice

open Cert.NearReferenceIdeal Cert.NearReferenceIdeal.Read Cert.Proof.Select Idealize.ShloMosaic

variable (x : S4x3x4096.Idx → EReal)

/-- The reference's value of point `q` of cloud `b` for its point `n`. -/
def row (b : Fin 4) (n q : Fin 4096) : EReal :=
  -(∑ d : Fin 3, x (ix3 b d q) * x (ix3 b d q)) - (-2) * (∑ d : Fin 3, x (ix3 b d n) * x (ix3 b d q)) - ∑ d : Fin 3, x (ix3 b d n) * x (ix3 b d n)

theorem row_apply (b : Fin 4) (n q : Fin 4096) : val_main_v12 (F := Ideal) x (ix3 b n q) = row x b n q := by
  unfold row
  pointwise [val_main_v12, val_main_v11, val_main_v10, val_main_v9, val_main_v8, val_main_v7, val_main_v6, val_main_v5, val_main_v4,
    val_main_v3, val_main_v2, val_main_v1, val_main_v0, val_main_cst, val_main_cst_0]
  rw [show Ideal.ofBits FTy.f32 3221225472#32 = -2 by simp [Ideal.ofBits, Ideal.ieee]; rw [← EReal.coe_mul]; norm_num; rfl]

/-- The reference's result. -/
theorem result_apply (b : Fin 4) (i : Fin 32) (n : Fin 4096) :
    val_main_v13 (F := Ideal) x (ix3 b i n) = BitVec.ofNat 32 (place (row x b n) (i.castLE (by decide))).val := by
  rw [val_main_v13_apply, ← funext (row_apply x b n)]
  have e : idx_main_v13 (ix3 b i n) = ix3 b n i := by
    funext a
    match a with
    | ⟨0, _⟩ => rfl
    | ⟨1, _⟩ => rfl
    | ⟨2, _⟩ => rfl
  rw [e]
  unfold val_main_indices
  generalize val_main_v12 (F := Ideal) x = y
  exact topK_place y _ (by decide) b n i

theorem olt_one (a b : EReal) (h : FloatOps.cmpf (F := Ideal) (φ := .f32) .olt a b = 1#1) : a < b := by
  change Ideal.cmp .olt a b = 1#1 at h
  by_contra hn
  simp [Ideal.cmp, hn] at h

/-- One element of the precondition's comparison. -/
theorem falls_of_all {y : Vec Ideal S4x4096x4096 .f32} {h} {h1 : S4x4096x32.Slices ![0, 0, 1] Cert.Pre_distinct.S4x4096x31}
    {h0 : S4x4096x32.Slices ![0, 0, 0] Cert.Pre_distinct.S4x4096x31} {dims : List (Fin Cert.Pre_distinct.S4x4096x31.rank)} {t u : Shape} [Subsingleton t.Idx]
    {hr : Cert.Pre_distinct.S4x4096x31.ReducesTo dims t} {hu : 0 < u.numel} {init : IVec u 1} {k : t.Idx}
    (e : Host.reduce IntOp.andi (cmpf (F := Ideal) (φ := .f32) .olt
      (extractStridedSlice Cert.Pre_distinct.S4x4096x31 ![0, 0, 1] (Host.topK S4x4096x32 2 (FloatOps.cmpfTotal (F := Ideal) (φ := .f32) .gt) y h).1 h1)
      (extractStridedSlice Cert.Pre_distinct.S4x4096x31 ![0, 0, 0] (Host.topK S4x4096x32 2 (FloatOps.cmpfTotal (F := Ideal) (φ := .f32) .gt) y h).1 h0)) init hr hu k = 1#1)
    (b : Fin 4) (n : Fin 4096) : Falls (fun q => y (ix3 b n q)) 32 (by decide) := by
  intro i hi
  have e' := olt_one _ _ (Host.reduce_andi_all _ _ _ _ _ e (ix3 b n (⟨i, by omega⟩ : Fin 31)))
  have hv := topK_value y h (by decide) b n
  generalize (Host.topK S4x4096x32 2 (FloatOps.cmpfTotal (F := Ideal) (φ := .f32) .gt) y h).1 = v at e' hv
  have lo := hv ⟨i, Nat.lt_of_succ_lt hi⟩
  have hi' := hv ⟨i + 1, hi⟩
  refine (hi'.symm.trans_lt (lt_of_eq_of_lt ?_ (e'.trans_eq ?_))).trans_eq lo
  · refine congrArg v (funext fun a => ?_)
    match a with
    | ⟨0, _⟩ => exact Fin.ext (Nat.zero_add _).symm
    | ⟨1, _⟩ => exact Fin.ext (Nat.zero_add _).symm
    | ⟨2, _⟩ => exact Fin.ext (Nat.add_comm _ _)
  · refine congrArg v (funext fun a => ?_)
    match a with
    | ⟨0, _⟩ => exact Fin.ext (Nat.zero_add _)
    | ⟨1, _⟩ => exact Fin.ext (Nat.zero_add _)
    | ⟨2, _⟩ => exact Fin.ext (Nat.zero_add _)

/-- What the precondition says. -/
theorem falls_of_pre (h : Cert.Pre_distinct.fn (F := Ideal) x = fun _ => 1#1) (b : Fin 4) (n : Fin 4096) : Falls (row x b n) 32 (by decide) := by
  haveI : Subsingleton Cert.Pre_distinct.S_.Idx := ⟨fun a b => funext fun k => k.elim0⟩
  rw [← funext (row_apply x b n)]
  unfold Cert.Pre_distinct.fn at h
  dsimp only at h
  have := falls_of_all (congrFun h (fun k => k.elim0)) b n
  unfold val_main_v12 val_main_v11 val_main_v10 val_main_v9 val_main_v8 val_main_v7 val_main_v6 val_main_v5 val_main_v4 val_main_v3 val_main_v2 val_main_v1 val_main_v0 val_main_cst val_main_cst_0
  exact this

end Cert.NearReferenceIdeal.Choice

end
-- ==== Proof.NearEqual.lean ====
/-
  The two choices of neighbours agree: when the values that a row's sort lists first fall strictly, every coordinate is a real
  number, the two scores are the same, and taking the greatest value below the last one meets the sort's places.
-/
module

public import proofs.«01_k».proof.Proof.NearValue
public import proofs.«01_k».proof.Proof.NearRef

@[expose] public section

set_option maxRecDepth 16384

noncomputable section

namespace Cert.Proof.Near

open Cert.Proof.Select Cert.NearIdeal.Body Cert.NearIdeal.Whole Cert.NearReferenceIdeal.Choice Idealize.ShloMosaic

/-! ## The first place as a word -/

theorem minsi_word {p a : ℕ} (h : p ≤ a) (ha : a < 2 ^ 31) : IntOp.minsi (BitVec.ofNat 32 p) (BitVec.ofNat 32 a) = BitVec.ofNat 32 p := by
  have e : ∀ n < 2 ^ 31, (BitVec.ofNat 32 n).toInt = n := fun n hn => by
    have : (BitVec.ofNat 32 n).toNat = n := by rw [BitVec.toNat_ofNat]; omega
    rw [BitVec.toInt_eq_toNat_of_lt (by omega), this]
  unfold IntOp.minsi
  rw [BitVec.slt, e _ (by omega), e _ ha]
  rcases h.eq_or_lt with rfl | h
  · simp
  · simp [h]

theorem first_eq (s : Fin 4096 → EReal) (p : Fin 4096) (h : ∀ j, s j = s p → p ≤ j) : first s (s p) = BitVec.ofNat 32 p.val := by
  have e : (if s p = s p then BitVec.ofNat 32 p.val else 4096#32) = BitVec.ofNat 32 p.val := if_pos rfl
  unfold first
  refine (fold_eq IntOp.minsi _ _ _ p (Finset.mem_univ p) ?_ fun j _ => ?_).trans e <;> rw [e]
  · exact minsi_word (a := 2147483647) (by omega) (by decide)
  · split
    · rename_i hj
      exact minsi_word (h j hj) (by omega)
    · exact minsi_word (a := 4096) (by omega) (by decide)

/-! ## The scores -/

variable {x : Cert.NearIdeal.S4x3x4096.Idx → EReal}

theorem square_nonneg (a : EReal) : 0 ≤ a * a := by
  induction a with
  | bot => simp
  | top => simp
  | coe r => exact_mod_cast mul_self_nonneg r

/-- A point with an infinite coordinate has no value but the least in its row. -/
theorem row_bot {b : Fin 4} {n : Fin 4096} (d : Fin 3) (h : x (ix3 b d n) * x (ix3 b d n) = ⊤) (q : Fin 4096) : row x b n q = ⊥ := by
  have e : ∑ d : Fin 3, x (ix3 b d n) * x (ix3 b d n) = ⊤ :=
    top_le_iff.mp (h.symm.trans_le (Finset.single_le_sum (f := fun d => x (ix3 b d n) * x (ix3 b d n)) (fun _ _ => square_nonneg _) (Finset.mem_univ d)))
  unfold row
  rw [e, EReal.sub_top]

theorem real_of_falls {b : Fin 4} {n : Fin 4096} (h : Falls (row x b n) 32 (by decide)) (d : Fin 3) : ∃ r : ℝ, x (ix3 b d n) = (r : EReal) := by
  have no (e : x (ix3 b d n) * x (ix3 b d n) = ⊤) : False := by
    have := h 0 (by decide)
    rw [row_bot d e, row_bot d e] at this
    exact lt_irrefl _ this
  generalize x (ix3 b d n) = a at no
  induction a with
  | bot => exact (no (by simp)).elim
  | top => exact (no (by simp)).elim
  | coe r => exact ⟨r, rfl⟩

/-- The two scores are one real number. -/
theorem scores_eq {b : Fin 4} (h : ∀ n, Falls (row x b n) 32 (by decide)) (n q : Fin 4096) : scores x b n q = row x b n q ∧ row x b n q < ⊤ := by
  choose r hr using fun n => real_of_falls (h n)
  unfold scores row
  simp only [Fin.sum_univ_three, hr]
  rw [show (2 : EReal) = ((2 : ℝ) : EReal) from rfl]
  simp only [← EReal.coe_mul, ← EReal.coe_add, ← EReal.coe_neg, ← EReal.coe_sub]
  exact ⟨congrArg _ (by ring), EReal.coe_lt_top _⟩

/-- Where the precondition holds the two results are the same. -/
theorem result_eq (h : Cert.Pre_distinct.fn (F := Ideal) x = fun _ => 1#1) : Cert.NearReferenceIdeal.Read.val_main_v13 (F := Ideal) x = result x := by
  funext i
  obtain ⟨b, i, n, rfl⟩ : ∃ (b : Fin 4) (k : Fin 32) (n : Fin 4096), i = ix3 b k n :=
    ⟨i 0, i 1, i 2, funext fun a => by fin_cases a <;> rfl⟩
  have hf := falls_of_pre x h b
  have e : scores x b n = row x b n := funext fun q => (scores_eq hf n q).1
  rw [result_apply]
  show _ = first (scores x b n) (level (scores x b n) (i.val + 1))
  rw [e, level_eq (fun q => (scores_eq hf n q).2) (hf n) i.val i.isLt]
  exact (first_eq _ _ (place_first (hf n) i.val i.isLt)).symm

end Cert.Proof.Near

end
-- ==== Proof.Straight.lean ====
/-
  A program made of host operations alone, whose values are written in the order of their buffers: each operation
  writes the next buffer and reads earlier ones only. Such a program runs to the end, leaves the buffers before its
  first result as they were, and gives the same contents from any two memories that agree on those.
-/
module

public import Idealize.ShloMosaic.Lib.StableHlo.Run

@[expose] public section

noncomputable section

namespace Cert.Proof.Straight

open Idealize.ShloMosaic Idealize.ShloMosaic.StableHlo Idealize.SL.Sem

variable {nD : Nat} {τ : Topo} {sig : RefSig} {Val : EltTy → Type} {Λ : Labels}

/-- The buffer of the host value number `n`. -/
abbrev At (n : Nat) (b : Ref sig .tc) : Prop := b.space = .hbm ∧ b.idx.val = n

/-- The buffer of a host value numbered below `n`. -/
abbrev Before (n : Nat) (b : Ref sig .tc) : Prop := b.space = .hbm ∧ b.idx.val < n

theorem At.unique {n : Nat} {b y : Ref sig .tc} (hb : At n b) (hy : At n y) : b = y := by
  obtain ⟨s, i, h⟩ := b
  obtain ⟨t, j, k⟩ := y
  obtain ⟨rfl, hi⟩ := hb
  obtain ⟨rfl, hj⟩ := hy
  obtain rfl : i = j := Fin.ext (hi.trans hj.symm)
  rfl

theorem Before.ne {n : Nat} {b y : Ref sig .tc} (hb : Before n b) (hy : At n y) : b ≠ y :=
  fun e => absurd (e ▸ hb).2 (by rw [hy.2]; exact lt_irrefl n)

/-- Two contents agree on the host values numbered below `n`. -/
def Agree (n : Nat) (V W : Valuation τ sig Val) : Prop :=
  ∀ b : Ref sig .tc, Before n b → V (Proc.devRef .tc b) = W (Proc.devRef .tc b)

/-- One operation that writes the buffer `y` of the value numbered `n` from values numbered below it. -/
structure Writes (n : Nat) (y : Ref sig .tc) (op : HloOp τ sig Val) : Prop where
  at_n : At n y
  bufs : op.bufs ⊆ tcRefs τ sig
  fresh : op.fresh = ∅
  agree : ∀ V W : Valuation τ sig Val, Agree n V W → Agree (n + 1) (op.result V) (op.result W)
  keeps : ∀ (V : Valuation τ sig Val) (b : Ref sig .tc), Before n b → op.result V (Proc.devRef .tc b) = V (Proc.devRef .tc b)

theorem writes_of {n : Nat} {op : HloOp τ sig Val} (y : Ref sig .tc) (hy : At n y) (hw : op.writes = {Proc.devRef .tc y})
    (bufs : op.bufs ⊆ tcRefs τ sig) (fresh : op.fresh = ∅)
    (result : ∀ V W : Valuation τ sig Val, Agree n V W → op.result V (Proc.devRef .tc y) = op.result W (Proc.devRef .tc y)) :
    Writes n y op where
  at_n := hy
  bufs := bufs
  fresh := fresh
  keeps V b hb := result_of_writes_ne op V y b hw (hb.ne hy)
  agree V W h b hb := by
    by_cases e : b = y
    · subst e
      exact result V W h
    · have hb' : Before n b := ⟨hb.1, lt_of_le_of_ne (Nat.lt_succ_iff.mp hb.2) fun k => e (At.unique ⟨hb.1, k⟩ hy)⟩
      rw [result_of_writes_ne op V y b hw e, result_of_writes_ne op W y b hw e]
      exact h b hb'

variable {n : Nat}

theorem writes_nullary {y : Ref sig .tc} {v : y.ty.Contents Val} {h} (hy : At n y) :
    Writes n y (nullary (τ := τ) y v h) :=
  writes_of y hy rfl (nullary_bufs_sub ..) rfl fun V W _ => by rw [nullary_result, nullary_result]

theorem writes_unary {x y : Ref sig .tc} {f : x.ty.Contents Val → y.ty.Contents Val} {h k} (hy : At n y) (hx : Before n x) :
    Writes n y (unary (τ := τ) x y f h k) :=
  writes_of y hy rfl (unary_bufs_sub ..) rfl fun V W e => by rw [unary_result, unary_result, e x hx]

theorem writes_binary {a b y : Ref sig .tc} {f : a.ty.Contents Val → b.ty.Contents Val → y.ty.Contents Val} {h k l} (hy : At n y)
    (ha : Before n a) (hb : Before n b) : Writes n y (binary (τ := τ) a b y f h k l) :=
  writes_of y hy rfl (binary_bufs_sub ..) rfl fun V W e => by rw [binary_result, binary_result, e a ha, e b hb]

theorem writes_ternary {c a b y : Ref sig .tc}
    {f : c.ty.Contents Val → a.ty.Contents Val → b.ty.Contents Val → y.ty.Contents Val} {h k l j} (hy : At n y)
    (hc : Before n c) (ha : Before n a) (hb : Before n b) : Writes n y (ternary (τ := τ) c a b y f h k l j) :=
  writes_of y hy rfl (ternary_bufs_sub ..) rfl fun V W e => by rw [ternary_result, ternary_result, e c hc, e a ha, e b hb]

theorem writes_reshape {x y : Ref sig .tc} {e : x.ty.elt = y.ty.elt} {s : x.ty.shape.ShapeCasts y.ty.shape} {h k} (hy : At n y)
    (hx : Before n x) : Writes n y (reshape (τ := τ) (Val := Val) x y e s h k) :=
  writes_of y hy rfl (reshape_bufs_sub ..) rfl fun V W e => by rw [reshape_result, reshape_result, e x hx]

/-- The program writes the values numbered from `n` up to `m`, each from earlier ones. -/
def Line (n m : Nat) (p : Prog (TpuEff nD τ sig Val Λ .tc) PUnit) : Prop :=
  ∃ ops : List (HloOp τ sig Val), p = seq ops ∧ (∀ op ∈ ops, op.bufs ⊆ tcRefs τ sig ∧ op.fresh = ∅) ∧ n ≤ m
    ∧ (∀ V W, Agree n V W → Agree m (after ops V) (after ops W))
    ∧ ∀ (V : Valuation τ sig Val) (b : Ref sig .tc), Before n b → after ops V (Proc.devRef .tc b) = V (Proc.devRef .tc b)

theorem after_append (l k : List (HloOp τ sig Val)) (V : Valuation τ sig Val) : after (l ++ k) V = after k (after l V) := by
  induction l generalizing V with
  | nil => rfl
  | cons op l ih => exact ih _

theorem line_end : Line n n (pure ⟨⟩ : Prog (TpuEff nD τ sig Val Λ .tc) PUnit) :=
  ⟨[], rfl, fun _ h => absurd h List.not_mem_nil, le_rfl, fun _ _ h => h, fun _ _ _ => rfl⟩

/-- One operation as a program: the number after it is read off the buffer it writes. -/
theorem line_op {y : Ref sig .tc} {op : HloOp τ sig Val} (h : Writes n y op) :
    Line n (y.idx.val + 1) (hlo rfl op fun _ => .ret ⟨⟩ : Prog (TpuEff nD τ sig Val Λ .tc) PUnit) := by
  rw [h.at_n.2]
  exact ⟨[op], (bind_pure _).symm, fun _ ho => by cases List.mem_singleton.mp ho; exact ⟨h.bufs, h.fresh⟩, Nat.le_succ n, h.agree, h.keeps⟩

theorem line_bind {a b c : Nat} {p q : Prog (TpuEff nD τ sig Val Λ .tc) PUnit} (hp : Line a b p) (hq : Line b c q) :
    Line a c (p >>= fun _ => q) := by
  obtain ⟨l, rfl, l1, l2, l3, l4⟩ := hp
  obtain ⟨k, rfl, k1, k2, k3, k4⟩ := hq
  refine ⟨l ++ k, (seq_append l k).symm, fun op ho => (List.mem_append.mp ho).elim (l1 op) (k1 op), l2.trans k2, fun V W h => ?_,
    fun V b hb => ?_⟩
  · rw [after_append, after_append]
    exact k3 _ _ (l3 _ _ h)
  · rw [after_append, k4 _ b ⟨hb.1, hb.2.trans_le l2⟩, l4 _ b hb]

/-- Programs of equal steps are equal. -/
theorem bind_same {p q k l : Prog (TpuEff nD τ sig Val Λ .tc) PUnit} (h : p = q) (e : k = l) :
    (p >>= fun _ => k) = q >>= fun _ => l := by
  rw [h, e]

/-- What a line leaves, from each contents at the launch: the values before its first are kept, and all of them follow
    from these. -/
structure Ends (n m : Nat) (E : Valuation τ sig Val → Valuation τ sig Val) : Prop where
  agree : ∀ V W, Agree n V W → Agree m (E V) (E W)
  keeps : ∀ (V : Valuation τ sig Val) (b : Ref sig .tc), Before n b → E V (Proc.devRef .tc b) = V (Proc.devRef .tc b)

/-- A line that is every device's whole program runs to the end, on any mesh and from any memory with zero counters. -/
theorem run {m : Nat} (hR : (Finset.univ.filter fun b : Ref sig .tc => b.isScoped) = ∅)
    (hC : (Finset.univ.filter fun sm : SemLoc sig => sm.isScoped .tc) = ∅) {p : Prog (TpuEff nD τ sig Val Λ .tc) PUnit} (hp : Line n m p) :
    ∃ E : Valuation τ sig Val → Valuation τ sig Val, Ends n m E ∧
      ∀ (defs : Defs nD τ sig Val Λ) (main : Dev nD → Prog (TpuEff nD τ sig Val Λ .tc) PUnit), (∀ d, main d = p) →
        ∀ (mem : (ℓ : Loc nD τ sig) → Buf Val ℓ) (ρ : Dev nD → PrngReg), θ_run defs (onTc (τ := τ) main) ⟨mem, fun _ => 0, ρ⟩ fun r =>
          ∀ (d : Dev nD) (b : Ref sig .tc), r.2.mem ((d.tc : Thread nD τ).loc b) = E (launchContents mem d) (Proc.devRef .tc b) := by
  obtain ⟨ops, rfl, side, -, agree, keeps⟩ := hp
  exact ⟨after ops, ⟨agree, keeps⟩, fun defs main hmain mem ρ => run_seq hR hC defs main (fun _ => ops) hmain
    (fun _ => List.forall_iff_forall_mem.mpr fun op ho => (side op ho).1) mem ρ fun _ op ho => (side op ho).2⟩

end Cert.Proof.Straight

end
-- ==== Proof.SampleRun.lean ====
/-
  The choice of the new points: a program of host operations alone, read once at any float values.
-/
module

public import proofs.«01_k».proof.Proof.Straight
public import proofs.«01_k».proof.Sample
public import proofs.«01_k».proof.SampleIdeal
public import proofs.«01_k».proof.SampleReferenceIdeal
public import proofs.«01_k».proof.Proof.Gen.Sample
public import proofs.«01_k».proof.Proof.Gen.SampleIdeal
public import proofs.«01_k».proof.Proof.Gen.SampleReferenceIdeal

@[expose] public section

noncomputable section

namespace Cert.SampleIdeal.Lines

open Idealize.ShloMosaic Idealize.ShloMosaic.StableHlo Idealize.SL.Sem Cert.Proof.Straight Cert.SampleIdeal

variable {F : FTy → Type} [FloatOps F] [Facts] [Cert.Sample.Facts] [Cert.SampleReferenceIdeal.Facts]

set_option maxRecDepth 4000

set_option maxHeartbeats 4000000 in
/-- The whole program, its calls written out: every operation writes the next value from earlier ones. -/
theorem line (c : Dev nD) : Line 1 501 (main (F := F) c) := by
  unfold main fn_shuffle.body fn_threefry_split.body fn_threefry2x32.body fn_threefry2x32_0.body
    fn_threefry2x32.body_part0 fn_threefry2x32.body_part1 fn_threefry2x32.body_part2 fn_threefry2x32.body_part3
    fn_threefry2x32_0.body_part0 fn_threefry2x32_0.body_part1 fn_threefry2x32_0.body_part2 fn_threefry2x32_0.body_part3
  repeat' first
    | exact line_end
    | apply line_op
    | apply line_bind
    | apply writes_nullary
    | apply writes_unary
    | apply writes_binary
    | apply writes_ternary
    | apply writes_reshape
    | decide

set_option maxHeartbeats 4000000 in
/-- The kernel as printed takes the same steps. -/
theorem printed (c : Dev nD) : Cert.Sample.main (F := F) c = main (F := F) c := by
  unfold main fn_shuffle.body fn_threefry_split.body fn_threefry2x32.body fn_threefry2x32_0.body
    fn_threefry2x32.body_part0 fn_threefry2x32.body_part1 fn_threefry2x32.body_part2 fn_threefry2x32.body_part3
    fn_threefry2x32_0.body_part0 fn_threefry2x32_0.body_part1 fn_threefry2x32_0.body_part2 fn_threefry2x32_0.body_part3
    Cert.Sample.main Cert.Sample.fn_shuffle.body Cert.Sample.fn_threefry_split.body Cert.Sample.fn_threefry2x32.body
    Cert.Sample.fn_threefry2x32_0.body Cert.Sample.fn_threefry2x32.body_part0 Cert.Sample.fn_threefry2x32.body_part1
    Cert.Sample.fn_threefry2x32.body_part2 Cert.Sample.fn_threefry2x32.body_part3 Cert.Sample.fn_threefry2x32_0.body_part0
    Cert.Sample.fn_threefry2x32_0.body_part1 Cert.Sample.fn_threefry2x32_0.body_part2 Cert.Sample.fn_threefry2x32_0.body_part3
  repeat' first
    | apply bind_same
    | rfl

set_option maxHeartbeats 4000000 in
/-- The reference takes the same steps. -/
theorem reference (c : Dev nD) : Cert.SampleReferenceIdeal.main (F := F) c = main (F := F) c := by
  unfold main fn_shuffle.body fn_threefry_split.body fn_threefry2x32.body fn_threefry2x32_0.body
    fn_threefry2x32.body_part0 fn_threefry2x32.body_part1 fn_threefry2x32.body_part2 fn_threefry2x32.body_part3
    fn_threefry2x32_0.body_part0 fn_threefry2x32_0.body_part1 fn_threefry2x32_0.body_part2 fn_threefry2x32_0.body_part3
    Cert.SampleReferenceIdeal.main Cert.SampleReferenceIdeal.fn_shuffle.body Cert.SampleReferenceIdeal.fn_threefry_split.body
    Cert.SampleReferenceIdeal.fn_threefry2x32.body Cert.SampleReferenceIdeal.fn_threefry2x32_0.body
    Cert.SampleReferenceIdeal.fn_threefry2x32.body_part0 Cert.SampleReferenceIdeal.fn_threefry2x32.body_part1
    Cert.SampleReferenceIdeal.fn_threefry2x32.body_part2 Cert.SampleReferenceIdeal.fn_threefry2x32.body_part3
    Cert.SampleReferenceIdeal.fn_threefry2x32_0.body_part0 Cert.SampleReferenceIdeal.fn_threefry2x32_0.body_part1
    Cert.SampleReferenceIdeal.fn_threefry2x32_0.body_part2 Cert.SampleReferenceIdeal.fn_threefry2x32_0.body_part3
  repeat' first
    | apply bind_same
    | rfl

end Cert.SampleIdeal.Lines

end
-- ==== Proof.SampleValue.lean ====
/-
  The choice of the new points, run: the points given stay, and the points chosen follow from them alone.
-/
module

public import proofs.«01_k».proof.Proof.SampleRun

@[expose] public section

noncomputable section

namespace Cert.SampleIdeal.Lines

open Idealize.ShloMosaic Idealize.ShloMosaic.StableHlo Idealize.SL.Sem Cert.Proof.Straight Cert.SampleIdeal

variable {F : FTy → Type} [FloatOps F] [Facts]

theorem scopedRefs_eq : (Finset.univ.filter fun b : Ref sig .tc => b.isScoped) = ∅ := by decide
theorem scopedSems_eq : (Finset.univ.filter fun sm : SemLoc sig => sm.isScoped .tc) = ∅ := by decide

/-- The program is the same on every device. -/
theorem main_const (c d : Dev nD) : main (F := F) c = main (F := F) d := rfl

/-- Only the points given lie before the first value written. -/
theorem agree_args {V W : Valuation τ sig (Elt F)} (h : V (Proc.devRef .tc main_arg0) = W (Proc.devRef .tc main_arg0)) :
    Agree 1 V W := fun b hb => by
  obtain rfl : b = main_arg0 := At.unique ⟨hb.1, Nat.lt_one_iff.mp hb.2⟩ (by decide)
  exact h

/-- Every program of these steps ends, whatever its memory: the points given stay, and the points chosen follow from
    them alone. -/
theorem run_same : ∃ chosen : Valuation τ sig (Elt F) → (⟨S4x3x4096, .f32⟩ : BufTy).Contents (Elt F),
    (∀ V W : Valuation τ sig (Elt F), V (Proc.devRef .tc main_arg0) = W (Proc.devRef .tc main_arg0) → chosen V = chosen W) ∧
    ∀ (defs : Defs nD τ sig (Elt F) (Pipeline.Sig Λ₀ (Fin 0) fun p => (pcfgs (F := F) p).Adm))
      (main' : Dev nD → Prog (TpuEff nD τ sig (Elt F) (Pipeline.Sig Λ₀ (Fin 0) fun p => (pcfgs (F := F) p).Adm) .tc) PUnit),
      (∀ d, main' d = main (F := F) d) → ∀ (m : (ℓ : Loc nD τ sig) → Buf (Elt F) ℓ) (ρ : Dev nD → PrngReg),
        θ_run defs (onTc (τ := τ) main') ⟨m, fun _ => 0, ρ⟩ fun r => ∀ c : Dev nD,
          r.2.mem ((c.tc : Thread nD τ).loc main_v15) = chosen (launchContents m c)
          ∧ r.2.mem ((c.tc : Thread nD τ).loc main_arg0) = m ((c.tc : Thread nD τ).loc main_arg0) := by
  obtain ⟨E, ends, h⟩ := run scopedRefs_eq scopedSems_eq (line (F := F) (0 : Fin 1))
  exact ⟨fun V => E V (Proc.devRef .tc main_v15), fun V W e => ends.agree V W (agree_args e) main_v15 (by decide),
    fun defs main' hmain m ρ => (θ_run defs _ _).mono
      (fun _ hr c => ⟨hr c main_v15, (hr c main_arg0).trans (ends.keeps (launchContents m c) main_arg0 (by decide))⟩)
      (h defs main' (fun d => (hmain d).trans (main_const d 0)) m ρ)⟩

end Cert.SampleIdeal.Lines

end
-- ==== Proof.lean ====
/-
  The claims: each kernel's frame at both instances, each reference's frame, and the equality of their results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_idx_in_range
public import proofs.«01_k».proof.Proof.Gen.Pre_finite
public import proofs.«01_k».proof.Proof.Value
public import proofs.«01_k».proof.Proof.FinalValue
public import proofs.«01_k».proof.Proof.Finite
public import proofs.«01_k».proof.Proof.StatsValue
public import proofs.«01_k».proof.Proof.StatsRun
public import proofs.«01_k».proof.Proof.StatsRefNet
public import proofs.«01_k».proof.Proof.Gen.Final.Value
public import proofs.«01_k».proof.Proof.Gen.Pre_stats_finite
public import proofs.«01_k».proof.Proof.Gen.Stats.Frame
public import proofs.«01_k».proof.Proof.NearEqual
public import proofs.«01_k».proof.Proof.Gen.Near.Frame
public import proofs.«01_k».proof.Proof.Gen.Sample
public import proofs.«01_k».proof.Proof.Gen.SampleIdeal
public import proofs.«01_k».proof.Proof.Gen.SampleReferenceIdeal
public import proofs.«01_k».proof.Proof.SampleValue
public import proofs.«01_k».proof.Proof.Gen.NearIdeal.Frame
public import proofs.«01_k».proof.Proof.Gen.NearIdeal.Value
public import proofs.«01_k».proof.Proof.Gen.NearReferenceIdeal.Run
public import proofs.«01_k».proof.Proof.Gen.NearReferenceIdeal.Read
public import proofs.«01_k».proof.Proof.Gen.Pre_distinct
public import proofs.«01_k».proof.Proof.Gen.StatsIdeal.Frame
public import proofs.«01_k».proof.Proof.Gen.StatsReferenceIdeal.Run
public import proofs.«01_k».proof.Proof.Gen.StatsReferenceIdeal.Read
public import proofs.«01_k».proof.Proof.Gen.FinalIdeal.Value
public import proofs.«01_k».proof.Proof.Gen.FinalReferenceIdeal.Run
public import proofs.«01_k».proof.Proof.Gen.FinalReferenceIdeal.Read
public import Idealize.ShloMosaic.Adequacy
public import Idealize.ShloMosaic.Init

@[expose] public section

noncomputable section

namespace Cert.Proof

open Idealize.ShloMosaic Idealize.SL.Sem Cert.Proof.Sc

/-- The kernel as printed: the run of its idealized text, read at bits. -/
theorem frame_kernel : Cert.quiescent_Kernel := fun m ρ hpre =>
  (θ_run Cert.KernelIdeal.defs _ _).mono (fun _ h => ⟨fun c => ⟨(h.1 c).1, (h.1 c).2.1⟩, h.2⟩)
    (run_main (F := Bits) m ρ (inRange_of_named m fun d => named_of_pre (F := Bits) _ _ (hpre d)))

theorem frame_kernelIdeal : Cert.quiescent_KernelIdeal := fun m ρ hpre =>
  (θ_run Cert.KernelIdeal.defs _ _).mono (fun _ h => ⟨fun c => ⟨(h.1 c).1, (h.1 c).2.1⟩, h.2⟩)
    (run_main (F := Ideal) m ρ (inRange_of_named m fun d => named_of_pre (F := Ideal) _ _ (hpre d)))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both results are the gathered array. -/
theorem value : Cert.algebraic_KernelIdeal_ReferenceIdeal := by
  intro m g m' g' hpre hagree
  have hn : ∀ d, Named (m (bLoc d)) := fun d => named_of_pre (F := Ideal) _ _ (hpre d)
  refine ⟨fun c => gathered (F := Ideal) (m (aLoc c)) (m (bLoc c)) (hn c),
    (θ_run Cert.KernelIdeal.defs _ _).mono (fun _ h c => ⟨(h.1 c).2.2.trans ?_, (h.1 c).1, (h.1 c).2.1⟩)
      (run_main (F := Ideal) m g (inRange_of_named m hn)),
    (θ_run Cert.ReferenceIdeal.defs _ _).mono (fun _ h c => ⟨(h c).1.trans ?_, (h c).2⟩) (Cert.ReferenceIdeal.Value.run (F := Ideal) m' g')⟩
  · rw [V4_r, fi0_eq, fp0_eq]
    exact kernel_value (F := Ideal) _ _ (hn c) _ _ _
  · refine (Cert.ReferenceIdeal.Read.val_main_v12_eq m' c).trans ?_
    rw [(hagree c).1, (hagree c).2]
    exact reference_value (F := Ideal) _ _ (hn c)

theorem frame_finalReference : Cert.quiescent_FinalReferenceIdeal := fun m ρ _ =>
  (θ_run Cert.FinalReferenceIdeal.defs _ _).mono (fun r h => ⟨fun c => (h c).2, sem_eq_zero_of_no_sems (by decide) r.2⟩)
    (Cert.FinalReferenceIdeal.Value.run (F := Ideal) m ρ)

/-- Of finite points, neighbours and first weights, the last pass and its reference give the same array. -/
theorem value_final : Cert.algebraic_FinalIdeal_FinalReferenceIdeal_pre_finite := by
  intro m g m' g' hpre hagree
  refine ⟨fun c => Cert.FinalIdeal.Whole.result m c,
    (θ_run Cert.FinalIdeal.defs _ _).mono (fun _ h c => ⟨(h c).1.trans (Cert.FinalIdeal.Whole.array_eq m c), (h c).2⟩)
      (Cert.FinalIdeal.Value.run_blocks (F := Ideal) m g),
    (θ_run Cert.FinalReferenceIdeal.defs _ _).mono (fun _ h c => ⟨(h c).1.trans ?_, (h c).2⟩) (Cert.FinalReferenceIdeal.Value.run (F := Ideal) m' g')⟩
  obtain ⟨h0, h1, h2⟩ := Cert.Proof.Finite.finite_of_pre _ _ _ _ _ _ _ _ _ _ _ (hpre c)
  refine (Cert.FinalReferenceIdeal.Read.val_main_v46_eq ..).trans ?_
  obtain ⟨e0, e1, e2, e3, e4, e5, e6, e7, e8, e9, e10⟩ := hagree c
  rw [e0, e1, e2, e3, e4, e5, e6, e7, e8, e9, e10]
  exact Cert.FinalIdeal.Whole.reference_eq m c h0 h1 h2

theorem frame_statsReference : Cert.quiescent_StatsReferenceIdeal := fun m ρ _ =>
  (θ_run Cert.StatsReferenceIdeal.defs _ _).mono (fun r h => ⟨fun c => (h c).2.2.2.2.2.2, sem_eq_zero_of_no_sems (by decide) r.2⟩)
    (Cert.StatsReferenceIdeal.Value.run (F := Ideal) m ρ)

/-- Two columns whose rows hold the same padded values. -/
theorem column_ext {a : ℕ} {x y : Vec Ideal ⟨2, ![128, 1]⟩ .f32} (f : Fin a → EReal) (hx : ∀ o, x (ix2 o 0) = Cert.StatsReferenceIdeal.Consts.padded f o)
    (hy : ∀ o, y (ix2 o 0) = Cert.StatsReferenceIdeal.Consts.padded f o) : x = y := by
  funext i
  have e : i = ix2 (i 0) 0 := by
    funext k
    match k with
    | ⟨0, _⟩ => rfl
    | ⟨1, _⟩ => exact Subsingleton.elim (α := Fin 1) _ _
  rw [e]
  exact (hx _).trans (hy _).symm

/-- Of finite arguments (the last gamma and beta apart), the three passes and the reference give the same six columns. -/
theorem value_stats : Cert.algebraic_StatsIdeal_StatsReferenceIdeal_pre_stats_finite := by
  intro m g m' g' hpre hagree
  refine ⟨fun c => Cert.StatsIdeal.Gen.W19 m g c (Proc.devRef .tc Cert.StatsIdeal.main_v23), fun c => Cert.StatsIdeal.Gen.W19 m g c (Proc.devRef .tc Cert.StatsIdeal.main_v24),
    fun c => Cert.StatsIdeal.Gen.W19 m g c (Proc.devRef .tc Cert.StatsIdeal.main_v44), fun c => Cert.StatsIdeal.Gen.W19 m g c (Proc.devRef .tc Cert.StatsIdeal.main_v45),
    fun c => Cert.StatsIdeal.Gen.W19 m g c (Proc.devRef .tc Cert.StatsIdeal.main_v65), fun c => Cert.StatsIdeal.Gen.W19 m g c (Proc.devRef .tc Cert.StatsIdeal.main_v66),
    (θ_run Cert.StatsIdeal.defs _ _).mono (fun _ h c => ?_) (Cert.StatsIdeal.Run.whole (F := Ideal) m g),
    (θ_run Cert.StatsReferenceIdeal.defs _ _).mono (fun _ h c => ?_) (Cert.StatsReferenceIdeal.Value.run (F := Ideal) m' g')⟩
  · have at_end := fun b hb => h c _ (Cert.StatsIdeal.Gen.mem_uc b hb)
    have kept := fun b hb ha => (at_end b hb).trans (Cert.StatsIdeal.Gen.W19_args m g c b ha)
    refine ⟨at_end _ ?_, at_end _ ?_, at_end _ ?_, at_end _ ?_, at_end _ ?_, at_end _ ?_, kept _ ?_ ?_, kept _ ?_ ?_, kept _ ?_ ?_, kept _ ?_ ?_, kept _ ?_ ?_,
      kept _ ?_ ?_, kept _ ?_ ?_, kept _ ?_ ?_, kept _ ?_ ?_, kept _ ?_ ?_, kept _ ?_ ?_, kept _ ?_ ?_, kept _ ?_ ?_, kept _ ?_ ?_⟩ <;> decide
  · obtain ⟨n, hn⟩ := Cert.Proof.Finite.net_of_stats_finite _ _ _ _ _ _ _ _ _ _ _ _ _ _ (hpre c)
    obtain ⟨r1, r2, r3, r4, r5, r6, kept⟩ := h c
    have hn' : Cert.StatsReferenceIdeal.Consts.Launch (StableHlo.launchContents m' c) n := by
      obtain ⟨e0, e1, e2, e3, e4, e5, e6, e7, e8, e9, e10, e11, e12, e13⟩ := hagree c
      rw [← e0, ← e1, ← e2, ← e3, ← e4, ← e5, ← e6, ← e7, ← e8, ← e9, ← e10, ← e11, ← e12, ← e13] at hn
      exact hn
    exact ⟨r1.trans (column_ext _ (Cert.StatsReferenceIdeal.Consts.scale1 hn') (Cert.StatsIdeal.Value.first_end g hn).scales),
      r2.trans (column_ext _ (Cert.StatsReferenceIdeal.Consts.shift1 hn') (Cert.StatsIdeal.Value.first_end g hn).shifts),
      r3.trans (column_ext _ (Cert.StatsReferenceIdeal.Consts.scale2 hn') (Cert.StatsIdeal.Value.second_end g hn).scales),
      r4.trans (column_ext _ (Cert.StatsReferenceIdeal.Consts.shift2 hn') (Cert.StatsIdeal.Value.second_end g hn).shifts),
      r5.trans (column_ext _ (Cert.StatsReferenceIdeal.Consts.scale3 hn') (Cert.StatsIdeal.Value.third g hn).scales),
      r6.trans (column_ext _ (Cert.StatsReferenceIdeal.Consts.shift3 hn') (Cert.StatsIdeal.Value.third g hn).shifts), kept⟩

theorem frame_nearReference : Cert.quiescent_NearReferenceIdeal := fun m ρ _ =>
  (θ_run Cert.NearReferenceIdeal.defs _ _).mono (fun r h => ⟨fun c => (h c).2, sem_eq_zero_of_no_sems (by decide) r.2⟩)
    (Cert.NearReferenceIdeal.Value.run (F := Ideal) m ρ)

/-- The two constants that stand for infinities. -/
theorem preserves_near : Cert.preserves_Near_NearIdeal :=
  ⟨IdealRules.named_const.statement _ _ _ _ _ rfl, IdealRules.named_const.statement _ _ _ _ _ rfl⟩

/-- Where the values listed first fall strictly, the selection and its reference give the same neighbours. -/
theorem value_near : Cert.algebraic_NearIdeal_NearReferenceIdeal_pre_distinct := by
  intro m g m' g' hpre hagree
  refine ⟨fun c => Cert.NearIdeal.Whole.result (m ((c.tc : Thread Cert.NearIdeal.nD Cert.NearIdeal.τ).loc Cert.NearIdeal.main_arg0)),
    (θ_run Cert.NearIdeal.defs _ _).mono (fun _ h c => ⟨(h c).1.trans (Cert.NearIdeal.Whole.array_eq m c), (h c).2⟩)
      (Cert.NearIdeal.Value.run_blocks (F := Ideal) m g),
    (θ_run Cert.NearReferenceIdeal.defs _ _).mono (fun _ h c => ⟨(h c).1.trans ?_, (h c).2⟩) (Cert.NearReferenceIdeal.Value.run (F := Ideal) m' g')⟩
  refine (Cert.NearReferenceIdeal.Read.val_main_v13_eq ..).trans ?_
  rw [hagree c]
  exact Cert.Proof.Near.result_eq (hpre c)

/-- The kernel's choice of the new points as printed: the steps of its idealized text, read at bits. -/
theorem frame_sample : Cert.quiescent_Sample := fun m ρ _ => by
  obtain ⟨_, -, run⟩ := Cert.SampleIdeal.Lines.run_same (F := Bits)
  exact (θ_run Cert.SampleIdeal.defs _ _).mono (fun r h => ⟨fun c => (h c).2, sem_eq_zero_of_no_sems (by decide) r.2⟩)
    (run Cert.Sample.defs Cert.Sample.main Cert.SampleIdeal.Lines.printed m ρ)

theorem frame_sampleIdeal : Cert.quiescent_SampleIdeal := fun m ρ _ => by
  obtain ⟨_, -, run⟩ := Cert.SampleIdeal.Lines.run_same (F := Ideal)
  exact (θ_run Cert.SampleIdeal.defs _ _).mono (fun r h => ⟨fun c => (h c).2, sem_eq_zero_of_no_sems (by decide) r.2⟩)
    (run Cert.SampleIdeal.defs Cert.SampleIdeal.main (fun _ => rfl) m ρ)

theorem frame_sampleReference : Cert.quiescent_SampleReferenceIdeal := fun m ρ _ => by
  obtain ⟨_, -, run⟩ := Cert.SampleIdeal.Lines.run_same (F := Ideal)
  exact (θ_run Cert.SampleIdeal.defs _ _).mono (fun r h => ⟨fun c => (h c).2, sem_eq_zero_of_no_sems (by decide) r.2⟩)
    (run Cert.SampleReferenceIdeal.defs Cert.SampleReferenceIdeal.main Cert.SampleIdeal.Lines.reference m ρ)

/-- The kernel and its reference choose the same new points. -/
theorem value_sample : Cert.algebraic_SampleIdeal_SampleReferenceIdeal := by
  intro m g m' g' _ hagree
  obtain ⟨chosen, same, run⟩ := Cert.SampleIdeal.Lines.run_same (F := Ideal)
  refine ⟨fun c => chosen (StableHlo.launchContents m c), run Cert.SampleIdeal.defs Cert.SampleIdeal.main (fun _ => rfl) m g,
    (θ_run Cert.SampleIdeal.defs _ _).mono (fun _ h c => ⟨(h c).1.trans (same _ _ (hagree c)), (h c).2⟩)
      (run Cert.SampleReferenceIdeal.defs Cert.SampleReferenceIdeal.main Cert.SampleIdeal.Lines.reference m' g')⟩

theorem claim : Cert.Claim := ⟨Cert.Kernel.Gen.facts, Cert.KernelIdeal.Gen.facts, Cert.ReferenceIdeal.Gen.facts, Cert.Final.Gen.facts,
  Cert.FinalIdeal.Gen.facts, Cert.FinalReferenceIdeal.Gen.facts, Cert.Stats.Gen.facts, Cert.StatsIdeal.Gen.facts, Cert.StatsReferenceIdeal.Gen.facts,
  Cert.Near.Gen.facts, Cert.NearIdeal.Gen.facts, Cert.NearReferenceIdeal.Gen.facts,
  Cert.Sample.Gen.facts, Cert.SampleIdeal.Gen.facts, Cert.SampleReferenceIdeal.Gen.facts,
  Cert.Pre_idx_in_range.Gen.facts, Cert.Pre_finite.Gen.facts, Cert.Pre_stats_finite.Gen.facts, Cert.Pre_distinct.Gen.facts,
  frame_kernel, frame_kernelIdeal, frame_reference, fun m ρ _ => Cert.Final.Gen.frame m ρ, fun m ρ _ => Cert.FinalIdeal.Gen.frame m ρ,
  fun m ρ _ => Cert.FinalIdeal.Gen.frame m ρ, frame_finalReference, fun m ρ _ => frame_finalReference m ρ trivial,
  fun m ρ _ => Cert.Stats.Gen.frame m ρ, fun m ρ _ => Cert.StatsIdeal.Gen.frame m ρ, fun m ρ _ => Cert.StatsIdeal.Gen.frame m ρ,
  frame_statsReference, fun m ρ _ => frame_statsReference m ρ trivial,
  fun m ρ _ => Cert.Near.Gen.frame m ρ, fun m ρ _ => Cert.NearIdeal.Gen.frame m ρ, fun m ρ _ => Cert.NearIdeal.Gen.frame m ρ,
  frame_nearReference, fun m ρ _ => frame_nearReference m ρ trivial,
  frame_sample, frame_sampleIdeal, frame_sampleReference,
  trivial, value, trivial, value_final, trivial, value_stats, preserves_near, value_near, trivial, value_sample⟩

end Cert.Proof

end
